-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_ffn_bwd_finite [hPre_ffn_bwd_finite : Cert.Pre_ffn_bwd_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_ffn_bwd_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_ffn_bwd_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_ffn_bwd_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_ffn_bwd_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_ffn_bwd_finite [hPre_ffn_bwd_finite : Cert.Pre_ffn_bwd_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_ffn_bwd_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_ffn_bwd_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_ffn_bwd_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_ffn_bwd_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_ffn_bwd_finite [hKernel6Ideal : Cert.Kernel6Ideal.Facts] [hPre_ffn_bwd_finite : Cert.Pre_ffn_bwd_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_ffn_bwd_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_ffn_bwd_finite [hReference6Ideal : Cert.Reference6Ideal.Facts] [hPre_ffn_bwd_finite : Cert.Pre_ffn_bwd_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_ffn_bwd_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v85_0)) (v1 : (c : Dev Cert.KernelIdeal.nD) → Buf (Elt Ideal) ((c.tc : Thread Cert.KernelIdeal.nD Cert.KernelIdeal.τ).loc Cert.KernelIdeal.main_v85_1)) (v2 : (c : Dev Cert.KernelIdeal.nD) → Buf (Elt Ideal) ((c.tc : Thread Cert.KernelIdeal.nD Cert.KernelIdeal.τ).loc Cert.KernelIdeal.main_v85_2)) (v3 : (c : Dev Cert.KernelIdeal.nD) → Buf (Elt Ideal) ((c.tc : Thread Cert.KernelIdeal.nD Cert.KernelIdeal.τ).loc Cert.KernelIdeal.main_v85_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85_0) = v0 c
          ∧ r.2.mem ((c.tc : Thread Cert.KernelIdeal.nD Cert.KernelIdeal.τ).loc Cert.KernelIdeal.main_v85_1) = v1 c
          ∧ r.2.mem ((c.tc : Thread Cert.KernelIdeal.nD Cert.KernelIdeal.τ).loc Cert.KernelIdeal.main_v85_2) = v2 c
          ∧ r.2.mem ((c.tc : Thread Cert.KernelIdeal.nD Cert.KernelIdeal.τ).loc Cert.KernelIdeal.main_v85_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v129) = v2 c
          ∧ r.2.mem ((c.tc : Thread Cert.ReferenceIdeal.nD Cert.ReferenceIdeal.τ).loc Cert.ReferenceIdeal.main_v132) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_ffn_bwd_finite [hKernel6Ideal : Cert.Kernel6Ideal.Facts] [hReference6Ideal : Cert.Reference6Ideal.Facts] [hPre_ffn_bwd_finite : Cert.Pre_ffn_bwd_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_ffn_bwd_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v22_0)) (v1 : (c : Dev Cert.Kernel6Ideal.nD) → Buf (Elt Ideal) ((c.tc : Thread Cert.Kernel6Ideal.nD Cert.Kernel6Ideal.τ).loc Cert.Kernel6Ideal.main_v22_1)) (v2 : (c : Dev Cert.Kernel6Ideal.nD) → Buf (Elt Ideal) ((c.tc : Thread Cert.Kernel6Ideal.nD Cert.Kernel6Ideal.τ).loc Cert.Kernel6Ideal.main_v22_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v22_0) = v0 c
          ∧ r.2.mem ((c.tc : Thread Cert.Kernel6Ideal.nD Cert.Kernel6Ideal.τ).loc Cert.Kernel6Ideal.main_v22_1) = v1 c
          ∧ r.2.mem ((c.tc : Thread Cert.Kernel6Ideal.nD Cert.Kernel6Ideal.τ).loc Cert.Kernel6Ideal.main_v22_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v55) = v0 c
          ∧ r.2.mem ((c.tc : Thread Cert.Reference6Ideal.nD Cert.Reference6Ideal.τ).loc Cert.Reference6Ideal.main_v56) = v1 c
          ∧ r.2.mem ((c.tc : Thread Cert.Reference6Ideal.nD Cert.Reference6Ideal.τ).loc Cert.Reference6Ideal.main_v33) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v78) = v0 c
          ∧ r.2.mem ((c.tc : Thread Cert.Reference7Ideal.nD Cert.Reference7Ideal.τ).loc Cert.Reference7Ideal.main_v61) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v28) = v2 c
          ∧ r.2.mem ((c.tc : Thread Cert.Reference8Ideal.nD Cert.Reference8Ideal.τ).loc Cert.Reference8Ideal.main_v29) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_v29) = v2 c
          ∧ r.2.mem ((c.tc : Thread Cert.Reference9Ideal.nD Cert.Reference9Ideal.τ).loc Cert.Reference9Ideal.main_v30) = v3 c
          ∧ r.2.mem ((c.tc : Thread Cert.Reference9Ideal.nD Cert.Reference9Ideal.τ).loc Cert.Reference9Ideal.main_v32) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v69) = v0 c
          ∧ r.2.mem ((c.tc : Thread Cert.Reference10Ideal.nD Cert.Reference10Ideal.τ).loc Cert.Reference10Ideal.main_v75) = v1 c
          ∧ r.2.mem ((c.tc : Thread Cert.Reference10Ideal.nD Cert.Reference10Ideal.τ).loc Cert.Reference10Ideal.main_v81) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v18) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_v17) = v2 c
          ∧ r.2.mem ((c.tc : Thread Cert.Reference11Ideal.nD Cert.Reference11Ideal.τ).loc Cert.Reference11Ideal.main_v19) = v3 c
          ∧ r.2.mem ((c.tc : Thread Cert.Reference11Ideal.nD Cert.Reference11Ideal.τ).loc Cert.Reference11Ideal.main_v20) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_ffn_bwd_finite : Cert.Pre_ffn_bwd_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_ffn_bwd_finite (hKernel6Ideal := hKernel6Ideal) (hPre_ffn_bwd_finite := hPre_ffn_bwd_finite)
    ∧ quiescent_Reference6Ideal (hReference6Ideal := hReference6Ideal)
    ∧ quiescent_Reference6Ideal_pre_ffn_bwd_finite (hReference6Ideal := hReference6Ideal) (hPre_ffn_bwd_finite := hPre_ffn_bwd_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_ffn_bwd_finite (hKernel6Ideal := hKernel6Ideal) (hReference6Ideal := hReference6Ideal) (hPre_ffn_bwd_finite := hPre_ffn_bwd_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_ffn_bwd_finite.lean ====
abbrev S8192x1024 : Shape := ⟨2, ![8192, 1024]⟩
abbrev S1x1024 : Shape := ⟨2, ![1, 1024]⟩
abbrev S4x1024x1408 : Shape := ⟨3, ![4, 1024, 1408]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bitsLt_bf16_f32 : FTy.bits .bf16 < FTy.bits .f32
  bcast_S_S4x1024x1408 : S_.BroadcastsInDim S4x1024x1408 (![] : Fin 0 → Fin S4x1024x1408.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1x1024 .f32) (main_arg3 : FVec F S4x1024x1408 .bf16) (main_arg4 : FVec F S2816x1024 .bf16) : IVec S8192x1024 1 × IVec S1x1024 1 × IVec S4x1024x1408 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S4x1024x1408 .f32 := (extf .f32 · bitsLt_bf16_f32) main_arg3
  let main_v7 : FVec F S4x1024x1408 .f32 := Host.absf main_v6
  let main_cst_1 : FVec F S_ .f32 := constant S_ .f32 0x7F800000#32
  let main_v8 : FVec F S4x1024x1408 .f32 := broadcastInDim S4x1024x1408 ![] bcast_S_S4x1024x1408 main_cst_1
  let main_v9 : IVec S4x1024x1408 1 := cmpf .olt main_v7 main_v8
  let main_v10 : FVec F S2816x1024 .f32 := (extf .f32 · bitsLt_bf16_f32) main_arg4
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  (main_v2, main_v5, main_v9, main_v13)
-- ==== Kernel.lean ====
abbrev S8192x1024 : Shape := ⟨2, ![8192, 1024]⟩
abbrev S8192x256 : Shape := ⟨2, ![8192, 256]⟩
abbrev S4x1024x1024 : Shape := ⟨3, ![4, 1024, 1024]⟩
abbrev S4x4x256x256 : Shape := ⟨4, ![4, 4, 256, 256]⟩
abbrev S1024x1024 : Shape := ⟨2, ![1024, 1024]⟩
abbrev S4x1280x256 : Shape := ⟨3, ![4, 1280, 256]⟩
abbrev S4x1536x1024 : Shape := ⟨3, ![4, 1536, 1024]⟩
abbrev S4x256x4x256 : Shape := ⟨4, ![4, 256, 4, 256]⟩
abbrev S4x256x1024 : Shape := ⟨3, ![4, 256, 1024]⟩
abbrev S1x1024x1024 : Shape := ⟨3, ![1, 1024, 1024]⟩
abbrev S_ : Shape := ⟨0, ![]⟩
abbrev S1x256x1024 : Shape := ⟨3, ![1, 256, 1024]⟩
abbrev S256x1024 : Shape := ⟨2, ![256, 1024]⟩
abbrev S1x8192x1024 : Shape := ⟨3, ![1, 8192, 1024]⟩
abbrev S4x8192x1024 : Shape := ⟨3, ![4, 8192, 1024]⟩
abbrev S4x8192x256 : Shape := ⟨3, ![4, 8192, 256]⟩
abbrev S256x256 : Shape := ⟨2, ![256, 256]⟩
abbrev S4x256x256 : Shape := ⟨3, ![4, 256, 256]⟩
abbrev S4x1024x256 : Shape := ⟨3, ![4, 1024, 256]⟩
abbrev S1x1x256x256 : Shape := ⟨4, ![1, 1, 256, 256]⟩
abbrev S1x256x256 : Shape := ⟨3, ![1, 256, 256]⟩

abbrev nBuf : Space → Nat
  | .hbm => 109
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S8192x256, .bf16⟩
  | .hbm, ⟨6, _⟩ => ⟨S4x1024x1024, .bf16⟩
  | .hbm, ⟨7, _⟩ => ⟨S4x4x256x256, .bf16⟩
  | .hbm, ⟨8, _⟩ => ⟨S1024x1024, .bf16⟩
  | .hbm, ⟨9, _⟩ => ⟨S4x1280x256, .f32⟩
  | .hbm, ⟨10, _⟩ => ⟨S4x1536x1024, .f32⟩
  | .hbm, ⟨11, _⟩ => ⟨S4x4x256x256, .f32⟩
  | .hbm, ⟨12, _⟩ => ⟨S4x256x4x256, .f32⟩
  | .hbm, ⟨13, _⟩ => ⟨S4x256x1024, .f32⟩
  | .hbm, ⟨14, _⟩ => ⟨S8192x1024, .f32⟩
  | .hbm, ⟨15, _⟩ => ⟨S1x1024x1024, .bf16⟩
  | .hbm, ⟨16, _⟩ => ⟨S1024x1024, .bf16⟩
  | .hbm, ⟨17, _⟩ => ⟨S1024x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1x1024x1024, .bf16⟩
  | .hbm, ⟨29, _⟩ => ⟨S1024x1024, .bf16⟩
  | .hbm, ⟨30, _⟩ => ⟨S1024x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S1x1024x1024, .bf16⟩
  | .hbm, ⟨42, _⟩ => ⟨S1024x1024, .bf16⟩
  | .hbm, ⟨43, _⟩ => ⟨S1024x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024x1024, .bf16⟩
  | .hbm, ⟨55, _⟩ => ⟨S1024x1024, .bf16⟩
  | .hbm, ⟨56, _⟩ => ⟨S1024x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x256, .f32⟩
  | .hbm, ⟨67, _⟩ => ⟨S1x256x1024, .f32⟩
  | .hbm, ⟨68, _⟩ => ⟨S256x1024, .f32⟩
  | .hbm, ⟨69, _⟩ => ⟨S8192x1024, .f32⟩
  | .hbm, ⟨70, _⟩ => ⟨S8192x256, .f32⟩
  | .hbm, ⟨71, _⟩ => ⟨S1x256x1024, .f32⟩
  | .hbm, ⟨72, _⟩ => ⟨S256x1024, .f32⟩
  | .hbm, ⟨73, _⟩ => ⟨S8192x1024, .f32⟩
  | .hbm, ⟨74, _⟩ => ⟨S8192x256, .f32⟩
  | .hbm, ⟨75, _⟩ => ⟨S1x256x1024, .f32⟩
  | .hbm, ⟨76, _⟩ => ⟨S256x1024, .f32⟩
  | .hbm, ⟨77, _⟩ => ⟨S8192x1024, .f32⟩
  | .hbm, ⟨78, _⟩ => ⟨S8192x256, .f32⟩
  | .hbm, ⟨79, _⟩ => ⟨S1x256x1024, .f32⟩
  | .hbm, ⟨80, _⟩ => ⟨S256x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S1x8192x1024, .f32⟩
  | .hbm, ⟨93, _⟩ => ⟨S1x8192x1024, .f32⟩
  | .hbm, ⟨94, _⟩ => ⟨S1x8192x1024, .f32⟩
  | .hbm, ⟨95, _⟩ => ⟨S1x8192x1024, .f32⟩
  | .hbm, ⟨96, _⟩ => ⟨S4x8192x1024, .f32⟩
  | .hbm, ⟨97, _⟩ => ⟨S4x8192x1024, .bf16⟩
  | .hbm, ⟨98, _⟩ => ⟨S1x8192x1024, .f32⟩
  | .hbm, ⟨99, _⟩ => ⟨S1x8192x1024, .f32⟩
  | .hbm, ⟨100, _⟩ => ⟨S1x8192x1024, .f32⟩
  | .hbm, ⟨101, _⟩ => ⟨S1x8192x1024, .f32⟩
  | .hbm, ⟨102, _⟩ => ⟨S4x8192x1024, .f32⟩
  | .hbm, ⟨103, _⟩ => ⟨S4x8192x1024, .bf16⟩
  | .hbm, ⟨104, _⟩ => ⟨S8192x1024, .bf16⟩
  | .hbm, ⟨105, _⟩ => ⟨S4x8192x1024, .bf16⟩
  | .hbm, ⟨106, _⟩ => ⟨S4x8192x256, .f32⟩
  | .hbm, ⟨107, _⟩ => ⟨S4x1280x256, .f32⟩
  | .hbm, ⟨108, _⟩ => ⟨S4x1536x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S4x256x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S4x256x1024, .bf16⟩
  | .local _ .vmem, ⟨7, _⟩ => ⟨S4x4x256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x256, .bf16⟩
  | .local _ .vmem, ⟨15, _⟩ => ⟨S256x256, .bf16⟩
  | .local _ .vmem, ⟨16, _⟩ => ⟨S256x1024, .bf16⟩
  | .local _ .vmem, ⟨17, _⟩ => ⟨S256x1024, .bf16⟩
  | .local _ .vmem, ⟨18, _⟩ => ⟨S4x256x1024, .bf16⟩
  | .local _ .vmem, ⟨19, _⟩ => ⟨S4x256x1024, .bf16⟩
  | .local _ .vmem, ⟨20, _⟩ => ⟨S4x256x256, .f32⟩
  | .local _ .vmem, ⟨21, _⟩ => ⟨S4x256x256, .f32⟩
  | .local _ .vmem, ⟨22, _⟩ => ⟨S4x1024x256, .f32⟩
  | .local _ .vmem, ⟨23, _⟩ => ⟨S4x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85_0 : Ref sig .tc := ⟨.hbm, 105, rfl⟩
abbrev main_v85_1 : Ref sig .tc := ⟨.hbm, 106, rfl⟩
abbrev main_v85_2 : Ref sig .tc := ⟨.hbm, 107, rfl⟩
abbrev main_v85_3 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  let c0_i32_1 : BitVec 32 := 0#32
  ![c0_i32.toNat, c4_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x1024x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x1024 : Shape := ⟨2, ![8192, 1024]⟩
abbrev S8192x256 : Shape := ⟨2, ![8192, 256]⟩
abbrev S4x1024x1024 : Shape := ⟨3, ![4, 1024, 1024]⟩
abbrev S4x4x256x256 : Shape := ⟨4, ![4, 4, 256, 256]⟩
abbrev S1024x1024 : Shape := ⟨2, ![1024, 1024]⟩
abbrev S4x1280x256 : Shape := ⟨3, ![4, 1280, 256]⟩
abbrev S4x1536x1024 : Shape := ⟨3, ![4, 1536, 1024]⟩
abbrev S4x1x256x256 : Shape := ⟨4, ![4, 1, 256, 256]⟩
abbrev S4x256x256 : Shape := ⟨3, ![4, 256, 256]⟩
abbrev S256x4x256 : Shape := ⟨3, ![256, 4, 256]⟩
abbrev S256x1024 : Shape := ⟨2, ![256, 1024]⟩
abbrev S1x1024x1024 : Shape := ⟨3, ![1, 1024, 1024]⟩
abbrev S_ : Shape := ⟨0, ![]⟩
abbrev S1024x256 : Shape := ⟨2, ![1024, 256]⟩
abbrev S1024x4x256 : Shape := ⟨3, ![1024, 4, 256]⟩
abbrev S4x1024x256 : Shape := ⟨3, ![4, 1024, 256]⟩
abbrev S4x256x1024 : Shape := ⟨3, ![4, 256, 1024]⟩
abbrev S1x8192x1024 : Shape := ⟨3, ![1, 8192, 1024]⟩
abbrev S4x8192x1024 : Shape := ⟨3, ![4, 8192, 1024]⟩
abbrev S1x8192x256 : Shape := ⟨3, ![1, 8192, 256]⟩
abbrev S4x8192x256 : Shape := ⟨3, ![4, 8192, 256]⟩

abbrev nBuf : Space → Nat
  | .hbm => 157
  | .vmem => 0
  | .smem => 0
  | _ => 0

abbrev hbmTy0_0 (i : Nat) : BufTy := match i % 128 with
  | 0 => ⟨S8192x1024, .f32⟩
  | 1 => ⟨S8192x1024, .bf16⟩
  | 2 => ⟨S8192x256, .bf16⟩
  | 3 => ⟨S8192x256, .bf16⟩
  | 4 => ⟨S8192x256, .bf16⟩
  | 5 => ⟨S8192x256, .bf16⟩
  | 6 => ⟨S4x1024x1024, .bf16⟩
  | 7 => ⟨S4x4x256x256, .bf16⟩
  | 8 => ⟨S1024x1024, .bf16⟩
  | 9 => ⟨S4x1280x256, .f32⟩
  | 10 => ⟨S4x1536x1024, .f32⟩
  | 11 => ⟨S8192x1024, .f32⟩
  | 12 => ⟨S8192x256, .f32⟩
  | 13 => ⟨S8192x256, .f32⟩
  | 14 => ⟨S8192x256, .f32⟩
  | 15 => ⟨S8192x256, .f32⟩
  | 16 => ⟨S4x1024x1024, .f32⟩
  | 17 => ⟨S4x4x256x256, .f32⟩
  | 18 => ⟨S1024x1024, .f32⟩
  | 19 => ⟨S4x1x256x256, .f32⟩
  | 20 => ⟨S4x256x256, .f32⟩
  | 21 => ⟨S256x4x256, .f32⟩
  | 22 => ⟨S256x1024, .f32⟩
  | 23 => ⟨S4x1x256x256, .f32⟩
  | 24 => ⟨S4x256x256, .f32⟩
  | 25 => ⟨S256x4x256, .f32⟩
  | 26 => ⟨S256x1024, .f32⟩
  | 27 => ⟨S4x1x256x256, .f32⟩
  | 28 => ⟨S4x256x256, .f32⟩
  | 29 => ⟨S256x4x256, .f32⟩
  | 30 => ⟨S256x1024, .f32⟩
  | 31 => ⟨S4x1x256x256, .f32⟩
  | 32 => ⟨S4x256x256, .f32⟩
  | 33 => ⟨S256x4x256, .f32⟩
  | 34 => ⟨S256x1024, .f32⟩
  | 35 => ⟨S1x1024x1024, .f32⟩
  | 36 => ⟨S1024x1024, .f32⟩
  | 37 => ⟨S8192x1024, .f32⟩
  | 38 => ⟨S1x1024x1024, .f32⟩
  | 39 => ⟨S1024x1024, .f32⟩
  | 40 => ⟨S8192x1024, .f32⟩
  | 41 => ⟨S1x1024x1024, .f32⟩
  | 42 => ⟨S1024x1024, .f32⟩
  | 43 => ⟨S8192x1024, .f32⟩
  | 44 => ⟨S1x1024x1024, .f32⟩
  | 45 => ⟨S1024x1024, .f32⟩
  | 46 => ⟨S8192x1024, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S_, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S_, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S_, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S_, .f32⟩
  | 100 => ⟨S8192x1024, .f32⟩
  | 101 => ⟨S8192x1024, .f32⟩
  | 102 => ⟨S_, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S1024x1024, .f32⟩
  | 111 => ⟨S1024x1024, .f32⟩
  | 112 => ⟨S8192x1024, .f32⟩
  | 113 => ⟨S8192x1024, .f32⟩
  | 114 => ⟨S8192x1024, .f32⟩
  | 115 => ⟨S1024x256, .f32⟩
  | 116 => ⟨S256x1024, .f32⟩
  | 117 => ⟨S8192x256, .f32⟩
  | 118 => ⟨S8192x1024, .f32⟩
  | 119 => ⟨S8192x1024, .f32⟩
  | 120 => ⟨S8192x1024, .f32⟩
  | 121 => ⟨S1024x256, .f32⟩
  | 122 => ⟨S256x1024, .f32⟩
  | 123 => ⟨S8192x256, .f32⟩
  | 124 => ⟨S8192x1024, .f32⟩
  | 125 => ⟨S8192x1024, .f32⟩
  | 126 => ⟨S8192x1024, .f32⟩
  | 127 => ⟨S1024x256, .f32⟩
  | _ => ⟨S8192x1024, .f32⟩

abbrev hbmTy0_1 (i : Nat) : BufTy := match i % 128 with
  | 0 => ⟨S256x1024, .f32⟩
  | 1 => ⟨S8192x256, .f32⟩
  | 2 => ⟨S8192x1024, .f32⟩
  | 3 => ⟨S8192x1024, .f32⟩
  | 4 => ⟨S8192x1024, .f32⟩
  | 5 => ⟨S1024x256, .f32⟩
  | 6 => ⟨S256x1024, .f32⟩
  | 7 => ⟨S8192x256, .f32⟩
  | 8 => ⟨S8192x1024, .f32⟩
  | 9 => ⟨S1024x1024, .f32⟩
  | 10 => ⟨S1024x4x256, .f32⟩
  | 11 => ⟨S4x1024x256, .f32⟩
  | 12 => ⟨S4x256x1024, .f32⟩
  | 13 => ⟨S1x8192x1024, .f32⟩
  | 14 => ⟨S1x8192x1024, .f32⟩
  | 15 => ⟨S1x8192x1024, .f32⟩
  | 16 => ⟨S1x8192x1024, .f32⟩
  | 17 => ⟨S4x8192x1024, .f32⟩
  | 18 => ⟨S4x8192x1024, .bf16⟩
  | 19 => ⟨S1x8192x256, .f32⟩
  | 20 => ⟨S1x8192x256, .f32⟩
  | 21 => ⟨S1x8192x256, .f32⟩
  | 22 => ⟨S1x8192x256, .f32⟩
  | 23 => ⟨S4x8192x256, .f32⟩
  | 24 => ⟨S4x256x256, .f32⟩
  | 25 => ⟨S4x1280x256, .f32⟩
  | 26 => ⟨S4x1024x1024, .f32⟩
  | 27 => ⟨S4x256x1024, .f32⟩
  | 28 => ⟨S4x1536x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst : Ref sig .tc := ⟨.hbm, 49, rfl⟩
abbrev main_v38 : Ref sig .tc := ⟨.hbm, 50, rfl⟩
abbrev main_v39 : Ref sig .tc := ⟨.hbm, 51, rfl⟩
abbrev main_cst_0 : Ref sig .tc := ⟨.hbm, 52, rfl⟩
abbrev main_v40 : Ref sig .tc := ⟨.hbm, 53, rfl⟩
abbrev main_v41 : Ref sig .tc := ⟨.hbm, 54, rfl⟩
abbrev main_cst_1 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_2 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_3 : Ref sig .tc := ⟨.hbm, 66, rfl⟩
abbrev main_v51 : Ref sig .tc := ⟨.hbm, 67, rfl⟩
abbrev main_v52 : Ref sig .tc := ⟨.hbm, 68, rfl⟩
abbrev main_cst_4 : Ref sig .tc := ⟨.hbm, 69, rfl⟩
abbrev main_v53 : Ref sig .tc := ⟨.hbm, 70, rfl⟩
abbrev main_v54 : Ref sig .tc := ⟨.hbm, 71, rfl⟩
abbrev main_cst_5 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_6 : Ref sig .tc := ⟨.hbm, 81, rfl⟩
abbrev main_v63 : Ref sig .tc := ⟨.hbm, 82, rfl⟩
abbrev main_v64 : Ref sig .tc := ⟨.hbm, 83, rfl⟩
abbrev main_cst_7 : Ref sig .tc := ⟨.hbm, 84, rfl⟩
abbrev main_v65 : Ref sig .tc := ⟨.hbm, 85, rfl⟩
abbrev main_v66 : Ref sig .tc := ⟨.hbm, 86, rfl⟩
abbrev main_cst_8 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_9 : Ref sig .tc := ⟨.hbm, 96, rfl⟩
abbrev main_v75 : Ref sig .tc := ⟨.hbm, 97, rfl⟩
abbrev main_v76 : Ref sig .tc := ⟨.hbm, 98, rfl⟩
abbrev main_cst_10 : Ref sig .tc := ⟨.hbm, 99, rfl⟩
abbrev main_v77 : Ref sig .tc := ⟨.hbm, 100, rfl⟩
abbrev main_v78 : Ref sig .tc := ⟨.hbm, 101, rfl⟩
abbrev main_cst_11 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩

abbrev nD : Nat := 1
abbrev τ : Topo := Topo.v7x

variable {F : FTy → Type} [FloatOps F]
-- ==== Kernel2.lean ====
abbrev S8192x1024 : Shape := ⟨2, ![8192, 1024]⟩
abbrev S2x8192x2816 : Shape := ⟨3, ![2, 8192, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .f32⟩
  | .local _ .vmem, ⟨5, _⟩ => ⟨S1x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x1024 : Shape := ⟨2, ![8192, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S8192x1024, .f32⟩
  | .hbm, ⟨3, _⟩ => ⟨S2x8192x2816, .f32⟩
  | .hbm, ⟨4, _⟩ => ⟨S1x8192x2816, .f32⟩
  | .hbm, ⟨5, _⟩ => ⟨S8192x2816, .f32⟩
  | .hbm, ⟨6, _⟩ => ⟨S1x8192x2816, .f32⟩
  | .hbm, ⟨7, _⟩ => ⟨S8192x2816, .f32⟩
  | .hbm, ⟨8, _⟩ => ⟨S8192x5632, .f32⟩
  | .hbm, ⟨9, _⟩ => ⟨S_, .f32⟩
  | .hbm, ⟨10, _⟩ => ⟨S1024x5632, .f32⟩
  | .hbm, ⟨11, _⟩ => ⟨S8192x5632, .f32⟩
  | .hbm, ⟨12, _⟩ => ⟨S5632x1024, .f32⟩
  | .hbm, ⟨13, _⟩ => ⟨S1024x5632, .f32⟩
  | .hbm, ⟨14, _⟩ => ⟨S1024x4x1408, .f32⟩
  | .hbm, ⟨15, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel3.lean ====
abbrev S8192x1024 : Shape := ⟨2, ![8192, 1024]⟩
abbrev S8192x2560 : Shape := ⟨2, ![8192, 2560]⟩
abbrev S4x1024x640 : Shape := ⟨3, ![4, 1024, 640]⟩
abbrev S1024x1024 : Shape := ⟨2, ![1024, 1024]⟩
abbrev S1024x640 : Shape := ⟨2, ![1024, 640]⟩
abbrev S1x1024x640 : Shape := ⟨3, ![1, 1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S4x1024x640, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1x1024x640, .f32⟩
  | .local _ .vmem, ⟨5, _⟩ => ⟨S1x1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S8192x1024, .f32⟩
  | .hbm, ⟨3, _⟩ => ⟨S8192x2560, .f32⟩
  | .hbm, ⟨4, _⟩ => ⟨S_, .f32⟩
  | .hbm, ⟨5, _⟩ => ⟨S1024x2560, .f32⟩
  | .hbm, ⟨6, _⟩ => ⟨S8192x2560, .f32⟩
  | .hbm, ⟨7, _⟩ => ⟨S2560x1024, .f32⟩
  | .hbm, ⟨8, _⟩ => ⟨S1024x2560, .f32⟩
  | .hbm, ⟨9, _⟩ => ⟨S1024x4x640, .f32⟩
  | .hbm, ⟨10, _⟩ => ⟨S4x1024x640, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8192x1024 : Shape := ⟨2, ![8192, 1024]⟩
abbrev S4x8192x1024 : Shape := ⟨3, ![4, 8192, 1024]⟩
abbrev S4x1536x1024 : Shape := ⟨3, ![4, 1536, 1024]⟩
abbrev S1024x1024 : Shape := ⟨2, ![1024, 1024]⟩
abbrev S1x1024x1024 : Shape := ⟨3, ![1, 1024, 1024]⟩
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x8192x1024, .bf16⟩
  | .hbm, ⟨2, _⟩ => ⟨S4x1536x1024, .f32⟩
  | .hbm, ⟨3, _⟩ => ⟨S4x1536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S4x256x1024, .f32⟩
  | .local _ .vmem, ⟨5, _⟩ => ⟨S4x256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x1024 : Shape := ⟨2, ![8192, 1024]⟩
abbrev S4x8192x1024 : Shape := ⟨3, ![4, 8192, 1024]⟩
abbrev S4x1536x1024 : Shape := ⟨3, ![4, 1536, 1024]⟩
abbrev S_ : Shape := ⟨0, ![]⟩
abbrev S1024x1024 : Shape := ⟨2, ![1024, 1024]⟩
abbrev S1x8192x1024 : Shape := ⟨3, ![1, 8192, 1024]⟩
abbrev S4x256x1024 : Shape := ⟨3, ![4, 256, 1024]⟩
abbrev S4x512x1024 : Shape := ⟨3, ![4, 512, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x8192x1024, .bf16⟩
  | .hbm, ⟨2, _⟩ => ⟨S4x1536x1024, .f32⟩
  | .hbm, ⟨3, _⟩ => ⟨S8192x1024, .f32⟩
  | .hbm, ⟨4, _⟩ => ⟨S4x8192x1024, .f32⟩
  | .hbm, ⟨5, _⟩ => ⟨S_, .f32⟩
  | .hbm, ⟨6, _⟩ => ⟨S1024x1024, .f32⟩
  | .hbm, ⟨7, _⟩ => ⟨S8192x1024, .f32⟩
  | .hbm, ⟨8, _⟩ => ⟨S1x8192x1024, .f32⟩
  | .hbm, ⟨9, _⟩ => ⟨S8192x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S8192x1024, .f32⟩
  | .hbm, ⟨15, _⟩ => ⟨S1x8192x1024, .f32⟩
  | .hbm, ⟨16, _⟩ => ⟨S8192x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S8192x1024, .f32⟩
  | .hbm, ⟨22, _⟩ => ⟨S1x8192x1024, .f32⟩
  | .hbm, ⟨23, _⟩ => ⟨S8192x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S8192x1024, .f32⟩
  | .hbm, ⟨29, _⟩ => ⟨S1x8192x1024, .f32⟩
  | .hbm, ⟨30, _⟩ => ⟨S8192x1024, .f32⟩
  | .hbm, ⟨31, _⟩ => ⟨S1024x1024, .f32⟩
  | .hbm, ⟨32, _⟩ => ⟨S1024x1024, .f32⟩
  | .hbm, ⟨33, _⟩ => ⟨S4x256x1024, .f32⟩
  | .hbm, ⟨34, _⟩ => ⟨S4x256x1024, .f32⟩
  | .hbm, ⟨35, _⟩ => ⟨S4x256x1024, .f32⟩
  | .hbm, ⟨36, _⟩ => ⟨S4x256x1024, .f32⟩
  | .hbm, ⟨37, _⟩ => ⟨S4x512x1024, .f32⟩
  | .hbm, ⟨38, _⟩ => ⟨S4x1536x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S4x704x1024 : Shape := ⟨3, ![4, 704, 1024]⟩
abbrev S1024x1408 : Shape := ⟨2, ![1024, 1408]⟩
abbrev S1024x1024 : Shape := ⟨2, ![1024, 1024]⟩
abbrev S2x704x1024 : Shape := ⟨3, ![2, 704, 1024]⟩
abbrev S1408x1024 : Shape := ⟨2, ![1408, 1024]⟩
abbrev S1x704x1024 : Shape := ⟨3, ![1, 704, 1024]⟩
abbrev S704x1024 : Shape := ⟨2, ![704, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S4x704x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S2x704x1024, .f32⟩
  | .local _ .vmem, ⟨5, _⟩ => ⟨S2x704x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S4x704x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S4x1024x1408 : Shape := ⟨3, ![4, 1024, 1408]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024x4x1408 : Shape := ⟨3, ![1024, 4, 1408]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S256x1024 : Shape := ⟨2, ![256, 1024]⟩
abbrev S2x256x2816 : Shape := ⟨3, ![2, 256, 2816]⟩
abbrev S1408x1024 : Shape := ⟨2, ![1408, 1024]⟩
abbrev S256x1408 : Shape := ⟨2, ![256, 1408]⟩
abbrev S1x256x1408 : Shape := ⟨3, ![1, 256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 33
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S4x1024x1408, .bf16⟩
  | .hbm, ⟨4, _⟩ => ⟨S2816x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S4x1024x1408, .f32⟩
  | .hbm, ⟨21, _⟩ => ⟨S1024x4x1408, .f32⟩
  | .hbm, ⟨22, _⟩ => ⟨S1024x5632, .f32⟩
  | .hbm, ⟨23, _⟩ => ⟨S8192x5632, .f32⟩
  | .hbm, ⟨24, _⟩ => ⟨S8192x2816, .f32⟩
  | .hbm, ⟨25, _⟩ => ⟨S8192x2816, .f32⟩
  | .hbm, ⟨26, _⟩ => ⟨S1x8192x2816, .f32⟩
  | .hbm, ⟨27, _⟩ => ⟨S1x8192x2816, .f32⟩
  | .hbm, ⟨28, _⟩ => ⟨S2x8192x2816, .f32⟩
  | .hbm, ⟨29, _⟩ => ⟨S2x8192x2816, .bf16⟩
  | .hbm, ⟨30, _⟩ => ⟨S2x8192x2816, .bf16⟩
  | .hbm, ⟨31, _⟩ => ⟨S8192x1024, .f32⟩
  | .hbm, ⟨32, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S2x256x2816, .bf16⟩
  | .local _ .vmem, ⟨4, _⟩ => ⟨S2x256x2816, .bf16⟩
  | .local _ .vmem, ⟨5, _⟩ => ⟨S4x1024x1408, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S2x256x2816, .bf16⟩
  | .local _ .vmem, ⟨10, _⟩ => ⟨S2x256x2816, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S8192x1024 : Shape := ⟨2, ![8192, 1024]⟩
abbrev S1x1024 : Shape := ⟨2, ![1, 1024]⟩
abbrev S4x1024x1408 : Shape := ⟨3, ![4, 1024, 1408]⟩
abbrev S2816x1024 : Shape := ⟨2, ![2816, 1024]⟩
abbrev S1024x4x1408 : Shape := ⟨3, ![1024, 4, 1408]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩
abbrev S1x8192x2816 : Shape := ⟨3, ![1, 8192, 2816]⟩
abbrev S2x8192x2816 : Shape := ⟨3, ![2, 8192, 2816]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S4x1024x1408, .bf16⟩
  | .hbm, ⟨4, _⟩ => ⟨S2816x1024, .bf16⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S2816x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x5632, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x1024, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x5632, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x2816, .f32⟩
  | .hbm, ⟨79, _⟩ => ⟨S8192x2816, .f32⟩
  | .hbm, ⟨80, _⟩ => ⟨S1x8192x2816, .f32⟩
  | .hbm, ⟨81, _⟩ => ⟨S1x8192x2816, .f32⟩
  | .hbm, ⟨82, _⟩ => ⟨S2x8192x2816, .f32⟩
  | .hbm, ⟨83, _⟩ => ⟨S2x8192x2816, .bf16⟩
  | .hbm, ⟨84, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v22_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v22_1 : Ref sig .tc := ⟨.hbm, 42, rfl⟩
abbrev main_v22_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]
-- ==== Kernel7.lean ====
abbrev S4x8192x1024 : Shape := ⟨3, ![4, 8192, 1024]⟩
abbrev S8192x2560 : Shape := ⟨2, ![8192, 2560]⟩
abbrev S4x1024x1024 : Shape := ⟨3, ![4, 1024, 1024]⟩
abbrev S4x1024x640 : Shape := ⟨3, ![4, 1024, 640]⟩
abbrev S8192x1024 : Shape := ⟨2, ![8192, 1024]⟩
abbrev S1x1024 : Shape := ⟨2, ![1, 1024]⟩
abbrev S4x512x1024 : Shape := ⟨3, ![4, 512, 1024]⟩
abbrev S512x2560 : Shape := ⟨2, ![512, 2560]⟩
abbrev S512x1024 : Shape := ⟨2, ![512, 1024]⟩
abbrev S1x512x1024 : Shape := ⟨3, ![1, 512, 1024]⟩
abbrev S1x1024x1024 : Shape := ⟨3, ![1, 1024, 1024]⟩
abbrev S1024x1024 : Shape := ⟨2, ![1024, 1024]⟩
abbrev S512x640 : Shape := ⟨2, ![512, 640]⟩
abbrev S1x1024x640 : Shape := ⟨3, ![1, 1024, 640]⟩
abbrev S1024x640 : Shape := ⟨2, ![1024, 640]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4x8192x1024, .bf16⟩
  | .hbm, ⟨1, _⟩ => ⟨S8192x2560, .bf16⟩
  | .hbm, ⟨2, _⟩ => ⟨S4x1024x1024, .bf16⟩
  | .hbm, ⟨3, _⟩ => ⟨S4x1024x640, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S1x1024, .f32⟩
  | .local _ .vmem, ⟨0, _⟩ => ⟨S4x512x1024, .bf16⟩
  | .local _ .vmem, ⟨1, _⟩ => ⟨S4x512x1024, .bf16⟩
  | .local _ .vmem, ⟨2, _⟩ => ⟨S4x1024x1024, .bf16⟩
  | .local _ .vmem, ⟨3, _⟩ => ⟨S512x2560, .bf16⟩
  | .local _ .vmem, ⟨4, _⟩ => ⟨S512x2560, .bf16⟩
  | .local _ .vmem, ⟨5, _⟩ => ⟨S4x1024x640, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S4x8192x1024 : Shape := ⟨3, ![4, 8192, 1024]⟩
abbrev S8192x2560 : Shape := ⟨2, ![8192, 2560]⟩
abbrev S4x1024x1024 : Shape := ⟨3, ![4, 1024, 1024]⟩
abbrev S4x1024x640 : Shape := ⟨3, ![4, 1024, 640]⟩
abbrev S8192x1024 : Shape := ⟨2, ![8192, 1024]⟩
abbrev S1x1024 : Shape := ⟨2, ![1, 1024]⟩
abbrev S1024x4x640 : Shape := ⟨3, ![1024, 4, 640]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S1x1024x1024 : Shape := ⟨3, ![1, 1024, 1024]⟩
abbrev S1024x1024 : Shape := ⟨2, ![1024, 1024]⟩
abbrev S1x8192x1024 : Shape := ⟨3, ![1, 8192, 1024]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S8192x2560, .bf16⟩
  | .hbm, ⟨2, _⟩ => ⟨S4x1024x1024, .bf16⟩
  | .hbm, ⟨3, _⟩ => ⟨S4x1024x640, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S4x1024x640, .f32⟩
  | .hbm, ⟨8, _⟩ => ⟨S1024x4x640, .f32⟩
  | .hbm, ⟨9, _⟩ => ⟨S1024x2560, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1x1024x1024, .bf16⟩
  | .hbm, ⟨30, _⟩ => ⟨S1024x1024, .bf16⟩
  | .hbm, ⟨31, _⟩ => ⟨S1024x1024, .f32⟩
  | .hbm, ⟨32, _⟩ => ⟨S8192x1024, .f32⟩
  | .hbm, ⟨33, _⟩ => ⟨S1x1024x1024, .bf16⟩
  | .hbm, ⟨34, _⟩ => ⟨S1024x1024, .bf16⟩
  | .hbm, ⟨35, _⟩ => ⟨S1024x1024, .f32⟩
  | .hbm, ⟨36, _⟩ => ⟨S8192x1024, .f32⟩
  | .hbm, ⟨37, _⟩ => ⟨S1x1024x1024, .bf16⟩
  | .hbm, ⟨38, _⟩ => ⟨S1024x1024, .bf16⟩
  | .hbm, ⟨39, _⟩ => ⟨S1024x1024, .f32⟩
  | .hbm, ⟨40, _⟩ => ⟨S8192x1024, .f32⟩
  | .hbm, ⟨41, _⟩ => ⟨S1x1024x1024, .bf16⟩
  | .hbm, ⟨42, _⟩ => ⟨S1024x1024, .bf16⟩
  | .hbm, ⟨43, _⟩ => ⟨S1024x1024, .f32⟩
  | .hbm, ⟨44, _⟩ => ⟨S8192x1024, .f32⟩
  | .hbm, ⟨45, _⟩ => ⟨S1x8192x1024, .f32⟩
  | .hbm, ⟨46, _⟩ => ⟨S1x8192x1024, .f32⟩
  | .hbm, ⟨47, _⟩ => ⟨S1x8192x1024, .f32⟩
  | .hbm, ⟨48, _⟩ => ⟨S1x8192x1024, .f32⟩
  | .hbm, ⟨49, _⟩ => ⟨S4x8192x1024, .f32⟩
  | .hbm, ⟨50, _⟩ => ⟨S8192x2560, .f32⟩
  | .hbm, ⟨51, _⟩ => ⟨S4x8192x1024, .f32⟩
  | .hbm, ⟨52, _⟩ => ⟨S8192x2560, .f32⟩
  | .hbm, ⟨53, _⟩ => ⟨S8192x1024, .f32⟩
  | .hbm, ⟨54, _⟩ => ⟨S1x8192x1024, .f32⟩
  | .hbm, ⟨55, _⟩ => ⟨S8192x1024, .f32⟩
  | .hbm, ⟨56, _⟩ => ⟨S1x8192x1024, .f32⟩
  | .hbm, ⟨57, _⟩ => ⟨S8192x1024, .f32⟩
  | .hbm, ⟨58, _⟩ => ⟨S1x8192x1024, .f32⟩
  | .hbm, ⟨59, _⟩ => ⟨S8192x1024, .f32⟩
  | .hbm, ⟨60, _⟩ => ⟨S1x8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_3 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_4 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_5 : Ref sig .tc := ⟨.hbm, 83, rfl⟩
abbrev main_v70 : Ref sig .tc := ⟨.hbm, 84, rfl⟩
abbrev main_v71 : Ref sig .tc := ⟨.hbm, 85, rfl⟩
abbrev main_cst_6 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S1x1024 : Shape := ⟨2, ![1, 1024]⟩
abbrev S4x1024x1408 : Shape := ⟨3, ![4, 1024, 1408]⟩
abbrev S2x8192x2816 : Shape := ⟨3, ![2, 8192, 2816]⟩
abbrev S8192x2816 : Shape := ⟨2, ![8192, 2816]⟩
abbrev S256x1024 : Shape := ⟨2, ![256, 1024]⟩
abbrev S2x256x2816 : Shape := ⟨3, ![2, 256, 2816]⟩
abbrev S256x2816 : Shape := ⟨2, ![256, 2816]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1x256x1408 : Shape := ⟨3, ![1, 256, 1408]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S4x1024x1408, .bf16⟩
  | .hbm, ⟨5, _⟩ => ⟨S8192x1024, .f32⟩
  | .hbm, ⟨6, _⟩ => ⟨S8192x1024, .bf16⟩
  | .hbm, ⟨7, _⟩ => ⟨S2x8192x2816, .bf16⟩
  | .hbm, ⟨8, _⟩ => ⟨S8192x2816, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S4x1024x1408, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S2x256x2816, .bf16⟩
  | .local _ .vmem, ⟨12, _⟩ => ⟨S2x256x2816, .bf16⟩
  | .local _ .vmem, ⟨13, _⟩ => ⟨S256x2816, .bf16⟩
  | .local _ .vmem, ⟨14, _⟩ => ⟨S256x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S8192x1024 : Shape := ⟨2, ![8192, 1024]⟩
abbrev S1024x1024 : Shape := ⟨2, ![1024, 1024]⟩
abbrev S1x1024 : Shape := ⟨2, ![1, 1024]⟩
abbrev S4x1024x1408 : Shape := ⟨3, ![4, 1024, 1408]⟩
abbrev S_ : Shape := ⟨0, ![]⟩
abbrev S8192 : Shape := ⟨1, ![8192]⟩
abbrev S8192x1 : Shape := ⟨2, ![8192, 1]⟩
abbrev S1024x4x1408 : Shape := ⟨3, ![1024, 4, 1408]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S4x1024x1408, .bf16⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S4x1024x1408, .f32⟩
  | .hbm, ⟨25, _⟩ => ⟨S1024x4x1408, .f32⟩
  | .hbm, ⟨26, _⟩ => ⟨S1024x5632, .f32⟩
  | .hbm, ⟨27, _⟩ => ⟨S8192x5632, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x1024, .bf16⟩
  | .hbm, ⟨41, _⟩ => ⟨S1x8192x2816, .f32⟩
  | .hbm, ⟨42, _⟩ => ⟨S1x8192x2816, .f32⟩
  | .hbm, ⟨43, _⟩ => ⟨S2x8192x2816, .f32⟩
  | .hbm, ⟨44, _⟩ => ⟨S2x8192x2816, .bf16⟩
  | .hbm, ⟨45, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel9.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024x1024 : Shape := ⟨2, ![1024, 1024]⟩
abbrev S8192x256 : Shape := ⟨2, ![8192, 256]⟩
abbrev S4x256x256 : Shape := ⟨3, ![4, 256, 256]⟩
abbrev S512x2816 : Shape := ⟨2, ![512, 2816]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩

abbrev nBuf : Space → Nat
  | .hbm => 12
  | .vmem => 20
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1024x1024, .bf16⟩
  | .hbm, ⟨5, _⟩ => ⟨S8192x256, .f32⟩
  | .hbm, ⟨6, _⟩ => ⟨S4x256x256, .bf16⟩
  | .hbm, ⟨7, _⟩ => ⟨S8192x1024, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1024x1024, .bf16⟩
  | .local _ .vmem, ⟨7, _⟩ => ⟨S512x256, .f32⟩
  | .local _ .vmem, ⟨8, _⟩ => ⟨S512x256, .f32⟩
  | .local _ .vmem, ⟨9, _⟩ => ⟨S4x256x256, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference9Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024x1024 : Shape := ⟨2, ![1024, 1024]⟩
abbrev S8192x256 : Shape := ⟨2, ![8192, 256]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S256x4x256 : Shape := ⟨3, ![256, 4, 256]⟩
abbrev S256x1024 : Shape := ⟨2, ![256, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1024x1024, .bf16⟩
  | .hbm, ⟨5, _⟩ => ⟨S8192x256, .f32⟩
  | .hbm, ⟨6, _⟩ => ⟨S4x256x256, .bf16⟩
  | .hbm, ⟨7, _⟩ => ⟨S8192x2816, .f32⟩
  | .hbm, ⟨8, _⟩ => ⟨S2816x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1024x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S4x256x256, .f32⟩
  | .hbm, ⟨37, _⟩ => ⟨S256x4x256, .f32⟩
  | .hbm, ⟨38, _⟩ => ⟨S256x1024, .f32⟩
  | .hbm, ⟨39, _⟩ => ⟨S8192x1024, .f32⟩
  | .hbm, ⟨40, _⟩ => ⟨S8192x1024, .bf16⟩
  | .hbm, ⟨41, _⟩ => ⟨S8192x1024, .bf16⟩
  | .hbm, ⟨42, _⟩ => ⟨S8192x1024, .bf16⟩
  | .hbm, ⟨43, _⟩ => ⟨S8192x1024, .f32⟩
  | .hbm, ⟨44, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel10.lean ====
abbrev S8192x1024 : Shape := ⟨2, ![8192, 1024]⟩
abbrev S8192x256 : Shape := ⟨2, ![8192, 256]⟩
abbrev S4x1024x1024 : Shape := ⟨3, ![4, 1024, 1024]⟩
abbrev S4x4x256x256 : Shape := ⟨4, ![4, 4, 256, 256]⟩
abbrev S4x8192x1024 : Shape := ⟨3, ![4, 8192, 1024]⟩
abbrev S512x1024 : Shape := ⟨2, ![512, 1024]⟩
abbrev S512x256 : Shape := ⟨2, ![512, 256]⟩
abbrev S4x512x1024 : Shape := ⟨3, ![4, 512, 1024]⟩
abbrev S1x1024x256 : Shape := ⟨3, ![1, 1024, 256]⟩
abbrev S1024x256 : Shape := ⟨2, ![1024, 256]⟩
abbrev S1x1x256x256 : Shape := ⟨4, ![1, 1, 256, 256]⟩
abbrev S256x256 : Shape := ⟨2, ![256, 256]⟩
abbrev S1x512x256 : Shape := ⟨3, ![1, 512, 256]⟩

abbrev nBuf : Space → Nat
  | .hbm => 10
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S4x1024x1024, .bf16⟩
  | .hbm, ⟨6, _⟩ => ⟨S4x4x256x256, .bf16⟩
  | .hbm, ⟨7, _⟩ => ⟨S8192x1024, .bf16⟩
  | .hbm, ⟨8, _⟩ => ⟨S4x8192x1024, .bf16⟩
  | .hbm, ⟨9, _⟩ => ⟨S4x8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S4x1024x1024, .bf16⟩
  | .local _ .vmem, ⟨11, _⟩ => ⟨S4x4x256x256, .bf16⟩
  | .local _ .vmem, ⟨12, _⟩ => ⟨S512x1024, .bf16⟩
  | .local _ .vmem, ⟨13, _⟩ => ⟨S512x1024, .bf16⟩
  | .local _ .vmem, ⟨14, _⟩ => ⟨S4x512x1024, .bf16⟩
  | .local _ .vmem, ⟨15, _⟩ => ⟨S4x512x1024, .bf16⟩
  | .local _ .vmem, ⟨16, _⟩ => ⟨S4x512x1024, .bf16⟩
  | .local _ .vmem, ⟨17, _⟩ => ⟨S4x512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S8192x1024 : Shape := ⟨2, ![8192, 1024]⟩
abbrev S8192x256 : Shape := ⟨2, ![8192, 256]⟩
abbrev S4x1024x1024 : Shape := ⟨3, ![4, 1024, 1024]⟩
abbrev S4x4x256x256 : Shape := ⟨4, ![4, 4, 256, 256]⟩
abbrev S4x256x4x256 : Shape := ⟨4, ![4, 256, 4, 256]⟩
abbrev S4x256x1024 : Shape := ⟨3, ![4, 256, 1024]⟩
abbrev S1x1024x1024 : Shape := ⟨3, ![1, 1024, 1024]⟩
abbrev S1024x1024 : Shape := ⟨2, ![1024, 1024]⟩
abbrev S_ : Shape := ⟨0, ![]⟩
abbrev S1x256x1024 : Shape := ⟨3, ![1, 256, 1024]⟩
abbrev S256x1024 : Shape := ⟨2, ![256, 1024]⟩
abbrev S1x8192x1024 : Shape := ⟨3, ![1, 8192, 1024]⟩
abbrev S4x8192x1024 : Shape := ⟨3, ![4, 8192, 1024]⟩

abbrev nBuf : Space → Nat
  | .hbm => 98
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S4x1024x1024, .bf16⟩
  | .hbm, ⟨6, _⟩ => ⟨S4x4x256x256, .bf16⟩
  | .hbm, ⟨7, _⟩ => ⟨S8192x1024, .f32⟩
  | .hbm, ⟨8, _⟩ => ⟨S4x4x256x256, .f32⟩
  | .hbm, ⟨9, _⟩ => ⟨S4x256x4x256, .f32⟩
  | .hbm, ⟨10, _⟩ => ⟨S4x256x1024, .f32⟩
  | .hbm, ⟨11, _⟩ => ⟨S1x1024x1024, .bf16⟩
  | .hbm, ⟨12, _⟩ => ⟨S1024x1024, .bf16⟩
  | .hbm, ⟨13, _⟩ => ⟨S1024x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S1x1024x1024, .bf16⟩
  | .hbm, ⟨24, _⟩ => ⟨S1024x1024, .bf16⟩
  | .hbm, ⟨25, _⟩ => ⟨S1024x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S1x1024x1024, .bf16⟩
  | .hbm, ⟨36, _⟩ => ⟨S1024x1024, .bf16⟩
  | .hbm, ⟨37, _⟩ => ⟨S1024x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S1x1024x1024, .bf16⟩
  | .hbm, ⟨48, _⟩ => ⟨S1024x1024, .bf16⟩
  | .hbm, ⟨49, _⟩ => ⟨S1024x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x256, .f32⟩
  | .hbm, ⟨60, _⟩ => ⟨S1x256x1024, .f32⟩
  | .hbm, ⟨61, _⟩ => ⟨S256x1024, .f32⟩
  | .hbm, ⟨62, _⟩ => ⟨S8192x1024, .f32⟩
  | .hbm, ⟨63, _⟩ => ⟨S8192x256, .f32⟩
  | .hbm, ⟨64, _⟩ => ⟨S1x256x1024, .f32⟩
  | .hbm, ⟨65, _⟩ => ⟨S256x1024, .f32⟩
  | .hbm, ⟨66, _⟩ => ⟨S8192x1024, .f32⟩
  | .hbm, ⟨67, _⟩ => ⟨S8192x256, .f32⟩
  | .hbm, ⟨68, _⟩ => ⟨S1x256x1024, .f32⟩
  | .hbm, ⟨69, _⟩ => ⟨S256x1024, .f32⟩
  | .hbm, ⟨70, _⟩ => ⟨S8192x1024, .f32⟩
  | .hbm, ⟨71, _⟩ => ⟨S8192x256, .f32⟩
  | .hbm, ⟨72, _⟩ => ⟨S1x256x1024, .f32⟩
  | .hbm, ⟨73, _⟩ => ⟨S256x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .bf16⟩
  | .hbm, ⟨86, _⟩ => ⟨S1x8192x1024, .f32⟩
  | .hbm, ⟨87, _⟩ => ⟨S1x8192x1024, .f32⟩
  | .hbm, ⟨88, _⟩ => ⟨S1x8192x1024, .f32⟩
  | .hbm, ⟨89, _⟩ => ⟨S1x8192x1024, .f32⟩
  | .hbm, ⟨90, _⟩ => ⟨S4x8192x1024, .f32⟩
  | .hbm, ⟨91, _⟩ => ⟨S4x8192x1024, .bf16⟩
  | .hbm, ⟨92, _⟩ => ⟨S1x8192x1024, .f32⟩
  | .hbm, ⟨93, _⟩ => ⟨S1x8192x1024, .f32⟩
  | .hbm, ⟨94, _⟩ => ⟨S1x8192x1024, .f32⟩
  | .hbm, ⟨95, _⟩ => ⟨S1x8192x1024, .f32⟩
  | .hbm, ⟨96, _⟩ => ⟨S4x8192x1024, .f32⟩
  | .hbm, ⟨97, _⟩ => ⟨S4x8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_7 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S4x1024x640 : Shape := ⟨3, ![4, 1024, 640]⟩
abbrev S8192x2560 : Shape := ⟨2, ![8192, 2560]⟩
abbrev S8192x768 : Shape := ⟨2, ![8192, 768]⟩
abbrev S2048x3072 : Shape := ⟨2, ![2048, 3072]⟩
abbrev S512x12288 : Shape := ⟨2, ![512, 12288]⟩
abbrev S512x1024 : Shape := ⟨2, ![512, 1024]⟩
abbrev S512x2560 : Shape := ⟨2, ![512, 2560]⟩
abbrev S512x768 : Shape := ⟨2, ![512, 768]⟩
abbrev S128x3072 : Shape := ⟨2, ![128, 3072]⟩
abbrev S32x12288 : Shape := ⟨2, ![32, 12288]⟩
abbrev S512x128 : Shape := ⟨2, ![512, 128]⟩
abbrev S512 : Shape := ⟨1, ![512]⟩
abbrev S512x1 : Shape := ⟨2, ![512, 1]⟩
abbrev S1x1024x640 : Shape := ⟨3, ![1, 1024, 640]⟩
abbrev S1024x640 : Shape := ⟨2, ![1024, 640]⟩
abbrev S512x640 : Shape := ⟨2, ![512, 640]⟩
abbrev S512x512 : Shape := ⟨2, ![512, 512]⟩
abbrev S512x256 : Shape := ⟨2, ![512, 256]⟩
abbrev S128x128 : Shape := ⟨2, ![128, 128]⟩
abbrev S32x128 : Shape := ⟨2, ![32, 128]⟩

abbrev nBuf : Space → Nat
  | .hbm => 8
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x640, .bf16⟩
  | .hbm, ⟨3, _⟩ => ⟨S8192x1024, .bf16⟩
  | .hbm, ⟨4, _⟩ => ⟨S8192x2560, .f32⟩
  | .hbm, ⟨5, _⟩ => ⟨S8192x768, .bf16⟩
  | .hbm, ⟨6, _⟩ => ⟨S2048x3072, .bf16⟩
  | .hbm, ⟨7, _⟩ => ⟨S512x12288, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x640, .bf16⟩
  | .local _ .vmem, ⟨4, _⟩ => ⟨S512x1024, .bf16⟩
  | .local _ .vmem, ⟨5, _⟩ => ⟨S512x1024, .bf16⟩
  | .local _ .vmem, ⟨6, _⟩ => ⟨S512x2560, .f32⟩
  | .local _ .vmem, ⟨7, _⟩ => ⟨S512x2560, .f32⟩
  | .local _ .vmem, ⟨8, _⟩ => ⟨S512x768, .bf16⟩
  | .local _ .vmem, ⟨9, _⟩ => ⟨S512x768, .bf16⟩
  | .local _ .vmem, ⟨10, _⟩ => ⟨S128x3072, .bf16⟩
  | .local _ .vmem, ⟨11, _⟩ => ⟨S128x3072, .bf16⟩
  | .local _ .vmem, ⟨12, _⟩ => ⟨S32x12288, .bf16⟩
  | .local _ .vmem, ⟨13, _⟩ => ⟨S32x12288, .bf16⟩
  | .local _ .vmem, ⟨14, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x12288 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S8192x1024 : Shape := ⟨2, ![8192, 1024]⟩
abbrev S1x1024 : Shape := ⟨2, ![1, 1024]⟩
abbrev S4x1024x640 : Shape := ⟨3, ![4, 1024, 640]⟩
abbrev S_ : Shape := ⟨0, ![]⟩
abbrev S8192 : Shape := ⟨1, ![8192]⟩
abbrev S8192x1 : Shape := ⟨2, ![8192, 1]⟩
abbrev S1024x4x640 : Shape := ⟨3, ![1024, 4, 640]⟩
abbrev S1024x2560 : Shape := ⟨2, ![1024, 2560]⟩
abbrev S8192x2560 : Shape := ⟨2, ![8192, 2560]⟩
abbrev S8192x768 : Shape := ⟨2, ![8192, 768]⟩
abbrev S2048x3072 : Shape := ⟨2, ![2048, 3072]⟩
abbrev S512x12288 : Shape := ⟨2, ![512, 12288]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x640, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S4x1024x640, .f32⟩
  | .hbm, ⟨19, _⟩ => ⟨S1024x4x640, .f32⟩
  | .hbm, ⟨20, _⟩ => ⟨S1024x2560, .f32⟩
  | .hbm, ⟨21, _⟩ => ⟨S8192x2560, .f32⟩
  | .hbm, ⟨22, _⟩ => ⟨S8192x768, .f32⟩
  | .hbm, ⟨23, _⟩ => ⟨S8192x768, .bf16⟩
  | .hbm, ⟨24, _⟩ => ⟨S8192x1024, .bf16⟩
  | .hbm, ⟨25, _⟩ => ⟨S2048x3072, .bf16⟩
  | .hbm, ⟨26, _⟩ => ⟨S512x12288, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.MergeStage.lean ====
/- What the two runs of the merge kernel's body share: the branch condition of its first-point initialisation in
   closed form, and each window's staging memref at a grid point with the fact that it is a whole buffer. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Merge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition under which the body zeroes its two accumulated blocks, as the body computes it. -/
abbrev atFirst (i : grid0.Coords) : Prop := (Scalar.cmpi .ne (Scalar.extui (Scalar.cmpi .eq (BitVec.ofNat 32 (i 0).val) 0#32)) 0#32) = 1#1

/-- It holds at the first grid point only. -/
theorem atFirst_iff (t : Fin cfg0.N) : atFirst (grid0.coords t) ↔ t.val = 0 := by
  have ht : t.val < 32 := Nat.lt_of_lt_of_eq t.isLt N_0
  have e0 : (grid0.coords t 0).val = t.val / 1 % 32 := Pipeline.Grid.coords_val t 0 (by decide) rfl
  have e1 : t.val / 1 % 32 = t.val := by omega
  rw [e1] at e0
  simp only [atFirst, e0]
  word_cmp

/-- Window 0's staging memref at point `t`, a whole buffer. -/
abbrev stage0 (t : Fin cfg0.N) : Memref sig .tc .vmem S256x1024 .f32 := win0_0.stage (cfg0.slots t 0)
abbrev stage0_whole (t : Fin cfg0.N) : (stage0 t).IsWhole := hstage0_0 ((cfg0.slots t 0).cast nbuf0_0)
/-- Window 1's staging memref at point `t`, a whole buffer. -/
abbrev stage1 (t : Fin cfg0.N) : Memref sig .tc .vmem S1024x1024 .bf16 := win0_1.stage (cfg0.slots t 1)
abbrev stage1_whole (t : Fin cfg0.N) : (stage1 t).IsWhole := hstage0_1 ((cfg0.slots t 1).cast nbuf0_1)
/-- Window 2's staging memref at point `t`, a whole buffer. -/
abbrev stage2 (t : Fin cfg0.N) : Memref sig .tc .vmem S4x256x1024 .bf16 := win0_2.stage (cfg0.slots t 2)
abbrev stage2_whole (t : Fin cfg0.N) : (stage2 t).IsWhole := hstage0_2 ((cfg0.slots t 2).cast nbuf0_2)
/-- Window 3's staging memref at point `t`, a whole buffer. -/
abbrev stage3 (t : Fin cfg0.N) : Memref sig .tc .vmem S4x256x1024 .bf16 := win0_3.stage (cfg0.slots t 3)
abbrev stage3_whole (t : Fin cfg0.N) : (stage3 t).IsWhole := hstage0_3 ((cfg0.slots t 3).cast nbuf0_3)
/-- Window 4's staging memref at point `t`, a whole buffer. -/
abbrev stage4 (t : Fin cfg0.N) : Memref sig .tc .vmem S4x4x256x256 .bf16 := win0_4.stage (cfg0.slots t 4)
abbrev stage4_whole (t : Fin cfg0.N) : (stage4 t).IsWhole := hstage0_4 ((cfg0.slots t 4).cast nbuf0_4)
/-- Window 5's staging memref at point `t`, a whole buffer. -/
abbrev stage5 (t : Fin cfg0.N) : Memref sig .tc .vmem S256x256 .bf16 := win0_5.stage (cfg0.slots t 5)
abbrev stage5_whole (t : Fin cfg0.N) : (stage5 t).IsWhole := hstage0_5 ((cfg0.slots t 5).cast nbuf0_5)
/-- Window 6's staging memref at point `t`, a whole buffer. -/
abbrev stage6 (t : Fin cfg0.N) : Memref sig .tc .vmem S256x256 .bf16 := win0_6.stage (cfg0.slots t 6)
abbrev stage6_whole (t : Fin cfg0.N) : (stage6 t).IsWhole := hstage0_6 ((cfg0.slots t 6).cast nbuf0_6)
/-- Window 7's staging memref at point `t`, a whole buffer. -/
abbrev stage7 (t : Fin cfg0.N) : Memref sig .tc .vmem S256x256 .bf16 := win0_7.stage (cfg0.slots t 7)
abbrev stage7_whole (t : Fin cfg0.N) : (stage7 t).IsWhole := hstage0_7 ((cfg0.slots t 7).cast nbuf0_7)
/-- Window 8's staging memref at point `t`, a whole buffer. -/
abbrev stage8 (t : Fin cfg0.N) : Memref sig .tc .vmem S256x256 .bf16 := win0_8.stage (cfg0.slots t 8)
abbrev stage8_whole (t : Fin cfg0.N) : (stage8 t).IsWhole := hstage0_8 ((cfg0.slots t 8).cast nbuf0_8)
/-- Window 9's staging memref at point `t`, a whole buffer. -/
abbrev stage9 (t : Fin cfg0.N) : Memref sig .tc .vmem S256x1024 .bf16 := win0_9.stage (cfg0.slots t 9)
abbrev stage9_whole (t : Fin cfg0.N) : (stage9 t).IsWhole := hstage0_9 ((cfg0.slots t 9).cast nbuf0_9)
/-- Window 10's staging memref at point `t`, a whole buffer. -/
abbrev stage10 (t : Fin cfg0.N) : Memref sig .tc .vmem S4x256x1024 .bf16 := win0_10.stage (cfg0.slots t 10)
abbrev stage10_whole (t : Fin cfg0.N) : (stage10 t).IsWhole := hstage0_10 ((cfg0.slots t 10).cast nbuf0_10)
/-- Window 11's staging memref at point `t`, a whole buffer. -/
abbrev stage11 (t : Fin cfg0.N) : Memref sig .tc .vmem S4x256x256 .f32 := win0_11.stage (cfg0.slots t 11)
abbrev stage11_whole (t : Fin cfg0.N) : (stage11 t).IsWhole := hstage0_11 ((cfg0.slots t 11).cast nbuf0_11)
/-- Window 12's staging memref at point `t`, a whole buffer. -/
abbrev stage12 (t : Fin cfg0.N) : Memref sig .tc .vmem S4x1024x256 .f32 := win0_12.stage (cfg0.slots t 12)
abbrev stage12_whole (t : Fin cfg0.N) : (stage12 t).IsWhole := hstage0_12 ((cfg0.slots t 12).cast nbuf0_12)
/-- Window 13's staging memref at point `t`, a whole buffer. -/
abbrev stage13 (t : Fin cfg0.N) : Memref sig .tc .vmem S4x256x1024 .f32 := win0_13.stage (cfg0.slots t 13)
abbrev stage13_whole (t : Fin cfg0.N) : (stage13 t).IsWhole := hstage0_13 ((cfg0.slots t 13).cast nbuf0_13)

end Cert.Merge

end
-- ==== Proof.MergeFirst.lean ====
/- The run of the merge kernel's body at the first grid point, where it zeroes the two accumulated blocks. -/
module

public import proofs.«01_k».proof.Proof.MergeStage

@[expose] public section

set_option maxRecDepth 16384

noncomputable section

namespace Cert.Merge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords)
  (a0 : Memref sig .tc .vmem S256x1024 .f32) (h0 : a0.IsWhole)
  (a1 : Memref sig .tc .vmem S1024x1024 .bf16) (h1 : a1.IsWhole)
  (a2 : Memref sig .tc .vmem S4x256x1024 .bf16) (h2 : a2.IsWhole)
  (a3 : Memref sig .tc .vmem S4x256x1024 .bf16) (h3 : a3.IsWhole)
  (a4 : Memref sig .tc .vmem S4x4x256x256 .bf16) (h4 : a4.IsWhole)
  (a5 : Memref sig .tc .vmem S256x256 .bf16) (h5 : a5.IsWhole)
  (a6 : Memref sig .tc .vmem S256x256 .bf16) (h6 : a6.IsWhole)
  (a7 : Memref sig .tc .vmem S256x256 .bf16) (h7 : a7.IsWhole)
  (a8 : Memref sig .tc .vmem S256x256 .bf16) (h8 : a8.IsWhole)
  (a9 : Memref sig .tc .vmem S256x1024 .bf16) (h9 : a9.IsWhole)
  (a10 : Memref sig .tc .vmem S4x256x1024 .bf16) (h10 : a10.IsWhole)
  (a11 : Memref sig .tc .vmem S4x256x256 .f32) (h11 : a11.IsWhole)
  (a12 : Memref sig .tc .vmem S4x1024x256 .f32) (h12 : a12.IsWhole)
  (a13 : Memref sig .tc .vmem S4x256x1024 .f32) (h13 : a13.IsWhole)

set_option maxHeartbeats 2000000 in
/-- The body at the first point. The lists of pieces it
    stores into the four output blocks (the last stored first), with the run itself: on whole staging buffers, the
    inputs' at `x0` … `x9`, it ends with the inputs as they were and those pieces written. -/
def runFirst (hc : atFirst i)
    (x0 : Vec F S256x1024 .f32) (x1 : Vec F S1024x1024 .bf16) (x2 : Vec F S4x256x1024 .bf16) (x3 : Vec F S4x256x1024 .bf16) (x4 : Vec F S4x4x256x256 .bf16) (x5 : Vec F S256x256 .bf16) (x6 : Vec F S256x256 .bf16) (x7 : Vec F S256x256 .bf16) (x8 : Vec F S256x256 .bf16) (x9 : Vec F S256x1024 .bf16) :
    Σ' (L10 : List (View.Piece (Elt F) S4x256x1024 .bf16)),
    Σ' (L11 : List (View.Piece (Elt F) S4x256x256 .f32)),
    Σ' (L12 : List (View.Piece (Elt F) S4x1024x256 .f32)),
    { L13 : List (View.Piece (Elt F) S4x256x1024 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9
              ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f L13)) -∗ K PUnit.unit))
          ⊢ wp frame (wpE (defs₀ (F := F)) Variants.none c none) E (cc0_merge_bwd i a0 h0 a1 h1 a2 h2 a3 h3 a4 h4 a5 h5 a6 h6 a7 h7 a8 h8 (Memref.whole main_arg9) (Memref.isWhole_whole _) a9 h9 (Memref.whole main_arg10) (Memref.isWhole_whole _) a10 h10 a11 h11 a12 h12 a13 h13) K } := by
  refine ⟨?_, ?_, ?_, ?_, fun E K => ?run⟩
  case run =>
    simp only [cc0_merge_bwd_eq_skeleton]; unfold cc0_merge_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%d11, %f11, -, H11⟩, ⟨%d12, %f12, -, H12⟩, ⟨%d13, %f13, -, H13⟩, Hk⟩
    obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]; · iexists _; iexact H10
    isplitl [H11]; · iexists _; iexact H11
    isplitl [H12]; · iexists _; iexact H12
    iexists _; iexact H13

end Cert.Merge

end
-- ==== Proof.MergeLater.lean ====
/- The run of the merge kernel's body at a later grid point, where the two accumulated blocks carry over. -/
module

public import proofs.«01_k».proof.Proof.MergeStage

@[expose] public section

set_option maxRecDepth 16384

noncomputable section

namespace Cert.Merge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords)
  (a0 : Memref sig .tc .vmem S256x1024 .f32) (h0 : a0.IsWhole)
  (a1 : Memref sig .tc .vmem S1024x1024 .bf16) (h1 : a1.IsWhole)
  (a2 : Memref sig .tc .vmem S4x256x1024 .bf16) (h2 : a2.IsWhole)
  (a3 : Memref sig .tc .vmem S4x256x1024 .bf16) (h3 : a3.IsWhole)
  (a4 : Memref sig .tc .vmem S4x4x256x256 .bf16) (h4 : a4.IsWhole)
  (a5 : Memref sig .tc .vmem S256x256 .bf16) (h5 : a5.IsWhole)
  (a6 : Memref sig .tc .vmem S256x256 .bf16) (h6 : a6.IsWhole)
  (a7 : Memref sig .tc .vmem S256x256 .bf16) (h7 : a7.IsWhole)
  (a8 : Memref sig .tc .vmem S256x256 .bf16) (h8 : a8.IsWhole)
  (a9 : Memref sig .tc .vmem S256x1024 .bf16) (h9 : a9.IsWhole)
  (a10 : Memref sig .tc .vmem S4x256x1024 .bf16) (h10 : a10.IsWhole)
  (a11 : Memref sig .tc .vmem S4x256x256 .f32) (h11 : a11.IsWhole)
  (a12 : Memref sig .tc .vmem S4x1024x256 .f32) (h12 : a12.IsWhole)
  (a13 : Memref sig .tc .vmem S4x256x1024 .f32) (h13 : a13.IsWhole)

set_option maxHeartbeats 2000000 in
/-- The body at a later point: the two accumulated blocks hold `x12` and `x13` on entry. The lists of pieces it
    stores into the four output blocks (the last stored first), with the run itself: on whole staging buffers, the
    inputs' at `x0` … `x9`, it ends with the inputs as they were and those pieces written. -/
def runLater (hc : ¬atFirst i)
    (x0 : Vec F S256x1024 .f32) (x1 : Vec F S1024x1024 .bf16) (x2 : Vec F S4x256x1024 .bf16) (x3 : Vec F S4x256x1024 .bf16) (x4 : Vec F S4x4x256x256 .bf16) (x5 : Vec F S256x256 .bf16) (x6 : Vec F S256x256 .bf16) (x7 : Vec F S256x256 .bf16) (x8 : Vec F S256x256 .bf16) (x9 : Vec F S256x1024 .bf16) (x12 : Vec F S4x1024x256 .f32) (x13 : Vec F S4x256x1024 .f32) :
    Σ' (L10 : List (View.Piece (Elt F) S4x256x1024 .bf16)),
    Σ' (L11 : List (View.Piece (Elt F) S4x256x256 .f32)),
    Σ' (L12 : List (View.Piece (Elt F) S4x1024x256 .f32)),
    { L13 : List (View.Piece (Elt F) S4x256x1024 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ (∃ d, owns (c : Thread nD τ) a11 fullShare d) ∗ owns (c : Thread nD τ) a12 fullShare x12 ∗ owns (c : Thread nD τ) a13 fullShare x13
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9
              ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f L13)) -∗ K PUnit.unit))
          ⊢ wp frame (wpE (defs₀ (F := F)) Variants.none c none) E (cc0_merge_bwd i a0 h0 a1 h1 a2 h2 a3 h3 a4 h4 a5 h5 a6 h6 a7 h7 a8 h8 (Memref.whole main_arg9) (Memref.isWhole_whole _) a9 h9 (Memref.whole main_arg10) (Memref.isWhole_whole _) a10 h10 a11 h11 a12 h12 a13 h13) K } := by
  refine ⟨?_, ?_, ?_, ?_, fun E K => ?run⟩
  case run =>
    simp only [cc0_merge_bwd_eq_skeleton]; unfold cc0_merge_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%d11, %f11, -, H11⟩, ⟨%f12, %e12, H12⟩, ⟨%f13, %e13, H13⟩, Hk⟩
    obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h12.eq_unread e12; obtain rfl := h13.eq_unread e13
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]; · iexists _; iexact H10
    isplitl [H11]; · iexists _; iexact H11
    isplitl [H12]; · iexists _; iexact H12
    iexists _; iexact H13

end Cert.Merge

end
-- ==== Proof.MergeFrame.lean ====
/- The run of the idealised merge kernel: what its four output blocks hold after each grid point, the body's
   obligation at every point, the run of the whole program, and its frame. -/
module

public import proofs.«01_k».proof.Proof.MergeFirst
public import proofs.«01_k».proof.Proof.MergeLater
public import Idealize.ShloMosaic.Lib.Claim

@[expose] public section

set_option maxRecDepth 16384

noncomputable section

namespace Cert.Merge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first-point run at point `t`'s staging buffers and input blocks. -/
abbrev firstRun (c : Dev nD) (t : Fin cfg0.N) (h : t.val = 0) :=
  runFirst (F := F) c (grid0.coords t) (stage0 t) (stage0_whole t) (stage1 t) (stage1_whole t) (stage2 t) (stage2_whole t) (stage3 t) (stage3_whole t) (stage4 t) (stage4_whole t) (stage5 t) (stage5_whole t) (stage6 t) (stage6_whole t) (stage7 t) (stage7_whole t) (stage8 t) (stage8_whole t) (stage9 t) (stage9_whole t) (stage10 t) (stage10_whole t) (stage11 t) (stage11_whole t) (stage12 t) (stage12_whole t) (stage13 t) (stage13_whole t)
    ((atFirst_iff t).mpr h) (iblk m c 0 t) (iblk m c 1 t) (iblk m c 2 t) (iblk m c 3 t) (iblk m c 4 t) (iblk m c 5 t) (iblk m c 6 t) (iblk m c 7 t) (iblk m c 8 t) (iblk m c 9 t)

/-- The later-point run at point `t`'s staging buffers and input blocks, over accumulated blocks `x12` and `x13`. -/
abbrev laterRun (c : Dev nD) (t : Fin cfg0.N) (h : ¬t.val = 0) (x12 : Vec F S4x1024x256 .f32) (x13 : Vec F S4x256x1024 .f32) :=
  runLater (F := F) c (grid0.coords t) (stage0 t) (stage0_whole t) (stage1 t) (stage1_whole t) (stage2 t) (stage2_whole t) (stage3 t) (stage3_whole t) (stage4 t) (stage4_whole t) (stage5 t) (stage5_whole t) (stage6 t) (stage6_whole t) (stage7 t) (stage7_whole t) (stage8 t) (stage8_whole t) (stage9 t) (stage9_whole t) (stage10 t) (stage10_whole t) (stage11 t) (stage11_whole t) (stage12 t) (stage12_whole t) (stage13 t) (stage13_whole t)
    (fun h' => h ((atFirst_iff t).mp h')) (iblk m c 0 t) (iblk m c 1 t) (iblk m c 2 t) (iblk m c 3 t) (iblk m c 4 t) (iblk m c 5 t) (iblk m c 6 t) (iblk m c 7 t) (iblk m c 8 t) (iblk m c 9 t) x12 x13

/-! ## The stores cover their blocks -/

theorem firstRun_cover10 (c : Dev nD) (t : Fin cfg0.N) (h : t.val = 0) (y : S4x256x1024.Idx) :
    ∃ p ∈ (firstRun m c t h).1, y ∈ p.1.set :=
  View.cover_of_tiledL (firstRun m c t h).1 S1x256x1024.size (by sl_kernel_rfl) y
theorem laterRun_cover10 (c : Dev nD) (t : Fin cfg0.N) (h : ¬t.val = 0) (x12 : Vec F S4x1024x256 .f32) (x13 : Vec F S4x256x1024 .f32) (y : S4x256x1024.Idx) :
    ∃ p ∈ (laterRun m c t h x12 x13).1, y ∈ p.1.set :=
  View.cover_of_tiledL (laterRun m c t h x12 x13).1 S1x256x1024.size (by sl_kernel_rfl) y
theorem firstRun_cover11 (c : Dev nD) (t : Fin cfg0.N) (h : t.val = 0) (y : S4x256x256.Idx) :
    ∃ p ∈ (firstRun m c t h).2.1, y ∈ p.1.set :=
  View.cover_of_tiledL (firstRun m c t h).2.1 S1x256x256.size (by sl_kernel_rfl) y
theorem laterRun_cover11 (c : Dev nD) (t : Fin cfg0.N) (h : ¬t.val = 0) (x12 : Vec F S4x1024x256 .f32) (x13 : Vec F S4x256x1024 .f32) (y : S4x256x256.Idx) :
    ∃ p ∈ (laterRun m c t h x12 x13).2.1, y ∈ p.1.set :=
  View.cover_of_tiledL (laterRun m c t h x12 x13).2.1 S1x256x256.size (by sl_kernel_rfl) y
theorem firstRun_cover12 (c : Dev nD) (t : Fin cfg0.N) (h : t.val = 0) (y : S4x1024x256.Idx) :
    ∃ p ∈ (firstRun m c t h).2.2.1, y ∈ p.1.set :=
  View.cover_of_tiledBy (firstRun m c t h).2.2.1 ![1, 256, 256] (by sl_kernel_rfl) y
theorem laterRun_cover12 (c : Dev nD) (t : Fin cfg0.N) (h : ¬t.val = 0) (x12 : Vec F S4x1024x256 .f32) (x13 : Vec F S4x256x1024 .f32) (y : S4x1024x256.Idx) :
    ∃ p ∈ (laterRun m c t h x12 x13).2.2.1, y ∈ p.1.set :=
  View.cover_of_tiledL (laterRun m c t h x12 x13).2.2.1 S1x256x256.size (by sl_kernel_rfl) y
theorem firstRun_cover13 (c : Dev nD) (t : Fin cfg0.N) (h : t.val = 0) (y : S4x256x1024.Idx) :
    ∃ p ∈ (firstRun m c t h).2.2.2.1, y ∈ p.1.set :=
  View.cover_of_tiledBy (firstRun m c t h).2.2.2.1 ![1, 256, 1024] (by sl_kernel_rfl) y
theorem laterRun_cover13 (c : Dev nD) (t : Fin cfg0.N) (h : ¬t.val = 0) (x12 : Vec F S4x1024x256 .f32) (x13 : Vec F S4x256x1024 .f32) (y : S4x256x1024.Idx) :
    ∃ p ∈ (laterRun m c t h x12 x13).2.2.2.1, y ∈ p.1.set :=
  View.cover_of_tiledL (laterRun m c t h x12 x13).2.2.2.1 S1x256x1024.size (by sl_kernel_rfl) y

/-! ## What the output blocks hold after each point -/

/-- The four output blocks after the first-point run. -/
def afterFirst (c : Dev nD) (t : Fin cfg0.N) (h : t.val = 0) : Vec F S4x256x1024 .bf16 × Vec F S4x256x256 .f32 × Vec F S4x1024x256 .f32 × Vec F S4x256x1024 .f32 :=
  (View.canon (firstRun m c t h).1, View.canon (firstRun m c t h).2.1, View.canon (firstRun m c t h).2.2.1, View.canon (firstRun m c t h).2.2.2.1)

/-- The four output blocks after a later point's run, over the accumulated blocks before it. -/
def afterLater (c : Dev nD) (t : Fin cfg0.N) (h : ¬t.val = 0) (x12 : Vec F S4x1024x256 .f32) (x13 : Vec F S4x256x1024 .f32) : Vec F S4x256x1024 .bf16 × Vec F S4x256x256 .f32 × Vec F S4x1024x256 .f32 × Vec F S4x256x1024 .f32 :=
  (View.canon (laterRun m c t h x12 x13).1, View.canon (laterRun m c t h x12 x13).2.1, View.canon (laterRun m c t h x12 x13).2.2.1, View.canon (laterRun m c t h x12 x13).2.2.2.1)

/-- The four output blocks after the body at position `n`. -/
def outsAt (c : Dev nD) : (n : ℕ) → n < cfg0.N → Vec F S4x256x1024 .bf16 × Vec F S4x256x256 .f32 × Vec F S4x1024x256 .f32 × Vec F S4x256x1024 .f32
  | 0, hn => afterFirst m c ⟨0, hn⟩ rfl
  | n + 1, hn => afterLater m c ⟨n + 1, hn⟩ (Nat.succ_ne_zero n) (outsAt c n (Nat.lt_of_succ_lt hn)).2.2.1
      (outsAt c n (Nat.lt_of_succ_lt hn)).2.2.2

theorem outsAt_first (c : Dev nD) (t : Fin cfg0.N) (h : t.val = 0) : outsAt m c t.val t.isLt = afterFirst m c t h := by
  obtain ⟨n, hn⟩ := t
  cases n with
  | zero => rfl
  | succ n => exact absurd h (Nat.succ_ne_zero n)

/-- The point before point `t`. -/
theorem before_lt (t : Fin cfg0.N) : t.val - 1 < cfg0.N := Nat.lt_of_le_of_lt (Nat.sub_le _ _) t.isLt

theorem outsAt_later (c : Dev nD) (t : Fin cfg0.N) (h : ¬t.val = 0) :
    outsAt m c t.val t.isLt = afterLater m c t h (outsAt m c (t.val - 1) (before_lt t)).2.2.1
      (outsAt m c (t.val - 1) (before_lt t)).2.2.2 := by
  obtain ⟨n, hn⟩ := t
  cases n with
  | zero => exact absurd rfl h
  | succ n => rfl

/-! ## The pipeline's proof data -/

/-- The arrays as the region finds them; after point `t` each input's buffer at its block and the outputs' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt m c t.val t.isLt).1
    | ⟨11, _⟩ => (outsAt m c t.val t.isLt).2.1
    | ⟨12, _⟩ => (outsAt m c t.val t.isLt).2.2.1
    | ⟨13, _⟩ => (outsAt m c t.val t.isLt).2.2.2
  Φ _ := Pipeline.ΦA spec0 c
  q _ := fullShare
  owed _ := 0

theorem dats_A (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = (outsAt m c t.val t.isLt).1 := by dsimp only [dats]
theorem after11 (c : Dev nD) (t : Fin cfg0.N) : (dats m 0 c).after 11 t = (outsAt m c t.val t.isLt).2.1 := by dsimp only [dats]
theorem after12 (c : Dev nD) (t : Fin cfg0.N) : (dats m 0 c).after 12 t = (outsAt m c t.val t.isLt).2.2.1 := by dsimp only [dats]
theorem after13 (c : Dev nD) (t : Fin cfg0.N) : (dats m 0 c).after 13 t = (outsAt m c t.val t.isLt).2.2.2 := by dsimp only [dats]
theorem before0 (c : Dev nD) (t : Fin cfg0.N) (d) : (dats m 0 c).before 0 t d = iblk m c 0 t :=
  before0_0_of m (dats m 0 c) (dats_A m c 0) (after0 m c) t d
theorem before1 (c : Dev nD) (t : Fin cfg0.N) (d) : (dats m 0 c).before 1 t d = iblk m c 1 t :=
  before0_1_of m (dats m 0 c) (dats_A m c 1) (after1 m c) t d
theorem before2 (c : Dev nD) (t : Fin cfg0.N) (d) : (dats m 0 c).before 2 t d = iblk m c 2 t :=
  before0_2_of m (dats m 0 c) (dats_A m c 2) (after2 m c) t d
theorem before3 (c : Dev nD) (t : Fin cfg0.N) (d) : (dats m 0 c).before 3 t d = iblk m c 3 t :=
  before0_3_of m (dats m 0 c) (dats_A m c 3) (after3 m c) t d
theorem before4 (c : Dev nD) (t : Fin cfg0.N) (d) : (dats m 0 c).before 4 t d = iblk m c 4 t :=
  before0_4_of m (dats m 0 c) (dats_A m c 4) (after4 m c) t d
theorem before5 (c : Dev nD) (t : Fin cfg0.N) (d) : (dats m 0 c).before 5 t d = iblk m c 5 t :=
  before0_5_of m (dats m 0 c) (dats_A m c 5) (after5 m c) t d
theorem before6 (c : Dev nD) (t : Fin cfg0.N) (d) : (dats m 0 c).before 6 t d = iblk m c 6 t :=
  before0_6_of m (dats m 0 c) (dats_A m c 6) (after6 m c) t d
theorem before7 (c : Dev nD) (t : Fin cfg0.N) (d) : (dats m 0 c).before 7 t d = iblk m c 7 t :=
  before0_7_of m (dats m 0 c) (dats_A m c 7) (after7 m c) t d
theorem before8 (c : Dev nD) (t : Fin cfg0.N) (d) : (dats m 0 c).before 8 t d = iblk m c 8 t :=
  before0_8_of m (dats m 0 c) (dats_A m c 8) (after8 m c) t d
theorem before9 (c : Dev nD) (t : Fin cfg0.N) (d) : (dats m 0 c).before 9 t d = iblk m c 9 t :=
  before0_9_of m (dats m 0 c) (dats_A m c 9) (after9 m c) t d
/-- Window 12's block, which covers part of its array, stays inside it at every point. -/
theorem clip12 (i : cfg0.grid.Coords) : ∀ a : Fin (cfg0.win 12).shape.rank, (cfg0.win 12).clip i a = none :=
  show ∀ a : Fin 3, win0_12.clip i a = none from fun a => by fin_cases a <;> rfl
/-- At a later point accumulated block 12 is found as the point before left it. -/
theorem before12 (c : Dev nD) (t : Fin cfg0.N) (h : ¬t.val = 0) (d) :
    (dats m 0 c).before 12 t d = (outsAt m c (t.val - 1) (before_lt t)).2.2.1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (clip12)]
  dsimp only [dats]
/-- At a later point accumulated block 13 is found as the point before left it. -/
theorem before13 (c : Dev nD) (t : Fin cfg0.N) (h : ¬t.val = 0) (d) :
    (dats m 0 c).before 13 t d = (outsAt m c (t.val - 1) (before_lt t)).2.2.2 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]

/-! ## The body's obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d))
    ∗ (∃ d, owns (c : Thread nD τ) (stage7 t) fullShare ((dats m 0 c).before 7 t d))
    ∗ (∃ d, owns (c : Thread nD τ) (stage8 t) fullShare ((dats m 0 c).before 8 t d))
    ∗ (∃ d, owns (c : Thread nD τ) (stage9 t) fullShare ((dats m 0 c).before 9 t d))
    ∗ (∃ d, owns (c : Thread nD τ) (stage10 t) fullShare ((dats m 0 c).before 10 t d))
    ∗ (∃ d, owns (c : Thread nD τ) (stage11 t) fullShare ((dats m 0 c).before 11 t d))
    ∗ (∃ d, owns (c : Thread nD τ) (stage12 t) fullShare ((dats m 0 c).before 12 t d))
    ∗ (∃ d, owns (c : Thread nD τ) (stage13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ owns (c : Thread nD τ) (stage5 t) fullShare ((dats m 0 c).after 5 t)
    ∗ owns (c : Thread nD τ) (stage6 t) fullShare ((dats m 0 c).after 6 t)
    ∗ owns (c : Thread nD τ) (stage7 t) fullShare ((dats m 0 c).after 7 t)
    ∗ owns (c : Thread nD τ) (stage8 t) fullShare ((dats m 0 c).after 8 t)
    ∗ owns (c : Thread nD τ) (stage9 t) fullShare ((dats m 0 c).after 9 t)
    ∗ owns (c : Thread nD τ) (stage10 t) fullShare ((dats m 0 c).after 10 t)
    ∗ owns (c : Thread nD τ) (stage11 t) fullShare ((dats m 0 c).after 11 t)
    ∗ owns (c : Thread nD τ) (stage12 t) fullShare ((dats m 0 c).after 12 t)
    ∗ owns (c : Thread nD τ) (stage13 t) fullShare ((dats m 0 c).after 13 t))

set_option maxHeartbeats 2400000 in
/-- The body at any point: its inputs' buffers hold their blocks, and the run of the point's case applies. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  by_cases h : t.val = 0
  · rw [outsAt_first m c t h]
    unfold afterFirst; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((firstRun m c t h).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, ⟨%e10, H10⟩, ⟨%e11, H11⟩, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_eq_canon _ _ _ (firstRun_cover10 m c t h)
    isplitl [H11]
    · unfold owns; iexists _; isplitr
      swap; · iexact H11
      ipureintro; exact View.read_writes_eq_canon _ _ _ (firstRun_cover11 m c t h)
    isplitl [H12]
    · unfold owns; iexists _; isplitr
      swap; · iexact H12
      ipureintro; exact View.read_writes_eq_canon _ _ _ (firstRun_cover12 m c t h)
    unfold owns; iexists _; isplitr
    swap; · iexact H13
    ipureintro; exact View.read_writes_eq_canon _ _ _ (firstRun_cover13 m c t h)
  · rw [outsAt_later m c t h]
    simp only [before12 m c t h, before13 m c t h]
    unfold afterLater; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((laterRun m c t h _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexact H12
    isplitl [H13]; · iexact H13
    iintro ⟨H0, H1, H2, H3, H4, H5, H6, H7, H8, H9, ⟨%e10, H10⟩, ⟨%e11, H11⟩, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_eq_canon _ _ _ (laterRun_cover10 m c t h _ _)
    isplitl [H11]
    · unfold owns; iexists _; isplitr
      swap; · iexact H11
      ipureintro; exact View.read_writes_eq_canon _ _ _ (laterRun_cover11 m c t h _ _)
    isplitl [H12]
    · unfold owns; iexists _; isplitr
      swap; · iexact H12
      ipureintro; exact View.read_writes_eq_canon _ _ _ (laterRun_cover12 m c t h _ _)
    unfold owns; iexists _; isplitr
    swap; · iexact H13
    ipureintro; exact View.read_writes_eq_canon _ _ _ (laterRun_cover13 m c t h _ _)

/-- The body table's row at point `t` is the body applied to the point's staging buffers. -/
theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_at m c t) rfl .rfl fun _ => .rfl

/-! ## The run and the frame -/

set_option backward.isDefEq.respectTransparency.types false in
/-- Every run ends with the pipeline's arrays at what the proof data says, every other buffer as the region found it,
    and every semaphore at zero. -/
theorem run_full : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := dats_A m) (hΦ := fun _ _ => rfl)

theorem run_arrays : θ_run defs (onTc (τ := τ) (main (F := F))) (s₀ m ρ) (Pipeline.FramePost cfgs (dats m) 0 (V m)) :=
  (θ_run defs _ _).mono (fun _ h => h.1) (run_full m ρ)

/-- The frame: the arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (dats_A m) (run_arrays m ρ)) ((θ_run defs _ _).mono (fun _ h => h.2) (run_full m ρ))

end Cert.Merge

end
-- ==== Proof.MergeTile.lean ====
/- What the merge kernel's body computes from one tile's blocks, element by element over the extended reals: the
   gradient of the merged rows, of the gates' arguments, of the branches, and the tile's part of the two weight
   gradients. -/
module

public import proofs.«01_k».proof.Proof.MergeStage
public import Idealize.ShloMosaic.Lib.Pointwise
public import Idealize.ShloMosaic.Lib.VecWindow
public import Idealize.ShloMosaic.Lib.Pipeline.ReadBack

@[expose] public section

set_option maxRecDepth 16384

noncomputable section

namespace Cert.Merge

open Cert.KernelIdeal Cert.KernelIdeal.Gen
open Idealize.ShloMosaic Idealize.ShloMosaic.TcCoe
open scoped BigOperators

/-- A load from a whole buffer that holds `x` reads `x` where the loaded rectangle lies. -/
theorem load_apply {S : Shape} {e : EltTy} {F : FTy → Type} [FloatOps F] (a : Memref sig .tc .vmem S e) (h : a.IsWhole)
    (x : Vec F S e) (B : LoadRect S) (j : B.shape.Idx) :
    a.view.readAt (Elt F) B (h.unread x) j = x (B.idx j) := by
  rw [View.readAt_apply, h.read_unread]

/-- Where a rectangle places an index of its own. -/
theorem emb_eq_idx {S : Shape} (r : Rect S) (x : r.shape.Idx) : r.emb x = r.toLoadRect.idx x := rfl

/-- Column `j` of column shard `s`. -/
def shardCol (s : Fin 4) (j : Fin 256) : Fin 1024 := ⟨s.val * 256 + j.val, by omega⟩

theorem shardCol_zero (j : Fin 256) : shardCol 0 j = ⟨j.val, by omega⟩ := Fin.ext (Nat.zero_add _)
theorem shardCol_one (j : Fin 256) : shardCol 1 j = ⟨256 + j.val, by omega⟩ := rfl
theorem shardCol_two (j : Fin 256) : shardCol 2 j = ⟨512 + j.val, by omega⟩ := rfl
theorem shardCol_three (j : Fin 256) : shardCol 3 j = ⟨768 + j.val, by omega⟩ := rfl

/-- The merged rows' gradient: the tile's rows of `dx` against the rows of the output weight. -/
def gradMerged (x0 : Vec Ideal S256x1024 .f32) (x1 : Vec Ideal S1024x1024 .bf16) (r : Fin 256) (c : Fin 1024) : EReal :=
  ∑ d : Fin 1024, x0 (ix2 r d) * x1 (ix2 c d)

/-- The gradient of branch `k`'s product: the merged rows' gradient through the gate. -/
def gradBranch (x0 : Vec Ideal S256x1024 .f32) (x1 : Vec Ideal S1024x1024 .bf16) (x2 : Vec Ideal S4x256x1024 .bf16)
    (k : Fin 4) (r : Fin 256) (c : Fin 1024) : EReal :=
  gradMerged x0 x1 r c * x2 (ix3 k r c)

/-- The gradient of the gates' arguments. -/
def tileGate (x0 : Vec Ideal S256x1024 .f32) (x1 : Vec Ideal S1024x1024 .bf16) (x2 x3 : Vec Ideal S4x256x1024 .bf16) :
    Vec Ideal S4x256x1024 .bf16 :=
  fun y => gradMerged x0 x1 (y 1) (y 2) * x3 (ix3 (y 0) (y 1) (y 2)) * x2 (ix3 (y 0) (y 1) (y 2)) * (1 - x2 (ix3 (y 0) (y 1) (y 2)))

/-- Column shard `s`'s part of branch `k`'s gradient. -/
def branchPart (x0 : Vec Ideal S256x1024 .f32) (x1 : Vec Ideal S1024x1024 .bf16) (x2 : Vec Ideal S4x256x1024 .bf16)
    (x4 : Vec Ideal S4x4x256x256 .bf16) (s k : Fin 4) (r i : Fin 256) : EReal :=
  ∑ j : Fin 256, gradBranch x0 x1 x2 k r (shardCol s j) * x4 (ix4 s k i j)

/-- The branches' gradients: the four column shards' parts, added in turn. -/
def tileBranch (x0 : Vec Ideal S256x1024 .f32) (x1 : Vec Ideal S1024x1024 .bf16) (x2 : Vec Ideal S4x256x1024 .bf16)
    (x4 : Vec Ideal S4x4x256x256 .bf16) : Vec Ideal S4x256x256 .f32 :=
  fun y => branchPart x0 x1 x2 x4 0 (y 0) (y 1) (y 2) + branchPart x0 x1 x2 x4 1 (y 0) (y 1) (y 2)
    + branchPart x0 x1 x2 x4 2 (y 0) (y 1) (y 2) + branchPart x0 x1 x2 x4 3 (y 0) (y 1) (y 2)

/-- The tile's part of the branch weights' gradient, at row `i` of branch `k` in column shard `s`. -/
def weightPart (x0 : Vec Ideal S256x1024 .f32) (x1 : Vec Ideal S1024x1024 .bf16) (x2 : Vec Ideal S4x256x1024 .bf16)
    (Y : Fin 4 → Vec Ideal S256x256 .bf16) (s k : Fin 4) (i j : Fin 256) : EReal :=
  ∑ r : Fin 256, Y k (ix2 r i) * gradBranch x0 x1 x2 k r (shardCol s j)

/-- The tile's part of the output weight's gradient, at row `i` of row shard `s`. -/
def outPart (x0 : Vec Ideal S256x1024 .f32) (x9 : Vec Ideal S256x1024 .bf16) (s : Fin 4) (i : Fin 256) (c : Fin 1024) : EReal :=
  ∑ r : Fin 256, x9 (ix2 r (shardCol s i)) * x0 (ix2 r c)

/-- The branch weights' gradient after a tile, from the sum `z` before it: row `k * 256 + i` of a column shard is row `i`
    of branch `k`. -/
def tileWeight (x0 : Vec Ideal S256x1024 .f32) (x1 : Vec Ideal S1024x1024 .bf16) (x2 : Vec Ideal S4x256x1024 .bf16)
    (Y : Fin 4 → Vec Ideal S256x256 .bf16) (z : Vec Ideal S4x1024x256 .f32) : Vec Ideal S4x1024x256 .f32 :=
  fun y => z (ix3 (y 0) (y 1) (y 2)) + weightPart x0 x1 x2 Y (y 0) ⟨(y 1).val / 256, Nat.div_lt_of_lt_mul (y 1).isLt⟩
    ⟨(y 1).val % 256, Nat.mod_lt _ (by decide)⟩ (y 2)

theorem tileWeight_of (x0 : Vec Ideal S256x1024 .f32) (x1 : Vec Ideal S1024x1024 .bf16) (x2 : Vec Ideal S4x256x1024 .bf16)
    (Y : Fin 4 → Vec Ideal S256x256 .bf16) (z : Vec Ideal S4x1024x256 .f32) (y : S4x1024x256.Idx) (k : Fin 4) (i : Fin 256)
    (h : (y 1).val = k.val * 256 + i.val) :
    tileWeight x0 x1 x2 Y z y = z (ix3 (y 0) (y 1) (y 2)) + weightPart x0 x1 x2 Y (y 0) k i (y 2) := by
  have hk : (⟨(y 1).val / 256, Nat.div_lt_of_lt_mul (y 1).isLt⟩ : Fin 4) = k := Fin.ext (by show (y 1).val / 256 = k.val; omega)
  have hi : (⟨(y 1).val % 256, Nat.mod_lt _ (by decide)⟩ : Fin 256) = i := Fin.ext (by show (y 1).val % 256 = i.val; omega)
  unfold tileWeight
  rw [hk, hi]

/-- The output weight's gradient after a tile, from the sum `z` before it. -/
def tileOut (x0 : Vec Ideal S256x1024 .f32) (x9 : Vec Ideal S256x1024 .bf16) (z : Vec Ideal S4x256x1024 .f32) :
    Vec Ideal S4x256x1024 .f32 :=
  fun y => z (ix3 (y 0) (y 1) (y 2)) + outPart x0 x9 (y 0) (y 1) (y 2)

end Cert.Merge
-- ==== Proof.MergeTileFirst.lean ====
/- What the merge kernel's body leaves in its four output blocks at the first grid point, element by element. -/
module

public import proofs.«01_k».proof.Proof.MergeFirst
public import proofs.«01_k».proof.Proof.MergeTile

@[expose] public section

set_option maxRecDepth 16384

noncomputable section

namespace Cert.Merge

open Cert.KernelIdeal Cert.KernelIdeal.Gen
open Idealize.ShloMosaic Idealize.ShloMosaic.TcCoe
open scoped BigOperators

variable (c : Dev nD) (i : grid0.Coords)
  (a0 : Memref sig .tc .vmem S256x1024 .f32) (h0 : a0.IsWhole)
  (a1 : Memref sig .tc .vmem S1024x1024 .bf16) (h1 : a1.IsWhole)
  (a2 : Memref sig .tc .vmem S4x256x1024 .bf16) (h2 : a2.IsWhole)
  (a3 : Memref sig .tc .vmem S4x256x1024 .bf16) (h3 : a3.IsWhole)
  (a4 : Memref sig .tc .vmem S4x4x256x256 .bf16) (h4 : a4.IsWhole)
  (a5 : Memref sig .tc .vmem S256x256 .bf16) (h5 : a5.IsWhole)
  (a6 : Memref sig .tc .vmem S256x256 .bf16) (h6 : a6.IsWhole)
  (a7 : Memref sig .tc .vmem S256x256 .bf16) (h7 : a7.IsWhole)
  (a8 : Memref sig .tc .vmem S256x256 .bf16) (h8 : a8.IsWhole)
  (a9 : Memref sig .tc .vmem S256x1024 .bf16) (h9 : a9.IsWhole)
  (a10 : Memref sig .tc .vmem S4x256x1024 .bf16) (h10 : a10.IsWhole)
  (a11 : Memref sig .tc .vmem S4x256x256 .f32) (h11 : a11.IsWhole)
  (a12 : Memref sig .tc .vmem S4x1024x256 .f32) (h12 : a12.IsWhole)
  (a13 : Memref sig .tc .vmem S4x256x1024 .f32) (h13 : a13.IsWhole)
  (hc : atFirst i)
  (x0 : Vec Ideal S256x1024 .f32) (x1 : Vec Ideal S1024x1024 .bf16) (x2 : Vec Ideal S4x256x1024 .bf16)
  (x3 : Vec Ideal S4x256x1024 .bf16) (x4 : Vec Ideal S4x4x256x256 .bf16) (x5 : Vec Ideal S256x256 .bf16)
  (x6 : Vec Ideal S256x256 .bf16) (x7 : Vec Ideal S256x256 .bf16) (x8 : Vec Ideal S256x256 .bf16)
  (x9 : Vec Ideal S256x1024 .bf16)

/-! The accumulated blocks are filled with zeros first, and no part of them is loaded after it is stored. -/

/-- The word of zeros names the number zero. -/
theorem zero_fill_12 (r : Rect S4x1024x256) : View.ld (Val := Elt Ideal) (e' := .f32) (k0_pay3 (F := Ideal)) r = fun _ => 0 := by
  funext x
  pointwise [k0_pay3]
theorem zero_fill_13 (r : Rect S4x256x1024) : View.ld (Val := Elt Ideal) (e' := .f32) (k0_pay4 (F := Ideal)) r = fun _ => 0 := by
  funext x
  pointwise [k0_pay4]

theorem first_v8 : runFirst.sl.v8 (F := Ideal) c a13 = fun _ => 0 := by
  unfold runFirst.sl.v8
  exact (View.readCov_fill _ _ _ _ _ (by decide)).trans (zero_fill_13 _)
theorem first_v15 : runFirst.sl.v15 (F := Ideal) c a0 h0 a9 h9 a13 x0 x9 = fun _ => 0 := by
  unfold runFirst.sl.v15
  refine (View.readCov_skip _ _ _ _ _ (by decide)).trans ?_
  exact (View.readCov_fill _ _ _ _ _ (by decide)).trans (zero_fill_13 _)
theorem first_v22 : runFirst.sl.v22 (F := Ideal) c a0 h0 a9 h9 a13 x0 x9 = fun _ => 0 := by
  unfold runFirst.sl.v22
  refine (View.readCov_skip _ _ _ _ _ (by decide)).trans ?_
  refine (View.readCov_skip _ _ _ _ _ (by decide)).trans ?_
  exact (View.readCov_fill _ _ _ _ _ (by decide)).trans (zero_fill_13 _)
theorem first_v29 : runFirst.sl.v29 (F := Ideal) c a0 h0 a9 h9 a13 x0 x9 = fun _ => 0 := by
  unfold runFirst.sl.v29
  refine (View.readCov_skip _ _ _ _ _ (by decide)).trans ?_
  refine (View.readCov_skip _ _ _ _ _ (by decide)).trans ?_
  refine (View.readCov_skip _ _ _ _ _ (by decide)).trans ?_
  exact (View.readCov_fill _ _ _ _ _ (by decide)).trans (zero_fill_13 _)
theorem first_v79 : runFirst.sl.v79 (F := Ideal) c a12 = fun _ => 0 := by
  unfold runFirst.sl.v79
  exact (View.readCov_fill _ _ _ _ _ (by decide)).trans (zero_fill_12 _)
theorem first_v86 : runFirst.sl.v86 (F := Ideal) c a0 h0 a1 h1 a2 h2 a5 h5 a12 x0 x1 x2 x5 = fun _ => 0 := by
  unfold runFirst.sl.v86
  refine (View.readCov_skip _ _ _ _ _ (by decide)).trans ?_
  exact (View.readCov_fill _ _ _ _ _ (by decide)).trans (zero_fill_12 _)
theorem first_v93 : runFirst.sl.v93 (F := Ideal) c a0 h0 a1 h1 a2 h2 a5 h5 a12 x0 x1 x2 x5 = fun _ => 0 := by
  unfold runFirst.sl.v93
  refine (View.readCov_skip _ _ _ _ _ (by decide)).trans ?_
  refine (View.readCov_skip _ _ _ _ _ (by decide)).trans ?_
  exact (View.readCov_fill _ _ _ _ _ (by decide)).trans (zero_fill_12 _)
theorem first_v100 : runFirst.sl.v100 (F := Ideal) c a0 h0 a1 h1 a2 h2 a5 h5 a12 x0 x1 x2 x5 = fun _ => 0 := by
  unfold runFirst.sl.v100
  refine (View.readCov_skip _ _ _ _ _ (by decide)).trans ?_
  refine (View.readCov_skip _ _ _ _ _ (by decide)).trans ?_
  refine (View.readCov_skip _ _ _ _ _ (by decide)).trans ?_
  exact (View.readCov_fill _ _ _ _ _ (by decide)).trans (zero_fill_12 _)
theorem first_v148 : runFirst.sl.v148 (F := Ideal) c a0 h0 a1 h1 a2 h2 a5 h5 a12 x0 x1 x2 x5 = fun _ => 0 := by
  unfold runFirst.sl.v148
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact (View.readCov_fill _ _ _ _ _ (by decide)).trans (zero_fill_12 _)
theorem first_v155 : runFirst.sl.v155 (F := Ideal) c a0 h0 a1 h1 a2 h2 a5 h5 a6 h6 a12 x0 x1 x2 x5 x6 = fun _ => 0 := by
  unfold runFirst.sl.v155
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact (View.readCov_fill _ _ _ _ _ (by decide)).trans (zero_fill_12 _)
theorem first_v162 : runFirst.sl.v162 (F := Ideal) c a0 h0 a1 h1 a2 h2 a5 h5 a6 h6 a12 x0 x1 x2 x5 x6 = fun _ => 0 := by
  unfold runFirst.sl.v162
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact (View.readCov_fill _ _ _ _ _ (by decide)).trans (zero_fill_12 _)
theorem first_v169 : runFirst.sl.v169 (F := Ideal) c a0 h0 a1 h1 a2 h2 a5 h5 a6 h6 a12 x0 x1 x2 x5 x6 = fun _ => 0 := by
  unfold runFirst.sl.v169
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact (View.readCov_fill _ _ _ _ _ (by decide)).trans (zero_fill_12 _)
theorem first_v217 : runFirst.sl.v217 (F := Ideal) c a0 h0 a1 h1 a2 h2 a5 h5 a6 h6 a12 x0 x1 x2 x5 x6 = fun _ => 0 := by
  unfold runFirst.sl.v217
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact (View.readCov_fill _ _ _ _ _ (by decide)).trans (zero_fill_12 _)
theorem first_v224 : runFirst.sl.v224 (F := Ideal) c a0 h0 a1 h1 a2 h2 a5 h5 a6 h6 a7 h7 a12 x0 x1 x2 x5 x6 x7 = fun _ => 0 := by
  unfold runFirst.sl.v224
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact (View.readCov_fill _ _ _ _ _ (by decide)).trans (zero_fill_12 _)
theorem first_v231 : runFirst.sl.v231 (F := Ideal) c a0 h0 a1 h1 a2 h2 a5 h5 a6 h6 a7 h7 a12 x0 x1 x2 x5 x6 x7 = fun _ => 0 := by
  unfold runFirst.sl.v231
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact (View.readCov_fill _ _ _ _ _ (by decide)).trans (zero_fill_12 _)
theorem first_v238 : runFirst.sl.v238 (F := Ideal) c a0 h0 a1 h1 a2 h2 a5 h5 a6 h6 a7 h7 a12 x0 x1 x2 x5 x6 x7 = fun _ => 0 := by
  unfold runFirst.sl.v238
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact (View.readCov_fill _ _ _ _ _ (by decide)).trans (zero_fill_12 _)
theorem first_v286 : runFirst.sl.v286 (F := Ideal) c a0 h0 a1 h1 a2 h2 a5 h5 a6 h6 a7 h7 a12 x0 x1 x2 x5 x6 x7 = fun _ => 0 := by
  unfold runFirst.sl.v286
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact (View.readCov_fill _ _ _ _ _ (by decide)).trans (zero_fill_12 _)
theorem first_v293 : runFirst.sl.v293 (F := Ideal) c a0 h0 a1 h1 a2 h2 a5 h5 a6 h6 a7 h7 a8 h8 a12 x0 x1 x2 x5 x6 x7 x8 = fun _ => 0 := by
  unfold runFirst.sl.v293
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact (View.readCov_fill _ _ _ _ _ (by decide)).trans (zero_fill_12 _)
theorem first_v300 : runFirst.sl.v300 (F := Ideal) c a0 h0 a1 h1 a2 h2 a5 h5 a6 h6 a7 h7 a8 h8 a12 x0 x1 x2 x5 x6 x7 x8 = fun _ => 0 := by
  unfold runFirst.sl.v300
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact (View.readCov_fill _ _ _ _ _ (by decide)).trans (zero_fill_12 _)
theorem first_v307 : runFirst.sl.v307 (F := Ideal) c a0 h0 a1 h1 a2 h2 a5 h5 a6 h6 a7 h7 a8 h8 a12 x0 x1 x2 x5 x6 x7 x8 = fun _ => 0 := by
  unfold runFirst.sl.v307
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact (View.readCov_fill _ _ _ _ _ (by decide)).trans (zero_fill_12 _)

set_option maxHeartbeats 4000000 in
/-- The stores into the gates' gradient block. -/
theorem first_gate :
    View.PiecesOf (tileGate x0 x1 x2 x3) (runFirst (F := Ideal) c i a0 h0 a1 h1 a2 h2 a3 h3 a4 h4 a5 h5 a6 h6 a7 h7 a8 h8 a9 h9
      a10 h10 a11 h11 a12 h12 a13 h13 hc x0 x1 x2 x3 x4 x5 x6 x7 x8 x9).1 := by
  refine ⟨fun x => ?_, fun x => ?_, fun x => ?_, fun x => ?_, trivial⟩ <;> dsimp only <;>
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, tileGate, gradMerged]

set_option maxHeartbeats 4000000 in
/-- The stores into the branches' gradient block. -/
theorem first_branch :
    View.PiecesOf (tileBranch x0 x1 x2 x4) (runFirst (F := Ideal) c i a0 h0 a1 h1 a2 h2 a3 h3 a4 h4 a5 h5 a6 h6 a7 h7 a8 h8 a9 h9
      a10 h10 a11 h11 a12 h12 a13 h13 hc x0 x1 x2 x3 x4 x5 x6 x7 x8 x9).2.1 := by
  refine ⟨fun x => ?_, fun x => ?_, fun x => ?_, fun x => ?_, trivial⟩ <;> dsimp only <;>
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, tileBranch, branchPart, gradBranch, gradMerged]

set_option maxHeartbeats 4000000 in
/-- The stores into the branch weights' gradient block. -/
theorem first_weight :
    View.PiecesOf (tileWeight x0 x1 x2 ![x5, x6, x7, x8] (fun _ => 0)) ((runFirst (F := Ideal) c i a0 h0 a1 h1 a2 h2 a3 h3 a4 h4 a5 h5 a6 h6 a7 h7 a8 h8 a9 h9
      a10 h10 a11 h11 a12 h12 a13 h13 hc x0 x1 x2 x3 x4 x5 x6 x7 x8 x9).2.2.1.take 16) := by
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · refine Eq.trans ?_ (tileWeight_of _ _ _ _ _ _ 3 (x 1) (by simp [emb_eq_idx, LoadRect.idx])).symm
    dsimp only
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 3 (x 1) (by simp [emb_eq_idx, LoadRect.idx])).symm
    dsimp only
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 3 (x 1) (by simp [emb_eq_idx, LoadRect.idx])).symm
    dsimp only
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 3 (x 1) (by simp [emb_eq_idx, LoadRect.idx])).symm
    dsimp only
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 2 (x 1) (by simp [emb_eq_idx, LoadRect.idx])).symm
    dsimp only
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 2 (x 1) (by simp [emb_eq_idx, LoadRect.idx])).symm
    dsimp only
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 2 (x 1) (by simp [emb_eq_idx, LoadRect.idx])).symm
    dsimp only
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 2 (x 1) (by simp [emb_eq_idx, LoadRect.idx])).symm
    dsimp only
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 1 (x 1) (by simp [emb_eq_idx, LoadRect.idx])).symm
    dsimp only
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 1 (x 1) (by simp [emb_eq_idx, LoadRect.idx])).symm
    dsimp only
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 1 (x 1) (by simp [emb_eq_idx, LoadRect.idx])).symm
    dsimp only
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 1 (x 1) (by simp [emb_eq_idx, LoadRect.idx])).symm
    dsimp only
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 0 (x 1) (by simp [emb_eq_idx, LoadRect.idx])).symm
    dsimp only
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 0 (x 1) (by simp [emb_eq_idx, LoadRect.idx])).symm
    dsimp only
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 0 (x 1) (by simp [emb_eq_idx, LoadRect.idx])).symm
    dsimp only
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 0 (x 1) (by simp [emb_eq_idx, LoadRect.idx])).symm
    dsimp only
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]

set_option maxHeartbeats 4000000 in
/-- The stores into the output weight's gradient block. -/
theorem first_out :
    View.PiecesOf (tileOut x0 x9 (fun _ => 0)) ((runFirst (F := Ideal) c i a0 h0 a1 h1 a2 h2 a3 h3 a4 h4 a5 h5 a6 h6 a7 h7 a8 h8 a9 h9
      a10 h10 a11 h11 a12 h12 a13 h13 hc x0 x1 x2 x3 x4 x5 x6 x7 x8 x9).2.2.2.1.take 4) := by
  refine ⟨fun x => ?_, fun x => ?_, fun x => ?_, fun x => ?_, trivial⟩ <;> dsimp only <;>
    pointwise [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19,
      runFirst.sl.v0, runFirst.sl.v1, runFirst.sl.v2, first_v15, first_v22, first_v29, first_v79, first_v8, first_v86, first_v93, first_v100, first_v148, first_v155, first_v162, first_v169, first_v217, first_v224, first_v231, first_v238, first_v286, first_v293, first_v300, first_v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, tileOut, outPart]

end Cert.Merge
-- ==== Proof.MergeTileLater.lean ====
/- What the merge kernel's body leaves in its four output blocks at a later grid point, element by element. -/
module

public import proofs.«01_k».proof.Proof.MergeLater
public import proofs.«01_k».proof.Proof.MergeTile

@[expose] public section

set_option maxRecDepth 16384

noncomputable section

namespace Cert.Merge

open Cert.KernelIdeal Cert.KernelIdeal.Gen
open Idealize.ShloMosaic Idealize.ShloMosaic.TcCoe
open scoped BigOperators

variable (c : Dev nD) (i : grid0.Coords)
  (a0 : Memref sig .tc .vmem S256x1024 .f32) (h0 : a0.IsWhole)
  (a1 : Memref sig .tc .vmem S1024x1024 .bf16) (h1 : a1.IsWhole)
  (a2 : Memref sig .tc .vmem S4x256x1024 .bf16) (h2 : a2.IsWhole)
  (a3 : Memref sig .tc .vmem S4x256x1024 .bf16) (h3 : a3.IsWhole)
  (a4 : Memref sig .tc .vmem S4x4x256x256 .bf16) (h4 : a4.IsWhole)
  (a5 : Memref sig .tc .vmem S256x256 .bf16) (h5 : a5.IsWhole)
  (a6 : Memref sig .tc .vmem S256x256 .bf16) (h6 : a6.IsWhole)
  (a7 : Memref sig .tc .vmem S256x256 .bf16) (h7 : a7.IsWhole)
  (a8 : Memref sig .tc .vmem S256x256 .bf16) (h8 : a8.IsWhole)
  (a9 : Memref sig .tc .vmem S256x1024 .bf16) (h9 : a9.IsWhole)
  (a10 : Memref sig .tc .vmem S4x256x1024 .bf16) (h10 : a10.IsWhole)
  (a11 : Memref sig .tc .vmem S4x256x256 .f32) (h11 : a11.IsWhole)
  (a12 : Memref sig .tc .vmem S4x1024x256 .f32) (h12 : a12.IsWhole)
  (a13 : Memref sig .tc .vmem S4x256x1024 .f32) (h13 : a13.IsWhole)
  (hc : ¬atFirst i)
  (x0 : Vec Ideal S256x1024 .f32) (x1 : Vec Ideal S1024x1024 .bf16) (x2 : Vec Ideal S4x256x1024 .bf16)
  (x3 : Vec Ideal S4x256x1024 .bf16) (x4 : Vec Ideal S4x4x256x256 .bf16) (x5 : Vec Ideal S256x256 .bf16)
  (x6 : Vec Ideal S256x256 .bf16) (x7 : Vec Ideal S256x256 .bf16) (x8 : Vec Ideal S256x256 .bf16)
  (x9 : Vec Ideal S256x1024 .bf16) (x12 : Vec Ideal S4x1024x256 .f32) (x13 : Vec Ideal S4x256x1024 .f32)

set_option maxHeartbeats 4000000 in
/-- The stores into the gates' gradient block. -/
theorem later_gate :
    View.PiecesOf (tileGate x0 x1 x2 x3) (runLater (F := Ideal) c i a0 h0 a1 h1 a2 h2 a3 h3 a4 h4 a5 h5 a6 h6 a7 h7 a8 h8 a9 h9
      a10 h10 a11 h11 a12 h12 a13 h13 hc x0 x1 x2 x3 x4 x5 x6 x7 x8 x9 x12 x13).1 := by
  refine ⟨fun x => ?_, fun x => ?_, fun x => ?_, fun x => ?_, trivial⟩ <;> dsimp only <;>
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, tileGate, gradMerged]

set_option maxHeartbeats 4000000 in
/-- The stores into the branches' gradient block. -/
theorem later_branch :
    View.PiecesOf (tileBranch x0 x1 x2 x4) (runLater (F := Ideal) c i a0 h0 a1 h1 a2 h2 a3 h3 a4 h4 a5 h5 a6 h6 a7 h7 a8 h8 a9 h9
      a10 h10 a11 h11 a12 h12 a13 h13 hc x0 x1 x2 x3 x4 x5 x6 x7 x8 x9 x12 x13).2.1 := by
  refine ⟨fun x => ?_, fun x => ?_, fun x => ?_, fun x => ?_, trivial⟩ <;> dsimp only <;>
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, tileBranch, branchPart, gradBranch, gradMerged]

set_option maxHeartbeats 4000000 in
/-- The stores into the branch weights' gradient block. -/
theorem later_weight :
    View.PiecesOf (tileWeight x0 x1 x2 ![x5, x6, x7, x8] x12) (runLater (F := Ideal) c i a0 h0 a1 h1 a2 h2 a3 h3 a4 h4 a5 h5 a6 h6 a7 h7 a8 h8 a9 h9
      a10 h10 a11 h11 a12 h12 a13 h13 hc x0 x1 x2 x3 x4 x5 x6 x7 x8 x9 x12 x13).2.2.1 := by
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · refine Eq.trans ?_ (tileWeight_of _ _ _ _ _ _ 3 (x 1) (by simp [emb_eq_idx, LoadRect.idx])).symm
    dsimp only
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 3 (x 1) (by simp [emb_eq_idx, LoadRect.idx])).symm
    dsimp only
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 3 (x 1) (by simp [emb_eq_idx, LoadRect.idx])).symm
    dsimp only
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 3 (x 1) (by simp [emb_eq_idx, LoadRect.idx])).symm
    dsimp only
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 2 (x 1) (by simp [emb_eq_idx, LoadRect.idx])).symm
    dsimp only
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 2 (x 1) (by simp [emb_eq_idx, LoadRect.idx])).symm
    dsimp only
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 2 (x 1) (by simp [emb_eq_idx, LoadRect.idx])).symm
    dsimp only
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 2 (x 1) (by simp [emb_eq_idx, LoadRect.idx])).symm
    dsimp only
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 1 (x 1) (by simp [emb_eq_idx, LoadRect.idx])).symm
    dsimp only
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 1 (x 1) (by simp [emb_eq_idx, LoadRect.idx])).symm
    dsimp only
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 1 (x 1) (by simp [emb_eq_idx, LoadRect.idx])).symm
    dsimp only
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 1 (x 1) (by simp [emb_eq_idx, LoadRect.idx])).symm
    dsimp only
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 0 (x 1) (by simp [emb_eq_idx, LoadRect.idx])).symm
    dsimp only
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 0 (x 1) (by simp [emb_eq_idx, LoadRect.idx])).symm
    dsimp only
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 0 (x 1) (by simp [emb_eq_idx, LoadRect.idx])).symm
    dsimp only
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]
  · refine Eq.trans ?_ (tileWeight_of _ _ _ _ _ _ 0 (x 1) (by simp [emb_eq_idx, LoadRect.idx])).symm
    dsimp only
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, weightPart, gradBranch, gradMerged]

set_option maxHeartbeats 4000000 in
/-- The stores into the output weight's gradient block. -/
theorem later_out :
    View.PiecesOf (tileOut x0 x9 x13) (runLater (F := Ideal) c i a0 h0 a1 h1 a2 h2 a3 h3 a4 h4 a5 h5 a6 h6 a7 h7 a8 h8 a9 h9
      a10 h10 a11 h11 a12 h12 a13 h13 hc x0 x1 x2 x3 x4 x5 x6 x7 x8 x9 x12 x13).2.2.2.1 := by
  refine ⟨fun x => ?_, fun x => ?_, fun x => ?_, fun x => ?_, trivial⟩ <;> dsimp only <;>
    pointwise [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19,
      runLater.sl.v0, runLater.sl.v1, runLater.sl.v2, runLater.sl.v15, runLater.sl.v22, runLater.sl.v29, runLater.sl.v86, runLater.sl.v93, runLater.sl.v100, runLater.sl.v148, runLater.sl.v155, runLater.sl.v162, runLater.sl.v169, runLater.sl.v217, runLater.sl.v224, runLater.sl.v231, runLater.sl.v238, runLater.sl.v286, runLater.sl.v293, runLater.sl.v300, runLater.sl.v307,
      k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
      load_apply, emb_eq_idx, shardCol_zero, shardCol_one, shardCol_two, shardCol_three, tileOut, outPart]

end Cert.Merge
-- ==== Proof.MergePoints.lean ====
/- The four output blocks of the merge kernel after every grid point, over the extended reals: two are the point's own
   tile, two are the sums of the points so far. -/
module

public import proofs.«01_k».proof.Proof.MergeFrame
public import proofs.«01_k».proof.Proof.MergeTileFirst
public import proofs.«01_k».proof.Proof.MergeTileLater

@[expose] public section

set_option maxRecDepth 16384

noncomputable section

namespace Cert.Merge

open Cert.KernelIdeal Cert.KernelIdeal.Gen
open Idealize.ShloMosaic Idealize.ShloMosaic.TcCoe Idealize.ShloMosaic.Tactic
open scoped BigOperators

variable (m : (ℓ : Loc nD τ sig) → Buf (Elt Ideal) ℓ)

/-- The four branches' blocks at a point. -/
abbrev branchBlocks (c : Dev nD) (t : Fin cfg0.N) : Fin 4 → Vec Ideal S256x256 .bf16 :=
  ![iblk m c 5 t, iblk m c 6 t, iblk m c 7 t, iblk m c 8 t]

/-! ## The runs' stores at a point -/

theorem firstRun_take12 (c : Dev nD) (t : Fin cfg0.N) (h : t.val = 0) (y : S4x1024x256.Idx) :
    ∃ p ∈ (firstRun m c t h).2.2.1.take 16, y ∈ p.1.set :=
  View.cover_of_tiledL ((firstRun m c t h).2.2.1.take 16) S1x256x256.size (by sl_kernel_rfl) y
theorem firstRun_take13 (c : Dev nD) (t : Fin cfg0.N) (h : t.val = 0) (y : S4x256x1024.Idx) :
    ∃ p ∈ (firstRun m c t h).2.2.2.1.take 4, y ∈ p.1.set :=
  View.cover_of_tiledL ((firstRun m c t h).2.2.2.1.take 4) S1x256x1024.size (by sl_kernel_rfl) y

theorem firstRun_gate (c : Dev nD) (t : Fin cfg0.N) (h : t.val = 0) :
    View.PiecesOf (tileGate (iblk m c 0 t) (iblk m c 1 t) (iblk m c 2 t) (iblk m c 3 t)) (firstRun m c t h).1 :=
  first_gate c (grid0.coords t) (stage0 t) (stage0_whole t) (stage1 t) (stage1_whole t) (stage2 t) (stage2_whole t) (stage3 t) (stage3_whole t) (stage4 t) (stage4_whole t) (stage5 t) (stage5_whole t) (stage6 t) (stage6_whole t) (stage7 t) (stage7_whole t) (stage8 t) (stage8_whole t) (stage9 t) (stage9_whole t) (stage10 t) (stage10_whole t) (stage11 t) (stage11_whole t) (stage12 t) (stage12_whole t) (stage13 t) (stage13_whole t)
    ((atFirst_iff t).mpr h) (iblk m c 0 t) (iblk m c 1 t) (iblk m c 2 t) (iblk m c 3 t) (iblk m c 4 t) (iblk m c 5 t) (iblk m c 6 t) (iblk m c 7 t) (iblk m c 8 t) (iblk m c 9 t)
theorem laterRun_gate (c : Dev nD) (t : Fin cfg0.N) (h : ¬t.val = 0) (x12 : Vec Ideal S4x1024x256 .f32) (x13 : Vec Ideal S4x256x1024 .f32) :
    View.PiecesOf (tileGate (iblk m c 0 t) (iblk m c 1 t) (iblk m c 2 t) (iblk m c 3 t)) (laterRun m c t h x12 x13).1 :=
  later_gate c (grid0.coords t) (stage0 t) (stage0_whole t) (stage1 t) (stage1_whole t) (stage2 t) (stage2_whole t) (stage3 t) (stage3_whole t) (stage4 t) (stage4_whole t) (stage5 t) (stage5_whole t) (stage6 t) (stage6_whole t) (stage7 t) (stage7_whole t) (stage8 t) (stage8_whole t) (stage9 t) (stage9_whole t) (stage10 t) (stage10_whole t) (stage11 t) (stage11_whole t) (stage12 t) (stage12_whole t) (stage13 t) (stage13_whole t)
    (fun h' => h ((atFirst_iff t).mp h')) (iblk m c 0 t) (iblk m c 1 t) (iblk m c 2 t) (iblk m c 3 t) (iblk m c 4 t) (iblk m c 5 t) (iblk m c 6 t) (iblk m c 7 t) (iblk m c 8 t) (iblk m c 9 t) x12 x13
theorem firstRun_branch (c : Dev nD) (t : Fin cfg0.N) (h : t.val = 0) :
    View.PiecesOf (tileBranch (iblk m c 0 t) (iblk m c 1 t) (iblk m c 2 t) (iblk m c 4 t)) (firstRun m c t h).2.1 :=
  first_branch c (grid0.coords t) (stage0 t) (stage0_whole t) (stage1 t) (stage1_whole t) (stage2 t) (stage2_whole t) (stage3 t) (stage3_whole t) (stage4 t) (stage4_whole t) (stage5 t) (stage5_whole t) (stage6 t) (stage6_whole t) (stage7 t) (stage7_whole t) (stage8 t) (stage8_whole t) (stage9 t) (stage9_whole t) (stage10 t) (stage10_whole t) (stage11 t) (stage11_whole t) (stage12 t) (stage12_whole t) (stage13 t) (stage13_whole t)
    ((atFirst_iff t).mpr h) (iblk m c 0 t) (iblk m c 1 t) (iblk m c 2 t) (iblk m c 3 t) (iblk m c 4 t) (iblk m c 5 t) (iblk m c 6 t) (iblk m c 7 t) (iblk m c 8 t) (iblk m c 9 t)
theorem laterRun_branch (c : Dev nD) (t : Fin cfg0.N) (h : ¬t.val = 0) (x12 : Vec Ideal S4x1024x256 .f32) (x13 : Vec Ideal S4x256x1024 .f32) :
    View.PiecesOf (tileBranch (iblk m c 0 t) (iblk m c 1 t) (iblk m c 2 t) (iblk m c 4 t)) (laterRun m c t h x12 x13).2.1 :=
  later_branch c (grid0.coords t) (stage0 t) (stage0_whole t) (stage1 t) (stage1_whole t) (stage2 t) (stage2_whole t) (stage3 t) (stage3_whole t) (stage4 t) (stage4_whole t) (stage5 t) (stage5_whole t) (stage6 t) (stage6_whole t) (stage7 t) (stage7_whole t) (stage8 t) (stage8_whole t) (stage9 t) (stage9_whole t) (stage10 t) (stage10_whole t) (stage11 t) (stage11_whole t) (stage12 t) (stage12_whole t) (stage13 t) (stage13_whole t)
    (fun h' => h ((atFirst_iff t).mp h')) (iblk m c 0 t) (iblk m c 1 t) (iblk m c 2 t) (iblk m c 3 t) (iblk m c 4 t) (iblk m c 5 t) (iblk m c 6 t) (iblk m c 7 t) (iblk m c 8 t) (iblk m c 9 t) x12 x13
theorem firstRun_weight (c : Dev nD) (t : Fin cfg0.N) (h : t.val = 0) :
    View.PiecesOf (tileWeight (iblk m c 0 t) (iblk m c 1 t) (iblk m c 2 t) (branchBlocks m c t) (fun _ => 0)) ((firstRun m c t h).2.2.1.take 16) :=
  first_weight c (grid0.coords t) (stage0 t) (stage0_whole t) (stage1 t) (stage1_whole t) (stage2 t) (stage2_whole t) (stage3 t) (stage3_whole t) (stage4 t) (stage4_whole t) (stage5 t) (stage5_whole t) (stage6 t) (stage6_whole t) (stage7 t) (stage7_whole t) (stage8 t) (stage8_whole t) (stage9 t) (stage9_whole t) (stage10 t) (stage10_whole t) (stage11 t) (stage11_whole t) (stage12 t) (stage12_whole t) (stage13 t) (stage13_whole t)
    ((atFirst_iff t).mpr h) (iblk m c 0 t) (iblk m c 1 t) (iblk m c 2 t) (iblk m c 3 t) (iblk m c 4 t) (iblk m c 5 t) (iblk m c 6 t) (iblk m c 7 t) (iblk m c 8 t) (iblk m c 9 t)
theorem laterRun_weight (c : Dev nD) (t : Fin cfg0.N) (h : ¬t.val = 0) (x12 : Vec Ideal S4x1024x256 .f32) (x13 : Vec Ideal S4x256x1024 .f32) :
    View.PiecesOf (tileWeight (iblk m c 0 t) (iblk m c 1 t) (iblk m c 2 t) (branchBlocks m c t) x12) (laterRun m c t h x12 x13).2.2.1 :=
  later_weight c (grid0.coords t) (stage0 t) (stage0_whole t) (stage1 t) (stage1_whole t) (stage2 t) (stage2_whole t) (stage3 t) (stage3_whole t) (stage4 t) (stage4_whole t) (stage5 t) (stage5_whole t) (stage6 t) (stage6_whole t) (stage7 t) (stage7_whole t) (stage8 t) (stage8_whole t) (stage9 t) (stage9_whole t) (stage10 t) (stage10_whole t) (stage11 t) (stage11_whole t) (stage12 t) (stage12_whole t) (stage13 t) (stage13_whole t)
    (fun h' => h ((atFirst_iff t).mp h')) (iblk m c 0 t) (iblk m c 1 t) (iblk m c 2 t) (iblk m c 3 t) (iblk m c 4 t) (iblk m c 5 t) (iblk m c 6 t) (iblk m c 7 t) (iblk m c 8 t) (iblk m c 9 t) x12 x13
theorem firstRun_out (c : Dev nD) (t : Fin cfg0.N) (h : t.val = 0) :
    View.PiecesOf (tileOut (iblk m c 0 t) (iblk m c 9 t) (fun _ => 0)) ((firstRun m c t h).2.2.2.1.take 4) :=
  first_out c (grid0.coords t) (stage0 t) (stage0_whole t) (stage1 t) (stage1_whole t) (stage2 t) (stage2_whole t) (stage3 t) (stage3_whole t) (stage4 t) (stage4_whole t) (stage5 t) (stage5_whole t) (stage6 t) (stage6_whole t) (stage7 t) (stage7_whole t) (stage8 t) (stage8_whole t) (stage9 t) (stage9_whole t) (stage10 t) (stage10_whole t) (stage11 t) (stage11_whole t) (stage12 t) (stage12_whole t) (stage13 t) (stage13_whole t)
    ((atFirst_iff t).mpr h) (iblk m c 0 t) (iblk m c 1 t) (iblk m c 2 t) (iblk m c 3 t) (iblk m c 4 t) (iblk m c 5 t) (iblk m c 6 t) (iblk m c 7 t) (iblk m c 8 t) (iblk m c 9 t)
theorem laterRun_out (c : Dev nD) (t : Fin cfg0.N) (h : ¬t.val = 0) (x12 : Vec Ideal S4x1024x256 .f32) (x13 : Vec Ideal S4x256x1024 .f32) :
    View.PiecesOf (tileOut (iblk m c 0 t) (iblk m c 9 t) x13) (laterRun m c t h x12 x13).2.2.2.1 :=
  later_out c (grid0.coords t) (stage0 t) (stage0_whole t) (stage1 t) (stage1_whole t) (stage2 t) (stage2_whole t) (stage3 t) (stage3_whole t) (stage4 t) (stage4_whole t) (stage5 t) (stage5_whole t) (stage6 t) (stage6_whole t) (stage7 t) (stage7_whole t) (stage8 t) (stage8_whole t) (stage9 t) (stage9_whole t) (stage10 t) (stage10_whole t) (stage11 t) (stage11_whole t) (stage12 t) (stage12_whole t) (stage13 t) (stage13_whole t)
    (fun h' => h ((atFirst_iff t).mp h')) (iblk m c 0 t) (iblk m c 1 t) (iblk m c 2 t) (iblk m c 3 t) (iblk m c 4 t) (iblk m c 5 t) (iblk m c 6 t) (iblk m c 7 t) (iblk m c 8 t) (iblk m c 9 t) x12 x13

attribute [local irreducible] runFirst runLater

/-! ## The blocks after a point -/

/-- After any point the first output block is the point's tile of the gradient of the gates' arguments. -/
theorem outs_gate (c : Dev nD) (t : Fin cfg0.N) :
    (outsAt m c t.val t.isLt).1 = tileGate (iblk m c 0 t) (iblk m c 1 t) (iblk m c 2 t) (iblk m c 3 t) := by
  by_cases h : t.val = 0
  · rw [outsAt_first m c t h]
    funext y
    refine View.canon_apply_of_pieces _ (firstRun m c t h).1 ?_ y (firstRun_cover10 m c t h y)
    exact View.PiecesOf.mem (firstRun_gate m c t h)
  · rw [outsAt_later m c t h]
    funext y
    refine View.canon_apply_of_pieces _ (laterRun m c t h _ _).1 ?_ y (laterRun_cover10 m c t h _ _ y)
    exact View.PiecesOf.mem (laterRun_gate m c t h _ _)

/-- After any point the second output block is the point's tile of the gradient of the branches. -/
theorem outs_branch (c : Dev nD) (t : Fin cfg0.N) :
    (outsAt m c t.val t.isLt).2.1 = tileBranch (iblk m c 0 t) (iblk m c 1 t) (iblk m c 2 t) (iblk m c 4 t) := by
  by_cases h : t.val = 0
  · rw [outsAt_first m c t h]
    funext y
    refine View.canon_apply_of_pieces _ (firstRun m c t h).2.1 ?_ y (firstRun_cover11 m c t h y)
    exact View.PiecesOf.mem (firstRun_branch m c t h)
  · rw [outsAt_later m c t h]
    funext y
    refine View.canon_apply_of_pieces _ (laterRun m c t h _ _).2.1 ?_ y (laterRun_cover11 m c t h _ _ y)
    exact View.PiecesOf.mem (laterRun_branch m c t h _ _)

/-- The first point writes its own sum of the branch weights' gradient over the zero it put there. -/
theorem outs_weight_first (c : Dev nD) (t : Fin cfg0.N) (h : t.val = 0) :
    (outsAt m c t.val t.isLt).2.2.1 = tileWeight (iblk m c 0 t) (iblk m c 1 t) (iblk m c 2 t) (branchBlocks m c t) (fun _ => 0) := by
  rw [outsAt_first m c t h]
  funext y
  show View.canon (firstRun m c t h).2.2.1 y = _
  rw [← List.take_append_drop 16 (firstRun m c t h).2.2.1]
  refine View.canon_append_of_piecesOf _ _ _ ?_ y ?_
  · exact firstRun_weight m c t h
  · exact firstRun_take12 m c t h y

/-- Every later point adds its own sum to what the point before left. -/
theorem outs_weight_later (c : Dev nD) (t : Fin cfg0.N) (h : ¬t.val = 0) :
    (outsAt m c t.val t.isLt).2.2.1 = tileWeight (iblk m c 0 t) (iblk m c 1 t) (iblk m c 2 t) (branchBlocks m c t)
      (outsAt m c (t.val - 1) (before_lt t)).2.2.1 := by
  rw [outsAt_later m c t h]
  funext y
  refine View.canon_apply_of_pieces _ (laterRun m c t h _ _).2.2.1 ?_ y (laterRun_cover12 m c t h _ _ y)
  exact View.PiecesOf.mem (laterRun_weight m c t h _ _)

/-- The first point writes its own sum of the output weight's gradient over the zero it put there. -/
theorem outs_out_first (c : Dev nD) (t : Fin cfg0.N) (h : t.val = 0) :
    (outsAt m c t.val t.isLt).2.2.2 = tileOut (iblk m c 0 t) (iblk m c 9 t) (fun _ => 0) := by
  rw [outsAt_first m c t h]
  funext y
  show View.canon (firstRun m c t h).2.2.2.1 y = _
  rw [← List.take_append_drop 4 (firstRun m c t h).2.2.2.1]
  refine View.canon_append_of_piecesOf _ _ _ ?_ y ?_
  · exact firstRun_out m c t h
  · exact firstRun_take13 m c t h y

/-- Every later point adds its own sum to what the point before left. -/
theorem outs_out_later (c : Dev nD) (t : Fin cfg0.N) (h : ¬t.val = 0) :
    (outsAt m c t.val t.isLt).2.2.2 = tileOut (iblk m c 0 t) (iblk m c 9 t) (outsAt m c (t.val - 1) (before_lt t)).2.2.2 := by
  rw [outsAt_later m c t h]
  funext y
  refine View.canon_apply_of_pieces _ (laterRun m c t h _ _).2.2.2.1 ?_ y (laterRun_cover13 m c t h _ _ y)
  exact View.PiecesOf.mem (laterRun_out m c t h _ _)

/-- Point `u`'s part of the branch weights' gradient at an element of the accumulated block. -/
def weightAt (c : Dev nD) (y : S4x1024x256.Idx) (u : ℕ) : EReal :=
  if hu : u < cfg0.N then
    tileWeight (iblk m c 0 ⟨u, hu⟩) (iblk m c 1 ⟨u, hu⟩) (iblk m c 2 ⟨u, hu⟩) (branchBlocks m c ⟨u, hu⟩) (fun _ => 0) y
  else 0

/-- Point `u`'s part of the output weight's gradient at an element of the accumulated block. -/
def outAt (c : Dev nD) (y : S4x256x1024.Idx) (u : ℕ) : EReal :=
  if hu : u < cfg0.N then tileOut (iblk m c 0 ⟨u, hu⟩) (iblk m c 9 ⟨u, hu⟩) (fun _ => 0) y else 0

theorem tileWeight_add (x0 : Vec Ideal S256x1024 .f32) (x1 : Vec Ideal S1024x1024 .bf16) (x2 : Vec Ideal S4x256x1024 .bf16)
    (Y : Fin 4 → Vec Ideal S256x256 .bf16) (z : Vec Ideal S4x1024x256 .f32) (y : S4x1024x256.Idx) :
    tileWeight x0 x1 x2 Y z y = z y + tileWeight x0 x1 x2 Y (fun _ => 0) y := by
  have e : z y = z (ix3 (y 0) (y 1) (y 2)) := congrArg z (funext fun a => by fin_cases a <;> rfl)
  rw [e]
  show z _ + _ = z _ + ((0 : EReal) + _)
  rw [zero_add]

theorem tileOut_add (x0 : Vec Ideal S256x1024 .f32) (x9 : Vec Ideal S256x1024 .bf16) (z : Vec Ideal S4x256x1024 .f32)
    (y : S4x256x1024.Idx) : tileOut x0 x9 z y = z y + tileOut x0 x9 (fun _ => 0) y := by
  have e : z y = z (ix3 (y 0) (y 1) (y 2)) := congrArg z (funext fun a => by fin_cases a <;> rfl)
  rw [e]
  show z _ + _ = z _ + ((0 : EReal) + _)
  rw [zero_add]

/-- After point `n` the third block holds the sum of the points' parts up to it. -/
theorem outs_weight (c : Dev nD) (y : S4x1024x256.Idx) : ∀ (n : ℕ) (hn : n < cfg0.N),
    (outsAt m c n hn).2.2.1 y = ∑ u ∈ Finset.range (n + 1), weightAt m c y u
  | 0, hn => by
    have h := congrFun (outs_weight_first m c ⟨0, hn⟩ rfl) y
    rw [Finset.sum_range_one, weightAt, dif_pos hn]
    exact h
  | n + 1, hn => by
    have h := congrFun (outs_weight_later m c ⟨n + 1, hn⟩ (Nat.succ_ne_zero n)) y
    rw [tileWeight_add] at h
    rw [Finset.sum_range_succ, ← outs_weight c y n (Nat.lt_of_succ_lt hn)]
    rw [weightAt, dif_pos hn]
    exact h

/-- After point `n` the fourth block holds the sum of the points' parts up to it. -/
theorem outs_out (c : Dev nD) (y : S4x256x1024.Idx) : ∀ (n : ℕ) (hn : n < cfg0.N),
    (outsAt m c n hn).2.2.2 y = ∑ u ∈ Finset.range (n + 1), outAt m c y u
  | 0, hn => by
    have h := congrFun (outs_out_first m c ⟨0, hn⟩ rfl) y
    rw [Finset.sum_range_one, outAt, dif_pos hn]
    exact h
  | n + 1, hn => by
    have h := congrFun (outs_out_later m c ⟨n + 1, hn⟩ (Nat.succ_ne_zero n)) y
    rw [tileOut_add] at h
    rw [Finset.sum_range_succ, ← outs_out c y n (Nat.lt_of_succ_lt hn)]
    rw [outAt, dif_pos hn]
    exact h

end Cert.Merge
-- ==== Proof.MergeBlocks.lean ====
/- The four result arrays of the merge kernel, over the extended reals, as functions of the arrays it is given. -/
module

public import proofs.«01_k».proof.Proof.MergePoints
public import Idealize.ShloMosaic.Lib.Pipeline.ValueKit.Partial
public import Idealize.ShloMosaic.Lib.Pointwise

@[expose] public section

set_option maxRecDepth 16384

noncomputable section

namespace Cert.Merge

open Cert.KernelIdeal Cert.KernelIdeal.Gen
open Idealize.ShloMosaic Idealize.ShloMosaic.TcCoe Idealize.ShloMosaic.Tactic
open scoped BigOperators

variable (m : (ℓ : Loc nD τ sig) → Buf (Elt Ideal) ℓ)

/-! ## The results as functions of whole arrays -/

/-- The merged rows' gradient. -/
def gradMergedAll (x0 : Vec Ideal S8192x1024 .f32) (x1 : Vec Ideal S1024x1024 .bf16) (r : Fin 8192) (c : Fin 1024) : EReal :=
  ∑ d : Fin 1024, x0 (ix2 r d) * x1 (ix2 c d)

/-- The gradient of branch `k`'s product. -/
def gradBranchAll (x0 : Vec Ideal S8192x1024 .f32) (x1 : Vec Ideal S1024x1024 .bf16) (x2 : Vec Ideal S4x8192x1024 .bf16)
    (k : Fin 4) (r : Fin 8192) (c : Fin 1024) : EReal :=
  gradMergedAll x0 x1 r c * x2 (ix3 k r c)

/-- The gradient of the gates' arguments. -/
def allGate (x0 : Vec Ideal S8192x1024 .f32) (x1 : Vec Ideal S1024x1024 .bf16) (x2 x3 : Vec Ideal S4x8192x1024 .bf16)
    (k : Fin 4) (r : Fin 8192) (c : Fin 1024) : EReal :=
  gradMergedAll x0 x1 r c * x3 (ix3 k r c) * x2 (ix3 k r c) * (1 - x2 (ix3 k r c))

/-- Column shard `s`'s part of branch `k`'s gradient. -/
def allBranchPart (x0 : Vec Ideal S8192x1024 .f32) (x1 : Vec Ideal S1024x1024 .bf16) (x2 : Vec Ideal S4x8192x1024 .bf16)
    (x4 : Vec Ideal S4x4x256x256 .bf16) (s k : Fin 4) (r : Fin 8192) (i : Fin 256) : EReal :=
  ∑ j : Fin 256, gradBranchAll x0 x1 x2 k r (shardCol s j) * x4 (ix4 s k i j)

/-- The gradient of the branches. -/
def allBranch (x0 : Vec Ideal S8192x1024 .f32) (x1 : Vec Ideal S1024x1024 .bf16) (x2 : Vec Ideal S4x8192x1024 .bf16)
    (x4 : Vec Ideal S4x4x256x256 .bf16) (k : Fin 4) (r : Fin 8192) (i : Fin 256) : EReal :=
  ∑ s : Fin 4, allBranchPart x0 x1 x2 x4 s k r i

/-- The gradient of the branches' output weights, in column shard `s` of branch `k`. -/
def allWeight (x0 : Vec Ideal S8192x1024 .f32) (x1 : Vec Ideal S1024x1024 .bf16) (x2 : Vec Ideal S4x8192x1024 .bf16)
    (Y : Fin 4 → Vec Ideal S8192x256 .bf16) (s k : Fin 4) (i j : Fin 256) : EReal :=
  ∑ r : Fin 8192, Y k (ix2 r i) * gradBranchAll x0 x1 x2 k r (shardCol s j)

/-- The gradient of the output weight, in row shard `s`. -/
def allOut (x0 : Vec Ideal S8192x1024 .f32) (x9 : Vec Ideal S8192x1024 .bf16) (s : Fin 4) (i : Fin 256) (c : Fin 1024) : EReal :=
  ∑ r : Fin 8192, x9 (ix2 r (shardCol s i)) * x0 (ix2 r c)

/-! ## The blocks at coordinates -/

/-- Row `r` of point `t`'s tile among all rows. -/
def rowAt (t : Fin cfg0.N) (r : Fin 256) : Fin 8192 :=
  ⟨t.val * 256 + r.val, by have h : t.val < 32 := t.isLt; omega⟩

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, t.val, 0] := (by decide +kernel : ∀ t : Fin grid0.N, win0_2.index t = ![0, t.val, 0])
theorem index3 : ∀ t : Fin cfg0.N, win0_3.index t = ![0, t.val, 0] := (by decide +kernel : ∀ t : Fin grid0.N, win0_3.index t = ![0, t.val, 0])
theorem index4 : ∀ t : Fin cfg0.N, win0_4.index t = ![0, 0, 0, 0] := (by decide +kernel : ∀ t : Fin grid0.N, win0_4.index t = ![0, 0, 0, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])
theorem index7 : ∀ t : Fin cfg0.N, win0_7.index t = ![t.val, 0] := (by decide +kernel : ∀ t : Fin grid0.N, win0_7.index t = ![t.val, 0])
theorem index8 : ∀ t : Fin cfg0.N, win0_8.index t = ![t.val, 0] := (by decide +kernel : ∀ t : Fin grid0.N, win0_8.index t = ![t.val, 0])
theorem index9 : ∀ t : Fin cfg0.N, win0_9.index t = ![t.val, 0] := (by decide +kernel : ∀ t : Fin grid0.N, win0_9.index t = ![t.val, 0])
theorem index10 : ∀ t : Fin cfg0.N, win0_10.index t = ![0, t.val, 0] := (by decide +kernel : ∀ t : Fin grid0.N, win0_10.index t = ![0, t.val, 0])
theorem index11 : ∀ t : Fin cfg0.N, win0_11.index t = ![0, t.val, 0] := (by decide +kernel : ∀ t : Fin grid0.N, win0_11.index t = ![0, t.val, 0])
theorem index12 : ∀ t : Fin cfg0.N, win0_12.index t = ![0, 0, 0] := (by decide +kernel : ∀ t : Fin grid0.N, win0_12.index t = ![0, 0, 0])
theorem index13 : ∀ t : Fin cfg0.N, win0_13.index t = ![0, 4, 0] := (by decide +kernel : ∀ t : Fin grid0.N, win0_13.index t = ![0, 4, 0])

/-! Each operand array as the region finds it, and its block at a point. -/

/-- The gradient of the step's output. -/
def in0 (c : Dev nD) : Vec Ideal S8192x1024 .f32 := V m c main_arg0
/-- The gradient of the step's output: the block at a point. -/
def tile0 (c : Dev nD) (t : Fin cfg0.N) : Vec Ideal S256x1024 .f32 := iblk m c 0 t
/-- The output weight. -/
def in1 (c : Dev nD) : Vec Ideal S1024x1024 .bf16 := V m c main_arg8
/-- The output weight: the block at a point. -/
def tile1 (c : Dev nD) (t : Fin cfg0.N) : Vec Ideal S1024x1024 .bf16 := iblk m c 1 t
/-- The gates. -/
def in2 (c : Dev nD) : Vec Ideal S4x8192x1024 .bf16 := V m c main_v77
/-- The gates: the block at a point. -/
def tile2 (c : Dev nD) (t : Fin cfg0.N) : Vec Ideal S4x256x1024 .bf16 := iblk m c 2 t
/-- The branches' products. -/
def in3 (c : Dev nD) : Vec Ideal S4x8192x1024 .bf16 := V m c main_v83
/-- The branches' products: the block at a point. -/
def tile3 (c : Dev nD) (t : Fin cfg0.N) : Vec Ideal S4x256x1024 .bf16 := iblk m c 3 t
/-- The branches' output weights in column shards. -/
def in4 (c : Dev nD) : Vec Ideal S4x4x256x256 .bf16 := V m c main_arg7
/-- The branches' output weights in column shards: the block at a point. -/
def tile4 (c : Dev nD) (t : Fin cfg0.N) : Vec Ideal S4x4x256x256 .bf16 := iblk m c 4 t
/-- The first branch. -/
def in5 (c : Dev nD) : Vec Ideal S8192x256 .bf16 := V m c main_arg2
/-- The first branch: the block at a point. -/
def tile5 (c : Dev nD) (t : Fin cfg0.N) : Vec Ideal S256x256 .bf16 := iblk m c 5 t
/-- The second branch. -/
def in6 (c : Dev nD) : Vec Ideal S8192x256 .bf16 := V m c main_arg3
/-- The second branch: the block at a point. -/
def tile6 (c : Dev nD) (t : Fin cfg0.N) : Vec Ideal S256x256 .bf16 := iblk m c 6 t
/-- The third branch. -/
def in7 (c : Dev nD) : Vec Ideal S8192x256 .bf16 := V m c main_arg4
/-- The third branch: the block at a point. -/
def tile7 (c : Dev nD) (t : Fin cfg0.N) : Vec Ideal S256x256 .bf16 := iblk m c 7 t
/-- The fourth branch. -/
def in8 (c : Dev nD) : Vec Ideal S8192x256 .bf16 := V m c main_arg5
/-- The fourth branch: the block at a point. -/
def tile8 (c : Dev nD) (t : Fin cfg0.N) : Vec Ideal S256x256 .bf16 := iblk m c 8 t
/-- The merged rows. -/
def in9 (c : Dev nD) : Vec Ideal S8192x1024 .bf16 := V m c main_v84
/-- The merged rows: the block at a point. -/
def tile9 (c : Dev nD) (t : Fin cfg0.N) : Vec Ideal S256x1024 .bf16 := iblk m c 9 t

theorem tile0_apply (c : Dev nD) (t : Fin cfg0.N) (r : Fin 256) (d : Fin 1024) : tile0 m c t (ix2 r d) = in0 m c (ix2 (rowAt t r) d) := by
  show iblk m c 0 t (ix2 r d) = V m c main_arg0 (ix2 (rowAt t r) d)
  blk_ext [iblk, index0, rowAt]
theorem tile1_apply (c : Dev nD) (t : Fin cfg0.N) (r d : Fin 1024) : tile1 m c t (ix2 r d) = in1 m c (ix2 r d) := by
  show iblk m c 1 t (ix2 r d) = V m c main_arg8 (ix2 r d)
  blk_ext [iblk, index1, rowAt]
theorem tile2_apply (c : Dev nD) (t : Fin cfg0.N) (k : Fin 4) (r : Fin 256) (d : Fin 1024) : tile2 m c t (ix3 k r d) = in2 m c (ix3 k (rowAt t r) d) := by
  show iblk m c 2 t (ix3 k r d) = V m c main_v77 (ix3 k (rowAt t r) d)
  blk_ext [iblk, index2, rowAt]
theorem tile3_apply (c : Dev nD) (t : Fin cfg0.N) (k : Fin 4) (r : Fin 256) (d : Fin 1024) : tile3 m c t (ix3 k r d) = in3 m c (ix3 k (rowAt t r) d) := by
  show iblk m c 3 t (ix3 k r d) = V m c main_v83 (ix3 k (rowAt t r) d)
  blk_ext [iblk, index3, rowAt]
theorem tile4_apply (c : Dev nD) (t : Fin cfg0.N) (s k : Fin 4) (i j : Fin 256) : tile4 m c t (ix4 s k i j) = in4 m c (ix4 s k i j) := by
  show iblk m c 4 t (ix4 s k i j) = V m c main_arg7 (ix4 s k i j)
  blk_ext [iblk, index4, rowAt]
theorem tile5_apply (c : Dev nD) (t : Fin cfg0.N) (r i : Fin 256) : tile5 m c t (ix2 r i) = in5 m c (ix2 (rowAt t r) i) := by
  show iblk m c 5 t (ix2 r i) = V m c main_arg2 (ix2 (rowAt t r) i)
  blk_ext [iblk, index5, rowAt]
theorem tile6_apply (c : Dev nD) (t : Fin cfg0.N) (r i : Fin 256) : tile6 m c t (ix2 r i) = in6 m c (ix2 (rowAt t r) i) := by
  show iblk m c 6 t (ix2 r i) = V m c main_arg3 (ix2 (rowAt t r) i)
  blk_ext [iblk, index6, rowAt]
theorem tile7_apply (c : Dev nD) (t : Fin cfg0.N) (r i : Fin 256) : tile7 m c t (ix2 r i) = in7 m c (ix2 (rowAt t r) i) := by
  show iblk m c 7 t (ix2 r i) = V m c main_arg4 (ix2 (rowAt t r) i)
  blk_ext [iblk, index7, rowAt]
theorem tile8_apply (c : Dev nD) (t : Fin cfg0.N) (r i : Fin 256) : tile8 m c t (ix2 r i) = in8 m c (ix2 (rowAt t r) i) := by
  show iblk m c 8 t (ix2 r i) = V m c main_arg5 (ix2 (rowAt t r) i)
  blk_ext [iblk, index8, rowAt]
theorem tile9_apply (c : Dev nD) (t : Fin cfg0.N) (r : Fin 256) (d : Fin 1024) : tile9 m c t (ix2 r d) = in9 m c (ix2 (rowAt t r) d) := by
  show iblk m c 9 t (ix2 r d) = V m c main_v84 (ix2 (rowAt t r) d)
  blk_ext [iblk, index9, rowAt]

/-- The four branches' blocks at a point. -/
def branchTiles (c : Dev nD) (t : Fin cfg0.N) : Fin 4 → Vec Ideal S256x256 .bf16 :=
  ![tile5 m c t, tile6 m c t, tile7 m c t, tile8 m c t]

/-- The four branches as the region finds them. -/
def branches (c : Dev nD) : Fin 4 → Vec Ideal S8192x256 .bf16 := ![in5 m c, in6 m c, in7 m c, in8 m c]

/-! The output blocks after a point, over those names. -/

theorem left_gate (c : Dev nD) (t : Fin cfg0.N) :
    (dats m 0 c).after 10 t = tileGate (tile0 m c t) (tile1 m c t) (tile2 m c t) (tile3 m c t) :=
  (after10 m c t).trans (outs_gate m c t)

theorem left_branch (c : Dev nD) (t : Fin cfg0.N) :
    (dats m 0 c).after 11 t = tileBranch (tile0 m c t) (tile1 m c t) (tile2 m c t) (tile4 m c t) :=
  (after11 m c t).trans (outs_branch m c t)

theorem left_weight (c : Dev nD) (t : Fin cfg0.N) (y : S4x1024x256.Idx) :
    (dats m 0 c).after 12 t y = ∑ u ∈ Finset.range (t.val + 1), weightAt m c y u :=
  (congrFun (after12 m c t) y).trans (outs_weight m c y t.val t.isLt)

theorem left_out (c : Dev nD) (t : Fin cfg0.N) (y : S4x256x1024.Idx) :
    (dats m 0 c).after 13 t y = ∑ u ∈ Finset.range (t.val + 1), outAt m c y u :=
  (congrFun (after13 m c t) y).trans (outs_out m c y t.val t.isLt)

theorem weightAt_tile (c : Dev nD) (y : S4x1024x256.Idx) (t : Fin cfg0.N) :
    weightAt m c y t.val = tileWeight (tile0 m c t) (tile1 m c t) (tile2 m c t) (branchTiles m c t) (fun _ => 0) y :=
  dif_pos t.isLt

theorem outAt_tile (c : Dev nD) (y : S4x256x1024.Idx) (t : Fin cfg0.N) :
    outAt m c y t.val = tileOut (tile0 m c t) (tile9 m c t) (fun _ => 0) y :=
  dif_pos t.isLt

/-- Four functions that read alike one by one read alike as a family. -/
theorem four_apply {A B : Type} {a b c d : A → EReal} {a' b' c' d' : B → EReal} {x : A} {y : B} (h0 : a x = a' y) (h1 : b x = b' y)
    (h2 : c x = c' y) (h3 : d x = d' y) (k : Fin 4) :
    (![a, b, c, d] : Fin 4 → A → EReal) k x = (![a', b', c', d'] : Fin 4 → B → EReal) k y := by
  fin_cases k <;> assumption

section
attribute [local irreducible] in0 in1 in2 in3 in4 in5 in6 in7 in8 in9 tile0 tile1 tile2 tile3 tile4 tile5 tile6 tile7 tile8 tile9 iblk

theorem branchTiles_apply (c : Dev nD) (t : Fin cfg0.N) (k : Fin 4) (r i : Fin 256) :
    branchTiles m c t k (ix2 r i) = branches m c k (ix2 (rowAt t r) i) :=
  four_apply (tile5_apply m c t r i) (tile6_apply m c t r i) (tile7_apply m c t r i) (tile8_apply m c t r i) k

end

end Cert.Merge
-- ==== Proof.MergeFinal.lean ====
/- The four result arrays of the merge kernel after the whole grid, over the extended reals. -/
module

public import proofs.«01_k».proof.Proof.MergeBlocks

@[expose] public section

set_option maxRecDepth 16384

noncomputable section

namespace Cert.Merge

open Cert.KernelIdeal Cert.KernelIdeal.Gen
open Idealize.ShloMosaic Idealize.ShloMosaic.TcCoe Idealize.ShloMosaic.Tactic
open scoped BigOperators

variable (m : (ℓ : Loc nD τ sig) → Buf (Elt Ideal) ℓ)

attribute [local irreducible] in0 in1 in2 in3 in4 in5 in6 in7 in8 in9 tile0 tile1 tile2 tile3 tile4 tile5 tile6 tile7 tile8
  tile9 branchTiles branches iblk weightAt outAt

/-! ## A point's tile is the point's rows of the whole result -/

theorem gradMerged_block (c : Dev nD) (t : Fin cfg0.N) (r : Fin 256) (d : Fin 1024) :
    gradMerged (tile0 m c t) (tile1 m c t) r d = gradMergedAll (in0 m c) (in1 m c) (rowAt t r) d :=
  Finset.sum_congr rfl fun e _ => congrArg₂ (· * ·) (tile0_apply m c t r e) (tile1_apply m c t d e)

theorem gradBranch_block (c : Dev nD) (t : Fin cfg0.N) (k : Fin 4) (r : Fin 256) (d : Fin 1024) :
    gradBranch (tile0 m c t) (tile1 m c t) (tile2 m c t) k r d
      = gradBranchAll (in0 m c) (in1 m c) (in2 m c) k (rowAt t r) d :=
  congrArg₂ (· * ·) (gradMerged_block m c t r d) (tile2_apply m c t k r d)

theorem tileGate_block (c : Dev nD) (t : Fin cfg0.N) (y : S4x256x1024.Idx) :
    tileGate (tile0 m c t) (tile1 m c t) (tile2 m c t) (tile3 m c t) y
      = allGate (in0 m c) (in1 m c) (in2 m c) (in3 m c) (y 0) (rowAt t (y 1)) (y 2) := by
  unfold tileGate allGate
  exact congrArg₂ (· * ·) (congrArg₂ (· * ·) (congrArg₂ (· * ·) (gradMerged_block m c t _ _) (tile3_apply m c t _ _ _)) (tile2_apply m c t _ _ _))
    (congrArg (1 - ·) (tile2_apply m c t _ _ _))

theorem branchPart_block (c : Dev nD) (t : Fin cfg0.N) (s k : Fin 4) (r i : Fin 256) :
    branchPart (tile0 m c t) (tile1 m c t) (tile2 m c t) (tile4 m c t) s k r i
      = allBranchPart (in0 m c) (in1 m c) (in2 m c) (in4 m c) s k (rowAt t r) i :=
  Finset.sum_congr rfl fun j _ => congrArg₂ (· * ·) (gradBranch_block m c t k r _) (tile4_apply m c t s k i j)

theorem tileBranch_block (c : Dev nD) (t : Fin cfg0.N) (y : S4x256x256.Idx) :
    tileBranch (tile0 m c t) (tile1 m c t) (tile2 m c t) (tile4 m c t) y
      = allBranch (in0 m c) (in1 m c) (in2 m c) (in4 m c) (y 0) (rowAt t (y 1)) (y 2) := by
  unfold tileBranch allBranch
  rw [Fin.sum_univ_four]
  exact congrArg₂ (· + ·) (congrArg₂ (· + ·) (congrArg₂ (· + ·) (branchPart_block m c t 0 _ _ _) (branchPart_block m c t 1 _ _ _))
    (branchPart_block m c t 2 _ _ _)) (branchPart_block m c t 3 _ _ _)

theorem weightPart_block (c : Dev nD) (t : Fin cfg0.N) (s k : Fin 4) (i j : Fin 256) :
    weightPart (tile0 m c t) (tile1 m c t) (tile2 m c t) (branchTiles m c t) s k i j
      = ∑ r : Fin 256, branches m c k (ix2 (rowAt t r) i)
          * gradBranchAll (in0 m c) (in1 m c) (in2 m c) k (rowAt t r) (shardCol s j) :=
  Finset.sum_congr rfl fun r _ => congrArg₂ (· * ·) (branchTiles_apply m c t k r i) (gradBranch_block m c t k r _)

theorem outPart_block (c : Dev nD) (t : Fin cfg0.N) (s : Fin 4) (i : Fin 256) (d : Fin 1024) :
    outPart (tile0 m c t) (tile9 m c t) s i d
      = ∑ r : Fin 256, in9 m c (ix2 (rowAt t r) (shardCol s i)) * in0 m c (ix2 (rowAt t r) d) :=
  Finset.sum_congr rfl fun r _ => congrArg₂ (· * ·) (tile9_apply m c t r _) (tile0_apply m c t r d)

/-! ## The sums over the points are the sums over all rows -/

theorem sum_weightAt (c : Dev nD) (y : S4x1024x256.Idx) (k : Fin 4) (i : Fin 256) (h : (y 1).val = k.val * 256 + i.val) :
    ∑ u ∈ Finset.range 32, weightAt m c y u
      = allWeight (in0 m c) (in1 m c) (in2 m c) (branches m c) (y 0) k i (y 2) := by
  unfold allWeight
  rw [Finset.sum_range, Fin.sum_univ_tiles 32 256 rfl]
  refine Finset.sum_congr rfl fun u _ => ?_
  refine (weightAt_tile m c y ⟨u.val, u.isLt⟩).trans ?_
  refine (tileWeight_of _ _ _ _ _ y k i h).trans ?_
  refine (zero_add _).trans ?_
  exact weightPart_block m c ⟨u.val, u.isLt⟩ (y 0) k i (y 2)

theorem sum_outAt (c : Dev nD) (y : S4x256x1024.Idx) :
    ∑ u ∈ Finset.range 32, outAt m c y u = allOut (in0 m c) (in9 m c) (y 0) (y 1) (y 2) := by
  unfold allOut
  rw [Finset.sum_range, Fin.sum_univ_tiles 32 256 rfl]
  refine Finset.sum_congr rfl fun u _ => ?_
  refine (outAt_tile m c y ⟨u.val, u.isLt⟩).trans ?_
  refine (zero_add _).trans ?_
  exact outPart_block m c ⟨u.val, u.isLt⟩ (y 0) (y 1) (y 2)

/-- A function of three coordinates depends on their values only. -/
theorem at_coords {a b d : ℕ} (f : Fin a → Fin b → Fin d → EReal) {i i' : Fin a} {j j' : Fin b} {k k' : Fin d}
    (hi : i.val = i'.val) (hj : j.val = j'.val) (hk : k.val = k'.val) : f i j k = f i' j' k' := by
  rw [Fin.ext hi, Fin.ext hj, Fin.ext hk]

/-! ## The arrays after the grid -/

/-- The gates' arguments' gradient after the grid. -/
theorem final_gate (c : Dev nD) : (dats m 0 c).arrAt 10 cfg0.N = fun i : S4x8192x1024.Idx =>
    allGate (in0 m c) (in1 m c) (in2 m c) (in3 m c) (i 0) (i 1) (i 2) := by
  refine (dats m 0 c).arrAt_eq_of_covers 10 _ (by decide +kernel) fun t hf y => ?_
  blk_simp
  rw [left_gate]
  refine (tileGate_block m c t y).trans ?_
  refine at_coords (allGate (in0 m c) (in1 m c) (in2 m c) (in3 m c)) ?_ ?_ ?_ <;> blk_simp [index10, rowAt]

/-- The branches' gradient after the grid. -/
theorem final_branch (c : Dev nD) : (dats m 0 c).arrAt 11 cfg0.N = fun i : S4x8192x256.Idx =>
    allBranch (in0 m c) (in1 m c) (in2 m c) (in4 m c) (i 0) (i 1) (i 2) := by
  refine (dats m 0 c).arrAt_eq_of_covers 11 _ (by decide +kernel) fun t hf y => ?_
  blk_simp
  rw [left_branch]
  refine (tileBranch_block m c t y).trans ?_
  refine at_coords (allBranch (in0 m c) (in1 m c) (in2 m c) (in4 m c)) ?_ ?_ ?_ <;> blk_simp [index11, rowAt]

theorem at_coords₄ {a b d e : ℕ} (f : Fin a → Fin b → Fin d → Fin e → EReal) {i i' : Fin a} {j j' : Fin b} {k k' : Fin d} {l l' : Fin e}
    (hi : i.val = i'.val) (hj : j.val = j'.val) (hk : k.val = k'.val) (hl : l.val = l'.val) : f i j k l = f i' j' k' l' := by
  rw [Fin.ext hi, Fin.ext hj, Fin.ext hk, Fin.ext hl]

/-- What the last point leaves of the branch weights' gradient. -/
theorem last_weight (c : Dev nD) (t : Fin cfg0.N) (h : t.val = 31) (y : S4x1024x256.Idx) :
    (dats m 0 c).after 12 t y = allWeight (in0 m c) (in1 m c) (in2 m c) (branches m c) (y 0)
      ⟨(y 1).val / 256, Nat.div_lt_of_lt_mul (y 1).isLt⟩ ⟨(y 1).val % 256, Nat.mod_lt _ (by decide)⟩ (y 2) := by
  refine (left_weight m c t y).trans ?_
  rw [h]
  exact sum_weightAt m c y _ _ (Nat.div_add_mod' _ _).symm

/-- What the last point leaves of the output weight's gradient. -/
theorem last_out (c : Dev nD) (t : Fin cfg0.N) (h : t.val = 31) (y : S4x256x1024.Idx) :
    (dats m 0 c).after 13 t y = allOut (in0 m c) (in9 m c) (y 0) (y 1) (y 2) := by
  refine (left_out m c t y).trans ?_
  rw [h]
  exact sum_outAt m c y

theorem last_point {t : Fin cfg0.N} (h : t.val % 32 = 31) : t.val = 31 := by
  have h' : t.val < 32 := t.isLt
  omega

/-- The branch weights' block starts at the array's corner. -/
theorem emb12 (t : Fin cfg0.N) (y : ((cfg0.win 12).xblock (cfg0.grid.coords t)).Idx) (a : Fin win0_12.shape.rank)
    (h : win0_12.index t a = 0) :
    ((win0_12.blk t).view.emb y a : ℕ) = ((cfg0.win 12).xinj (cfg0.grid.coords t) y a : ℕ) :=
  win0_12.rect_emb_val_of_index_zero t a h y

theorem row12 (t : Fin cfg0.N) (y : ((cfg0.win 12).xblock (cfg0.grid.coords t)).Idx) :
    win0_12.index t 1 * 1024 + (y 1 : ℕ) = ((cfg0.win 12).xinj (cfg0.grid.coords t) y 1 : ℕ) :=
  ((win0_12.rect_emb_val t y 1).symm.trans (emb12 t y 1 (congrFun (index12 t) 1)) :)
theorem row_lt (z : S4x1024x256.Idx) : (z 1).val < 1024 := (z 1).isLt
theorem branch_of_row {n k : ℕ} (h : k = n) (hn : n < 1024) : n / 256 = k / 256 % 4 := by omega
theorem pos13 (n : ℕ) (h : n < 256) : n = (4 * 256 + n) % 256 := by omega

/-- The branch weights' gradient after the grid: the first 1024 rows of the carrier, the rest as it was. -/
theorem final_weight (c : Dev nD) : (dats m 0 c).arrAt 12 cfg0.N = fun i : S4x1280x256.Idx =>
    if (i 1 : ℕ) / 1024 = 0 then
      allWeight (in0 m c) (in1 m c) (in2 m c) (branches m c) (i 0)
        ⟨(i 1 : ℕ) / 256 % 4, Nat.mod_lt _ (by decide)⟩ ⟨(i 1 : ℕ) % 256, Nat.mod_lt _ (by decide)⟩ (i 2)
    else V m c main_v85_2 i := by
  refine (dats m 0 c).arrAt_eq_of_coversWhere 12 _ (fun β => β (1 : Fin _) = 0) (by decide +kernel) (fun t hf y => ?_)
    (fun j => Iff.rfl)
  blk_simp
  refine (last_weight m c t (last_point ((flush0_12 t).mp hf)) _).trans ?_
  refine at_coords₄ (allWeight (in0 m c) (in1 m c) (in2 m c) (branches m c)) ?_ ?_ ?_ ?_
  · exact (emb12 t y 0 (congrFun (index12 t) 0)).symm
  · exact branch_of_row (row12 t y) (row_lt _)
  · exact congrArg (· % 256) (row12 t y).symm
  · exact (emb12 t y 2 (congrFun (index12 t) 2)).symm

/-- The output weight's gradient after the grid: the fifth 256 rows of the carrier, the rest as it was. -/
theorem final_out (c : Dev nD) : (dats m 0 c).arrAt 13 cfg0.N = fun i : S4x1536x1024.Idx =>
    if (i 1 : ℕ) / 256 = 4 then
      allOut (in0 m c) (in9 m c) (i 0) ⟨(i 1 : ℕ) % 256, Nat.mod_lt _ (by decide)⟩ (i 2)
    else V m c main_v85_3 i := by
  refine (dats m 0 c).arrAt_eq_of_coversWhere 13 _ (fun β => β (1 : Fin _) = 4) (by decide +kernel) (fun t hf y => ?_)
    (fun j => Iff.rfl)
  blk_simp
  refine (last_out m c t (last_point ((flush0_13 t).mp hf)) y).trans ?_
  refine at_coords (allOut (in0 m c) (in9 m c)) ?_ ?_ ?_ <;> blk_simp [index13]
  exact pos13 _ (y 1).isLt

end Cert.Merge
-- ==== Proof.MergeHost.lean ====
/- What the host code hands the merge kernel, over the extended reals: the gates, the branches' products, the merged rows. -/
module

public import proofs.«01_k».proof.Proof.MergeFinal
public import Idealize.ShloMosaic.Lib.StableHlo.RunRead

@[expose] public section

set_option maxRecDepth 16384
set_option maxHeartbeats 1000000

noncomputable section

namespace Cert.Merge

open Cert.KernelIdeal Cert.KernelIdeal.Gen
open Idealize.ShloMosaic Idealize.ShloMosaic.TcCoe Idealize.ShloMosaic.Tactic
open scoped BigOperators

/-- Branch `k`'s gate: the logistic function of the row's product with the gate weight. -/
def gateOf (h : Vec Ideal S8192x1024 .bf16) (w : Vec Ideal S4x1024x1024 .bf16) (k : Fin 4) (r : Fin 8192) (d : Fin 1024) : EReal :=
  Ideal.div 1 (1 + Ideal.exp (-∑ e : Fin 1024, h (ix2 r e) * w (ix3 k e d)))

/-- The column shard a column lies in, and its place there. -/
def shardOf (d : Fin 1024) : Fin 4 := ⟨d.val / 256, Nat.div_lt_of_lt_mul d.isLt⟩
def placeOf (d : Fin 1024) : Fin 256 := ⟨d.val % 256, Nat.mod_lt _ (by decide)⟩

/-- A branch's product with its output weight, the weight in column shards. -/
def branchOf (y : Vec Ideal S8192x256 .bf16) (w : Vec Ideal S4x4x256x256 .bf16) (k : Fin 4) (r : Fin 8192) (d : Fin 1024) : EReal :=
  ∑ e : Fin 256, y (ix2 r e) * w (ix4 (shardOf d) k e (placeOf d))

/-- The gated branches added up. -/
def mergedOf (h : Vec Ideal S8192x1024 .bf16) (y0 y1 y2 y3 : Vec Ideal S8192x256 .bf16) (w : Vec Ideal S4x1024x1024 .bf16)
    (wb : Vec Ideal S4x4x256x256 .bf16) (r : Fin 8192) (d : Fin 1024) : EReal :=
  gateOf h w 0 r d * branchOf y0 wb 0 r d + gateOf h w 1 r d * branchOf y1 wb 1 r d + gateOf h w 2 r d * branchOf y2 wb 2 r d
    + gateOf h w 3 r d * branchOf y3 wb 3 r d

variable (m : (ℓ : Loc nD τ sig) → Buf (Elt Ideal) ℓ)

theorem host_gate0 (c : Dev nD) (r : Fin 8192) (d : Fin 1024) : in2 m c (ix3 (0 : Fin 4) r d) = gateOf (m ((c : Thread nD τ).loc main_arg1)) (m ((c : Thread nD τ).loc main_arg6)) 0 r d := by
  show StableHlo.after hostOps0 (fun b => m (c, b)) (Proc.devRef .tc main_v77) (ix3 (0 : Fin 4) r d) = gateOf (m ((c : Thread nD τ).loc main_arg1)) (m ((c : Thread nD τ).loc main_arg6)) 0 r d
  after_reads_simp
  try dsimp only [Matrix.cons_val]
  repeat (first | after_reads_simp | pointwise [gateOf])
  try rfl
theorem host_gate1 (c : Dev nD) (r : Fin 8192) (d : Fin 1024) : in2 m c (ix3 (1 : Fin 4) r d) = gateOf (m ((c : Thread nD τ).loc main_arg1)) (m ((c : Thread nD τ).loc main_arg6)) 1 r d := by
  show StableHlo.after hostOps0 (fun b => m (c, b)) (Proc.devRef .tc main_v77) (ix3 (1 : Fin 4) r d) = gateOf (m ((c : Thread nD τ).loc main_arg1)) (m ((c : Thread nD τ).loc main_arg6)) 1 r d
  after_reads_simp
  try dsimp only [Matrix.cons_val]
  repeat (first | after_reads_simp | pointwise [gateOf])
  try rfl
theorem host_gate2 (c : Dev nD) (r : Fin 8192) (d : Fin 1024) : in2 m c (ix3 (2 : Fin 4) r d) = gateOf (m ((c : Thread nD τ).loc main_arg1)) (m ((c : Thread nD τ).loc main_arg6)) 2 r d := by
  show StableHlo.after hostOps0 (fun b => m (c, b)) (Proc.devRef .tc main_v77) (ix3 (2 : Fin 4) r d) = gateOf (m ((c : Thread nD τ).loc main_arg1)) (m ((c : Thread nD τ).loc main_arg6)) 2 r d
  after_reads_simp
  try dsimp only [Matrix.cons_val]
  repeat (first | after_reads_simp | pointwise [gateOf])
  try rfl
theorem host_gate3 (c : Dev nD) (r : Fin 8192) (d : Fin 1024) : in2 m c (ix3 (3 : Fin 4) r d) = gateOf (m ((c : Thread nD τ).loc main_arg1)) (m ((c : Thread nD τ).loc main_arg6)) 3 r d := by
  show StableHlo.after hostOps0 (fun b => m (c, b)) (Proc.devRef .tc main_v77) (ix3 (3 : Fin 4) r d) = gateOf (m ((c : Thread nD τ).loc main_arg1)) (m ((c : Thread nD τ).loc main_arg6)) 3 r d
  after_reads_simp
  try dsimp only [Matrix.cons_val]
  repeat (first | after_reads_simp | pointwise [gateOf])
  try rfl
theorem host_branch0 (c : Dev nD) (r : Fin 8192) (d : Fin 1024) : in3 m c (ix3 (0 : Fin 4) r d) = branchOf (m ((c : Thread nD τ).loc main_arg2)) (m ((c : Thread nD τ).loc main_arg7)) 0 r d := by
  show StableHlo.after hostOps0 (fun b => m (c, b)) (Proc.devRef .tc main_v83) (ix3 (0 : Fin 4) r d) = branchOf (m ((c : Thread nD τ).loc main_arg2)) (m ((c : Thread nD τ).loc main_arg7)) 0 r d
  after_reads_simp
  try dsimp only [Matrix.cons_val]
  repeat (first | after_reads_simp | pointwise [branchOf, shardOf, placeOf])
  try rfl
theorem host_branch1 (c : Dev nD) (r : Fin 8192) (d : Fin 1024) : in3 m c (ix3 (1 : Fin 4) r d) = branchOf (m ((c : Thread nD τ).loc main_arg3)) (m ((c : Thread nD τ).loc main_arg7)) 1 r d := by
  show StableHlo.after hostOps0 (fun b => m (c, b)) (Proc.devRef .tc main_v83) (ix3 (1 : Fin 4) r d) = branchOf (m ((c : Thread nD τ).loc main_arg3)) (m ((c : Thread nD τ).loc main_arg7)) 1 r d
  after_reads_simp
  try dsimp only [Matrix.cons_val]
  repeat (first | after_reads_simp | pointwise [branchOf, shardOf, placeOf])
  try rfl
theorem host_branch2 (c : Dev nD) (r : Fin 8192) (d : Fin 1024) : in3 m c (ix3 (2 : Fin 4) r d) = branchOf (m ((c : Thread nD τ).loc main_arg4)) (m ((c : Thread nD τ).loc main_arg7)) 2 r d := by
  show StableHlo.after hostOps0 (fun b => m (c, b)) (Proc.devRef .tc main_v83) (ix3 (2 : Fin 4) r d) = branchOf (m ((c : Thread nD τ).loc main_arg4)) (m ((c : Thread nD τ).loc main_arg7)) 2 r d
  after_reads_simp
  try dsimp only [Matrix.cons_val]
  repeat (first | after_reads_simp | pointwise [branchOf, shardOf, placeOf])
  try rfl
theorem host_branch3 (c : Dev nD) (r : Fin 8192) (d : Fin 1024) : in3 m c (ix3 (3 : Fin 4) r d) = branchOf (m ((c : Thread nD τ).loc main_arg5)) (m ((c : Thread nD τ).loc main_arg7)) 3 r d := by
  show StableHlo.after hostOps0 (fun b => m (c, b)) (Proc.devRef .tc main_v83) (ix3 (3 : Fin 4) r d) = branchOf (m ((c : Thread nD τ).loc main_arg5)) (m ((c : Thread nD τ).loc main_arg7)) 3 r d
  after_reads_simp
  try dsimp only [Matrix.cons_val]
  repeat (first | after_reads_simp | pointwise [branchOf, shardOf, placeOf])
  try rfl
theorem host_merged (c : Dev nD) (r : Fin 8192) (d : Fin 1024) : in9 m c (ix2 r d) = mergedOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r d := by
  show StableHlo.after hostOps0 (fun b => m (c, b)) (Proc.devRef .tc main_v84) (ix2 r d) = mergedOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r d
  after_reads_simp
  try dsimp only [Matrix.cons_val]
  repeat (first | after_reads_simp | pointwise [mergedOf, gateOf, branchOf, shardOf, placeOf])
  try rfl

end Cert.Merge
-- ==== Proof.MergeRef.lean ====
/- The reference's results over the extended reals, element by element. -/
module

public import proofs.«01_k».proof.Proof.MergeHost
public import proofs.«01_k».proof.Proof.Gen.ReferenceIdeal.Read

@[expose] public section

set_option maxRecDepth 16384
set_option maxHeartbeats 1000000

noncomputable section

namespace Cert.Merge

open Cert.KernelIdeal
open Cert.ReferenceIdeal.Read
open Idealize.ShloMosaic Idealize.ShloMosaic.TcCoe Idealize.ShloMosaic.Tactic
open scoped BigOperators

variable (x0 : Vec Ideal S8192x1024 .f32) (x1 : Vec Ideal S8192x1024 .bf16) (x2 x3 x4 x5 : Vec Ideal S8192x256 .bf16)
  (x6 : Vec Ideal S4x1024x1024 .bf16) (x7 : Vec Ideal S4x4x256x256 .bf16) (x8 : Vec Ideal S1024x1024 .bf16)
  (x9 : Vec Ideal S4x1280x256 .f32) (x10 : Vec Ideal S4x1536x1024 .f32)

theorem ref_gate0 (r : Fin 8192) (d : Fin 1024) : val_main_v41 (F := Ideal) x1 x6 (ix2 r d) = gateOf x1 x6 0 r d := by
  pointwise [val_main_v0, val_main_v5, val_main_v6, val_main_v24, val_main_v25, val_main_v26, val_main_v27, val_main_v28, val_main_v29, val_main_v30, val_main_v31, val_main_v32, val_main_v33, val_main_v34, val_main_v35, val_main_v36, val_main_v37, val_main_cst, val_main_v38, val_main_v39, val_main_cst_0, val_main_v40, val_main_v41, val_main_cst_1, val_main_cst_2, val_main_cst_3, val_main_cst_4, val_main_cst_5, val_main_cst_6, val_main_cst_7, val_main_cst_8, val_main_cst_9, val_main_cst_10, val_main_cst_11, gateOf]
theorem ref_gate1 (r : Fin 8192) (d : Fin 1024) : val_main_v54 (F := Ideal) x1 x6 (ix2 r d) = gateOf x1 x6 1 r d := by
  pointwise [val_main_v0, val_main_v5, val_main_v6, val_main_v24, val_main_v25, val_main_v26, val_main_v27, val_main_v28, val_main_v29, val_main_v30, val_main_v31, val_main_v32, val_main_v33, val_main_v34, val_main_v35, val_main_v36, val_main_v37, val_main_cst, val_main_v38, val_main_v39, val_main_cst_0, val_main_v40, val_main_v41, val_main_cst_1, val_main_v42, val_main_v43, val_main_v44, val_main_v45, val_main_v46, val_main_cst_2, val_main_v47, val_main_v48, val_main_v49, val_main_v50, val_main_cst_3, val_main_v51, val_main_v52, val_main_cst_4, val_main_v53, val_main_v54, val_main_cst_5, val_main_cst_6, val_main_cst_7, val_main_cst_8, val_main_cst_9, val_main_cst_10, val_main_cst_11, gateOf]
theorem ref_gate2 (r : Fin 8192) (d : Fin 1024) : val_main_v66 (F := Ideal) x1 x6 (ix2 r d) = gateOf x1 x6 2 r d := by
  pointwise [val_main_v0, val_main_v5, val_main_v6, val_main_v24, val_main_v25, val_main_v26, val_main_v27, val_main_v28, val_main_v29, val_main_v30, val_main_v31, val_main_v32, val_main_v33, val_main_v34, val_main_v35, val_main_v36, val_main_v37, val_main_cst, val_main_v38, val_main_v39, val_main_cst_0, val_main_v40, val_main_v41, val_main_cst_1, val_main_v42, val_main_v43, val_main_v44, val_main_v45, val_main_v46, val_main_cst_2, val_main_v47, val_main_v48, val_main_v49, val_main_v50, val_main_cst_3, val_main_v51, val_main_v52, val_main_cst_4, val_main_v53, val_main_v54, val_main_cst_5, val_main_v55, val_main_v56, val_main_v57, val_main_v58, val_main_v59, val_main_v60, val_main_v61, val_main_v62, val_main_cst_6, val_main_v63, val_main_v64, val_main_cst_7, val_main_v65, val_main_v66, val_main_cst_8, val_main_cst_9, val_main_cst_10, val_main_cst_11, gateOf]
theorem ref_gate3 (r : Fin 8192) (d : Fin 1024) : val_main_v78 (F := Ideal) x1 x6 (ix2 r d) = gateOf x1 x6 3 r d := by
  pointwise [val_main_v0, val_main_v5, val_main_v6, val_main_v24, val_main_v25, val_main_v26, val_main_v27, val_main_v28, val_main_v29, val_main_v30, val_main_v31, val_main_v32, val_main_v33, val_main_v34, val_main_v35, val_main_v36, val_main_v37, val_main_cst, val_main_v38, val_main_v39, val_main_cst_0, val_main_v40, val_main_v41, val_main_cst_1, val_main_v42, val_main_v43, val_main_v44, val_main_v45, val_main_v46, val_main_cst_2, val_main_v47, val_main_v48, val_main_v49, val_main_v50, val_main_cst_3, val_main_v51, val_main_v52, val_main_cst_4, val_main_v53, val_main_v54, val_main_cst_5, val_main_v55, val_main_v56, val_main_v57, val_main_v58, val_main_v59, val_main_v60, val_main_v61, val_main_v62, val_main_cst_6, val_main_v63, val_main_v64, val_main_cst_7, val_main_v65, val_main_v66, val_main_cst_8, val_main_v67, val_main_v68, val_main_v69, val_main_v70, val_main_v71, val_main_v72, val_main_v73, val_main_v74, val_main_cst_9, val_main_v75, val_main_v76, val_main_cst_10, val_main_v77, val_main_v78, val_main_cst_11, gateOf]
theorem ref_branch0 (r : Fin 8192) (d : Fin 1024) : val_main_v45 (F := Ideal) x2 x7 (ix2 r d) = branchOf x2 x7 0 r d := by
  pointwise [val_main_v1, val_main_v2, val_main_v3, val_main_v4, val_main_v6, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_v45, val_main_cst_2, val_main_cst_3, val_main_cst_4, val_main_cst_5, val_main_cst_6, val_main_cst_7, val_main_cst_8, val_main_cst_9, val_main_cst_10, val_main_cst_11, branchOf, shardOf, placeOf]
theorem ref_branch1 (r : Fin 8192) (d : Fin 1024) : val_main_v58 (F := Ideal) x3 x7 (ix2 r d) = branchOf x3 x7 1 r d := by
  pointwise [val_main_v1, val_main_v2, val_main_v3, val_main_v4, val_main_v6, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_v58, val_main_cst_6, val_main_cst_7, val_main_cst_8, val_main_cst_9, val_main_cst_10, val_main_cst_11, branchOf, shardOf, placeOf]
theorem ref_branch2 (r : Fin 8192) (d : Fin 1024) : val_main_v70 (F := Ideal) x4 x7 (ix2 r d) = branchOf x4 x7 2 r d := by
  pointwise [val_main_v1, val_main_v2, val_main_v3, val_main_v4, val_main_v6, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7, val_main_cst_8, val_main_v70, val_main_cst_9, val_main_cst_10, val_main_cst_11, branchOf, shardOf, placeOf]
theorem ref_branch3 (r : Fin 8192) (d : Fin 1024) : val_main_v82 (F := Ideal) x5 x7 (ix2 r d) = branchOf x5 x7 3 r d := by
  pointwise [val_main_v1, val_main_v2, val_main_v3, val_main_v4, val_main_v6, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7, val_main_cst_8, val_main_cst_9, val_main_cst_10, val_main_cst_11, val_main_v82, branchOf, shardOf, placeOf]
theorem ref_grad (r : Fin 8192) (d : Fin 1024) : val_main_v88 (F := Ideal) x0 x8 (ix2 r d) = gradMergedAll x0 x8 r d := by
  pointwise [val_main_v7, val_main_v88, gradMergedAll]
theorem ref_merged (r : Fin 8192) (d : Fin 1024) :
    val_main_v84 (F := Ideal) x1 x2 x3 x4 x5 x6 x7 (ix2 r d) = mergedOf x1 x2 x3 x4 x5 x6 x7 r d := by
  pointwise [val_main_v48, val_main_v47, val_main_cst_11, val_main_v46, val_main_v47, val_main_v59, val_main_v60, val_main_v71, val_main_v72, val_main_v83, val_main_v84, val_main_cst, val_main_cst_2, mergedOf, ref_gate0, ref_gate1, ref_gate2, ref_gate3, ref_branch0, ref_branch1, ref_branch2, ref_branch3]
theorem ref_pre0 (r : Fin 8192) (d : Fin 1024) : val_main_v122 (F := Ideal) x0 x1 x2 x3 x4 x5 x6 x7 x8 (ix3 (0 : Fin 4) r d)
    = gradMergedAll x0 x8 r d * branchOf x2 x7 0 r d * (gateOf x1 x6 0 r d * (1 - gateOf x1 x6 0 r d)) := by
  pointwise [val_main_v117, val_main_v121, val_main_v122, val_main_v112, val_main_v108, val_main_v44, val_main_v43, val_main_v42, val_main_cst, val_main_cst_0, val_main_cst_1, val_main_cst_2, val_main_cst_3, val_main_cst_4, val_main_cst_5, val_main_cst_6, val_main_cst_7, val_main_cst_8, val_main_cst_9, val_main_cst_10, val_main_cst_11, ref_grad, ref_merged, ref_gate0, ref_gate1, ref_gate2, ref_gate3, ref_branch0, ref_branch1, ref_branch2, ref_branch3]
theorem ref_dy0 (r : Fin 8192) (i : Fin 256) : val_main_v127 (F := Ideal) x0 x1 x6 x7 x8 (ix3 (0 : Fin 4) r i)
    = ∑ d : Fin 1024, gateOf x1 x6 0 r d * gradMergedAll x0 x8 r d * x7 (ix4 (shardOf d) 0 i (placeOf d)) := by
  pointwise [val_main_v127, val_main_v123, val_main_v111, val_main_v107, val_main_v6, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7, val_main_cst_8, val_main_cst_9, val_main_cst_10, val_main_cst_11, ref_grad, ref_merged, ref_gate0, ref_gate1, ref_gate2, ref_gate3, ref_branch0, ref_branch1, ref_branch2, ref_branch3, shardOf, placeOf]
theorem ref_pre1 (r : Fin 8192) (d : Fin 1024) : val_main_v122 (F := Ideal) x0 x1 x2 x3 x4 x5 x6 x7 x8 (ix3 (1 : Fin 4) r d)
    = gradMergedAll x0 x8 r d * branchOf x3 x7 1 r d * (gateOf x1 x6 1 r d * (1 - gateOf x1 x6 1 r d)) := by
  pointwise [val_main_v118, val_main_v121, val_main_v122, val_main_v106, val_main_v102, val_main_v57, val_main_v56, val_main_v55, val_main_cst, val_main_cst_0, val_main_cst_1, val_main_cst_2, val_main_cst_3, val_main_cst_4, val_main_cst_5, val_main_cst_6, val_main_cst_7, val_main_cst_8, val_main_cst_9, val_main_cst_10, val_main_cst_11, ref_grad, ref_merged, ref_gate0, ref_gate1, ref_gate2, ref_gate3, ref_branch0, ref_branch1, ref_branch2, ref_branch3]
theorem ref_dy1 (r : Fin 8192) (i : Fin 256) : val_main_v127 (F := Ideal) x0 x1 x6 x7 x8 (ix3 (1 : Fin 4) r i)
    = ∑ d : Fin 1024, gateOf x1 x6 1 r d * gradMergedAll x0 x8 r d * x7 (ix4 (shardOf d) 1 i (placeOf d)) := by
  pointwise [val_main_v127, val_main_v124, val_main_v105, val_main_v101, val_main_v6, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7, val_main_cst_8, val_main_cst_9, val_main_cst_10, val_main_cst_11, ref_grad, ref_merged, ref_gate0, ref_gate1, ref_gate2, ref_gate3, ref_branch0, ref_branch1, ref_branch2, ref_branch3, shardOf, placeOf]
theorem ref_pre2 (r : Fin 8192) (d : Fin 1024) : val_main_v122 (F := Ideal) x0 x1 x2 x3 x4 x5 x6 x7 x8 (ix3 (2 : Fin 4) r d)
    = gradMergedAll x0 x8 r d * branchOf x4 x7 2 r d * (gateOf x1 x6 2 r d * (1 - gateOf x1 x6 2 r d)) := by
  pointwise [val_main_v119, val_main_v121, val_main_v122, val_main_v100, val_main_v96, val_main_v69, val_main_v68, val_main_v67, val_main_cst, val_main_cst_0, val_main_cst_1, val_main_cst_2, val_main_cst_3, val_main_cst_4, val_main_cst_5, val_main_cst_6, val_main_cst_7, val_main_cst_8, val_main_cst_9, val_main_cst_10, val_main_cst_11, ref_grad, ref_merged, ref_gate0, ref_gate1, ref_gate2, ref_gate3, ref_branch0, ref_branch1, ref_branch2, ref_branch3]
theorem ref_dy2 (r : Fin 8192) (i : Fin 256) : val_main_v127 (F := Ideal) x0 x1 x6 x7 x8 (ix3 (2 : Fin 4) r i)
    = ∑ d : Fin 1024, gateOf x1 x6 2 r d * gradMergedAll x0 x8 r d * x7 (ix4 (shardOf d) 2 i (placeOf d)) := by
  pointwise [val_main_v127, val_main_v125, val_main_v99, val_main_v95, val_main_v6, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7, val_main_cst_8, val_main_cst_9, val_main_cst_10, val_main_cst_11, ref_grad, ref_merged, ref_gate0, ref_gate1, ref_gate2, ref_gate3, ref_branch0, ref_branch1, ref_branch2, ref_branch3, shardOf, placeOf]
theorem ref_pre3 (r : Fin 8192) (d : Fin 1024) : val_main_v122 (F := Ideal) x0 x1 x2 x3 x4 x5 x6 x7 x8 (ix3 (3 : Fin 4) r d)
    = gradMergedAll x0 x8 r d * branchOf x5 x7 3 r d * (gateOf x1 x6 3 r d * (1 - gateOf x1 x6 3 r d)) := by
  pointwise [val_main_v120, val_main_v121, val_main_v122, val_main_v94, val_main_v90, val_main_v81, val_main_v80, val_main_v79, val_main_cst, val_main_cst_0, val_main_cst_1, val_main_cst_2, val_main_cst_3, val_main_cst_4, val_main_cst_5, val_main_cst_6, val_main_cst_7, val_main_cst_8, val_main_cst_9, val_main_cst_10, val_main_cst_11, ref_grad, ref_merged, ref_gate0, ref_gate1, ref_gate2, ref_gate3, ref_branch0, ref_branch1, ref_branch2, ref_branch3]
theorem ref_dy3 (r : Fin 8192) (i : Fin 256) : val_main_v127 (F := Ideal) x0 x1 x6 x7 x8 (ix3 (3 : Fin 4) r i)
    = ∑ d : Fin 1024, gateOf x1 x6 3 r d * gradMergedAll x0 x8 r d * x7 (ix4 (shardOf d) 3 i (placeOf d)) := by
  pointwise [val_main_v127, val_main_v126, val_main_v93, val_main_v89, val_main_v6, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7, val_main_cst_8, val_main_cst_9, val_main_cst_10, val_main_cst_11, ref_grad, ref_merged, ref_gate0, ref_gate1, ref_gate2, ref_gate3, ref_branch0, ref_branch1, ref_branch2, ref_branch3, shardOf, placeOf]
theorem ref_weight (s : Fin 4) (i : Fin 1280) (j : Fin 256) : val_main_v129 (F := Ideal) x0 x1 x2 x3 x4 x5 x6 x8 x9 (ix3 s i j)
    = if h : i.val < 1024 then
        if h0 : i.val < 256 then
          ∑ r : Fin 8192, (gateOf x1 x6 0 r (shardCol s j) * gradMergedAll x0 x8 r (shardCol s j)) * x2 (ix2 r ⟨i.val, h0⟩)
        else if h1 : i.val - 256 < 256 then
          ∑ r : Fin 8192, (gateOf x1 x6 1 r (shardCol s j) * gradMergedAll x0 x8 r (shardCol s j)) * x3 (ix2 r ⟨i.val - 256, h1⟩)
        else if h2 : i.val - 256 - 256 < 256 then
          ∑ r : Fin 8192, (gateOf x1 x6 2 r (shardCol s j) * gradMergedAll x0 x8 r (shardCol s j)) * x4 (ix2 r ⟨i.val - 256 - 256, h2⟩)
        else
          ∑ r : Fin 8192, (gateOf x1 x6 3 r (shardCol s j) * gradMergedAll x0 x8 r (shardCol s j))
            * x5 (ix2 r ⟨i.val - 256 - 256 - 256, by omega⟩)
      else x9 (ix3 s ⟨1024 + (i.val - 1024), by omega⟩ j) := by
  pointwise [val_main_v1, val_main_v2, val_main_v3, val_main_v4, val_main_cst, val_main_cst_0, val_main_cst_1, val_main_cst_2, val_main_cst_3, val_main_cst_4, val_main_cst_5, val_main_cst_6, val_main_cst_7, val_main_cst_8, val_main_cst_9, val_main_cst_10, val_main_cst_11, val_main_v86, val_main_v87, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v128, val_main_v129, ref_grad, ref_merged, ref_gate0, ref_gate1, ref_gate2, ref_gate3, ref_branch0, ref_branch1, ref_branch2, ref_branch3, shardCol]
theorem ref_out (s : Fin 4) (i : Fin 1536) (j : Fin 1024) : val_main_v132 (F := Ideal) x0 x1 x2 x3 x4 x5 x6 x7 x10 (ix3 s i j)
    = if h : i.val < 1024 then x10 (ix3 s i j)
      else if h' : i.val - 1024 < 256 then
        ∑ r : Fin 8192, x0 (ix2 r j) * mergedOf x1 x2 x3 x4 x5 x6 x7 r (shardCol s ⟨i.val - 1024, h'⟩)
      else x10 (ix3 s ⟨1280 + (i.val - 1024 - 256), by omega⟩ j) := by
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_v86, val_main_v87, val_main_v116, val_main_v130, val_main_v131, val_main_v132, ref_grad, ref_merged, ref_gate0, ref_gate1, ref_gate2, ref_gate3, ref_branch0, ref_branch1, ref_branch2, ref_branch3, shardCol]

end Cert.Merge
-- ==== Proof.MergeEq.lean ====
/- The merge kernel's results and the reference's are the same functions of the arguments. -/
module

public import proofs.«01_k».proof.Proof.MergeRef

@[expose] public section

set_option maxRecDepth 16384

noncomputable section

namespace Cert.Merge

open Cert.KernelIdeal
open Cert.ReferenceIdeal.Read
open Idealize.ShloMosaic Idealize.ShloMosaic.TcCoe Idealize.ShloMosaic.Tactic
open scoped BigOperators

variable (x0 : Vec Ideal S8192x1024 .f32) (x1 : Vec Ideal S8192x1024 .bf16) (x2 x3 x4 x5 : Vec Ideal S8192x256 .bf16)
  (x6 : Vec Ideal S4x1024x1024 .bf16) (x7 : Vec Ideal S4x4x256x256 .bf16) (x8 : Vec Ideal S1024x1024 .bf16)
  (x9 : Vec Ideal S4x1280x256 .f32) (x10 : Vec Ideal S4x1536x1024 .f32)
  (X2 X3 : Vec Ideal S4x8192x1024 .bf16) (X9 : Vec Ideal S8192x1024 .bf16)

/-- An index of three axes is its coordinates. -/
theorem ix3_eta {a b d : ℕ} (i : (⟨3, ![a, b, d]⟩ : Shape).Idx) : ix3 (i 0) (i 1) (i 2) = i :=
  funext fun k => by fin_cases k <;> rfl

variable (hg : ∀ k r d, X2 (ix3 k r d) = gateOf x1 x6 k r d)

include hg in
theorem gate_eq (hb0 : ∀ r d, X3 (ix3 (0 : Fin 4) r d) = branchOf x2 x7 0 r d) (hb1 : ∀ r d, X3 (ix3 (1 : Fin 4) r d) = branchOf x3 x7 1 r d)
    (hb2 : ∀ r d, X3 (ix3 (2 : Fin 4) r d) = branchOf x4 x7 2 r d) (hb3 : ∀ r d, X3 (ix3 (3 : Fin 4) r d) = branchOf x5 x7 3 r d)
    (k : Fin 4) (r : Fin 8192) (d : Fin 1024) :
    allGate x0 x8 X2 X3 k r d = val_main_v122 (F := Ideal) x0 x1 x2 x3 x4 x5 x6 x7 x8 (ix3 k r d) := by
  unfold allGate
  match k with
  | 0 => rw [hg, hb0, ref_pre0, mul_assoc (_ * _)]
  | 1 => rw [hg, hb1, ref_pre1, mul_assoc (_ * _)]
  | 2 => rw [hg, hb2, ref_pre2, mul_assoc (_ * _)]
  | 3 => rw [hg, hb3, ref_pre3, mul_assoc (_ * _)]

theorem shardOf_tile (s : Fin 4) (j : Fin 256) : shardOf (shardCol s j) = s :=
  Fin.ext (by show (s.val * 256 + j.val) / 256 = s.val; omega)

theorem placeOf_tile (s : Fin 4) (j : Fin 256) : placeOf (shardCol s j) = j :=
  Fin.ext (by show (s.val * 256 + j.val) % 256 = j.val; omega)

include hg in
/-- The sum over the columns, shard by shard. -/
theorem branch_sum (k : Fin 4) (r : Fin 8192) (i : Fin 256) :
    allBranch x0 x8 X2 x7 k r i
      = ∑ d : Fin 1024, gateOf x1 x6 k r d * gradMergedAll x0 x8 r d * x7 (ix4 (shardOf d) k i (placeOf d)) := by
  unfold allBranch allBranchPart gradBranchAll
  rw [Fin.sum_univ_tiles 4 256 rfl]
  refine Finset.sum_congr rfl fun s _ => Finset.sum_congr rfl fun j _ => ?_
  show _ = gateOf x1 x6 k r (shardCol s j) * gradMergedAll x0 x8 r (shardCol s j)
    * x7 (ix4 (shardOf (shardCol s j)) k i (placeOf (shardCol s j)))
  rw [shardOf_tile, placeOf_tile, hg, mul_comm (gateOf _ _ _ _ _)]

include hg in
theorem branch_eq (k : Fin 4) (r : Fin 8192) (i : Fin 256) :
    allBranch x0 x8 X2 x7 k r i = val_main_v127 (F := Ideal) x0 x1 x6 x7 x8 (ix3 k r i) := by
  rw [branch_sum x0 x1 x6 x7 x8 X2 hg]
  match k with
  | 0 => rw [ref_dy0]
  | 1 => rw [ref_dy1]
  | 2 => rw [ref_dy2]
  | 3 => rw [ref_dy3]

include hg in
/-- One branch's weight gradient in the reference's order of factors. -/
theorem weight_sum (Y : Fin 4 → Vec Ideal S8192x256 .bf16) (s k : Fin 4) (i j : Fin 256) :
    allWeight x0 x8 X2 Y s k i j
      = ∑ r : Fin 8192, (gateOf x1 x6 k r (shardCol s j) * gradMergedAll x0 x8 r (shardCol s j)) * Y k (ix2 r i) := by
  unfold allWeight gradBranchAll
  refine Finset.sum_congr rfl fun r _ => ?_
  rw [hg, mul_comm (Y k _), mul_comm (gradMergedAll _ _ _ _)]

theorem at_branch {n : ℕ} (k : Fin 4) (i : Fin 256) (h : n = k.val * 256 + i.val)
    (h4 : n / 256 % 4 < 4) (h6 : n % 256 < 256) : (⟨n / 256 % 4, h4⟩ : Fin 4) = k ∧ (⟨n % 256, h6⟩ : Fin 256) = i :=
  ⟨Fin.ext (by show n / 256 % 4 = k.val; omega), Fin.ext (by show n % 256 = i.val; omega)⟩

include hg in
theorem weight_eq (s : Fin 4) (i : Fin 1280) (j : Fin 256) :
    (if i.val / 1024 = 0 then
      allWeight x0 x8 X2 ![x2, x3, x4, x5] s ⟨i.val / 256 % 4, Nat.mod_lt _ (by decide)⟩ ⟨i.val % 256, Nat.mod_lt _ (by decide)⟩ j
      else x9 (ix3 s i j))
      = val_main_v129 (F := Ideal) x0 x1 x2 x3 x4 x5 x6 x8 x9 (ix3 s i j) := by
  rw [ref_weight, weight_sum x0 x1 x6 x8 X2 hg]
  by_cases h : i.val < 1024
  · rw [if_pos (by omega), dif_pos h]
    by_cases h0 : i.val < 256
    · obtain ⟨ek, ei⟩ := at_branch (n := i.val) 0 ⟨i.val, h0⟩ (by show _ = 0 * 256 + i.val; omega) (Nat.mod_lt _ (by decide)) (Nat.mod_lt _ (by decide))
      rw [dif_pos h0, ek, ei]
      rfl
    · rw [dif_neg h0]
      by_cases h1 : i.val - 256 < 256
      · obtain ⟨ek, ei⟩ := at_branch (n := i.val) 1 ⟨i.val - 256, h1⟩ (by show _ = 1 * 256 + (i.val - 256); omega) (Nat.mod_lt _ (by decide)) (Nat.mod_lt _ (by decide))
        rw [dif_pos h1, ek, ei]
        rfl
      · rw [dif_neg h1]
        by_cases h2 : i.val - 256 - 256 < 256
        · obtain ⟨ek, ei⟩ := at_branch (n := i.val) 2 ⟨i.val - 256 - 256, h2⟩ (by show _ = 2 * 256 + (i.val - 256 - 256); omega) (Nat.mod_lt _ (by decide)) (Nat.mod_lt _ (by decide))
          rw [dif_pos h2, ek, ei]
          rfl
        · obtain ⟨ek, ei⟩ := at_branch (n := i.val) 3 ⟨i.val - 256 - 256 - 256, by omega⟩ (by show _ = 3 * 256 + (i.val - 256 - 256 - 256); omega) (Nat.mod_lt _ (by decide)) (Nat.mod_lt _ (by decide))
          rw [dif_neg h2, ek, ei]
          rfl
  · rw [if_neg (by omega), dif_neg h]
    exact congrArg (fun q => x9 (ix3 s q j)) (Fin.ext (by show i.val = 1024 + (i.val - 1024); omega))

theorem out_eq (hm : ∀ r d, X9 (ix2 r d) = mergedOf x1 x2 x3 x4 x5 x6 x7 r d) (s : Fin 4) (i : Fin 1536) (j : Fin 1024) :
    (if i.val / 256 = 4 then allOut x0 X9 s ⟨i.val % 256, Nat.mod_lt _ (by decide)⟩ j else x10 (ix3 s i j))
      = val_main_v132 (F := Ideal) x0 x1 x2 x3 x4 x5 x6 x7 x10 (ix3 s i j) := by
  rw [ref_out]
  by_cases h : i.val < 1024
  · rw [if_neg (by omega), dif_pos h]
  · rw [dif_neg h]
    by_cases h' : i.val - 1024 < 256
    · have e : (⟨i.val % 256, Nat.mod_lt _ (by decide)⟩ : Fin 256) = ⟨i.val - 1024, h'⟩ := Fin.ext (by show i.val % 256 = i.val - 1024; omega)
      rw [if_pos (by omega), dif_pos h', e]
      unfold allOut
      refine Finset.sum_congr rfl fun r _ => ?_
      rw [hm, mul_comm]
    · rw [if_neg (by omega), dif_neg h']
      exact congrArg (fun q => x10 (ix3 s q j)) (Fin.ext (by show i.val = 1280 + (i.val - 1024 - 256); omega))

end Cert.Merge
-- ==== Proof.MergeValue.lean ====
/- The merge kernel's run reads: each result buffer ends at the reference's function of the launch arguments. -/
module

public import proofs.«01_k».proof.Proof.MergeFinal
public import proofs.«01_k».proof.Proof.MergeEq

@[expose] public section

set_option maxRecDepth 16384

noncomputable section

namespace Cert.Merge

open Cert.KernelIdeal Cert.KernelIdeal.Gen
open Cert.ReferenceIdeal.Read
open Idealize.ShloMosaic Idealize.ShloMosaic.TcCoe Idealize.ShloMosaic.Tactic Idealize.SL.Sem
open scoped BigOperators

variable (m : (ℓ : Loc nD τ sig) → Buf (Elt Ideal) ℓ) (c : Dev nD)

/-! ## The kernel's input arrays that are arguments, and the entry contents of its two aliased results -/

/-- Argument `k` of the launch on device `c`. -/
def arg0 : Vec Ideal S8192x1024 .f32 := m ((c : Thread nD τ).loc main_arg0)
def arg1 : Vec Ideal S8192x1024 .bf16 := m ((c : Thread nD τ).loc main_arg1)
def arg2 : Vec Ideal S8192x256 .bf16 := m ((c : Thread nD τ).loc main_arg2)
def arg3 : Vec Ideal S8192x256 .bf16 := m ((c : Thread nD τ).loc main_arg3)
def arg4 : Vec Ideal S8192x256 .bf16 := m ((c : Thread nD τ).loc main_arg4)
def arg5 : Vec Ideal S8192x256 .bf16 := m ((c : Thread nD τ).loc main_arg5)
def arg6 : Vec Ideal S4x1024x1024 .bf16 := m ((c : Thread nD τ).loc main_arg6)
def arg7 : Vec Ideal S4x4x256x256 .bf16 := m ((c : Thread nD τ).loc main_arg7)
def arg8 : Vec Ideal S1024x1024 .bf16 := m ((c : Thread nD τ).loc main_arg8)
def arg9 : Vec Ideal S4x1280x256 .f32 := m ((c : Thread nD τ).loc main_arg9)
def arg10 : Vec Ideal S4x1536x1024 .f32 := m ((c : Thread nD τ).loc main_arg10)

theorem in0_eq : in0 m c = arg0 m c := V_main_arg0 m c
theorem in1_eq : in1 m c = arg8 m c := V_main_arg8 m c
theorem in4_eq : in4 m c = arg7 m c := V_main_arg7 m c
theorem branches_eq : branches m c = ![arg2 m c, arg3 m c, arg4 m c, arg5 m c] := by
  have e5 : in5 m c = arg2 m c := V_main_arg2 m c
  have e6 : in6 m c = arg3 m c := V_main_arg3 m c
  have e7 : in7 m c = arg4 m c := V_main_arg4 m c
  have e8 : in8 m c = arg5 m c := V_main_arg5 m c
  unfold branches
  rw [e5, e6, e7, e8]

theorem entry_weight : V m c main_v85_2 = arg9 m c := by
  show StableHlo.after hostOps0 (fun b => m (c, b)) (Proc.devRef .tc main_v85_2) = _
  after_reads_simp
  rfl

theorem entry_out : V m c main_v85_3 = arg10 m c := by
  show StableHlo.after hostOps0 (fun b => m (c, b)) (Proc.devRef .tc main_v85_3) = _
  after_reads_simp
  rfl

/-! ## The reference's functions of the arguments -/

def wantGate : Vec Ideal S4x8192x1024 .bf16 :=
  val_main_v122 (F := Ideal) (arg0 m c) (arg1 m c) (arg2 m c) (arg3 m c) (arg4 m c) (arg5 m c) (arg6 m c) (arg7 m c) (arg8 m c)
def wantBranch : Vec Ideal S4x8192x256 .f32 :=
  val_main_v127 (F := Ideal) (arg0 m c) (arg1 m c) (arg6 m c) (arg7 m c) (arg8 m c)
def wantWeight : Vec Ideal S4x1280x256 .f32 :=
  val_main_v129 (F := Ideal) (arg0 m c) (arg1 m c) (arg2 m c) (arg3 m c) (arg4 m c) (arg5 m c) (arg6 m c) (arg8 m c) (arg9 m c)
def wantOut : Vec Ideal S4x1536x1024 .f32 :=
  val_main_v132 (F := Ideal) (arg0 m c) (arg1 m c) (arg2 m c) (arg3 m c) (arg4 m c) (arg5 m c) (arg6 m c) (arg7 m c) (arg10 m c)

attribute [local irreducible] in0 in1 in2 in3 in4 in5 in6 in7 in8 in9 branches
  arg0 arg1 arg2 arg3 arg4 arg5 arg6 arg7 arg8 arg9 arg10 val_main_v122 val_main_v127 val_main_v129 val_main_v132

theorem gate_in (k : Fin 4) (r : Fin 8192) (d : Fin 1024) : in2 m c (ix3 k r d) = gateOf (arg1 m c) (arg6 m c) k r d := by
  have h0 := host_gate0 m c r d
  have h1 := host_gate1 m c r d
  have h2 := host_gate2 m c r d
  have h3 := host_gate3 m c r d
  unfold arg1 arg6
  match k with
  | 0 => exact h0
  | 1 => exact h1
  | 2 => exact h2
  | 3 => exact h3

theorem branch0_in (r : Fin 8192) (d : Fin 1024) : in3 m c (ix3 (0 : Fin 4) r d) = branchOf (arg2 m c) (arg7 m c) 0 r d := by
  unfold arg2 arg7
  exact host_branch0 m c r d
theorem branch1_in (r : Fin 8192) (d : Fin 1024) : in3 m c (ix3 (1 : Fin 4) r d) = branchOf (arg3 m c) (arg7 m c) 1 r d := by
  unfold arg3 arg7
  exact host_branch1 m c r d
theorem branch2_in (r : Fin 8192) (d : Fin 1024) : in3 m c (ix3 (2 : Fin 4) r d) = branchOf (arg4 m c) (arg7 m c) 2 r d := by
  unfold arg4 arg7
  exact host_branch2 m c r d
theorem branch3_in (r : Fin 8192) (d : Fin 1024) : in3 m c (ix3 (3 : Fin 4) r d) = branchOf (arg5 m c) (arg7 m c) 3 r d := by
  unfold arg5 arg7
  exact host_branch3 m c r d
theorem merged_in (r : Fin 8192) (d : Fin 1024) :
    in9 m c (ix2 r d) = mergedOf (arg1 m c) (arg2 m c) (arg3 m c) (arg4 m c) (arg5 m c) (arg6 m c) (arg7 m c) r d := by
  unfold arg1 arg2 arg3 arg4 arg5 arg6 arg7
  exact host_merged m c r d

/-! ## The final arrays -/

theorem array_gate : (dats m 0 c).arrAt 10 cfg0.N = wantGate m c := by
  rw [final_gate, in0_eq, in1_eq]
  funext i
  refine (gate_eq (arg0 m c) (arg1 m c) (arg2 m c) (arg3 m c) (arg4 m c) (arg5 m c) (arg6 m c) (arg7 m c) (arg8 m c) (in2 m c) (in3 m c)
    (gate_in m c) (branch0_in m c) (branch1_in m c) (branch2_in m c) (branch3_in m c) (i 0) (i 1) (i 2)).trans ?_
  exact congrArg (wantGate m c) (ix3_eta i)

theorem array_branch : (dats m 0 c).arrAt 11 cfg0.N = wantBranch m c := by
  rw [final_branch, in0_eq, in1_eq, in4_eq]
  funext i
  refine (branch_eq (arg0 m c) (arg1 m c) (arg6 m c) (arg7 m c) (arg8 m c) (in2 m c) (gate_in m c) (i 0) (i 1) (i 2)).trans ?_
  exact congrArg (wantBranch m c) (ix3_eta i)

theorem array_weight : (dats m 0 c).arrAt 12 cfg0.N = wantWeight m c := by
  rw [final_weight, in0_eq, in1_eq, branches_eq, entry_weight]
  funext i
  refine Eq.trans ?_ ((weight_eq (arg0 m c) (arg1 m c) (arg2 m c) (arg3 m c) (arg4 m c) (arg5 m c) (arg6 m c) (arg8 m c) (arg9 m c) (in2 m c)
    (gate_in m c) (i 0) (i 1) (i 2)).trans (congrArg (wantWeight m c) (ix3_eta i)))
  exact congrArg (fun q => ite _ _ q) (congrArg (arg9 m c) (ix3_eta i).symm)

theorem array_out : (dats m 0 c).arrAt 13 cfg0.N = wantOut m c := by
  rw [final_out, in0_eq, entry_out]
  funext i
  refine Eq.trans ?_ ((out_eq (arg0 m c) (arg1 m c) (arg2 m c) (arg3 m c) (arg4 m c) (arg5 m c) (arg6 m c) (arg7 m c) (arg10 m c) (in9 m c)
    (merged_in m c) (i 0) (i 1) (i 2)).trans (congrArg (wantOut m c) (ix3_eta i)))
  exact congrArg (fun q => ite _ _ q) (congrArg (arg10 m c) (ix3_eta i).symm)

/-- The merge kernel's run: its four results are the reference's functions of the arguments, which end as launched. -/
theorem run_value (ρ : Dev nD → PrngReg) : θ_run defs (onTc (τ := τ) (main (F := Ideal))) ⟨m, fun _ => 0, ρ⟩ fun r => ∀ c : Dev nD,
      r.2.mem ((c.tc : Thread nD τ).loc main_v85_0) = wantGate m c
      ∧ r.2.mem ((c.tc : Thread nD τ).loc main_v85_1) = wantBranch m c
      ∧ r.2.mem ((c.tc : Thread nD τ).loc main_v85_2) = wantWeight m c
      ∧ r.2.mem ((c.tc : Thread nD τ).loc main_v85_3) = wantOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h => fun c => ⟨h.1.1 c |>.1, h.1.1 c |>.2.1, h.1.1 c |>.2.2.1, h.1.1 c |>.2.2.2, h.2.1 c⟩)
    (θ_run_and ((θ_run defs _ _).mono (fun r h => (⟨fun c => ⟨((h c).1 10).trans (array_gate m c), ((h c).1 11).trans (array_branch m c),
      ((h c).1 12).trans (array_weight m c), ((h c).1 13).trans (array_out m c)⟩, trivial⟩ : (∀ c : Dev nD,
        r.2.mem ((c.tc : Thread nD τ).loc main_v85_0) = wantGate m c
        ∧ r.2.mem ((c.tc : Thread nD τ).loc main_v85_1) = wantBranch m c
        ∧ r.2.mem ((c.tc : Thread nD τ).loc main_v85_2) = wantWeight m c
        ∧ r.2.mem ((c.tc : Thread nD τ).loc main_v85_3) = wantOut m c) ∧ True)) (run_arrays m ρ)) (frame m ρ))

end Cert.Merge
-- ==== Proof.TokenSum.lean ====
/- Sums over all tokens built up tile by tile: a weight gradient's kernel visits eight tiles of 1024 tokens in turn and
   adds each tile's part to what its output block holds. -/
module

public import Idealize.ShloMosaic.Lib.Pipeline.Value
public import Idealize.ShloMosaic.Lib.Pointwise

@[expose] public section

namespace Cert.TokenSum

open Idealize.ShloMosaic
open scoped BigOperators

/-- Row `r` of the tile that point `u` takes, among all tokens; a run of eight consecutive points takes all tiles. -/
def rowAt (u : ℕ) (r : Fin 1024) : Fin 8192 := ⟨u % 8 * 1024 + r.val, by omega⟩

theorem rowAt_run (q : ℕ) (u : Fin 8) (r : Fin 1024) : rowAt (8 * q + u.val) r = ⟨u.val * 1024 + r.val, by omega⟩ :=
  Fin.ext (by show (8 * q + u.val) % 8 * 1024 + r.val = u.val * 1024 + r.val; omega)

/-- The tiles' sums, added up over a run of eight points, are the sum over all tokens. -/
theorem sum_tiles (f : Fin 8192 → EReal) (q : ℕ) :
    ∑ s ∈ Finset.range 8, ∑ r : Fin 1024, f (rowAt (8 * q + s) r) = ∑ t : Fin 8192, f t := by
  rw [Finset.sum_range, Fin.sum_univ_tiles 8 1024 rfl]
  exact Finset.sum_congr rfl fun u _ => Finset.sum_congr rfl fun r _ => congrArg f (rowAt_run q u r)

/-- A block that starts run `q` with its first tile's part and gains a tile's part at each later point ends the run with
    the sum over all tokens; `f q y t` is what token `t` adds at element `y`. -/
theorem fold_eq {N : ℕ} {ι : Type*} (start : (n : ℕ) → n < N → ι → EReal) (step : (n : ℕ) → n < N → (ι → EReal) → ι → EReal)
    (f : ℕ → ι → Fin 8192 → EReal) (hstart : ∀ n h y, start n h y = 0 + ∑ r : Fin 1024, f (n / 8) y (rowAt n r))
    (hstep : ∀ n h acc y, step n h acc y = acc y + ∑ r : Fin 1024, f (n / 8) y (rowAt n r))
    (q : ℕ) (h : 8 * q + 7 < N) (y : ι) :
    Pipeline.accAt start step (8 * q) 7 h y = ∑ t : Fin 8192, f q y t := by
  rw [Pipeline.accAt_add_apply start step (fun _ => 0) (fun n y => ∑ r : Fin 1024, f (n / 8) y (rowAt n r)) (8 * q) 7
    (fun h y => hstart _ h y) (fun n h acc y _ _ => hstep n h acc y) 7 le_rfl h y, zero_add, ← sum_tiles (f q y) q]
  refine Finset.sum_congr rfl fun s hs => ?_
  have hq : (8 * q + s) / 8 = q := by have := Finset.mem_range.mp hs; omega
  rw [hq]

/-- A load from a whole buffer that holds `x` reads `x` where the loaded rectangle lies. -/
theorem load_apply {sig : RefSig} {κ : Kind} {sp : Space} {S : Shape} {e : EltTy} {F : FTy → Type} [FloatOps F] (a : Memref sig κ sp S e)
    (h : a.IsWhole) (x : Vec F S e) (B : LoadRect S) (j : B.shape.Idx) :
    a.view.readAt (Elt F) B (h.unread x) j = x (B.idx j) := by
  rw [View.readAt_apply, h.read_unread]

/-- Where a rectangle places an index of its own. -/
theorem emb_eq_idx {S : Shape} (r : Rect S) (x : r.shape.Idx) : r.emb x = r.toLoadRect.idx x := rfl

/-- A function of three coordinates depends on their values only. -/
theorem at_coords {a b d : ℕ} (f : Fin a → Fin b → Fin d → EReal) {i i' : Fin a} {j j' : Fin b} {k k' : Fin d}
    (hi : i.val = i'.val) (hj : j.val = j'.val) (hk : k.val = k'.val) : f i j k = f i' j' k' := by
  rw [Fin.ext hi, Fin.ext hj, Fin.ext hk]

end Cert.TokenSum
-- ==== Proof.FfnInWeight.lean ====
/- The gradient of the feed-forward input weight: what the `dw_ffn_in` kernel leaves in its output array, over the
   extended reals, and that it is the reference's. -/
module

public import proofs.«01_k».proof.Proof.Gen.Kernel2Ideal.Value
public import proofs.«01_k».proof.Proof.Gen.Reference2Ideal.Run
public import proofs.«01_k».proof.Proof.Gen.Reference2Ideal.Read
public import proofs.«01_k».proof.Proof.TokenSum
public import Idealize.ShloMosaic.Lib.Pipeline.ValueKit.Partial
public import Idealize.ShloMosaic.Lib.Pointwise

@[expose] public section

set_option maxRecDepth 16384

noncomputable section

namespace Cert.FfnInWeight

open Cert.Kernel2Ideal Cert.Kernel2Ideal.Gen Cert.Kernel2Ideal.Value
open Cert.Reference2Ideal.Read
open Cert.TokenSum (rowAt)
open Idealize.ShloMosaic Idealize.ShloMosaic.TcCoe Idealize.ShloMosaic.Tactic Idealize.SL.Sem
open scoped BigOperators

/-- Column `j` of the column shard `s` in its half of the gate and up projections. -/
def halfCol (s : Fin 4) (j : Fin 1408) : Fin 2816 := ⟨s.val % 2 * 1408 + j.val, by omega⟩
/-- The half that the column shard `s` lies in. -/
def halfOf (s : Fin 4) : Fin 2 := ⟨s.val / 2, by omega⟩

/-- The gradient: each token's row of `h2` against its row of the projections' gradient. -/
def gradOf (h : Vec Ideal S8192x1024 .bf16) (d : Vec Ideal S2x8192x2816 .bf16) (s : Fin 4) (i : Fin 1024) (j : Fin 1408) : EReal :=
  ∑ t : Fin 8192, h (ix2 t i) * d (ix3 (halfOf s) t (halfCol s j))

/-- One point adds its tile's products to what the block holds. -/
theorem step_apply (x : Vec Ideal S1024x1024 .bf16) (y : Vec Ideal S1x1024x1408 .bf16) (z : Vec Ideal S1x1024x1408 .f32)
    (k : Fin 1) (i : Fin 1024) (j : Fin 1408) :
    k0_pay2 x y z (ix3 k i j) = z (ix3 k i j) + ∑ r : Fin 1024, x (ix2 r i) * y (ix3 k r j) := by
  obtain rfl : k = 0 := Subsingleton.elim _ _
  pointwise [k0_pay2]

theorem start_apply (y : S1x1024x1408.Idx) : k0_pay1 (F := Ideal) y = 0 := by
  pointwise [k0_pay1]

theorem index0 : ∀ t : Fin cfg0.N, win0_0.index t = ![t.val % 8, 0] := (by decide +kernel : ∀ t : Fin grid0.N, win0_0.index t = ![t.val % 8, 0])
theorem index1 : ∀ t : Fin cfg0.N, win0_1.index t = ![t.val / 8 / 2, t.val % 8, t.val / 8 % 2] :=
  (by decide +kernel : ∀ t : Fin grid0.N, win0_1.index t = ![t.val / 8 / 2, t.val % 8, t.val / 8 % 2])

variable (m : (ℓ : Loc nD τ sig) → Buf (Elt Ideal) ℓ)

/-- The tokens' rows as the region finds them. -/
def rows (c : Dev nD) : Vec Ideal S8192x1024 .bf16 := V m c main_arg0
/-- The projections' gradient as the region finds it. -/
def grads (c : Dev nD) : Vec Ideal S2x8192x2816 .bf16 := V m c main_arg1
def rowsTile (c : Dev nD) (t : Fin cfg0.N) : Vec Ideal S1024x1024 .bf16 := iblk m c 0 t
def gradsTile (c : Dev nD) (t : Fin cfg0.N) : Vec Ideal S1x1024x1408 .bf16 := iblk m c 1 t

/-- The column shard of run `q`. -/
def shardAt (q : ℕ) : Fin 4 := ⟨q % 4, by omega⟩

theorem rowsTile_apply (c : Dev nD) (t : Fin cfg0.N) (r i : Fin 1024) :
    rowsTile m c t (ix2 r i) = rows m c (ix2 (rowAt t.val r) i) := by
  show iblk m c 0 t (ix2 r i) = V m c main_arg0 (ix2 (rowAt t.val r) i)
  blk_ext [iblk, index0, rowAt]

theorem gradsTile_apply (c : Dev nD) (t : Fin cfg0.N) (k : Fin 1) (r : Fin 1024) (j : Fin 1408) :
    gradsTile m c t (ix3 k r j) = grads m c (ix3 (halfOf (shardAt (t.val / 8))) (rowAt t.val r) (halfCol (shardAt (t.val / 8)) j)) := by
  have ht : t.val < 32 := t.isLt
  have e1 : t.val / 8 % 4 / 2 = t.val / 8 / 2 := by omega
  have e2 : t.val / 8 % 4 % 2 = t.val / 8 % 2 := by omega
  show iblk m c 1 t (ix3 k r j) = V m c main_arg1 (ix3 (halfOf (shardAt (t.val / 8))) (rowAt t.val r) (halfCol (shardAt (t.val / 8)) j))
  blk_ext [iblk, index1, rowAt, halfOf, halfCol, shardAt, e1, e2]

theorem step_tiles (c : Dev nD) (n : ℕ) (h : n < cfg0.N) (acc : Vec Ideal S1x1024x1408 .f32) :
    step2 m c n h acc = k0_pay2 (rowsTile m c ⟨n, h⟩) (gradsTile m c ⟨n, h⟩) acc := rfl

/-- The reference's result at the kernel's arguments. -/
def want (c : Dev nD) : Vec Ideal S4x1024x1408 .f32 :=
  val_main_v12 (F := Ideal) (m ((c.tc : Thread nD τ).loc main_arg0)) (m ((c.tc : Thread nD τ).loc main_arg1))

theorem want_eq (c : Dev nD) : want m c = val_main_v12 (F := Ideal) (rows m c) (grads m c) := by
  show val_main_v12 (F := Ideal) _ _ = val_main_v12 (F := Ideal) (V m c main_arg0) (V m c main_arg1)
  rw [V_main_arg0, V_main_arg1]

attribute [local irreducible] rows grads rowsTile gradsTile iblk

/-- What token `t` adds at an element of run `q`'s block. -/
def addend (c : Dev nD) (q : ℕ) (y : S1x1024x1408.Idx) (t : Fin 8192) : EReal :=
  rows m c (ix2 t (y 1)) * grads m c (ix3 (halfOf (shardAt q)) t (halfCol (shardAt q) (y 2)))

theorem step_eq (c : Dev nD) (n : ℕ) (h : n < cfg0.N) (acc : Vec Ideal S1x1024x1408 .f32) (y : S1x1024x1408.Idx) :
    step2 m c n h acc y = acc y + ∑ r : Fin 1024, addend m c (n / 8) y (rowAt n r) := by
  obtain ⟨k, i, j, rfl⟩ : ∃ k i j, y = ix3 k i j := ⟨y 0, y 1, y 2, funext fun a => by fin_cases a <;> rfl⟩
  rw [step_tiles, step_apply]
  refine congrArg (_ + ·) (Finset.sum_congr rfl fun r _ => ?_)
  rw [rowsTile_apply, gradsTile_apply]
  rfl

theorem reset_eq (c : Dev nD) (n : ℕ) (h : n < cfg0.N) (y : S1x1024x1408.Idx) :
    reset2 m c n h y = 0 + ∑ r : Fin 1024, addend m c (n / 8) y (rowAt n r) := by
  rw [← start_apply y]
  exact step_eq m c n h (k0_pay1 (F := Ideal)) y

/-- The array after the run. -/
theorem final_eq (c : Dev nD) (s : Fin 4) (i : Fin 1024) (j : Fin 1408) :
    G2 m c (ix3 s i j) = gradOf (rows m c) (grads m c) s i j := by
  have hrun : run2Of (ix3 s i j) = s.val := by
    show 1 * (s.val / 1 - 0) + 1 * (i.val / 1024 - 0) + 1 * (j.val / 1408 - 0) = s.val
    omega
  have hN : cfg0.N = 32 := N_0
  have hlt : 8 * run2Of (ix3 s i j) + 7 < cfg0.N := by rw [hrun, hN]; omega
  unfold G2
  rw [dif_pos hlt]
  refine (TokenSum.fold_eq (N := cfg0.N) (ι := S1x1024x1408.Idx) (reset2 m c) (step2 m c) (addend m c)
    (reset_eq m c) (step_eq m c) (run2Of (ix3 s i j)) hlt _).trans ?_
  have hs : shardAt (run2Of (ix3 s i j)) = s := Fin.ext (by show run2Of (ix3 s i j) % 4 = s.val; rw [hrun]; omega)
  have h1 : loc2Of (ix3 s i j) 1 = i := Fin.ext (Nat.mod_eq_of_lt i.isLt)
  have h2 : loc2Of (ix3 s i j) 2 = j := Fin.ext (Nat.mod_eq_of_lt j.isLt)
  unfold gradOf addend
  rw [hs, h1, h2]

/-- The reference's result is that function of its arguments. -/
theorem reference_eq (x0 : Vec Ideal S8192x1024 .bf16) (x1 : Vec Ideal S2x8192x2816 .bf16) (s : Fin 4) (i : Fin 1024) (j : Fin 1408) :
    val_main_v12 (F := Ideal) x0 x1 (ix3 s i j) = gradOf x0 x1 s i j := by
  have hs : s.val * 1408 + j.val < 2816 ∧ s.val / 2 = 0 ∨ ¬s.val * 1408 + j.val < 2816 ∧ s.val / 2 = 1 := by omega
  rcases hs with ⟨h, h2⟩ | ⟨h, h2⟩
  · have hh : (⟨s.val / 2, by omega⟩ : Fin 2) = 0 := Fin.ext h2
    have hc : s.val % 2 * 1408 + j.val = s.val * 1408 + j.val := by omega
    pointwise [val_main_v0, val_main_v1, val_main_v2, val_main_v3, val_main_v4, val_main_v5, val_main_v6, val_main_v9, val_main_v10, val_main_v11, val_main_v12, gradOf, halfOf, halfCol, h, hh, hc]
    exact Finset.sum_congr rfl fun t _ => mul_comm _ _
  · have hh : (⟨s.val / 2, by omega⟩ : Fin 2) = 1 := Fin.ext h2
    have hc : s.val % 2 * 1408 + j.val = s.val * 1408 + j.val - 2816 := by omega
    pointwise [val_main_v0, val_main_v1, val_main_v2, val_main_v3, val_main_v4, val_main_v5, val_main_v6, val_main_v9, val_main_v10, val_main_v11, val_main_v12, gradOf, halfOf, halfCol, h, hh, hc]
    exact Finset.sum_congr rfl fun t _ => mul_comm _ _

theorem array_eq (c : Dev nD) : G2 m c = want m c := by
  rw [want_eq]
  funext i
  obtain ⟨s, k, j, rfl⟩ : ∃ s k j, i = ix3 s k j := ⟨i 0, i 1, i 2, funext fun a => by fin_cases a <;> rfl⟩
  rw [final_eq]
  exact (reference_eq _ _ s k j).symm

/-- The kernel's run: its result is the reference's function of the arguments, which end as launched. -/
theorem run_value (ρ : Dev nD → PrngReg) : θ_run defs (onTc (τ := τ) (main (F := Ideal))) ⟨m, fun _ => 0, ρ⟩ fun r => ∀ c : Dev nD,
      r.2.mem ((c.tc : Thread nD τ).loc main_v0) = want m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (array_eq m c), (h c).2⟩) (run m ρ)

end Cert.FfnInWeight
end
-- ==== Proof.InWeight.lean ====
/- The gradient of the input projection's weight: what the `dw_in` kernel leaves in its output array, over the
   extended reals, and that it is the reference's. -/
module

public import proofs.«01_k».proof.Proof.Gen.Kernel3Ideal.Value
public import proofs.«01_k».proof.Proof.Gen.Reference3Ideal.Run
public import proofs.«01_k».proof.Proof.Gen.Reference3Ideal.Read
public import proofs.«01_k».proof.Proof.TokenSum
public import Idealize.ShloMosaic.Lib.Pipeline.ValueKit.Partial
public import Idealize.ShloMosaic.Lib.Pointwise

@[expose] public section

set_option maxRecDepth 16384

noncomputable section

namespace Cert.InWeight

open Cert.Kernel3Ideal Cert.Kernel3Ideal.Gen Cert.Kernel3Ideal.Value
open Cert.Reference3Ideal.Read
open Cert.TokenSum (rowAt)
open Idealize.ShloMosaic Idealize.ShloMosaic.TcCoe Idealize.ShloMosaic.Tactic Idealize.SL.Sem
open scoped BigOperators

/-- Column `j` of the column shard `s`. -/
def shardCol (s : Fin 4) (j : Fin 640) : Fin 2560 := ⟨s.val * 640 + j.val, by omega⟩

/-- The gradient: each token's row of `h` against its row of the projection's gradient. -/
def gradOf (h : Vec Ideal S8192x1024 .bf16) (d : Vec Ideal S8192x2560 .bf16) (s : Fin 4) (i : Fin 1024) (j : Fin 640) : EReal :=
  ∑ t : Fin 8192, h (ix2 t i) * d (ix2 t (shardCol s j))

/-- One point adds its tile's products to what the block holds. -/
theorem step_apply (x : Vec Ideal S1024x1024 .bf16) (y : Vec Ideal S1024x640 .bf16) (z : Vec Ideal S1x1024x640 .f32)
    (k : Fin 1) (i : Fin 1024) (j : Fin 640) :
    k0_pay2 x y z (ix3 k i j) = z (ix3 k i j) + ∑ r : Fin 1024, x (ix2 r i) * y (ix2 r j) := by
  obtain rfl : k = 0 := Subsingleton.elim _ _
  pointwise [k0_pay2]

theorem start_apply (y : S1x1024x640.Idx) : k0_pay1 (F := Ideal) y = 0 := by
  pointwise [k0_pay1]

theorem index0 : ∀ t : Fin cfg0.N, win0_0.index t = ![t.val % 8, 0] := (by decide +kernel : ∀ t : Fin grid0.N, win0_0.index t = ![t.val % 8, 0])
theorem index1 : ∀ t : Fin cfg0.N, win0_1.index t = ![t.val % 8, t.val / 8] :=
  (by decide +kernel : ∀ t : Fin grid0.N, win0_1.index t = ![t.val % 8, t.val / 8])

variable (m : (ℓ : Loc nD τ sig) → Buf (Elt Ideal) ℓ)

/-- The tokens' rows as the region finds them. -/
def rows (c : Dev nD) : Vec Ideal S8192x1024 .bf16 := V m c main_arg0
/-- The projection's gradient as the region finds it. -/
def grads (c : Dev nD) : Vec Ideal S8192x2560 .bf16 := V m c main_arg1
def rowsTile (c : Dev nD) (t : Fin cfg0.N) : Vec Ideal S1024x1024 .bf16 := iblk m c 0 t
def gradsTile (c : Dev nD) (t : Fin cfg0.N) : Vec Ideal S1024x640 .bf16 := iblk m c 1 t

/-- The column shard of run `q`. -/
def shardAt (q : ℕ) : Fin 4 := ⟨q % 4, by omega⟩

theorem rowsTile_apply (c : Dev nD) (t : Fin cfg0.N) (r i : Fin 1024) :
    rowsTile m c t (ix2 r i) = rows m c (ix2 (rowAt t.val r) i) := by
  show iblk m c 0 t (ix2 r i) = V m c main_arg0 (ix2 (rowAt t.val r) i)
  blk_ext [iblk, index0, rowAt]

theorem gradsTile_apply (c : Dev nD) (t : Fin cfg0.N) (r : Fin 1024) (j : Fin 640) :
    gradsTile m c t (ix2 r j) = grads m c (ix2 (rowAt t.val r) (shardCol (shardAt (t.val / 8)) j)) := by
  have ht : t.val < 32 := t.isLt
  have e : t.val / 8 % 4 = t.val / 8 := by omega
  show iblk m c 1 t (ix2 r j) = V m c main_arg1 (ix2 (rowAt t.val r) (shardCol (shardAt (t.val / 8)) j))
  blk_ext [iblk, index1, rowAt, shardCol, shardAt, e]

theorem step_tiles (c : Dev nD) (n : ℕ) (h : n < cfg0.N) (acc : Vec Ideal S1x1024x640 .f32) :
    step2 m c n h acc = k0_pay2 (rowsTile m c ⟨n, h⟩) (gradsTile m c ⟨n, h⟩) acc := rfl

/-- The reference's result at the kernel's arguments. -/
def want (c : Dev nD) : Vec Ideal S4x1024x640 .f32 :=
  val_main_v7 (F := Ideal) (m ((c.tc : Thread nD τ).loc main_arg0)) (m ((c.tc : Thread nD τ).loc main_arg1))

theorem want_eq (c : Dev nD) : want m c = val_main_v7 (F := Ideal) (rows m c) (grads m c) := by
  show val_main_v7 (F := Ideal) _ _ = val_main_v7 (F := Ideal) (V m c main_arg0) (V m c main_arg1)
  rw [V_main_arg0, V_main_arg1]

attribute [local irreducible] rows grads rowsTile gradsTile iblk

/-- What token `t` adds at an element of run `q`'s block. -/
def addend (c : Dev nD) (q : ℕ) (y : S1x1024x640.Idx) (t : Fin 8192) : EReal :=
  rows m c (ix2 t (y 1)) * grads m c (ix2 t (shardCol (shardAt q) (y 2)))

theorem step_eq (c : Dev nD) (n : ℕ) (h : n < cfg0.N) (acc : Vec Ideal S1x1024x640 .f32) (y : S1x1024x640.Idx) :
    step2 m c n h acc y = acc y + ∑ r : Fin 1024, addend m c (n / 8) y (rowAt n r) := by
  obtain ⟨k, i, j, rfl⟩ : ∃ k i j, y = ix3 k i j := ⟨y 0, y 1, y 2, funext fun a => by fin_cases a <;> rfl⟩
  rw [step_tiles, step_apply]
  refine congrArg (_ + ·) (Finset.sum_congr rfl fun r _ => ?_)
  rw [rowsTile_apply, gradsTile_apply]
  rfl

theorem reset_eq (c : Dev nD) (n : ℕ) (h : n < cfg0.N) (y : S1x1024x640.Idx) :
    reset2 m c n h y = 0 + ∑ r : Fin 1024, addend m c (n / 8) y (rowAt n r) := by
  rw [← start_apply y]
  exact step_eq m c n h (k0_pay1 (F := Ideal)) y

/-- The array after the run. -/
theorem final_eq (c : Dev nD) (s : Fin 4) (i : Fin 1024) (j : Fin 640) :
    G2 m c (ix3 s i j) = gradOf (rows m c) (grads m c) s i j := by
  have hrun : run2Of (ix3 s i j) = s.val := by
    show 1 * (s.val / 1 - 0) + 1 * (i.val / 1024 - 0) + 1 * (j.val / 640 - 0) = s.val
    omega
  have hN : cfg0.N = 32 := N_0
  have hlt : 8 * run2Of (ix3 s i j) + 7 < cfg0.N := by rw [hrun, hN]; omega
  unfold G2
  rw [dif_pos hlt]
  refine (TokenSum.fold_eq (N := cfg0.N) (ι := S1x1024x640.Idx) (reset2 m c) (step2 m c) (addend m c)
    (reset_eq m c) (step_eq m c) (run2Of (ix3 s i j)) hlt _).trans ?_
  have hs : shardAt (run2Of (ix3 s i j)) = s := Fin.ext (by show run2Of (ix3 s i j) % 4 = s.val; rw [hrun]; omega)
  have h1 : loc2Of (ix3 s i j) 1 = i := Fin.ext (Nat.mod_eq_of_lt i.isLt)
  have h2 : loc2Of (ix3 s i j) 2 = j := Fin.ext (Nat.mod_eq_of_lt j.isLt)
  unfold gradOf addend
  rw [hs, h1, h2]

/-- The reference's result is that function of its arguments. -/
theorem reference_eq (x0 : Vec Ideal S8192x1024 .bf16) (x1 : Vec Ideal S8192x2560 .bf16) (s : Fin 4) (i : Fin 1024) (j : Fin 640) :
    val_main_v7 (F := Ideal) x0 x1 (ix3 s i j) = gradOf x0 x1 s i j := by
  pointwise [val_main_v0, val_main_v1, val_main_v4, val_main_v5, val_main_v6, val_main_v7, gradOf, shardCol]
  exact Finset.sum_congr rfl fun t _ => mul_comm _ _

theorem array_eq (c : Dev nD) : G2 m c = want m c := by
  rw [want_eq]
  funext i
  obtain ⟨s, k, j, rfl⟩ : ∃ s k j, i = ix3 s k j := ⟨i 0, i 1, i 2, funext fun a => by fin_cases a <;> rfl⟩
  rw [final_eq]
  exact (reference_eq _ _ s k j).symm

/-- The kernel's run: its result is the reference's function of the arguments, which end as launched. -/
theorem run_value (ρ : Dev nD → PrngReg) : θ_run defs (onTc (τ := τ) (main (F := Ideal))) ⟨m, fun _ => 0, ρ⟩ fun r => ∀ c : Dev nD,
      r.2.mem ((c.tc : Thread nD τ).loc main_v0) = want m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (array_eq m c), (h c).2⟩) (run m ρ)

end Cert.InWeight
end
-- ==== Proof.MergeGateWeight.lean ====
/- The gradient of the merge gates' weights: what the `dw_merge_gate` kernel leaves in its output array, over the
   extended reals, and that it is the reference's. The array's rows beyond the gates' keep what another gradient put
   there. -/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.TokenSum
public import Idealize.ShloMosaic.Lib.Pipeline.ValueKit.Partial
public import Idealize.ShloMosaic.Lib.Pipeline.ReadBack
public import Idealize.ShloMosaic.Lib.VecWindow
public import Idealize.ShloMosaic.Lib.Pointwise
public import Idealize.ShloMosaic.Lib.StableHlo.RunRead

@[expose] public section

set_option maxRecDepth 16384

noncomputable section

namespace Cert.MergeGateWeight

open Cert.Kernel4Ideal Cert.Kernel4Ideal.Gen Cert.Kernel4Ideal.Value
open Cert.Reference4Ideal.Read
open Cert.TokenSum (rowAt load_apply emb_eq_idx at_coords)
open Idealize.ShloMosaic Idealize.ShloMosaic.TcCoe Idealize.ShloMosaic.Tactic Idealize.SL.Sem
open scoped BigOperators

/-- Row `i` of row shard `s`, among the columns of the kept rows. -/
def shardRow (s : Fin 4) (i : Fin 256) : Fin 1024 := ⟨s.val * 256 + i.val, by omega⟩

theorem shardRow_zero (i : Fin 256) : shardRow 0 i = ⟨i.val, by omega⟩ := Fin.ext (by show 0 * 256 + i.val = i.val; omega)
theorem shardRow_one (i : Fin 256) : shardRow 1 i = ⟨256 + i.val, by omega⟩ := Fin.ext (by show 1 * 256 + i.val = 256 + i.val; omega)
theorem shardRow_two (i : Fin 256) : shardRow 2 i = ⟨512 + i.val, by omega⟩ := Fin.ext (by show 2 * 256 + i.val = 512 + i.val; omega)
theorem shardRow_three (i : Fin 256) : shardRow 3 i = ⟨768 + i.val, by omega⟩ := Fin.ext (by show 3 * 256 + i.val = 768 + i.val; omega)

/-- What a point leaves in its block, over what the block held. -/
def tileStep (x0 : Vec Ideal S1024x1024 .bf16) (x1 : Vec Ideal S1x1024x1024 .bf16) (z : Vec Ideal S4x256x1024 .f32) : Vec Ideal S4x256x1024 .f32 :=
  fun y => z (ix3 (y 0) (y 1) (y 2)) + ∑ r : Fin 1024, x0 (ix2 r (shardRow (y 0) (y 1))) * x1 (ix3 (0 : Fin 1) r (y 2))

section
variable (c : Dev nD) (i : grid0.Coords) (a0 : Memref sig .tc .vmem S1024x1024 .bf16) (h0 : a0.IsWhole)
  (a1 : Memref sig .tc .vmem S1x1024x1024 .bf16) (h1 : a1.IsWhole) (a2 : Memref sig .tc .vmem S4x256x1024 .f32) (h2 : a2.IsWhole)
  (x0 : Vec Ideal S1024x1024 .bf16) (x1 : Vec Ideal S1x1024x1024 .bf16) (z : Vec Ideal S4x256x1024 .f32)

/-- The stores of a point that is not its run's first. -/
theorem later_pieces (hc : ¬cond0_0 i) : View.PiecesOf (tileStep x0 x1 z) (kernelRun0_B (F := Ideal) c i a0 h0 a1 h1 a2 h2 hc x0 x1 z).1 := by
  refine ⟨fun x => ?_, fun x => ?_, fun x => ?_, fun x => ?_, trivial⟩ <;> dsimp only <;>
    pointwise [kernelRun0_B.sl.r, kernelRun0_B.sl.v14, kernelRun0_B.sl.v21, kernelRun0_B.sl.v28, k0_pay1, k0_pay2, k0_pay3, k0_pay4, k0_pay5, k0_pay6,
      load_apply, emb_eq_idx, shardRow_zero, shardRow_one, shardRow_two, shardRow_three, tileStep]

/-- The word of zeros names the number zero. -/
theorem zero_fill (r : Rect S4x256x1024) : View.ld (Val := Elt Ideal) (e' := .f32) (k0_pay2 (F := Ideal)) r = fun _ => 0 := by
  funext x
  pointwise [k0_pay2]

theorem first_v7 : kernelRun0_A.sl.v7 (F := Ideal) c a2 = fun _ => 0 := by
  unfold kernelRun0_A.sl.v7 kernelRun0_A.sl.H2_1
  exact (View.readCov_fill _ _ _ _ _ (by decide)).trans (zero_fill _)

theorem first_v14 : kernelRun0_A.sl.v14 (F := Ideal) c a0 h0 a1 h1 a2 x0 x1 = fun _ => 0 := by
  unfold kernelRun0_A.sl.v14 kernelRun0_A.sl.H2_2 kernelRun0_A.sl.H2_1
  refine (View.readCov_skip _ _ _ _ _ (by decide)).trans ?_
  exact (View.readCov_fill _ _ _ _ _ (by decide)).trans (zero_fill _)

theorem first_v21 : kernelRun0_A.sl.v21 (F := Ideal) c a0 h0 a1 h1 a2 x0 x1 = fun _ => 0 := by
  unfold kernelRun0_A.sl.v21 kernelRun0_A.sl.H2_3 kernelRun0_A.sl.H2_2 kernelRun0_A.sl.H2_1
  refine (View.readCov_skip _ _ _ _ _ (by decide)).trans ((View.readCov_skip _ _ _ _ _ (by decide)).trans ?_)
  exact (View.readCov_fill _ _ _ _ _ (by decide)).trans (zero_fill _)

theorem first_v28 : kernelRun0_A.sl.v28 (F := Ideal) c a0 h0 a1 h1 a2 x0 x1 = fun _ => 0 := by
  unfold kernelRun0_A.sl.v28 kernelRun0_A.sl.H2_4 kernelRun0_A.sl.H2_3 kernelRun0_A.sl.H2_2 kernelRun0_A.sl.H2_1
  refine (View.readCov_skip _ _ _ _ _ (by decide)).trans ((View.readCov_skip _ _ _ _ _ (by decide)).trans
    ((View.readCov_skip _ _ _ _ _ (by decide)).trans ?_))
  exact (View.readCov_fill _ _ _ _ _ (by decide)).trans (zero_fill _)

/-- The stores of a run's first point over the zeros it put there. -/
theorem first_pieces (hc : cond0_0 i) :
    View.PiecesOf (tileStep x0 x1 (fun _ => 0)) ((kernelRun0_A (F := Ideal) c i a0 h0 a1 h1 a2 h2 hc x0 x1).1.take 4) := by
  refine ⟨fun x => ?_, fun x => ?_, fun x => ?_, fun x => ?_, trivial⟩ <;> dsimp only <;>
    pointwise [kernelRun0_A.sl.r, first_v7, first_v14, first_v21, first_v28, k0_pay1, k0_pay2, k0_pay3, k0_pay4, k0_pay5, k0_pay6,
      load_apply, emb_eq_idx, shardRow_zero, shardRow_one, shardRow_two, shardRow_three, tileStep]

theorem first_take (hc : cond0_0 i) (y : S4x256x1024.Idx) :
    ∃ p ∈ (kernelRun0_A (F := Ideal) c i a0 h0 a1 h1 a2 h2 hc x0 x1).1.take 4, y ∈ p.1.set :=
  View.cover_of_tiledL ((kernelRun0_A (F := Ideal) c i a0 h0 a1 h1 a2 h2 hc x0 x1).1.take 4) S1x256x1024.size (by sl_kernel_rfl) y

theorem first_eq (hc : cond0_0 i) : out0_A_2 c i a0 h0 a1 h1 a2 h2 hc x0 x1 = tileStep x0 x1 (fun _ => 0) := by
  unfold out0_A_2
  rw [View.read_writes_eq_canon _ _ _ (cover0_A_2 c i a0 h0 a1 h1 a2 h2 hc x0 x1)]
  funext y
  rw [← List.take_append_drop 4 (kernelRun0_A (F := Ideal) c i a0 h0 a1 h1 a2 h2 hc x0 x1).1]
  exact View.canon_append_of_piecesOf _ _ _ (first_pieces c i a0 h0 a1 h1 a2 h2 x0 x1 hc) y (first_take c i a0 h0 a1 h1 a2 h2 x0 x1 hc y)

theorem later_eq (hc : ¬cond0_0 i) : out0_B_2 c i a0 h0 a1 h1 a2 h2 hc x0 x1 z = tileStep x0 x1 z := by
  unfold out0_B_2
  rw [View.read_writes_eq_canon _ _ _ (cover0_B_2 c i a0 h0 a1 h1 a2 h2 hc x0 x1 z)]
  funext y
  exact View.canon_apply_of_pieces _ _ (View.PiecesOf.mem (later_pieces c i a0 h0 a1 h1 a2 h2 x0 x1 z hc)) y
    (cover0_B_2 c i a0 h0 a1 h1 a2 h2 hc x0 x1 z y)

end

theorem index0 : ∀ t : Fin cfg0.N, win0_0.index t = ![t.val % 8, 0] := (by decide +kernel : ∀ t : Fin grid0.N, win0_0.index t = ![t.val % 8, 0])
theorem index1 : ∀ t : Fin cfg0.N, win0_1.index t = ![t.val / 8, t.val % 8, 0] := (by decide +kernel : ∀ t : Fin grid0.N, win0_1.index t = ![t.val / 8, t.val % 8, 0])
theorem index2 : ∀ t : Fin cfg0.N, win0_2.index t = ![0, t.val / 8, 0] := (by decide +kernel : ∀ t : Fin grid0.N, win0_2.index t = ![0, t.val / 8, 0])

variable (m : (ℓ : Loc nD τ sig) → Buf (Elt Ideal) ℓ)

/-- Gate `k`'s gradient: each token's row against the token's gradient before that gate's sigmoid. -/
def gateGrad (h : Vec Ideal S8192x1024 .bf16) (d : Vec Ideal S4x8192x1024 .bf16) (k : Fin 4) (s : Fin 4) (i : Fin 256) (j : Fin 1024) : EReal :=
  ∑ t : Fin 8192, h (ix2 t (shardRow s i)) * d (ix3 k t j)

/-- The kept rows as the region finds them. -/
def rows (c : Dev nD) : Vec Ideal S8192x1024 .bf16 := V m c main_arg0
/-- The gates' gradients as the region finds them. -/
def grads (c : Dev nD) : Vec Ideal S4x8192x1024 .bf16 := V m c main_arg1
/-- The array the result is laid over. -/
def under (c : Dev nD) : Vec Ideal S4x1536x1024 .f32 := m ((c.tc : Thread nD τ).loc main_arg2)
def rowsTile (c : Dev nD) (t : Fin cfg0.N) : Vec Ideal S1024x1024 .bf16 := iblk m c 0 t
def gradsTile (c : Dev nD) (t : Fin cfg0.N) : Vec Ideal S1x1024x1024 .bf16 := iblk m c 1 t

/-- The gate of run `q`. -/
def gateAt (q : ℕ) : Fin 4 := ⟨q % 4, by omega⟩

theorem rowsTile_apply (c : Dev nD) (t : Fin cfg0.N) (r j : Fin 1024) :
    rowsTile m c t (ix2 r j) = rows m c (ix2 (rowAt t.val r) j) := by
  show iblk m c 0 t (ix2 r j) = V m c main_arg0 (ix2 (rowAt t.val r) j)
  blk_ext [iblk, index0, rowAt]

theorem gradsTile_apply (c : Dev nD) (t : Fin cfg0.N) (r j : Fin 1024) :
    gradsTile m c t (ix3 (0 : Fin 1) r j) = grads m c (ix3 (gateAt (t.val / 8)) (rowAt t.val r) j) := by
  have ht : t.val < 32 := t.isLt
  have e : t.val / 8 % 4 = t.val / 8 := by omega
  show iblk m c 1 t (ix3 (0 : Fin 1) r j) = V m c main_arg1 (ix3 (gateAt (t.val / 8)) (rowAt t.val r) j)
  blk_ext [iblk, index1, rowAt, gateAt, e]

/-- The output array holds the array it is laid over when the region starts. -/
theorem entry_eq (c : Dev nD) : V m c main_v0 = under m c := by
  show StableHlo.after hostOps0 (fun b => m (c, b)) (Proc.devRef .tc main_v0) = _
  after_reads_simp
  rfl

/-- The reference's result at the kernel's arguments. -/
def want (c : Dev nD) : Vec Ideal S4x1536x1024 .f32 :=
  val_main_v31 (F := Ideal) (m ((c.tc : Thread nD τ).loc main_arg0)) (m ((c.tc : Thread nD τ).loc main_arg1)) (m ((c.tc : Thread nD τ).loc main_arg2))

theorem want_eq (c : Dev nD) : want m c = val_main_v31 (F := Ideal) (rows m c) (grads m c) (under m c) := by
  show val_main_v31 (F := Ideal) _ _ _ = val_main_v31 (F := Ideal) (V m c main_arg0) (V m c main_arg1) _
  rw [V_main_arg0, V_main_arg1]
  rfl

/-- A run's first point leaves its tile's part in the block. -/
def start (c : Dev nD) (n : ℕ) (h : n < cfg0.N) : Vec Ideal S4x256x1024 .f32 :=
  tileStep (rowsTile m c ⟨n, h⟩) (gradsTile m c ⟨n, h⟩) (fun _ => 0)
/-- Every later point adds its tile's part to what the block holds. -/
def step (c : Dev nD) (n : ℕ) (h : n < cfg0.N) (z : Vec Ideal S4x256x1024 .f32) : Vec Ideal S4x256x1024 .f32 :=
  tileStep (rowsTile m c ⟨n, h⟩) (gradsTile m c ⟨n, h⟩) z

/-- The block after point `t` is its run's fold. -/
theorem outs_eq (c : Dev nD) (t : Fin cfg0.N) :
    outsAt0 m c t.val t.isLt = Pipeline.accAt (start m c) (step m c) (8 * (t.val / 8)) (t.val % 8)
      (by have h1 := t.isLt; have h2 := Nat.div_add_mod t.val 8; omega) :=
  Pipeline.eq_accAt_of_mod (fun n h => outsAt0 m c n h) 8 (start m c) (step m c)
    (fun n h hn => (outsAt0_A m c ⟨n, h⟩ hn).trans (first_eq c _ _ _ _ _ _ _ _ _ _))
    (fun n h hn => (outsAt0_B m c ⟨n + 1, h⟩ hn).trans (later_eq c _ _ _ _ _ _ _ _ _ _ _))
    (by decide) t.val t.isLt _

attribute [local irreducible] rows grads rowsTile gradsTile iblk

/-- What token `t` adds at an element of run `q`'s block. -/
def addend (c : Dev nD) (q : ℕ) (y : S4x256x1024.Idx) (t : Fin 8192) : EReal :=
  rows m c (ix2 t (shardRow (y 0) (y 1))) * grads m c (ix3 (gateAt q) t (y 2))

theorem step_eq (c : Dev nD) (n : ℕ) (h : n < cfg0.N) (z : Vec Ideal S4x256x1024 .f32) (y : S4x256x1024.Idx) :
    step m c n h z y = z y + ∑ r : Fin 1024, addend m c (n / 8) y (rowAt n r) := by
  have hy : ix3 (y 0) (y 1) (y 2) = y := funext fun a => by fin_cases a <;> rfl
  refine congrArg₂ (· + ·) (congrArg z hy) (Finset.sum_congr rfl fun r _ => ?_)
  exact congrArg₂ (· * ·) (rowsTile_apply m c ⟨n, h⟩ r (shardRow (y 0) (y 1))) (gradsTile_apply m c ⟨n, h⟩ r (y 2))

theorem start_eq (c : Dev nD) (n : ℕ) (h : n < cfg0.N) (y : S4x256x1024.Idx) :
    start m c n h y = 0 + ∑ r : Fin 1024, addend m c (n / 8) y (rowAt n r) :=
  step_eq m c n h (fun _ => 0) y

/-- A run's last point leaves the sum over all tokens. -/
theorem last_eq (c : Dev nD) (t : Fin cfg0.N) (hm : t.val % 8 = 7) (y : S4x256x1024.Idx) :
    outsAt0 m c t.val t.isLt y = gateGrad (rows m c) (grads m c) (gateAt (t.val / 8)) (y 0) (y 1) (y 2) := by
  have hlt : 8 * (t.val / 8) + 7 < cfg0.N := by have := t.isLt; omega
  have e : ∀ (j : ℕ) (h : 8 * (t.val / 8) + j < cfg0.N), j = 7 →
      Pipeline.accAt (start m c) (step m c) (8 * (t.val / 8)) j h = Pipeline.accAt (start m c) (step m c) (8 * (t.val / 8)) 7 hlt := by
    intro j h hj; subst hj; rfl
  rw [outs_eq, e _ _ hm]
  exact TokenSum.fold_eq (N := cfg0.N) (ι := S4x256x1024.Idx) (start m c) (step m c) (addend m c) (start_eq m c) (step_eq m c) (t.val / 8) hlt y

/-- The whole array: the gates' rows one gate after the other, and below them what the array held. -/
def whole (h : Vec Ideal S8192x1024 .bf16) (d : Vec Ideal S4x8192x1024 .bf16) (u : Vec Ideal S4x1536x1024 .f32) : Vec Ideal S4x1536x1024 .f32 :=
  fun i : S4x1536x1024.Idx => if (i 1 : ℕ) / 256 < 4 then
    gateGrad h d (gateAt ((i 1 : ℕ) / 256)) (i 0) ⟨(i 1 : ℕ) % 256, Nat.mod_lt _ (by decide)⟩ (i 2)
  else u i

theorem gateGrad_congr (h : Vec Ideal S8192x1024 .bf16) (d : Vec Ideal S4x8192x1024 .bf16) {k k' : Fin 4} {s s' : Fin 4} {i i' : Fin 256} {j j' : Fin 1024}
    (hk : k.val = k'.val) (hs : s.val = s'.val) (hi : i.val = i'.val) (hj : j.val = j'.val) : gateGrad h d k s i j = gateGrad h d k' s' i' j' := by
  obtain rfl : k = k' := Fin.ext hk
  exact at_coords (gateGrad h d k) hs hi hj

theorem gate_of_row {u n : ℕ} (hu : u < 32) (h : n < 256) : u / 8 % 4 = (u / 8 * 256 + n) / 256 % 4 := by omega
theorem place_of_row {u n : ℕ} (h : n < 256) : (u / 8 * 256 + n) % 256 = n := by omega

/-- The array after the run. -/
theorem final_eq (c : Dev nD) : (dats m 0 c).arrAt 2 cfg0.N = whole (rows m c) (grads m c) (under m c) := by
  rw [← entry_eq m c]
  refine (dats m 0 c).arrAt_eq_of_coversWhere 2 _ (fun β => β (1 : Fin _) < 4) (by decide +kernel) (fun t hf y => ?_)
    (fun j => Iff.rfl)
  have hm : t.val % 8 = 7 := (flush0_2 t).mp hf
  have ht : t.val < 32 := t.isLt
  blk_simp
  rw [after0_2]
  refine (last_eq m c t hm _).trans ?_
  refine gateGrad_congr (rows m c) (grads m c) ?_ ?_ ?_ ?_ <;> blk_simp [index2, gateAt]
  · exact gate_of_row ht (y 1).isLt
  · exact (place_of_row (y 1).isLt).symm

/-- The reference's result is that function of its arguments. -/
theorem reference_eq (x0 : Vec Ideal S8192x1024 .bf16) (x1 : Vec Ideal S4x8192x1024 .bf16) (x2 : Vec Ideal S4x1536x1024 .f32)
    (s : Fin 4) (i : Fin 1536) (j : Fin 1024) :
    val_main_v31 (F := Ideal) x0 x1 x2 (ix3 s i j) = whole x0 x1 x2 (ix3 s i j) := by
  obtain e | e | e | e | e : i.val / 256 = 0 ∨ i.val / 256 = 1 ∨ i.val / 256 = 2 ∨ i.val / 256 = 3 ∨ ¬i.val / 256 < 4 := by omega
  · have h0 : i.val < 256 := by omega
    have e' : i.val % 256 = i.val := by omega
    pointwise [val_main_v0, val_main_v1, val_main_v4, val_main_v5, val_main_v6, val_main_v7, val_main_v26, val_main_v31, whole, gateGrad, gateAt, shardRow, h0, e, e']
    exact Finset.sum_congr rfl fun t _ => mul_comm _ _
  · have h0 : ¬i.val < 256 := by omega
    have h1 : i.val - 256 < 256 := by omega
    have e' : i.val % 256 = i.val - 256 := by omega
    pointwise [val_main_v0, val_main_v1, val_main_v10, val_main_v11, val_main_v12, val_main_v13, val_main_v27, val_main_v31, whole, gateGrad, gateAt, shardRow, h0, h1, e, e']
    exact Finset.sum_congr rfl fun t _ => mul_comm _ _
  · have h0 : ¬i.val < 256 := by omega
    have h1 : ¬i.val - 256 < 256 := by omega
    have h2 : i.val - 256 - 256 < 256 := by omega
    have e' : i.val % 256 = i.val - 256 - 256 := by omega
    pointwise [val_main_v0, val_main_v1, val_main_v16, val_main_v17, val_main_v18, val_main_v19, val_main_v28, val_main_v31, whole, gateGrad, gateAt, shardRow, h0, h1, h2, e, e']
    exact Finset.sum_congr rfl fun t _ => mul_comm _ _
  · have h0 : ¬i.val < 256 := by omega
    have h1 : ¬i.val - 256 < 256 := by omega
    have h2 : ¬i.val - 256 - 256 < 256 := by omega
    have h3 : i.val - 256 - 256 - 256 < 256 := by omega
    have e' : i.val % 256 = i.val - 256 - 256 - 256 := by omega
    pointwise [val_main_v0, val_main_v1, val_main_v22, val_main_v23, val_main_v24, val_main_v25, val_main_v29, val_main_v31, whole, gateGrad, gateAt, shardRow, h0, h1, h2, h3, e, e']
    exact Finset.sum_congr rfl fun t _ => mul_comm _ _
  · have h0 : ¬i.val < 256 := by omega
    have h1 : ¬i.val - 256 < 256 := by omega
    have h2 : ¬i.val - 256 - 256 < 256 := by omega
    have h3 : ¬i.val - 256 - 256 - 256 < 256 := by omega
    have e' : 1024 + (i.val - 256 - 256 - 256 - 256) = i.val := by omega
    pointwise [val_main_v30, val_main_v31, whole, h0, h1, h2, h3, e, e']

theorem array_eq (c : Dev nD) : (dats m 0 c).arrAt 2 cfg0.N = want m c := by
  rw [want_eq, final_eq]
  funext i
  obtain ⟨s, k, j, rfl⟩ : ∃ s k j, i = ix3 s k j := ⟨i 0, i 1, i 2, funext fun a => by fin_cases a <;> rfl⟩
  exact (reference_eq _ _ _ s k j).symm

/-- The kernel's run: its result is the reference's function of the arguments, which end as launched. -/
theorem run_value (ρ : Dev nD → PrngReg) : θ_run defs (onTc (τ := τ) (main (F := Ideal))) ⟨m, fun _ => 0, ρ⟩ fun r => ∀ c : Dev nD,
      r.2.mem ((c.tc : Thread nD τ).loc main_v0) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (array_eq m c), (h c).2⟩) (run_blocks m ρ)

end Cert.MergeGateWeight
end
-- ==== Proof.FfnOutWeight.lean ====
/- The gradient of the feed-forward output weight: what the `dw_ffn_out` kernel leaves in its output array, over the
   extended reals, and that it is the reference's. -/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.TokenSum
public import Idealize.ShloMosaic.Lib.Pipeline.ValueKit.Partial
public import Idealize.ShloMosaic.Lib.Pipeline.ReadBack
public import Idealize.ShloMosaic.Lib.VecWindow
public import Idealize.ShloMosaic.Lib.Pointwise

@[expose] public section

set_option maxRecDepth 16384

noncomputable section

namespace Cert.FfnOutWeight

open Cert.Kernel5Ideal Cert.Kernel5Ideal.Gen Cert.Kernel5Ideal.Value
open Cert.Reference5Ideal.Read
open Cert.TokenSum (rowAt load_apply emb_eq_idx at_coords)
open Idealize.ShloMosaic Idealize.ShloMosaic.TcCoe Idealize.ShloMosaic.Tactic Idealize.SL.Sem
open scoped BigOperators

/-- Row `i` of the block's row shard `k` among the block's columns of the activation. -/
def blockCol (k : Fin 2) (i : Fin 704) : Fin 1408 := ⟨k.val * 704 + i.val, by omega⟩

theorem blockCol_zero (i : Fin 704) : blockCol 0 i = ⟨i.val, by omega⟩ := Fin.ext (by show 0 * 704 + i.val = i.val; omega)
theorem blockCol_one (i : Fin 704) : blockCol 1 i = ⟨704 + i.val, by omega⟩ := Fin.ext (by show 1 * 704 + i.val = 704 + i.val; omega)

/-- What a point leaves in its block, over what the block held. -/
def tileStep (x0 : Vec Ideal S1024x1408 .bf16) (x1 : Vec Ideal S1024x1024 .f32) (z : Vec Ideal S2x704x1024 .f32) : Vec Ideal S2x704x1024 .f32 :=
  fun y => z (ix3 (y 0) (y 1) (y 2)) + ∑ r : Fin 1024, x0 (ix2 r (blockCol (y 0) (y 1))) * x1 (ix2 r (y 2))

section
variable (c : Dev nD) (i : grid0.Coords) (a0 : Memref sig .tc .vmem S1024x1408 .bf16) (h0 : a0.IsWhole)
  (a1 : Memref sig .tc .vmem S1024x1024 .f32) (h1 : a1.IsWhole) (a2 : Memref sig .tc .vmem S2x704x1024 .f32) (h2 : a2.IsWhole)
  (x0 : Vec Ideal S1024x1408 .bf16) (x1 : Vec Ideal S1024x1024 .f32) (z : Vec Ideal S2x704x1024 .f32)

/-- The stores of a point that is not its run's first. -/
theorem later_pieces (hc : ¬cond0_0 i) : View.PiecesOf (tileStep x0 x1 z) (kernelRun0_B (F := Ideal) c i a0 h0 a1 h1 a2 h2 hc x0 x1 z).1 := by
  refine ⟨fun x => ?_, fun x => ?_, trivial⟩ <;> dsimp only <;>
    pointwise [kernelRun0_B.sl.v14, k0_pay1, k0_pay2, k0_pay3, k0_pay4, load_apply, emb_eq_idx, blockCol_zero, blockCol_one, tileStep]

/-- The word of zeros names the number zero. -/
theorem zero_fill (r : Rect S2x704x1024) : View.ld (Val := Elt Ideal) (e' := .f32) (k0_pay1 (F := Ideal)) r = fun _ => 0 := by
  funext x
  pointwise [k0_pay1]

theorem first_v7 : kernelRun0_A.sl.v7 (F := Ideal) c a2 = fun _ => 0 := by
  unfold kernelRun0_A.sl.v7 kernelRun0_A.sl.H2_1
  exact (View.readCov_fill _ _ _ _ _ (by decide)).trans (zero_fill _)

theorem first_v14 : kernelRun0_A.sl.v14 (F := Ideal) c a0 h0 a1 h1 a2 x0 x1 = fun _ => 0 := by
  unfold kernelRun0_A.sl.v14 kernelRun0_A.sl.H2_2 kernelRun0_A.sl.H2_1
  refine (View.readCov_skip _ _ _ _ _ (by decide)).trans ?_
  exact (View.readCov_fill _ _ _ _ _ (by decide)).trans (zero_fill _)

/-- The stores of a run's first point over the zeros it put there. -/
theorem first_pieces (hc : cond0_0 i) :
    View.PiecesOf (tileStep x0 x1 (fun _ => 0)) ((kernelRun0_A (F := Ideal) c i a0 h0 a1 h1 a2 h2 hc x0 x1).1.take 2) := by
  refine ⟨fun x => ?_, fun x => ?_, trivial⟩ <;> dsimp only <;>
    pointwise [first_v7, first_v14, k0_pay1, k0_pay2, k0_pay3, k0_pay4, load_apply, emb_eq_idx, blockCol_zero, blockCol_one, tileStep]

theorem first_take (hc : cond0_0 i) (y : S2x704x1024.Idx) :
    ∃ p ∈ (kernelRun0_A (F := Ideal) c i a0 h0 a1 h1 a2 h2 hc x0 x1).1.take 2, y ∈ p.1.set :=
  View.cover_of_tiledL ((kernelRun0_A (F := Ideal) c i a0 h0 a1 h1 a2 h2 hc x0 x1).1.take 2) S1x704x1024.size (by sl_kernel_rfl) y

theorem first_eq (hc : cond0_0 i) : out0_A_2 c i a0 h0 a1 h1 a2 h2 hc x0 x1 = tileStep x0 x1 (fun _ => 0) := by
  unfold out0_A_2
  rw [View.read_writes_eq_canon _ _ _ (cover0_A_2 c i a0 h0 a1 h1 a2 h2 hc x0 x1)]
  funext y
  rw [← List.take_append_drop 2 (kernelRun0_A (F := Ideal) c i a0 h0 a1 h1 a2 h2 hc x0 x1).1]
  exact View.canon_append_of_piecesOf _ _ _ (first_pieces c i a0 h0 a1 h1 a2 h2 x0 x1 hc) y (first_take c i a0 h0 a1 h1 a2 h2 x0 x1 hc y)

theorem later_eq (hc : ¬cond0_0 i) : out0_B_2 c i a0 h0 a1 h1 a2 h2 hc x0 x1 z = tileStep x0 x1 z := by
  unfold out0_B_2
  rw [View.read_writes_eq_canon _ _ _ (cover0_B_2 c i a0 h0 a1 h1 a2 h2 hc x0 x1 z)]
  funext y
  exact View.canon_apply_of_pieces _ _ (View.PiecesOf.mem (later_pieces c i a0 h0 a1 h1 a2 h2 x0 x1 z hc)) y
    (cover0_B_2 c i a0 h0 a1 h1 a2 h2 hc x0 x1 z y)

end

theorem index0 : ∀ t : Fin cfg0.N, win0_0.index t = ![t.val % 8, t.val / 8] := (by decide +kernel : ∀ t : Fin grid0.N, win0_0.index t = ![t.val % 8, t.val / 8])
theorem index1 : ∀ t : Fin cfg0.N, win0_1.index t = ![t.val % 8, 0] := (by decide +kernel : ∀ t : Fin grid0.N, win0_1.index t = ![t.val % 8, 0])
theorem index2 : ∀ t : Fin cfg0.N, win0_2.index t = ![t.val / 8, 0, 0] := (by decide +kernel : ∀ t : Fin grid0.N, win0_2.index t = ![t.val / 8, 0, 0])

variable (m : (ℓ : Loc nD τ sig) → Buf (Elt Ideal) ℓ)

/-- Row `i` of row shard `s` among the columns of the activation. -/
def shardRow (s : Fin 4) (i : Fin 704) : Fin 2816 := ⟨s.val * 704 + i.val, by omega⟩

/-- The gradient: each token's row of the activation against its row of the step's gradient. -/
def gradOf (a : Vec Ideal S8192x2816 .bf16) (d : Vec Ideal S8192x1024 .f32) (s : Fin 4) (i : Fin 704) (j : Fin 1024) : EReal :=
  ∑ t : Fin 8192, a (ix2 t (shardRow s i)) * d (ix2 t j)

/-- The activation as the region finds it. -/
def acts (c : Dev nD) : Vec Ideal S8192x2816 .bf16 := V m c main_arg0
/-- The step's gradient as the region finds it. -/
def grads (c : Dev nD) : Vec Ideal S8192x1024 .f32 := V m c main_arg1
def actsTile (c : Dev nD) (t : Fin cfg0.N) : Vec Ideal S1024x1408 .bf16 := iblk m c 0 t
def gradsTile (c : Dev nD) (t : Fin cfg0.N) : Vec Ideal S1024x1024 .f32 := iblk m c 1 t

/-- The row shard that run `q`'s block holds at `k`. -/
def shardAt (q : ℕ) (k : Fin 2) : Fin 4 := ⟨q % 2 * 2 + k.val, by omega⟩

theorem actsTile_apply (c : Dev nD) (t : Fin cfg0.N) (r : Fin 1024) (k : Fin 2) (i : Fin 704) :
    actsTile m c t (ix2 r (blockCol k i)) = acts m c (ix2 (rowAt t.val r) (shardRow (shardAt (t.val / 8) k) i)) := by
  have ht : t.val < 16 := t.isLt
  have e : (t.val / 8 % 2 * 2 + k.val) * 704 + i.val = t.val / 8 * 1408 + (k.val * 704 + i.val) := by omega
  show iblk m c 0 t (ix2 r (blockCol k i)) = V m c main_arg0 (ix2 (rowAt t.val r) (shardRow (shardAt (t.val / 8) k) i))
  blk_ext [iblk, index0, rowAt, shardRow, shardAt, blockCol, e]

theorem gradsTile_apply (c : Dev nD) (t : Fin cfg0.N) (r j : Fin 1024) :
    gradsTile m c t (ix2 r j) = grads m c (ix2 (rowAt t.val r) j) := by
  show iblk m c 1 t (ix2 r j) = V m c main_arg1 (ix2 (rowAt t.val r) j)
  blk_ext [iblk, index1, rowAt]

/-- The reference's result at the kernel's arguments. -/
def want (c : Dev nD) : Vec Ideal S4x704x1024 .f32 :=
  val_main_v5 (F := Ideal) (m ((c.tc : Thread nD τ).loc main_arg0)) (m ((c.tc : Thread nD τ).loc main_arg1))

theorem want_eq (c : Dev nD) : want m c = val_main_v5 (F := Ideal) (acts m c) (grads m c) := by
  show val_main_v5 (F := Ideal) _ _ = val_main_v5 (F := Ideal) (V m c main_arg0) (V m c main_arg1)
  rw [V_main_arg0, V_main_arg1]

/-- A run's first point leaves its tile's part in the block. -/
def start (c : Dev nD) (n : ℕ) (h : n < cfg0.N) : Vec Ideal S2x704x1024 .f32 :=
  tileStep (actsTile m c ⟨n, h⟩) (gradsTile m c ⟨n, h⟩) (fun _ => 0)
/-- Every later point adds its tile's part to what the block holds. -/
def step (c : Dev nD) (n : ℕ) (h : n < cfg0.N) (z : Vec Ideal S2x704x1024 .f32) : Vec Ideal S2x704x1024 .f32 :=
  tileStep (actsTile m c ⟨n, h⟩) (gradsTile m c ⟨n, h⟩) z

/-- The block after point `t` is its run's fold. -/
theorem outs_eq (c : Dev nD) (t : Fin cfg0.N) :
    outsAt0 m c t.val t.isLt = Pipeline.accAt (start m c) (step m c) (8 * (t.val / 8)) (t.val % 8)
      (by have h1 := t.isLt; have h2 := Nat.div_add_mod t.val 8; omega) :=
  Pipeline.eq_accAt_of_mod (fun n h => outsAt0 m c n h) 8 (start m c) (step m c)
    (fun n h hn => (outsAt0_A m c ⟨n, h⟩ hn).trans (first_eq c _ _ _ _ _ _ _ _ _ _))
    (fun n h hn => (outsAt0_B m c ⟨n + 1, h⟩ hn).trans (later_eq c _ _ _ _ _ _ _ _ _ _ _))
    (by decide) t.val t.isLt _

attribute [local irreducible] acts grads actsTile gradsTile iblk

/-- What token `t` adds at an element of run `q`'s block. -/
def addend (c : Dev nD) (q : ℕ) (y : S2x704x1024.Idx) (t : Fin 8192) : EReal :=
  acts m c (ix2 t (shardRow (shardAt q (y 0)) (y 1))) * grads m c (ix2 t (y 2))

theorem step_eq (c : Dev nD) (n : ℕ) (h : n < cfg0.N) (z : Vec Ideal S2x704x1024 .f32) (y : S2x704x1024.Idx) :
    step m c n h z y = z y + ∑ r : Fin 1024, addend m c (n / 8) y (rowAt n r) := by
  have hy : ix3 (y 0) (y 1) (y 2) = y := funext fun a => by fin_cases a <;> rfl
  refine congrArg₂ (· + ·) (congrArg z hy) (Finset.sum_congr rfl fun r _ => ?_)
  exact congrArg₂ (· * ·) (actsTile_apply m c ⟨n, h⟩ r (y 0) (y 1)) (gradsTile_apply m c ⟨n, h⟩ r (y 2))

theorem start_eq (c : Dev nD) (n : ℕ) (h : n < cfg0.N) (y : S2x704x1024.Idx) :
    start m c n h y = 0 + ∑ r : Fin 1024, addend m c (n / 8) y (rowAt n r) :=
  step_eq m c n h (fun _ => 0) y

/-- A run's last point leaves the sum over all tokens. -/
theorem last_eq (c : Dev nD) (t : Fin cfg0.N) (hm : t.val % 8 = 7) (y : S2x704x1024.Idx) :
    outsAt0 m c t.val t.isLt y = gradOf (acts m c) (grads m c) (shardAt (t.val / 8) (y 0)) (y 1) (y 2) := by
  have hlt : 8 * (t.val / 8) + 7 < cfg0.N := by have := t.isLt; omega
  have e : ∀ (j : ℕ) (h : 8 * (t.val / 8) + j < cfg0.N), j = 7 →
      Pipeline.accAt (start m c) (step m c) (8 * (t.val / 8)) j h = Pipeline.accAt (start m c) (step m c) (8 * (t.val / 8)) 7 hlt := by
    intro j h hj; subst hj; rfl
  rw [outs_eq, e _ _ hm]
  exact TokenSum.fold_eq (N := cfg0.N) (ι := S2x704x1024.Idx) (start m c) (step m c) (addend m c) (start_eq m c) (step_eq m c) (t.val / 8) hlt y

/-- The array after the run. -/
theorem final_eq (c : Dev nD) : (dats m 0 c).arrAt 2 cfg0.N = fun i : S4x704x1024.Idx => gradOf (acts m c) (grads m c) (i 0) (i 1) (i 2) := by
  refine (dats m 0 c).arrAt_eq_of_covers 2 _ (by decide +kernel) fun t hf y => ?_
  have hm : t.val % 8 = 7 := (flush0_2 t).mp hf
  blk_simp
  rw [after0_2]
  refine (last_eq m c t hm _).trans ?_
  refine at_coords (gradOf (acts m c) (grads m c)) ?_ ?_ ?_
  · have ht : t.val < 16 := t.isLt
    have e : t.val / 8 % 2 = t.val / 8 := by omega
    blk_simp [index2, shardAt, e]
  · blk_simp [index2]
  · blk_simp [index2]

/-- The reference's result is that function of its arguments. -/
theorem reference_eq (x0 : Vec Ideal S8192x2816 .bf16) (x1 : Vec Ideal S8192x1024 .f32) (s : Fin 4) (i : Fin 704) (j : Fin 1024) :
    val_main_v5 (F := Ideal) x0 x1 (ix3 s i j) = gradOf x0 x1 s i j := by
  pointwise [val_main_v0, val_main_v3, val_main_v4, val_main_v5, gradOf, shardRow]
  exact Finset.sum_congr rfl fun t _ => mul_comm _ _

theorem array_eq (c : Dev nD) : (dats m 0 c).arrAt 2 cfg0.N = want m c := by
  rw [want_eq, final_eq]
  funext i
  obtain ⟨s, k, j, rfl⟩ : ∃ s k j, i = ix3 s k j := ⟨i 0, i 1, i 2, funext fun a => by fin_cases a <;> rfl⟩
  exact (reference_eq _ _ s k j).symm

/-- The kernel's run: its result is the reference's function of the arguments, which end as launched. -/
theorem run_value (ρ : Dev nD → PrngReg) : θ_run defs (onTc (τ := τ) (main (F := Ideal))) ⟨m, fun _ => 0, ρ⟩ fun r => ∀ c : Dev nD,
      r.2.mem ((c.tc : Thread nD τ).loc main_v0) = want m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (array_eq m c), (h c).2⟩) (run_blocks m ρ)

end Cert.FfnOutWeight
end
-- ==== Proof.FfnGradRow.lean ====
/- The gradient of one token's feed-forward block, as the kernel computes it: functions of the token's rows and of the
   weights, over the extended reals. -/
module

public import Idealize.ShloMosaic.Lib.Pointwise

@[expose] public section

noncomputable section

namespace Cert.FfnGrad

open Idealize.ShloMosaic
open scoped BigOperators

/-- The sigmoid as the kernel writes it. -/
def sigm (a : EReal) : EReal := Ideal.div 1 (1 + Ideal.exp (0 - a))

/-- The gradient of the gate, from the gradient `d` of the product `silu a * b`. -/
def gateGrad (d a b : EReal) : EReal := d * b * (sigm a * (1 + a * (1 - sigm a)))

/-- The gradient of the factor the gate multiplies. -/
def upGrad (d a : EReal) : EReal := d * a * sigm a

/-- Hidden unit `h` of column half `j`. -/
def unitAt (j : Fin 2) (h : Fin 1408) : Fin 2816 := ⟨j.val * 1408 + h.val, by omega⟩

theorem unitAt_zero (h : Fin 1408) : unitAt 0 h = ⟨h.val, by omega⟩ := Fin.ext (by show 0 * 1408 + h.val = h.val; omega)
theorem unitAt_one (h : Fin 1408) : unitAt 1 h = ⟨1408 + h.val, by omega⟩ := Fin.ext (by show 1 * 1408 + h.val = 1408 + h.val; omega)

/-- The gradient of the hidden units, through the output weight. -/
def hidden (dx : Fin 1024 → EReal) (wo : Fin 2816 → Fin 1024 → EReal) (h : Fin 2816) : EReal := ∑ k : Fin 1024, dx k * wo h k

/-- The gradient of the gates and of the factors they multiply. -/
def gates (dx : Fin 1024 → EReal) (wo : Fin 2816 → Fin 1024 → EReal) (a b : Fin 2816 → EReal) (h : Fin 2816) : EReal :=
  gateGrad (hidden dx wo h) (a h) (b h)
def ups (dx : Fin 1024 → EReal) (wo : Fin 2816 → Fin 1024 → EReal) (a : Fin 2816 → EReal) (h : Fin 2816) : EReal :=
  upGrad (hidden dx wo h) (a h)

/-- One column half's part of the gradient of the normed row, through the input weight's four shards. -/
def half (p q : Fin 2816 → EReal) (wi : Fin 4 → Fin 1024 → Fin 1408 → EReal) (j : Fin 2) (s t : Fin 4) (d : Fin 1024) : EReal :=
  ∑ h : Fin 1408, p (unitAt j h) * wi s d h + ∑ h : Fin 1408, q (unitAt j h) * wi t d h

/-- The gradient of the normed row. -/
def normed (p q : Fin 2816 → EReal) (wi : Fin 4 → Fin 1024 → Fin 1408 → EReal) (d : Fin 1024) : EReal :=
  half p q wi 0 0 2 d + half p q wi 1 1 3 d

/-- A row's mean, and one over its root mean square. -/
def mean (s : EReal) : EReal := Ideal.div s (Ideal.ofBits .f32 0x44800000#32)
def scale (x : Fin 1024 → EReal) : EReal := Ideal.rsqrt (mean (∑ k : Fin 1024, x k * x k) + Ideal.ofBits .f32 0x358637BD#32)

/-- The row over its root mean square. -/
def unit (x : Fin 1024 → EReal) (d : Fin 1024) : EReal := x d * scale x

/-- The gradient of the row, through the norm, and the residual's. -/
def rowGrad (dx n x g : Fin 1024 → EReal) (d : Fin 1024) : EReal :=
  dx d + scale x * (n d * g d - unit x d * mean (∑ k : Fin 1024, n k * g k * unit x k))

/-- What the row adds to the gradient of the norm's weight. -/
def weightGrad (n x : Fin 1024 → EReal) (d : Fin 1024) : EReal := n d * unit x d

/-! ## The same gradients as the derivative of the forward lines writes them -/

def gateGrad' (d a b : EReal) : EReal := d * b * sigm a + a * (d * b) * (sigm a * (1 - sigm a))

/-- The mean square with the norm's small term added. -/
def meanSquare (x : Fin 1024 → EReal) : EReal := mean (∑ k : Fin 1024, x k * x k) + Ideal.ofBits .f32 0x358637BD#32

/-- What the mean square's own gradient is, for each element's square. -/
def squareGrad (n x g : Fin 1024 → EReal) : EReal :=
  mean ((∑ k : Fin 1024, x k * (n k * g k)) * (Ideal.ofBits .f32 0xBF000000#32 * Ideal.div (scale x) (meanSquare x)))

def rowGrad' (dx n x g : Fin 1024 → EReal) (d : Fin 1024) : EReal :=
  dx d + (n d * g d * scale x + x d * squareGrad n x g + squareGrad n x g * x d)

end Cert.FfnGrad
end
-- ==== Proof.FfnGradTile.lean ====
/- What a grid point of the `ffn_bwd` kernel computes from the blocks it holds, over the extended reals. -/
module

public import proofs.«01_k».proof.Proof.Gen.Kernel6Ideal.Value
public import proofs.«01_k».proof.Proof.TokenSum
public import proofs.«01_k».proof.Proof.FfnGradRow
public import Idealize.ShloMosaic.Lib.Pipeline.ReadBack
public import Idealize.ShloMosaic.Lib.Pointwise

@[expose] public section

set_option maxRecDepth 16384

noncomputable section

namespace Cert.FfnGrad

open Cert.Kernel6Ideal Cert.Kernel6Ideal.Gen
open Cert.TokenSum (load_apply emb_eq_idx)
open Idealize.ShloMosaic Idealize.ShloMosaic.TcCoe Idealize.ShloMosaic.Tactic Idealize.SL.Sem
open scoped BigOperators

theorem pay8_apply (v3 : Vec Ideal S256x1024 .f32) (v5 : Vec Ideal S1408x1024 .bf16) (v7 v10 : Vec Ideal S1x256x1408 .bf16) (r : Fin 256) (h : Fin 1408) :
    k0_pay8 v3 v5 v7 v10 (ix2 r h) = gateGrad (∑ k : Fin 1024, v3 (ix2 r k) * v5 (ix2 h k)) (v7 (ix3 (0 : Fin 1) r h)) (v10 (ix3 (0 : Fin 1) r h)) := by
  pointwise [k0_pay8, k0_pay7, k0_pay6, k0_pay5, k0_pay4, gateGrad, sigm]

theorem pay9_apply (v3 : Vec Ideal S256x1024 .f32) (v5 : Vec Ideal S1408x1024 .bf16) (v7 : Vec Ideal S1x256x1408 .bf16) (r : Fin 256) (h : Fin 1408) :
    k0_pay9 v3 v5 v7 (ix2 r h) = upGrad (∑ k : Fin 1024, v3 (ix2 r k) * v5 (ix2 h k)) (v7 (ix3 (0 : Fin 1) r h)) := by
  pointwise [k0_pay9, k0_pay7, k0_pay6, k0_pay5, k0_pay4, upGrad, sigm]

theorem pay16_apply (v4 : Vec Ideal S256x1024 .bf16) (v5 : Vec Ideal S1408x1024 .bf16) (v7 v10 : Vec Ideal S1x256x1408 .bf16) (r : Fin 256) (h : Fin 1408) :
    k0_pay16 v4 v5 v7 v10 (ix2 r h) = gateGrad (∑ k : Fin 1024, v4 (ix2 r k) * v5 (ix2 h k)) (v7 (ix3 (0 : Fin 1) r h)) (v10 (ix3 (0 : Fin 1) r h)) := by
  pointwise [k0_pay16, k0_pay15, k0_pay14, k0_pay13, gateGrad, sigm]

theorem pay17_apply (v4 : Vec Ideal S256x1024 .bf16) (v5 : Vec Ideal S1408x1024 .bf16) (v7 : Vec Ideal S1x256x1408 .bf16) (r : Fin 256) (h : Fin 1408) :
    k0_pay17 v4 v5 v7 (ix2 r h) = upGrad (∑ k : Fin 1024, v4 (ix2 r k) * v5 (ix2 h k)) (v7 (ix3 (0 : Fin 1) r h)) := by
  pointwise [k0_pay17, k0_pay15, k0_pay14, k0_pay13, upGrad, sigm]

theorem pay12_apply (v27 v30 : Vec Ideal S256x1408 .bf16) (v37 v40 : Vec Ideal S1x1024x1408 .bf16) (r : Fin 256) (d : Fin 1024) :
    k0_pay12 v27 v30 v37 v40 (ix2 r d) = ∑ h : Fin 1408, v27 (ix2 r h) * v37 (ix3 (0 : Fin 1) d h) + ∑ h : Fin 1408, v30 (ix2 r h) * v40 (ix3 (0 : Fin 1) d h) := by
  pointwise [k0_pay12]

theorem pay20_apply (v43 : Vec Ideal S256x1024 .f32) (v66 v69 : Vec Ideal S256x1408 .bf16) (v76 v79 : Vec Ideal S1x1024x1408 .bf16) (r : Fin 256) (d : Fin 1024) :
    k0_pay20 v43 v66 v69 v76 v79 (ix2 r d) = v43 (ix2 r d) + (∑ h : Fin 1408, v66 (ix2 r h) * v76 (ix3 (0 : Fin 1) d h) + ∑ h : Fin 1408, v69 (ix2 r h) * v79 (ix3 (0 : Fin 1) d h)) := by
  pointwise [k0_pay20]

theorem pay22_apply (v84 : Vec Ideal S256x1024 .f32) (r : Fin 256) (d : Fin 1024) :
    k0_pay22 v84 (ix2 r d) = unit (fun k => v84 (ix2 r k)) d := by
  pointwise [k0_pay22, k0_pay21, unit, scale, mean]

theorem pay24_apply (v84 : Vec Ideal S256x1024 .f32) (r : Fin 256) (d : Fin 1024) :
    k0_pay24 v84 (ix2 r d) = scale (fun k => v84 (ix2 r k)) := by
  pointwise [k0_pay24, k0_pay21, scale, mean]

theorem pay23_apply (v43 : Vec Ideal S256x1024 .f32) (v66 v69 : Vec Ideal S256x1408 .bf16) (v76 v79 : Vec Ideal S1x1024x1408 .bf16)
    (v84 : Vec Ideal S256x1024 .f32) (v85 : Vec Ideal S1x1024 .f32) (r : Fin 256) (d : Fin 1024) :
    k0_pay23 v43 v66 v69 v76 v79 v84 v85 (ix2 r d) =
      k0_pay20 v43 v66 v69 v76 v79 (ix2 r d) * v85 (ix2 (0 : Fin 1) d) - unit (fun k => v84 (ix2 r k)) d *
        mean (∑ k : Fin 1024, k0_pay20 v43 v66 v69 v76 v79 (ix2 r k) * v85 (ix2 (0 : Fin 1) k) * unit (fun k => v84 (ix2 r k)) k) := by
  pointwise [k0_pay23, pay22_apply, mean]

theorem pay1_apply (v3 v105 v106 : Vec Ideal S256x1024 .f32) (r : Fin 256) (d : Fin 1024) :
    k0_pay1 (F := Ideal) v3 v105 v106 (ix2 r d) = v3 (ix2 r d) + v106 (ix2 r d) * v105 (ix2 r d) := by
  pointwise [k0_pay1]

theorem pay2_apply (v83 v95 : Vec Ideal S256x1024 .f32) (v111 : Vec Ideal S1x1024 .f32) (d : Fin 1024) :
    k0_pay2 (F := Ideal) v83 v95 v111 (ix2 (0 : Fin 1) d) = v111 (ix2 (0 : Fin 1) d) + ∑ r : Fin 256, v83 (ix2 r d) * v95 (ix2 r d) := by
  pointwise [k0_pay2]

section
variable (x0 : Vec Ideal S256x1024 .f32) (x1 : Vec Ideal S2816x1024 .bf16) (x2 : Vec Ideal S2x256x2816 .bf16) (x3 : Vec Ideal S4x1024x1408 .bf16)
  (x4 : Vec Ideal S256x1024 .f32) (x5 : Vec Ideal S1x1024 .f32) (z : Vec Ideal S1x1024 .f32)

/-- The two halves of the projection's gradient, for a row of the block. -/
def tileGate (r : Fin 256) : Fin 2816 → EReal :=
  gates (fun k => x0 (ix2 r k)) (fun h k => x1 (ix2 h k)) (fun h => x2 (ix3 (0 : Fin 2) r h)) (fun h => x2 (ix3 (1 : Fin 2) r h))
def tileUp (r : Fin 256) : Fin 2816 → EReal :=
  ups (fun k => x0 (ix2 r k)) (fun h k => x1 (ix2 h k)) (fun h => x2 (ix3 (0 : Fin 2) r h))
/-- The gradient of a row of the block after the norm. -/
def tileNormed (r : Fin 256) : Fin 1024 → EReal :=
  normed (tileGate x0 x1 x2 r) (tileUp x0 x1 x2 r) (fun s d h => x3 (ix3 s d h))

/-- What a point leaves in its three blocks; the last one over what the block held. -/
def tileHidden : Vec Ideal S2x256x2816 .bf16 := fun y => if (y 0).val = 0 then tileGate x0 x1 x2 (y 1) (y 2) else tileUp x0 x1 x2 (y 1) (y 2)
def tileRow : Vec Ideal S256x1024 .f32 := fun y =>
  rowGrad (fun k => x0 (ix2 (y 0) k)) (tileNormed x0 x1 x2 x3 (y 0)) (fun k => x4 (ix2 (y 0) k)) (fun k => x5 (ix2 (0 : Fin 1) k)) (y 1)
def tileWeight : Vec Ideal S1x1024 .f32 := fun y =>
  z (ix2 (0 : Fin 1) (y 1)) + ∑ r : Fin 256, weightGrad (tileNormed x0 x1 x2 x3 r) (fun k => x4 (ix2 r k)) (y 1)

theorem tileHidden_gate (r : Fin 256) (h : Fin 2816) : tileHidden x0 x1 x2 (ix3 (0 : Fin 2) r h) = tileGate x0 x1 x2 r h := rfl
theorem tileHidden_up (r : Fin 256) (h : Fin 2816) : tileHidden x0 x1 x2 (ix3 (1 : Fin 2) r h) = tileUp x0 x1 x2 r h := rfl
theorem tileRow_apply (r : Fin 256) (d : Fin 1024) : tileRow x0 x1 x2 x3 x4 x5 (ix2 r d) =
    rowGrad (fun k => x0 (ix2 r k)) (tileNormed x0 x1 x2 x3 r) (fun k => x4 (ix2 r k)) (fun k => x5 (ix2 (0 : Fin 1) k)) d := rfl
theorem tileWeight_apply (d : Fin 1024) : tileWeight x0 x1 x2 x3 x4 z (ix2 (0 : Fin 1) d) =
    z (ix2 (0 : Fin 1) d) + ∑ r : Fin 256, weightGrad (tileNormed x0 x1 x2 x3 r) (fun k => x4 (ix2 r k)) d := rfl

variable (c : Dev nD) (i : grid0.Coords) (a0 : Memref sig .tc .vmem S256x1024 .f32) (h0 : a0.IsWhole)
  (a1 : Memref sig .tc .vmem S2816x1024 .bf16) (h1 : a1.IsWhole) (a2 : Memref sig .tc .vmem S2x256x2816 .bf16) (h2 : a2.IsWhole)
  (a3 : Memref sig .tc .vmem S4x1024x1408 .bf16) (h3 : a3.IsWhole) (a4 : Memref sig .tc .vmem S256x1024 .f32) (h4 : a4.IsWhole)
  (a5 : Memref sig .tc .vmem S1x1024 .f32) (h5 : a5.IsWhole) (a6 : Memref sig .tc .vmem S2x256x2816 .bf16) (h6 : a6.IsWhole)
  (a7 : Memref sig .tc .vmem S256x1024 .f32) (h7 : a7.IsWhole) (a8 : Memref sig .tc .vmem S1x1024 .f32) (h8 : a8.IsWhole)

theorem gate0 (r : Fin 256) (h : Fin 1408) : kernelRun0_A.sl.r_2 (F := Ideal) c a0 h0 a1 h1 a2 h2 x0 x1 x2 (ix2 r h) = tileGate x0 x1 x2 r (unitAt 0 h) := by
  pointwise [kernelRun0_A.sl.r_2, pay8_apply, load_apply, emb_eq_idx, tileGate, gates, hidden, unitAt_zero]

theorem up0 (r : Fin 256) (h : Fin 1408) : kernelRun0_A.sl.r_3 (F := Ideal) c a0 h0 a1 h1 a2 h2 x0 x1 x2 (ix2 r h) = tileUp x0 x1 x2 r (unitAt 0 h) := by
  pointwise [kernelRun0_A.sl.r_3, pay9_apply, load_apply, emb_eq_idx, tileUp, ups, hidden, unitAt_zero]

theorem gate1 (r : Fin 256) (h : Fin 1408) : kernelRun0_A.sl.r_5 (F := Ideal) c a0 h0 a1 h1 a2 h2 x0 x1 x2 (ix2 r h) = tileGate x0 x1 x2 r (unitAt 1 h) := by
  pointwise [kernelRun0_A.sl.r_5, kernelRun0_A.sl.r_1, k0_pay4, pay16_apply, load_apply, emb_eq_idx, tileGate, gates, hidden, unitAt_one]

theorem up1 (r : Fin 256) (h : Fin 1408) : kernelRun0_A.sl.r_6 (F := Ideal) c a0 h0 a1 h1 a2 h2 x0 x1 x2 (ix2 r h) = tileUp x0 x1 x2 r (unitAt 1 h) := by
  pointwise [kernelRun0_A.sl.r_6, kernelRun0_A.sl.r_1, k0_pay4, pay17_apply, load_apply, emb_eq_idx, tileUp, ups, hidden, unitAt_one]

theorem normed_apply (r : Fin 256) (d : Fin 1024) :
    kernelRun0_A.sl.r_7 (F := Ideal) c a0 h0 a1 h1 a2 h2 a3 h3 x0 x1 x2 x3 (ix2 r d) = tileNormed x0 x1 x2 x3 r d := by
  pointwise [kernelRun0_A.sl.r_7, kernelRun0_A.sl.r_4, pay20_apply, pay12_apply, gate0, up0, gate1, up1, load_apply, emb_eq_idx, tileNormed, normed, half]

theorem rowGrad_apply (r : Fin 256) (d : Fin 1024) :
    kernelRun0_A.sl.r_9 (F := Ideal) c a0 h0 a1 h1 a2 h2 a3 h3 a4 h4 a5 h5 x0 x1 x2 x3 x4 x5 (ix2 r d) =
      tileNormed x0 x1 x2 x3 r d * x5 (ix2 (0 : Fin 1) d) - unit (fun k => x4 (ix2 r k)) d *
        mean (∑ k : Fin 1024, tileNormed x0 x1 x2 x3 r k * x5 (ix2 (0 : Fin 1) k) * unit (fun k => x4 (ix2 r k)) k) := by
  have e : ∀ k : Fin 1024, k0_pay20 (kernelRun0_A.sl.r_4 (F := Ideal) c a0 h0 a1 h1 a2 h2 a3 h3 x0 x1 x2 x3) (kernelRun0_A.sl.r_5 c a0 h0 a1 h1 a2 h2 x0 x1 x2)
      (kernelRun0_A.sl.r_6 c a0 h0 a1 h1 a2 h2 x0 x1 x2) _ _ (ix2 r k) = tileNormed x0 x1 x2 x3 r k :=
    fun k => normed_apply x0 x1 x2 x3 c a0 h0 a1 h1 a2 h2 a3 h3 r k
  pointwise [kernelRun0_A.sl.r_9, pay23_apply, e, load_apply, emb_eq_idx]

/-- The four stores of a point in its first block, and the one in its second, whichever of its run the point is. -/
theorem hidden_stores (v3 : Vec Ideal S256x1024 .f32) (v5 : Vec Ideal S1408x1024 .bf16) (v7 v10 : Vec Ideal S1x256x1408 .bf16) (q p' q' : Vec Ideal S256x1408 .bf16)
    (e0 : ∀ r h, k0_pay8 v3 v5 v7 v10 (ix2 r h) = tileGate x0 x1 x2 r (unitAt 0 h)) (e1 : ∀ r h, q (ix2 r h) = tileUp x0 x1 x2 r (unitAt 0 h))
    (e2 : ∀ r h, p' (ix2 r h) = tileGate x0 x1 x2 r (unitAt 1 h)) (e3 : ∀ r h, q' (ix2 r h) = tileUp x0 x1 x2 r (unitAt 1 h)) :
    View.PiecesOf (tileHidden x0 x1 x2) [⟨Rect.unit ![1, 0, 1408] S1x256x1408.size inb_S2x256x2816_S1x256x1408_1_0_1408, k0_pay19 (F := Ideal) q'⟩,
      ⟨Rect.unit ![0, 0, 1408] S1x256x1408.size inb_S2x256x2816_S1x256x1408_0_0_1408, k0_pay18 (F := Ideal) p'⟩,
      ⟨Rect.unit ![1, 0, 0] S1x256x1408.size inb_S2x256x2816_S1x256x1408_1_0_0, k0_pay11 (F := Ideal) q⟩,
      ⟨Rect.unit ![0, 0, 0] S1x256x1408.size inb_S2x256x2816_S1x256x1408_0_0_0, k0_pay10 (F := Ideal) v3 v5 v7 v10⟩] := by
  refine ⟨fun x => ?_, fun x => ?_, fun x => ?_, fun x => ?_, trivial⟩ <;> dsimp only <;>
    obtain ⟨k, r, h, rfl⟩ : ∃ (k : Fin 1) (r : Fin 256) (h : Fin 1408), x = ix3 k r h := ⟨x 0, x 1, x 2, funext fun a => by fin_cases a <;> rfl⟩ <;>
    obtain rfl : k = 0 := Subsingleton.elim _ _ <;>
    pointwise [k0_pay10, k0_pay11, k0_pay18, k0_pay19, e0, e1, e2, e3, emb_eq_idx, tileHidden, unitAt_zero, unitAt_one]

theorem row_store (v3 v105 v106 : Vec Ideal S256x1024 .f32) (e0 : ∀ r d, v3 (ix2 r d) = x0 (ix2 r d))
    (e1 : ∀ r d, v105 (ix2 r d) = tileNormed x0 x1 x2 x3 r d * x5 (ix2 (0 : Fin 1) d) - unit (fun k => x4 (ix2 r k)) d *
        mean (∑ k : Fin 1024, tileNormed x0 x1 x2 x3 r k * x5 (ix2 (0 : Fin 1) k) * unit (fun k => x4 (ix2 r k)) k))
    (e2 : ∀ r d, v106 (ix2 r d) = scale (fun k => x4 (ix2 r k))) :
    View.PiecesOf (tileRow x0 x1 x2 x3 x4 x5) [⟨Rect.unit ![0, 0] ![256, 1024] inb_S256x1024_S256x1024_0_0, k0_pay1 (F := Ideal) v3 v105 v106⟩] := by
  refine ⟨fun x => ?_, trivial⟩
  dsimp only
  obtain ⟨r, d, rfl⟩ : ∃ (r : Fin 256) (d : Fin 1024), x = ix2 r d := ⟨x 0, x 1, funext fun a => by fin_cases a <;> rfl⟩
  pointwise [pay1_apply, e0, e1, e2, emb_eq_idx, tileRow, rowGrad]

theorem load0 (r : Fin 256) (d : Fin 1024) : kernelRun0_A.sl.r (F := Ideal) c a0 h0 x0 (ix2 r d) = x0 (ix2 r d) := by
  pointwise [kernelRun0_A.sl.r, load_apply, emb_eq_idx]

theorem scale_apply (r : Fin 256) (d : Fin 1024) : kernelRun0_A.sl.r_10 (F := Ideal) c a4 h4 x4 (ix2 r d) = scale (fun k => x4 (ix2 r k)) := by
  pointwise [kernelRun0_A.sl.r_10, pay24_apply, load_apply, emb_eq_idx]

theorem later_pieces (hc : ¬cond0_0 i) : View.PiecesOf (tileWeight x0 x1 x2 x3 x4 z) (kernelRun0_B (F := Ideal) c i a0 h0 a1 h1 a2 h2 a3 h3 a4 h4 a5 h5 a6 h6 a7 h7 a8 h8 hc x0 x1 x2 x3 x4 x5 z).2.2.1 := by
  have e7 : kernelRun0_B.sl.r_7 (F := Ideal) c a0 h0 a1 h1 a2 h2 a3 h3 x0 x1 x2 x3 = kernelRun0_A.sl.r_7 c a0 h0 a1 h1 a2 h2 a3 h3 x0 x1 x2 x3 := rfl
  refine ⟨fun x => ?_, trivial⟩
  dsimp only
  obtain ⟨k, d, rfl⟩ : ∃ (k : Fin 1) (d : Fin 1024), x = ix2 k d := ⟨x 0, x 1, funext fun a => by fin_cases a <;> rfl⟩
  obtain rfl : k = 0 := Subsingleton.elim _ _
  pointwise [pay2_apply, e7, kernelRun0_B.sl.r_8, pay22_apply, normed_apply, load_apply, emb_eq_idx, tileWeight, weightGrad]

/-- A run's first point finds the zeros it has put down. -/
theorem first_fill : kernelRun0_A.sl.v111 (F := Ideal) c a8 = fun _ => 0 := by
  unfold kernelRun0_A.sl.v111 kernelRun0_A.sl.H8_1
  refine (View.readCov_fill _ _ _ _ _ (by decide)).trans ?_
  funext x
  pointwise [k0_pay3]

theorem first_pieces (hc : cond0_0 i) : View.PiecesOf (tileWeight x0 x1 x2 x3 x4 (fun _ => 0)) ((kernelRun0_A (F := Ideal) c i a0 h0 a1 h1 a2 h2 a3 h3 a4 h4 a5 h5 a6 h6 a7 h7 a8 h8 hc x0 x1 x2 x3 x4 x5).2.2.1.take 1) := by
  refine ⟨fun x => ?_, trivial⟩
  dsimp only
  obtain ⟨k, d, rfl⟩ : ∃ (k : Fin 1) (d : Fin 1024), x = ix2 k d := ⟨x 0, x 1, funext fun a => by fin_cases a <;> rfl⟩
  obtain rfl : k = 0 := Subsingleton.elim _ _
  pointwise [pay2_apply, first_fill, kernelRun0_A.sl.r_8, pay22_apply, normed_apply, load_apply, emb_eq_idx, tileWeight, weightGrad]

theorem first_take (hc : cond0_0 i) (y : S1x1024.Idx) : ∃ p ∈ (kernelRun0_A (F := Ideal) c i a0 h0 a1 h1 a2 h2 a3 h3 a4 h4 a5 h5 a6 h6 a7 h7 a8 h8 hc x0 x1 x2 x3 x4 x5).2.2.1.take 1, y ∈ p.1.set :=
  View.cover_of_tiledL ((kernelRun0_A (F := Ideal) c i a0 h0 a1 h1 a2 h2 a3 h3 a4 h4 a5 h5 a6 h6 a7 h7 a8 h8 hc x0 x1 x2 x3 x4 x5).2.2.1.take 1) S1x1024.size (by sl_kernel_rfl) y

theorem first_hidden (hc : cond0_0 i) : out0_A_6 c i a0 h0 a1 h1 a2 h2 a3 h3 a4 h4 a5 h5 a6 h6 a7 h7 a8 h8 hc x0 x1 x2 x3 x4 x5 = tileHidden x0 x1 x2 := by
  unfold out0_A_6
  rw [View.read_writes_eq_canon _ _ _ (cover0_A_6 c i a0 h0 a1 h1 a2 h2 a3 h3 a4 h4 a5 h5 a6 h6 a7 h7 a8 h8 hc x0 x1 x2 x3 x4 x5)]
  funext y
  exact View.canon_apply_of_pieces _ _ (View.PiecesOf.mem (hidden_stores x0 x1 x2 _ _ _ _ _ _ _ (gate0 x0 x1 x2 c a0 h0 a1 h1 a2 h2) (up0 x0 x1 x2 c a0 h0 a1 h1 a2 h2)
      (gate1 x0 x1 x2 c a0 h0 a1 h1 a2 h2) (up1 x0 x1 x2 c a0 h0 a1 h1 a2 h2))) y
    (cover0_A_6 c i a0 h0 a1 h1 a2 h2 a3 h3 a4 h4 a5 h5 a6 h6 a7 h7 a8 h8 hc x0 x1 x2 x3 x4 x5 y)

theorem first_row (hc : cond0_0 i) : out0_A_7 c i a0 h0 a1 h1 a2 h2 a3 h3 a4 h4 a5 h5 a6 h6 a7 h7 a8 h8 hc x0 x1 x2 x3 x4 x5 = tileRow x0 x1 x2 x3 x4 x5 := by
  unfold out0_A_7
  rw [View.read_writes_eq_canon _ _ _ (cover0_A_7 c i a0 h0 a1 h1 a2 h2 a3 h3 a4 h4 a5 h5 a6 h6 a7 h7 a8 h8 hc x0 x1 x2 x3 x4 x5)]
  funext y
  exact View.canon_apply_of_pieces _ _ (View.PiecesOf.mem (row_store x0 x1 x2 x3 x4 x5 _ _ _ (load0 x0 c a0 h0)
      (rowGrad_apply x0 x1 x2 x3 x4 x5 c a0 h0 a1 h1 a2 h2 a3 h3 a4 h4 a5 h5) (scale_apply x4 c a4 h4))) y
    (cover0_A_7 c i a0 h0 a1 h1 a2 h2 a3 h3 a4 h4 a5 h5 a6 h6 a7 h7 a8 h8 hc x0 x1 x2 x3 x4 x5 y)

theorem first_weight (hc : cond0_0 i) : out0_A_8 c i a0 h0 a1 h1 a2 h2 a3 h3 a4 h4 a5 h5 a6 h6 a7 h7 a8 h8 hc x0 x1 x2 x3 x4 x5 = tileWeight x0 x1 x2 x3 x4 (fun _ => 0) := by
  unfold out0_A_8
  rw [View.read_writes_eq_canon _ _ _ (cover0_A_8 c i a0 h0 a1 h1 a2 h2 a3 h3 a4 h4 a5 h5 a6 h6 a7 h7 a8 h8 hc x0 x1 x2 x3 x4 x5)]
  funext y
  rw [← List.take_append_drop 1 (kernelRun0_A (F := Ideal) c i a0 h0 a1 h1 a2 h2 a3 h3 a4 h4 a5 h5 a6 h6 a7 h7 a8 h8 hc x0 x1 x2 x3 x4 x5).2.2.1]
  exact View.canon_append_of_piecesOf _ _ _ (first_pieces x0 x1 x2 x3 x4 x5 c i a0 h0 a1 h1 a2 h2 a3 h3 a4 h4 a5 h5 a6 h6 a7 h7 a8 h8 hc) y
    (first_take x0 x1 x2 x3 x4 x5 c i a0 h0 a1 h1 a2 h2 a3 h3 a4 h4 a5 h5 a6 h6 a7 h7 a8 h8 hc y)

theorem later_weight (hc : ¬cond0_0 i) : out0_B_8 c i a0 h0 a1 h1 a2 h2 a3 h3 a4 h4 a5 h5 a6 h6 a7 h7 a8 h8 hc x0 x1 x2 x3 x4 x5 z = tileWeight x0 x1 x2 x3 x4 z := by
  unfold out0_B_8
  rw [View.read_writes_eq_canon _ _ _ (cover0_B_8 c i a0 h0 a1 h1 a2 h2 a3 h3 a4 h4 a5 h5 a6 h6 a7 h7 a8 h8 hc x0 x1 x2 x3 x4 x5 z)]
  funext y
  exact View.canon_apply_of_pieces _ _ (View.PiecesOf.mem (later_pieces x0 x1 x2 x3 x4 x5 z c i a0 h0 a1 h1 a2 h2 a3 h3 a4 h4 a5 h5 a6 h6 a7 h7 a8 h8 hc)) y
    (cover0_B_8 c i a0 h0 a1 h1 a2 h2 a3 h3 a4 h4 a5 h5 a6 h6 a7 h7 a8 h8 hc x0 x1 x2 x3 x4 x5 z y)

/-- A later point stores in the first two blocks what a first one does. -/
theorem later_hidden (hc : ¬cond0_0 i) : out0_B_6 c i a0 h0 a1 h1 a2 h2 a3 h3 a4 h4 a5 h5 a6 h6 a7 h7 a8 h8 hc x0 x1 x2 x3 x4 x5 z = tileHidden x0 x1 x2 := by
  unfold out0_B_6
  rw [View.read_writes_eq_canon _ _ _ (cover0_B_6 c i a0 h0 a1 h1 a2 h2 a3 h3 a4 h4 a5 h5 a6 h6 a7 h7 a8 h8 hc x0 x1 x2 x3 x4 x5 z)]
  funext y
  exact View.canon_apply_of_pieces _ _ (View.PiecesOf.mem (hidden_stores x0 x1 x2 _ _ _ _ _ _ _ (gate0 x0 x1 x2 c a0 h0 a1 h1 a2 h2) (up0 x0 x1 x2 c a0 h0 a1 h1 a2 h2)
      (gate1 x0 x1 x2 c a0 h0 a1 h1 a2 h2) (up1 x0 x1 x2 c a0 h0 a1 h1 a2 h2))) y
    (cover0_B_6 c i a0 h0 a1 h1 a2 h2 a3 h3 a4 h4 a5 h5 a6 h6 a7 h7 a8 h8 hc x0 x1 x2 x3 x4 x5 z y)

theorem later_row (hc : ¬cond0_0 i) : out0_B_7 c i a0 h0 a1 h1 a2 h2 a3 h3 a4 h4 a5 h5 a6 h6 a7 h7 a8 h8 hc x0 x1 x2 x3 x4 x5 z = tileRow x0 x1 x2 x3 x4 x5 := by
  unfold out0_B_7
  rw [View.read_writes_eq_canon _ _ _ (cover0_B_7 c i a0 h0 a1 h1 a2 h2 a3 h3 a4 h4 a5 h5 a6 h6 a7 h7 a8 h8 hc x0 x1 x2 x3 x4 x5 z)]
  funext y
  exact View.canon_apply_of_pieces _ _ (View.PiecesOf.mem (row_store x0 x1 x2 x3 x4 x5 _ _ _ (load0 x0 c a0 h0)
      (rowGrad_apply x0 x1 x2 x3 x4 x5 c a0 h0 a1 h1 a2 h2 a3 h3 a4 h4 a5 h5) (scale_apply x4 c a4 h4))) y
    (cover0_B_7 c i a0 h0 a1 h1 a2 h2 a3 h3 a4 h4 a5 h5 a6 h6 a7 h7 a8 h8 hc x0 x1 x2 x3 x4 x5 z y)

end

end Cert.FfnGrad
end
-- ==== Proof.FfnGradReal.lean ====
/- That the two ways to write a row's gradients agree. For the gate's, a product is spread over a sum, which needs the
   numbers to be finite; for the norm's, what is spread is the norm's scale, a positive real number, or zero where the row
   has an infinite element, and so nothing is asked. -/
module

public import proofs.«01_k».proof.Proof.FfnGradRow

@[expose] public section

noncomputable section

namespace Cert.FfnGrad

open Idealize.ShloMosaic
open scoped BigOperators

/-- The extended real is a real number. -/
def IsNum (a : EReal) : Prop := ∃ r : ℝ, a = (r : EReal)

theorem IsNum.coe (r : ℝ) : IsNum (r : EReal) := ⟨r, rfl⟩
theorem IsNum.zero : IsNum 0 := ⟨0, EReal.coe_zero.symm⟩
theorem IsNum.add {a b : EReal} (ha : IsNum a) (hb : IsNum b) : IsNum (a + b) := by
  obtain ⟨r, rfl⟩ := ha; obtain ⟨s, rfl⟩ := hb; exact ⟨r + s, (EReal.coe_add r s).symm⟩
theorem IsNum.mul {a b : EReal} (ha : IsNum a) (hb : IsNum b) : IsNum (a * b) := by
  obtain ⟨r, rfl⟩ := ha; obtain ⟨s, rfl⟩ := hb; exact ⟨r * s, (EReal.coe_mul r s).symm⟩
theorem coe_sum {ι : Type*} (s : Finset ι) (f : ι → ℝ) : ((∑ i ∈ s, f i : ℝ) : EReal) = ∑ i ∈ s, (f i : EReal) := by
  classical
  refine Finset.induction_on s (by simp) fun a s ha h => ?_
  rw [Finset.sum_insert ha, Finset.sum_insert ha, EReal.coe_add, h]
theorem IsNum.sum {ι : Type*} (s : Finset ι) {f : ι → EReal} (h : ∀ i, IsNum (f i)) : IsNum (∑ i ∈ s, f i) := by
  choose g hg using h
  exact ⟨∑ i ∈ s, g i, by rw [coe_sum]; exact Finset.sum_congr rfl fun i _ => hg i⟩

/-- A number whose size is under infinity is a real number. -/
theorem num_of_finite {a : EReal} (h : Ideal.cmp .olt (max a (-a)) (Ideal.ofBits .f32 0x7F800000#32) = 1#1) : IsNum a := by
  have e : Ideal.ofBits .f32 0x7F800000#32 = ⊤ := by simp [Ideal.ofBits, Ideal.ieee]
  rw [e] at h
  cases a with
  | bot => simp [Ideal.cmp] at h
  | top => simp [Ideal.cmp] at h
  | coe r => exact .coe r

/-- The sigmoid of a real number. -/
theorem sigm_coe (a : ℝ) : ∃ s : ℝ, sigm (a : EReal) = (s : EReal) := by
  have h : (1 : ℝ) + Real.exp (0 - a) ≠ 0 := by positivity
  refine ⟨1 / (1 + Real.exp (0 - a)), ?_⟩
  have e : (1 : EReal) + Ideal.exp (0 - (a : EReal)) = ((1 + Real.exp (0 - a) : ℝ) : EReal) := by
    rw [EReal.coe_add, EReal.coe_one, ← EReal.coe_zero, ← EReal.coe_sub, Ideal.exp_coe]
  rw [sigm, e, Ideal.div_coe h, one_mul]

theorem gateGrad_eq {d a b : EReal} (hd : IsNum d) (ha : IsNum a) (hb : IsNum b) : gateGrad d a b = gateGrad' d a b := by
  obtain ⟨d, rfl⟩ := hd; obtain ⟨a, rfl⟩ := ha; obtain ⟨b, rfl⟩ := hb
  obtain ⟨s, hs⟩ := sigm_coe a
  rw [gateGrad, gateGrad', hs]
  norm_cast
  ring

theorem hidden_num {dx : Fin 1024 → EReal} {wo : Fin 2816 → Fin 1024 → EReal} (hdx : ∀ k, IsNum (dx k)) (hwo : ∀ h k, IsNum (wo h k)) (h : Fin 2816) :
    IsNum (hidden dx wo h) := .sum _ fun k => (hdx k).mul (hwo h k)

/-! ## The constants -/

theorem count_eq : Ideal.ofBits .f32 0x44800000#32 = ((1024 : ℝ) : EReal) := by
  simp [Ideal.ofBits, Ideal.ieee, -EReal.coe_mul]; norm_num

theorem half_eq : Ideal.ofBits .f32 0xBF000000#32 = ((-(1 / 2) : ℝ) : EReal) := by
  simp [Ideal.ofBits, Ideal.ieee, -EReal.coe_mul, -EReal.coe_neg]; norm_num

theorem small_pos : ∃ e : ℝ, 0 < e ∧ Ideal.ofBits .f32 0x358637BD#32 = (e : EReal) := by
  refine ⟨_, ?_, by simp [Ideal.ofBits, Ideal.ieee, -EReal.coe_mul]; rfl⟩
  norm_num

theorem mean_eq (s : EReal) : mean s = s * ((1 / 1024 : ℝ) : EReal) := by
  rw [mean, count_eq, Ideal.div_coe (by norm_num)]

/-! ## The norm -/

/-- A row is a row of real numbers, or its mean square is infinite. -/
theorem row_cases (x : Fin 1024 → EReal) : (∃ y : Fin 1024 → ℝ, x = fun k => (y k : EReal)) ∨ meanSquare x = ⊤ := by
  by_cases h : ∀ k, IsNum (x k)
  · choose y hy using h
    exact .inl ⟨y, funext hy⟩
  refine .inr ?_
  obtain ⟨k, hk⟩ := not_forall.mp h
  have hsq : ∀ a : EReal, 0 ≤ a * a := fun a => by
    induction a with
    | bot => simp
    | top => simp
    | coe r => exact_mod_cast mul_self_nonneg r
  have htop : x k * x k = ⊤ := by
    cases e : x k with
    | bot => simp
    | top => simp
    | coe r => exact absurd ⟨r, e⟩ hk
  have hs : (∑ k : Fin 1024, x k * x k) = ⊤ :=
    top_le_iff.mp (htop ▸ Finset.single_le_sum (f := fun k => x k * x k) (fun i _ => hsq (x i)) (Finset.mem_univ k))
  obtain ⟨e, _, he⟩ := small_pos
  rw [meanSquare, hs, mean_eq, he, EReal.top_mul_coe_of_pos (by norm_num), EReal.top_add_coe]

/-- A row of real numbers has a positive mean square. -/
theorem meanSquare_coe (y : Fin 1024 → ℝ) : ∃ q : ℝ, 0 < q ∧ meanSquare (fun k => (y k : EReal)) = (q : EReal) := by
  obtain ⟨e, h0, he⟩ := small_pos
  refine ⟨(∑ k, y k * y k) * (1 / 1024) + e, ?_, ?_⟩
  · have := Finset.sum_nonneg (s := Finset.univ) fun k _ => mul_self_nonneg (y k)
    positivity
  · rw [meanSquare, mean_eq, he, EReal.coe_add, EReal.coe_mul, coe_sum]
    simp only [EReal.coe_mul]

theorem scale_coe {x : Fin 1024 → EReal} {q : ℝ} (h0 : 0 < q) (h : meanSquare x = (q : EReal)) : scale x = (((Real.sqrt q)⁻¹ : ℝ) : EReal) := by
  rw [scale, ← meanSquare, h, Ideal.rsqrt_coe, if_neg (not_lt.mpr h0.le), if_neg h0.ne']

theorem scale_top {x : Fin 1024 → EReal} (h : meanSquare x = ⊤) : scale x = 0 := by
  rw [scale, ← meanSquare, h, Ideal.rsqrt_top]

theorem unit_num (x : Fin 1024 → EReal) (d : Fin 1024) : IsNum (unit x d) := by
  obtain ⟨y, rfl⟩ | h := row_cases x
  · obtain ⟨q, h0, hq⟩ := meanSquare_coe y
    rw [unit, scale_coe h0 hq]
    exact (IsNum.coe _).mul (.coe _)
  · rw [unit, scale_top h, mul_zero]
    exact .zero

/-- A nonnegative real number is multiplied into a sum, whatever the sum holds. -/
theorem mul_sum_of_nonneg {ρ : ℝ} (h : 0 ≤ ρ) {ι : Type*} (s : Finset ι) (f : ι → EReal) : (ρ : EReal) * ∑ i ∈ s, f i = ∑ i ∈ s, (ρ : EReal) * f i := by
  classical
  refine Finset.induction_on s (by simp) fun a s ha ih => ?_
  rw [Finset.sum_insert ha, Finset.sum_insert ha, EReal.left_distrib_of_nonneg_of_ne_top (by exact_mod_cast h) (EReal.coe_ne_top ρ), ih]

/-- Twice a real multiple is the multiple by the doubled number, whatever is multiplied. -/
theorem double_mul (a : ℝ) (t : EReal) : (a : EReal) * t + (a : EReal) * t = ((2 * a : ℝ) : EReal) * t := by
  have h : (a : EReal) * t + (a : EReal) * t = ((2 : ℝ) : EReal) * ((a : EReal) * t) := by
    generalize (a : EReal) * t = z
    induction z with
    | bot => rw [EReal.coe_mul_bot_of_pos (by norm_num)]; rfl
    | top => rw [EReal.coe_mul_top_of_pos (by norm_num)]; rfl
    | coe r => norm_cast; ring
  rw [h, ← mul_assoc, ← EReal.coe_mul]

/-- The two ways to write the row's gradient agree, whatever the gradient, the gain and the row hold: the scale that the
    kernel takes out of the sums is a positive real number, or zero. -/
theorem rowGrad_eq (dx n x g : Fin 1024 → EReal) (d : Fin 1024) : rowGrad dx n x g d = rowGrad' dx n x g d := by
  refine congrArg (dx d + ·) ?_
  obtain ⟨y, rfl⟩ | h := row_cases x
  · obtain ⟨q, h0, hq⟩ := meanSquare_coe y
    have hρ := scale_coe h0 hq
    have hsq : (Real.sqrt q)⁻¹ * (Real.sqrt q)⁻¹ = 1 / q := by
      rw [← mul_inv, Real.mul_self_sqrt h0.le, one_div]
    have hpos : 0 ≤ (Real.sqrt q)⁻¹ := by positivity
    generalize (Real.sqrt q)⁻¹ = ρ at hρ hsq hpos
    simp only [squareGrad, unit, hρ, hq, half_eq, mean_eq, Ideal.div_coe h0.ne', ← EReal.coe_mul]
    have e : ∑ k, n k * g k * ((y k : EReal) * ρ) = ρ * ∑ k, (y k : EReal) * (n k * g k) := by
      rw [mul_sum_of_nonneg hpos]; exact Finset.sum_congr rfl fun k _ => by ac_rfl
    simp only [EReal.coe_mul] at e ⊢
    rw [e]
    generalize ∑ k, (y k : EReal) * (n k * g k) = t
    generalize n d * g d = u
    have hl : (ρ : EReal) * (u - (y d : EReal) * ρ * (ρ * t * ((1 / 1024 : ℝ) : EReal))) = u * ρ + ((-(y d * ρ * ρ * ρ * (1 / 1024)) : ℝ) : EReal) * t := by
      rw [sub_eq_add_neg, EReal.left_distrib_of_nonneg_of_ne_top (by exact_mod_cast hpos) (EReal.coe_ne_top ρ), mul_comm u]
      refine congrArg _ ?_
      rw [EReal.coe_neg, EReal.neg_mul, mul_neg]
      simp only [EReal.coe_mul]
      refine congrArg _ ?_
      ac_rfl
    rw [hl, add_assoc]
    refine congrArg _ ?_
    have hk : ∀ z : EReal, z = (y d : EReal) * (t * (((-(1 / 2) : ℝ) : EReal) * ((ρ : EReal) * ((1 / q : ℝ) : EReal))) * ((1 / 1024 : ℝ) : EReal)) →
        z = ((y d * (-(1 / 2) * (ρ * (1 / q))) * (1 / 1024) : ℝ) : EReal) * t := fun z hz => by
      rw [hz]; simp only [EReal.coe_mul]; ac_rfl
    rw [hk _ rfl, hk (_ * (y d : EReal)) (mul_comm _ _), double_mul, ← hsq]
    refine congrArg (fun r : ℝ => (r : EReal) * t) ?_
    ring
  · have hs : Ideal.div 0 ⊤ = 0 := by simp [Ideal.div]
    simp only [squareGrad, unit, scale_top h, h, hs, mean_eq, mul_zero, zero_mul, add_zero]

end Cert.FfnGrad
end
-- ==== Proof.FfnGradReference.lean ====
/- The reference's gradients of the feed-forward block, row by row, over the extended reals. -/
module

public import proofs.«01_k».proof.Proof.Gen.Reference6Ideal.Read
public import proofs.«01_k».proof.Proof.FfnGradReal
public import Idealize.ShloMosaic.Lib.Pointwise

@[expose] public section

set_option maxRecDepth 16384

noncomputable section

namespace Cert.FfnGrad.Reference

open Cert.Reference6Ideal Cert.Reference6Ideal.Read
open Idealize.ShloMosaic Idealize.ShloMosaic.TcCoe Idealize.ShloMosaic.Tactic
open scoped BigOperators

variable (x0 x1 : Vec Ideal S8192x1024 .f32) (x2 : Vec Ideal S1x1024 .f32) (x3 : Vec Ideal S4x1024x1408 .bf16) (x4 : Vec Ideal S2816x1024 .bf16)

/-- Shard `s` of the input weight's columns. -/
def colAt (s : Fin 4) (h : Fin 1408) : Fin 5632 := ⟨s.val * 1408 + h.val, by omega⟩

theorem weight_apply (s : Fin 4) (d : Fin 1024) (h : Fin 1408) : val_main_v2 (F := Ideal) x3 (ix2 d (colAt s h)) = x3 (ix3 s d h) := by
  have e0 : (s.val * 1408 + h.val) / 1408 = s.val := by omega
  have e1 : (s.val * 1408 + h.val) % 1408 = h.val := by omega
  pointwise [val_main_v0, val_main_v1, val_main_v2, colAt, e0, e1]

theorem scale_apply (t : Fin 8192) (k : Fin 1) : val_main_v11 (F := Ideal) x1 (ix2 t k) = scale (fun k => x1 (ix2 t k)) := by
  pointwise [val_main_v4, val_main_v5, val_main_v6, val_main_v7, val_main_v8, val_main_v9, val_main_v10, val_main_v11, val_main_cst, val_main_cst_0, val_main_cst_1, scale, mean]

theorem unit_apply (t : Fin 8192) (d : Fin 1024) : val_main_v16 (F := Ideal) x1 (ix2 t d) = unit (fun k => x1 (ix2 t k)) d := by
  pointwise [val_main_v15, val_main_v16, scale_apply, unit]

theorem proj_apply (t : Fin 8192) (h : Fin 5632) :
    val_main_v19 (F := Ideal) x1 x2 x3 (ix2 t h) = ∑ k : Fin 1024, unit (fun k => x1 (ix2 t k)) k * x2 (ix2 (0 : Fin 1) k) * val_main_v2 (F := Ideal) x3 (ix2 k h) := by
  pointwise [val_main_v17, val_main_v18, val_main_v19, unit_apply]

theorem hidden_apply (t : Fin 8192) (h : Fin 2816) :
    val_main_v25 (F := Ideal) x0 x4 (ix2 t h) = hidden (fun k => x0 (ix2 t k)) (fun h k => x4 (ix2 h k)) h := by
  pointwise [val_main_v3, val_main_v24, val_main_v25, hidden]

theorem up_apply (t : Fin 8192) (h : Fin 2816) : val_main_v26 (F := Ideal) x0 x1 x2 x3 x4 (ix2 t h) =
    ups (fun k => x0 (ix2 t k)) (fun h k => x4 (ix2 h k)) (fun h => val_main_v20 (F := Ideal) x1 x2 x3 (ix2 t h)) h := by
  pointwise [val_main_v22_0, val_main_v22_1, val_main_v22_2, val_main_v26, hidden_apply, val_main_call0_v0, val_main_call0_v1, val_main_call0_v2, val_main_call0_v3,
    val_main_call0_v4, val_main_call0_cst, val_main_call0_cst_0, ups, upGrad, sigm, zero_sub]
  rw [mul_comm, mul_assoc]

theorem gate_apply (t : Fin 8192) (h : Fin 2816) : val_main_v28 (F := Ideal) x0 x1 x2 x3 x4 (ix2 t h) =
    gateGrad' (hidden (fun k => x0 (ix2 t k)) (fun h k => x4 (ix2 h k)) h) (val_main_v20 (F := Ideal) x1 x2 x3 (ix2 t h)) (val_main_v21 (F := Ideal) x1 x2 x3 (ix2 t h)) := by
  pointwise [val_main_v22_0, val_main_v22_1, val_main_v22_2, val_main_v27, val_main_v28, hidden_apply, val_main_call0_v0, val_main_call0_v1, val_main_call0_v2,
    val_main_call0_v3, val_main_call0_v4, val_main_call0_cst, val_main_call0_cst_0, val_main_call0_cst_1, val_main_call0_v6, val_main_call0_v7,
    val_main_call1_v0, val_main_call1_v1, val_main_call1_v2, gateGrad', sigm, zero_sub]

theorem row_apply (t : Fin 8192) (d : Fin 1024) : val_main_v56 (F := Ideal) x0 x1 x2 x3 x4 (ix2 t d) =
    rowGrad' (fun k => x0 (ix2 t k)) (fun k => val_main_v30 (F := Ideal) x0 x1 x2 x3 x4 (ix2 t k)) (fun k => x1 (ix2 t k)) (fun k => x2 (ix2 (0 : Fin 1) k)) d := by
  pointwise [val_main_v56, val_main_v49, val_main_v48, val_main_v47, val_main_v46, val_main_v45, val_main_v44, val_main_v43, val_main_v41, val_main_v40, val_main_v38,
    val_main_v37, val_main_v36, val_main_v35, val_main_v34, val_main_v39, val_main_v42, val_main_v14, val_main_v13, val_main_v12, val_main_cst_2, val_main_cst_4,
    val_main_cst_5, val_main_cst_6, scale_apply, val_main_v4, val_main_v5, val_main_v6, val_main_v7, val_main_v8, val_main_v9, val_main_v10, val_main_cst,
    val_main_cst_0, val_main_cst_1, rowGrad', squareGrad, meanSquare, mean, Fin.sum_univ_one]

theorem weightGrad_apply (d : Fin 1024) : val_main_v33 (F := Ideal) x0 x1 x2 x3 x4 (ix2 (0 : Fin 1) d) =
    ∑ t : Fin 8192, weightGrad (fun k => val_main_v30 (F := Ideal) x0 x1 x2 x3 x4 (ix2 t k)) (fun k => x1 (ix2 t k)) d := by
  pointwise [val_main_v31, val_main_v32, val_main_v33, val_main_cst_3, unit_apply, weightGrad]
  exact Finset.sum_congr rfl fun t _ => mul_comm _ _

theorem normed_apply (t : Fin 8192) (d : Fin 1024) : val_main_v30 (F := Ideal) x0 x1 x2 x3 x4 (ix2 t d) = ∑ h : Fin 5632, val_main_v29 (F := Ideal) x0 x1 x2 x3 x4 (ix2 t h) * val_main_v2 (F := Ideal) x3 (ix2 d h) := by
  pointwise [val_main_v30]

theorem stack_gate (t : Fin 8192) (h : Fin 2816) : val_main_v55 (F := Ideal) x0 x1 x2 x3 x4 (ix3 (0 : Fin 2) t h) = val_main_v28 (F := Ideal) x0 x1 x2 x3 x4 (ix2 t h) := by
  have e : h.val < 2816 := h.isLt
  pointwise [val_main_v29, val_main_v50, val_main_v51, val_main_v52, val_main_v53, val_main_v54, val_main_v55, e]

theorem stack_up (t : Fin 8192) (h : Fin 2816) : val_main_v55 (F := Ideal) x0 x1 x2 x3 x4 (ix3 (1 : Fin 2) t h) = val_main_v26 (F := Ideal) x0 x1 x2 x3 x4 (ix2 t h) := by
  pointwise [val_main_v29, val_main_v50, val_main_v51, val_main_v52, val_main_v53, val_main_v54, val_main_v55]

theorem joined_gate (t : Fin 8192) (h : Fin 2816) : val_main_v29 (F := Ideal) x0 x1 x2 x3 x4 (ix2 t ⟨h.val, by omega⟩) = val_main_v28 (F := Ideal) x0 x1 x2 x3 x4 (ix2 t h) := by
  have e : h.val < 2816 := h.isLt
  pointwise [val_main_v29, e]

theorem joined_up (t : Fin 8192) (h : Fin 2816) : val_main_v29 (F := Ideal) x0 x1 x2 x3 x4 (ix2 t ⟨2816 + h.val, by omega⟩) = val_main_v26 (F := Ideal) x0 x1 x2 x3 x4 (ix2 t h) := by
  pointwise [val_main_v29]

theorem gate_proj (t : Fin 8192) (h : Fin 2816) : val_main_v20 (F := Ideal) x1 x2 x3 (ix2 t h) = val_main_v19 (F := Ideal) x1 x2 x3 (ix2 t ⟨h.val, by omega⟩) := by
  pointwise [val_main_v20]

theorem up_proj (t : Fin 8192) (h : Fin 2816) : val_main_v21 (F := Ideal) x1 x2 x3 (ix2 t h) = val_main_v19 (F := Ideal) x1 x2 x3 (ix2 t ⟨2816 + h.val, by omega⟩) := by
  pointwise [val_main_v21]

/-- The joined halves are four shards of columns: the gate's two, and the other factor's two. -/
theorem normed_eq (t : Fin 8192) (d : Fin 1024) : val_main_v30 (F := Ideal) x0 x1 x2 x3 x4 (ix2 t d) =
    normed (fun h => val_main_v28 (F := Ideal) x0 x1 x2 x3 x4 (ix2 t h)) (fun h => val_main_v26 (F := Ideal) x0 x1 x2 x3 x4 (ix2 t h)) (fun s d h => x3 (ix3 s d h)) d := by
  have eg : ∀ (s : Fin 4) (j : Fin 2) (h : Fin 1408), s.val = j.val →
      val_main_v29 (F := Ideal) x0 x1 x2 x3 x4 (ix2 t (colAt s h)) = val_main_v28 (F := Ideal) x0 x1 x2 x3 x4 (ix2 t (unitAt j h)) := fun s j h e => by
    refine Eq.trans ?_ (joined_gate x0 x1 x2 x3 x4 t (unitAt j h))
    exact congrArg (fun k => val_main_v29 (F := Ideal) x0 x1 x2 x3 x4 (ix2 t k)) (Fin.ext (by show s.val * 1408 + h.val = j.val * 1408 + h.val; omega))
  have eu : ∀ (s : Fin 4) (j : Fin 2) (h : Fin 1408), s.val = 2 + j.val →
      val_main_v29 (F := Ideal) x0 x1 x2 x3 x4 (ix2 t (colAt s h)) = val_main_v26 (F := Ideal) x0 x1 x2 x3 x4 (ix2 t (unitAt j h)) := fun s j h e => by
    refine Eq.trans ?_ (joined_up x0 x1 x2 x3 x4 t (unitAt j h))
    exact congrArg (fun k => val_main_v29 (F := Ideal) x0 x1 x2 x3 x4 (ix2 t k)) (Fin.ext (by show s.val * 1408 + h.val = 2816 + (j.val * 1408 + h.val); omega))
  rw [normed_apply, Fin.sum_univ_tiles 4 1408 rfl, Fin.sum_univ_four, normed, half, half, add_add_add_comm, ← add_assoc]
  refine congrArg₂ (· + ·) (congrArg₂ (· + ·) (congrArg₂ (· + ·) ?_ ?_) ?_) ?_
  · exact Finset.sum_congr rfl fun h _ => congrArg₂ (· * ·) (eg 0 0 h rfl) (weight_apply x3 0 d h)
  · exact Finset.sum_congr rfl fun h _ => congrArg₂ (· * ·) (eg 1 1 h rfl) (weight_apply x3 1 d h)
  · exact Finset.sum_congr rfl fun h _ => congrArg₂ (· * ·) (eu 2 0 h rfl) (weight_apply x3 2 d h)
  · exact Finset.sum_congr rfl fun h _ => congrArg₂ (· * ·) (eu 3 1 h rfl) (weight_apply x3 3 d h)

/-! ## The results, for finite arguments -/

/-- The gradient's two halves and the normed row's gradient, for token `t`, as the kernel writes them. -/
def wantGate (t : Fin 8192) : Fin 2816 → EReal :=
  gates (fun k => x0 (ix2 t k)) (fun h k => x4 (ix2 h k)) (fun h => val_main_v20 (F := Ideal) x1 x2 x3 (ix2 t h)) (fun h => val_main_v21 (F := Ideal) x1 x2 x3 (ix2 t h))
def wantUp (t : Fin 8192) : Fin 2816 → EReal :=
  ups (fun k => x0 (ix2 t k)) (fun h k => x4 (ix2 h k)) (fun h => val_main_v20 (F := Ideal) x1 x2 x3 (ix2 t h))
def wantNormed (t : Fin 8192) : Fin 1024 → EReal :=
  normed (wantGate x0 x1 x2 x3 x4 t) (wantUp x0 x1 x2 x3 x4 t) (fun s d h => x3 (ix3 s d h))

variable (h0 : ∀ i, IsNum (x0 i)) (h2 : ∀ i, IsNum (x2 i)) (h3 : ∀ i, IsNum (x3 i)) (h4 : ∀ i, IsNum (x4 i))
include h0 h2 h3 h4

theorem proj_num (t : Fin 8192) (h : Fin 5632) : IsNum (val_main_v19 (F := Ideal) x1 x2 x3 (ix2 t h)) := by
  rw [proj_apply]
  refine .sum _ fun k => ((unit_num _ k).mul (h2 _)).mul ?_
  have e : val_main_v2 (F := Ideal) x3 (ix2 k h) = x3 (ix3 (⟨h.val / 1408, by omega⟩ : Fin 4) k (⟨h.val % 1408, by omega⟩ : Fin 1408)) := by
    refine Eq.trans ?_ (weight_apply x3 ⟨h.val / 1408, by omega⟩ k ⟨h.val % 1408, by omega⟩)
    exact congrArg (fun h => val_main_v2 (F := Ideal) x3 (ix2 k h)) (Fin.ext (by show h.val = h.val / 1408 * 1408 + h.val % 1408; omega))
  rw [e]
  exact h3 _

theorem gate_num (t : Fin 8192) (h : Fin 2816) : IsNum (val_main_v20 (F := Ideal) x1 x2 x3 (ix2 t h)) := by
  rw [gate_proj]; exact proj_num x0 x1 x2 x3 x4 h0 h2 h3 h4 t _
theorem up_num (t : Fin 8192) (h : Fin 2816) : IsNum (val_main_v21 (F := Ideal) x1 x2 x3 (ix2 t h)) := by
  rw [up_proj]; exact proj_num x0 x1 x2 x3 x4 h0 h2 h3 h4 t _

theorem gate_eq (t : Fin 8192) (h : Fin 2816) : val_main_v28 (F := Ideal) x0 x1 x2 x3 x4 (ix2 t h) = wantGate x0 x1 x2 x3 x4 t h :=
  (gate_apply x0 x1 x2 x3 x4 t h).trans (gateGrad_eq (hidden_num (fun k => h0 _) (fun h k => h4 _) h)
    (gate_num x0 x1 x2 x3 x4 h0 h2 h3 h4 t h) (up_num x0 x1 x2 x3 x4 h0 h2 h3 h4 t h)).symm

theorem normed_want (t : Fin 8192) (d : Fin 1024) : val_main_v30 (F := Ideal) x0 x1 x2 x3 x4 (ix2 t d) = wantNormed x0 x1 x2 x3 x4 t d := by
  refine (normed_eq x0 x1 x2 x3 x4 t d).trans ?_
  rw [wantNormed, funext (gate_eq x0 x1 x2 x3 x4 h0 h2 h3 h4 t), funext (up_apply x0 x1 x2 x3 x4 t)]
  rfl

theorem hidden_gate (t : Fin 8192) (h : Fin 2816) : val_main_v55 (F := Ideal) x0 x1 x2 x3 x4 (ix3 (0 : Fin 2) t h) = wantGate x0 x1 x2 x3 x4 t h :=
  (stack_gate x0 x1 x2 x3 x4 t h).trans (gate_eq x0 x1 x2 x3 x4 h0 h2 h3 h4 t h)

omit h0 h2 h3 h4 in
theorem hidden_up (t : Fin 8192) (h : Fin 2816) : val_main_v55 (F := Ideal) x0 x1 x2 x3 x4 (ix3 (1 : Fin 2) t h) = wantUp x0 x1 x2 x3 x4 t h :=
  (stack_up x0 x1 x2 x3 x4 t h).trans (up_apply x0 x1 x2 x3 x4 t h)

theorem row_want (t : Fin 8192) (d : Fin 1024) : val_main_v56 (F := Ideal) x0 x1 x2 x3 x4 (ix2 t d) =
    rowGrad (fun k => x0 (ix2 t k)) (wantNormed x0 x1 x2 x3 x4 t) (fun k => x1 (ix2 t k)) (fun k => x2 (ix2 (0 : Fin 1) k)) d := by
  refine (row_apply x0 x1 x2 x3 x4 t d).trans ?_
  rw [funext (normed_want x0 x1 x2 x3 x4 h0 h2 h3 h4 t)]
  exact (rowGrad_eq _ _ _ _ d).symm

theorem weight_want (d : Fin 1024) : val_main_v33 (F := Ideal) x0 x1 x2 x3 x4 (ix2 (0 : Fin 1) d) =
    ∑ t : Fin 8192, weightGrad (wantNormed x0 x1 x2 x3 x4 t) (fun k => x1 (ix2 t k)) d := by
  refine (weightGrad_apply x0 x1 x2 x3 x4 d).trans (Finset.sum_congr rfl fun t _ => ?_)
  rw [funext (normed_want x0 x1 x2 x3 x4 h0 h2 h3 h4 t)]

end Cert.FfnGrad.Reference
end
-- ==== Proof.FfnGrad.lean ====
/- The feed-forward block's gradients: what the `ffn_bwd` kernel leaves in its three output arrays, over the extended
   reals, and that it is the reference's. -/
module

public import proofs.«01_k».proof.Proof.FfnGradTile
public import proofs.«01_k».proof.Proof.FfnGradReference
public import Idealize.ShloMosaic.Lib.Pipeline.ValueKit.Partial
public import Idealize.ShloMosaic.Lib.VecWindow
public import Idealize.ShloMosaic.Lib.StableHlo.RunRead

@[expose] public section

set_option maxRecDepth 16384

noncomputable section

namespace Cert.FfnGrad

open Cert.Kernel6Ideal Cert.Kernel6Ideal.Gen Cert.Kernel6Ideal.Value
open Cert.Reference6Ideal.Read
open Idealize.ShloMosaic Idealize.ShloMosaic.TcCoe Idealize.ShloMosaic.Tactic Idealize.SL.Sem
open scoped BigOperators

theorem index0 : ∀ t : Fin cfg0.N, win0_0.index t = ![t.val % 32, 0] := (by decide +kernel : ∀ t : Fin grid0.N, win0_0.index t = ![t.val % 32, 0])
theorem index1 : ∀ t : Fin cfg0.N, win0_1.index t = ![0, 0] := (by decide +kernel : ∀ t : Fin grid0.N, win0_1.index t = ![0, 0])
theorem index2 : ∀ t : Fin cfg0.N, win0_2.index t = ![0, t.val % 32, 0] := (by decide +kernel : ∀ t : Fin grid0.N, win0_2.index t = ![0, t.val % 32, 0])
theorem index3 : ∀ t : Fin cfg0.N, win0_3.index t = ![0, 0, 0] := (by decide +kernel : ∀ t : Fin grid0.N, win0_3.index t = ![0, 0, 0])
theorem index4 : ∀ t : Fin cfg0.N, win0_4.index t = ![t.val % 32, 0] := (by decide +kernel : ∀ t : Fin grid0.N, win0_4.index t = ![t.val % 32, 0])
theorem index5 : ∀ t : Fin cfg0.N, win0_5.index t = ![0, 0] := (by decide +kernel : ∀ t : Fin grid0.N, win0_5.index t = ![0, 0])
theorem index6 : ∀ t : Fin cfg0.N, win0_6.index t = ![0, t.val % 32, 0] := (by decide +kernel : ∀ t : Fin grid0.N, win0_6.index t = ![0, t.val % 32, 0])
theorem index7 : ∀ t : Fin cfg0.N, win0_7.index t = ![t.val % 32, 0] := (by decide +kernel : ∀ t : Fin grid0.N, win0_7.index t = ![t.val % 32, 0])
theorem index8 : ∀ t : Fin cfg0.N, win0_8.index t = ![0, 0] := (by decide +kernel : ∀ t : Fin grid0.N, win0_8.index t = ![0, 0])

/-- Token `r` of the tile that point `u` takes. -/
def tokenAt (u : ℕ) (r : Fin 256) : Fin 8192 := ⟨u % 32 * 256 + r.val, by omega⟩

variable (m : (ℓ : Loc nD τ sig) → Buf (Elt Ideal) ℓ)

/-- The arguments, and the saved projection's two halves, as the region finds them. -/
def dxs (c : Dev nD) : Vec Ideal S8192x1024 .f32 := m ((c.tc : Thread nD τ).loc main_arg0)
def xs (c : Dev nD) : Vec Ideal S8192x1024 .f32 := m ((c.tc : Thread nD τ).loc main_arg1)
def gs (c : Dev nD) : Vec Ideal S1x1024 .f32 := m ((c.tc : Thread nD τ).loc main_arg2)
def wis (c : Dev nD) : Vec Ideal S4x1024x1408 .bf16 := m ((c.tc : Thread nD τ).loc main_arg3)
def wos (c : Dev nD) : Vec Ideal S2816x1024 .bf16 := m ((c.tc : Thread nD τ).loc main_arg4)
def saved (c : Dev nD) : Vec Ideal S2x8192x2816 .bf16 := V m c main_v21

def dxTile (c : Dev nD) (t : Fin cfg0.N) : Vec Ideal S256x1024 .f32 := iblk m c 0 t
def woTile (c : Dev nD) (t : Fin cfg0.N) : Vec Ideal S2816x1024 .bf16 := iblk m c 1 t
def savedTile (c : Dev nD) (t : Fin cfg0.N) : Vec Ideal S2x256x2816 .bf16 := iblk m c 2 t
def wiTile (c : Dev nD) (t : Fin cfg0.N) : Vec Ideal S4x1024x1408 .bf16 := iblk m c 3 t
def xTile (c : Dev nD) (t : Fin cfg0.N) : Vec Ideal S256x1024 .f32 := iblk m c 4 t
def gTile (c : Dev nD) (t : Fin cfg0.N) : Vec Ideal S1x1024 .f32 := iblk m c 5 t

theorem dxTile_apply (c : Dev nD) (t : Fin cfg0.N) (r : Fin 256) (k : Fin 1024) : dxTile m c t (ix2 r k) = dxs m c (ix2 (tokenAt t.val r) k) := by
  refine Eq.trans ?_ (congrFun (V_main_arg0 m c) _)
  show iblk m c 0 t (ix2 r k) = V m c main_arg0 (ix2 (tokenAt t.val r) k)
  blk_ext [iblk, index0, tokenAt]

theorem xTile_apply (c : Dev nD) (t : Fin cfg0.N) (r : Fin 256) (k : Fin 1024) : xTile m c t (ix2 r k) = xs m c (ix2 (tokenAt t.val r) k) := by
  refine Eq.trans ?_ (congrFun (V_main_arg1 m c) _)
  show iblk m c 4 t (ix2 r k) = V m c main_arg1 (ix2 (tokenAt t.val r) k)
  blk_ext [iblk, index4, tokenAt]

theorem savedTile_apply (c : Dev nD) (t : Fin cfg0.N) (s : Fin 2) (r : Fin 256) (h : Fin 2816) :
    savedTile m c t (ix3 s r h) = saved m c (ix3 s (tokenAt t.val r) h) := by
  show iblk m c 2 t (ix3 s r h) = V m c main_v21 (ix3 s (tokenAt t.val r) h)
  blk_ext [iblk, index2, tokenAt]

theorem woTile_apply (c : Dev nD) (t : Fin cfg0.N) (h : Fin 2816) (k : Fin 1024) : woTile m c t (ix2 h k) = wos m c (ix2 h k) := by
  refine Eq.trans ?_ (congrFun (V_main_arg4 m c) _)
  show iblk m c 1 t (ix2 h k) = V m c main_arg4 (ix2 h k)
  blk_ext [iblk, index1]

theorem wiTile_apply (c : Dev nD) (t : Fin cfg0.N) (s : Fin 4) (d : Fin 1024) (h : Fin 1408) : wiTile m c t (ix3 s d h) = wis m c (ix3 s d h) := by
  refine Eq.trans ?_ (congrFun (V_main_arg3 m c) _)
  show iblk m c 3 t (ix3 s d h) = V m c main_arg3 (ix3 s d h)
  blk_ext [iblk, index3]

theorem gTile_apply (c : Dev nD) (t : Fin cfg0.N) (k : Fin 1024) : gTile m c t (ix2 (0 : Fin 1) k) = gs m c (ix2 (0 : Fin 1) k) := by
  refine Eq.trans ?_ (congrFun (V_main_arg2 m c) _)
  show iblk m c 5 t (ix2 (0 : Fin 1) k) = V m c main_arg2 (ix2 (0 : Fin 1) k)
  blk_ext [iblk, index5]

/-- The saved projection's halves are the reference's gate and factor. -/
theorem saved_gate (c : Dev nD) (t : Fin 8192) (h : Fin 2816) :
    saved m c (ix3 (0 : Fin 2) t h) = val_main_v20 (F := Ideal) (xs m c) (gs m c) (wis m c) (ix2 t h) := by
  rw [Reference.gate_proj, Reference.proj_apply]
  show StableHlo.after hostOps0 (fun b => m (c, b)) (Proc.devRef .tc main_v21) (ix3 (0 : Fin 2) t h) = _
  after_reads_simp
  have e : h.val < 2816 := h.isLt
  pointwise []
  after_reads_simp
  pointwise [val_main_v0, val_main_v1, val_main_v2, unit, scale, mean, xs, gs, wis]

theorem saved_up (c : Dev nD) (t : Fin 8192) (h : Fin 2816) :
    saved m c (ix3 (1 : Fin 2) t h) = val_main_v21 (F := Ideal) (xs m c) (gs m c) (wis m c) (ix2 t h) := by
  rw [Reference.up_proj, Reference.proj_apply]
  show StableHlo.after hostOps0 (fun b => m (c, b)) (Proc.devRef .tc main_v21) (ix3 (1 : Fin 2) t h) = _
  after_reads_simp
  pointwise []
  after_reads_simp
  pointwise [val_main_v0, val_main_v1, val_main_v2, unit, scale, mean, xs, gs, wis]

/-! ## The blocks after each point -/

attribute [local irreducible] out0_A_6 out0_A_7 out0_A_8 out0_B_6 out0_B_7 out0_B_8 tileHidden tileRow tileWeight iblk

theorem outs_hidden (c : Dev nD) (t : Fin cfg0.N) : (outsAt0 m c t.val t.isLt).1 = tileHidden (dxTile m c t) (woTile m c t) (savedTile m c t) := by
  by_cases h : t.val % 32 = 0
  · exact (congrArg (fun o => o.1) (outsAt0_A m c t h)).trans (first_hidden _ _ _ _ _ _ _ _ _ _ _ _ _ _ _ _ _ _ _ _ _ _ _ _ _ _ _)
  · exact (congrArg (fun o => o.1) (outsAt0_B m c t h)).trans (later_hidden _ _ _ _ _ _ _ _ _ _ _ _ _ _ _ _ _ _ _ _ _ _ _ _ _ _ _ _)

theorem outs_row (c : Dev nD) (t : Fin cfg0.N) : (outsAt0 m c t.val t.isLt).2.1 = tileRow (dxTile m c t) (woTile m c t) (savedTile m c t) (wiTile m c t) (xTile m c t) (gTile m c t) := by
  by_cases h : t.val % 32 = 0
  · exact (congrArg (fun o => o.2.1) (outsAt0_A m c t h)).trans (first_row _ _ _ _ _ _ _ _ _ _ _ _ _ _ _ _ _ _ _ _ _ _ _ _ _ _ _)
  · exact (congrArg (fun o => o.2.1) (outsAt0_B m c t h)).trans (later_row _ _ _ _ _ _ _ _ _ _ _ _ _ _ _ _ _ _ _ _ _ _ _ _ _ _ _ _)

/-- The first point puts its tile's part in the third block, and every later one adds its own. -/
def step (c : Dev nD) (n : ℕ) (h : n < cfg0.N) (z : Vec Ideal S1x1024 .f32) : Vec Ideal S1x1024 .f32 :=
  tileWeight (dxTile m c ⟨n, h⟩) (woTile m c ⟨n, h⟩) (savedTile m c ⟨n, h⟩) (wiTile m c ⟨n, h⟩) (xTile m c ⟨n, h⟩) z
def start (c : Dev nD) (n : ℕ) (h : n < cfg0.N) : Vec Ideal S1x1024 .f32 := step m c n h (fun _ => 0)

theorem outs_weight (c : Dev nD) (t : Fin cfg0.N) :
    (outsAt0 m c t.val t.isLt).2.2 = Pipeline.accAt (start m c) (step m c) (32 * (t.val / 32)) (t.val % 32)
      (by have h1 := t.isLt; have h2 := Nat.div_add_mod t.val 32; omega) :=
  Pipeline.eq_accAt_of_mod (fun n h => (outsAt0 m c n h).2.2) 32 (start m c) (step m c)
    (fun n h hn => (congrArg (fun o => o.2.2) (outsAt0_A m c ⟨n, h⟩ hn)).trans (first_weight _ _ _ _ _ _ _ _ _ _ _ _ _ _ _ _ _ _ _ _ _ _ _ _ _ _ _))
    (fun n h hn => (congrArg (fun o => o.2.2) (outsAt0_B m c ⟨n + 1, h⟩ hn)).trans (later_weight _ _ _ _ _ _ _ _ _ _ _ _ _ _ _ _ _ _ _ _ _ _ _ _ _ _ _ _))
    (by decide) t.val t.isLt _

attribute [local irreducible] dxs xs gs wis wos saved dxTile woTile savedTile wiTile xTile gTile

/-- The rows a tile's token sees are the token's. -/
theorem dx_row (c : Dev nD) (t : Fin cfg0.N) (r : Fin 256) : (fun k => dxTile m c t (ix2 r k)) = fun k => dxs m c (ix2 (tokenAt t.val r) k) :=
  funext (dxTile_apply m c t r)
theorem x_row (c : Dev nD) (t : Fin cfg0.N) (r : Fin 256) : (fun k => xTile m c t (ix2 r k)) = fun k => xs m c (ix2 (tokenAt t.val r) k) :=
  funext (xTile_apply m c t r)
theorem g_row (c : Dev nD) (t : Fin cfg0.N) : (fun k => gTile m c t (ix2 (0 : Fin 1) k)) = fun k => gs m c (ix2 (0 : Fin 1) k) :=
  funext (gTile_apply m c t)
theorem wo_eq (c : Dev nD) (t : Fin cfg0.N) : (fun h k => woTile m c t (ix2 h k)) = fun h k => wos m c (ix2 h k) :=
  funext fun h => funext (woTile_apply m c t h)
theorem wi_eq (c : Dev nD) (t : Fin cfg0.N) : (fun s d h => wiTile m c t (ix3 s d h)) = fun s d h => wis m c (ix3 s d h) :=
  funext fun s => funext fun d => funext (wiTile_apply m c t s d)
theorem gate_row (c : Dev nD) (t : Fin cfg0.N) (r : Fin 256) : (fun h => savedTile m c t (ix3 (0 : Fin 2) r h)) =
    fun h => val_main_v20 (F := Ideal) (xs m c) (gs m c) (wis m c) (ix2 (tokenAt t.val r) h) :=
  funext fun h => (savedTile_apply m c t 0 r h).trans (saved_gate m c _ h)
theorem up_row (c : Dev nD) (t : Fin cfg0.N) (r : Fin 256) : (fun h => savedTile m c t (ix3 (1 : Fin 2) r h)) =
    fun h => val_main_v21 (F := Ideal) (xs m c) (gs m c) (wis m c) (ix2 (tokenAt t.val r) h) :=
  funext fun h => (savedTile_apply m c t 1 r h).trans (saved_up m c _ h)

theorem tileGate_eq (c : Dev nD) (t : Fin cfg0.N) (r : Fin 256) : tileGate (dxTile m c t) (woTile m c t) (savedTile m c t) r = Reference.wantGate (dxs m c) (xs m c) (gs m c) (wis m c) (wos m c) (tokenAt t.val r) := by
  rw [tileGate, Reference.wantGate, dx_row, wo_eq, gate_row, up_row]
theorem tileUp_eq (c : Dev nD) (t : Fin cfg0.N) (r : Fin 256) : tileUp (dxTile m c t) (woTile m c t) (savedTile m c t) r = Reference.wantUp (dxs m c) (xs m c) (gs m c) (wis m c) (wos m c) (tokenAt t.val r) := by
  rw [tileUp, Reference.wantUp, dx_row, wo_eq, gate_row]
theorem tileNormed_eq (c : Dev nD) (t : Fin cfg0.N) (r : Fin 256) :
    tileNormed (dxTile m c t) (woTile m c t) (savedTile m c t) (wiTile m c t) r = Reference.wantNormed (dxs m c) (xs m c) (gs m c) (wis m c) (wos m c) (tokenAt t.val r) := by
  rw [tileNormed, Reference.wantNormed, tileGate_eq, tileUp_eq, wi_eq]

/-- What token `t` adds to the gradient of the norm's weight. -/
def addend (c : Dev nD) (y : S1x1024.Idx) (t : Fin 8192) : EReal :=
  weightGrad (Reference.wantNormed (dxs m c) (xs m c) (gs m c) (wis m c) (wos m c) t) (fun k => xs m c (ix2 t k)) (y 1)

theorem step_eq (c : Dev nD) (n : ℕ) (h : n < cfg0.N) (z : Vec Ideal S1x1024 .f32) (y : S1x1024.Idx) :
    step m c n h z y = z y + ∑ r : Fin 256, addend m c y (tokenAt n r) := by
  obtain ⟨k, d, rfl⟩ : ∃ (k : Fin 1) (d : Fin 1024), y = ix2 k d := ⟨y 0, y 1, funext fun a => by fin_cases a <;> rfl⟩
  obtain rfl : k = 0 := Subsingleton.elim _ _
  refine (tileWeight_apply _ _ _ _ _ _ d).trans (congrArg (z (ix2 (0 : Fin 1) d) + ·) (Finset.sum_congr rfl fun r _ => ?_))
  rw [tileNormed_eq, x_row]
  rfl

theorem sum_tiles (f : Fin 8192 → EReal) : ∑ s ∈ Finset.range 32, ∑ r : Fin 256, f (tokenAt s r) = ∑ t : Fin 8192, f t := by
  rw [Finset.sum_range, Fin.sum_univ_tiles 32 256 rfl]
  refine Finset.sum_congr rfl fun u _ => Finset.sum_congr rfl fun r _ => congrArg f (Fin.ext ?_)
  show u.val % 32 * 256 + r.val = u.val * 256 + r.val
  omega

theorem last_eq (c : Dev nD) (t : Fin cfg0.N) (hm : t.val % 32 = 31) (y : S1x1024.Idx) :
    (outsAt0 m c t.val t.isLt).2.2 y = ∑ t : Fin 8192, addend m c y t := by
  have ht : t.val < 32 := t.isLt
  have hlt : 0 + 31 < cfg0.N := by decide
  have e : ∀ (a j : ℕ) (h : a + j < cfg0.N), a = 0 → j = 31 → Pipeline.accAt (start m c) (step m c) a j h = Pipeline.accAt (start m c) (step m c) 0 31 hlt := by
    intro a j h ha hj; subst ha; subst hj; rfl
  rw [outs_weight, e _ _ _ (by omega) hm]
  refine (Pipeline.accAt_add_apply (start m c) (step m c) (fun _ => 0) (fun n y => ∑ r : Fin 256, addend m c y (tokenAt n r)) 0 31
    (fun h y => step_eq m c _ h _ y) (fun n h acc y _ _ => step_eq m c n h acc y) 31 le_rfl hlt y).trans ?_
  rw [zero_add]
  simp only [Nat.zero_add]
  exact sum_tiles (addend m c y)

/-! ## The arrays after the run -/

def wholeHidden (c : Dev nD) : Vec Ideal S2x8192x2816 .bf16 := fun y =>
  if (y 0).val = 0 then Reference.wantGate (dxs m c) (xs m c) (gs m c) (wis m c) (wos m c) (y 1) (y 2) else Reference.wantUp (dxs m c) (xs m c) (gs m c) (wis m c) (wos m c) (y 1) (y 2)
def wholeRow (c : Dev nD) : Vec Ideal S8192x1024 .f32 := fun y =>
  rowGrad (fun k => dxs m c (ix2 (y 0) k)) (Reference.wantNormed (dxs m c) (xs m c) (gs m c) (wis m c) (wos m c) (y 0)) (fun k => xs m c (ix2 (y 0) k)) (fun k => gs m c (ix2 (0 : Fin 1) k)) (y 1)
def wholeWeight (c : Dev nD) : Vec Ideal S1x1024 .f32 := fun y => ∑ t : Fin 8192, addend m c y t

theorem wholeHidden_gate (c : Dev nD) (t : Fin 8192) (h : Fin 2816) : wholeHidden m c (ix3 (0 : Fin 2) t h) = Reference.wantGate (dxs m c) (xs m c) (gs m c) (wis m c) (wos m c) t h := rfl
theorem wholeHidden_up (c : Dev nD) (t : Fin 8192) (h : Fin 2816) : wholeHidden m c (ix3 (1 : Fin 2) t h) = Reference.wantUp (dxs m c) (xs m c) (gs m c) (wis m c) (wos m c) t h := rfl
theorem wholeRow_apply (c : Dev nD) (t : Fin 8192) (d : Fin 1024) : wholeRow m c (ix2 t d) =
    rowGrad (fun k => dxs m c (ix2 t k)) (Reference.wantNormed (dxs m c) (xs m c) (gs m c) (wis m c) (wos m c) t) (fun k => xs m c (ix2 t k)) (fun k => gs m c (ix2 (0 : Fin 1) k)) d := rfl
theorem wholeWeight_apply (c : Dev nD) (d : Fin 1024) : wholeWeight m c (ix2 (0 : Fin 1) d) =
    ∑ t : Fin 8192, weightGrad (Reference.wantNormed (dxs m c) (xs m c) (gs m c) (wis m c) (wos m c) t) (fun k => xs m c (ix2 t k)) d := rfl

attribute [local irreducible] wholeHidden wholeRow wholeWeight

/-- Where the outputs' blocks lie. -/
theorem emb6 (t : Fin cfg0.N) (s : Fin 2) (r : Fin 256) (h : Fin 2816) : (win0_6.blk t).view.emb (ix3 s r h) = ix3 s (tokenAt t.val r) h := by
  blk_ext [index6, tokenAt]
theorem emb7 (t : Fin cfg0.N) (r : Fin 256) (d : Fin 1024) : (win0_7.blk t).view.emb (ix2 r d) = ix2 (tokenAt t.val r) d := by
  blk_ext [index7, tokenAt]
theorem emb8 (t : Fin cfg0.N) (k : Fin 1) (d : Fin 1024) : (win0_8.blk t).view.emb (ix2 k d) = ix2 k d := by
  blk_ext [index8]

theorem final_hidden (c : Dev nD) : (dats m 0 c).arrAt 6 cfg0.N = wholeHidden m c := by
  refine (dats m 0 c).arrAt_eq_of_covers 6 _ (by decide +kernel) fun t hf y => ?_
  blk_simp
  rw [after0_6, outs_hidden]
  obtain ⟨s, r, h, rfl⟩ : ∃ (s : Fin 2) (r : Fin 256) (h : Fin 2816), y = ix3 s r h := ⟨y 0, y 1, y 2, funext fun a => by fin_cases a <;> rfl⟩
  refine Eq.trans ?_ (congrArg (wholeHidden m c) (emb6 t s r h).symm)
  obtain rfl | rfl : s = 0 ∨ s = 1 := by omega
  · exact (tileHidden_gate _ _ _ r h).trans ((congrFun (tileGate_eq m c t r) h).trans (wholeHidden_gate m c _ h).symm)
  · exact (tileHidden_up _ _ _ r h).trans ((congrFun (tileUp_eq m c t r) h).trans (wholeHidden_up m c _ h).symm)

theorem final_row (c : Dev nD) : (dats m 0 c).arrAt 7 cfg0.N = wholeRow m c := by
  refine (dats m 0 c).arrAt_eq_of_covers 7 _ (by decide +kernel) fun t hf y => ?_
  blk_simp
  rw [after0_7, outs_row]
  obtain ⟨r, d, rfl⟩ : ∃ (r : Fin 256) (d : Fin 1024), y = ix2 r d := ⟨y 0, y 1, funext fun a => by fin_cases a <;> rfl⟩
  refine Eq.trans ?_ (congrArg (wholeRow m c) (emb7 t r d).symm)
  refine (tileRow_apply _ _ _ _ _ _ r d).trans (Eq.trans ?_ (wholeRow_apply m c _ d).symm)
  rw [dx_row, x_row, g_row, tileNormed_eq]

theorem final_weight (c : Dev nD) : (dats m 0 c).arrAt 8 cfg0.N = wholeWeight m c := by
  refine (dats m 0 c).arrAt_eq_of_covers 8 _ (by decide +kernel) fun t hf y => ?_
  have hm : t.val % 32 = 31 := (flush0_8 t).mp hf
  blk_simp
  rw [after0_8]
  obtain ⟨k, d, rfl⟩ : ∃ (k : Fin 1) (d : Fin 1024), y = ix2 k d := ⟨y 0, y 1, funext fun a => by fin_cases a <;> rfl⟩
  obtain rfl : k = 0 := Subsingleton.elim _ _
  refine Eq.trans ?_ (congrArg (wholeWeight m c) (emb8 t 0 d).symm)
  exact (last_eq m c t hm _).trans (wholeWeight_apply m c d).symm

/-! ## The reference's results -/

section
variable (c : Dev nD) (h0 : ∀ i, IsNum (dxs m c i)) (h2 : ∀ i, IsNum (gs m c i)) (h3 : ∀ i, IsNum (wis m c i)) (h4 : ∀ i, IsNum (wos m c i))
include h0 h2 h3 h4

theorem hidden_eq : (dats m 0 c).arrAt 6 cfg0.N = val_main_v55 (F := Ideal) (dxs m c) (xs m c) (gs m c) (wis m c) (wos m c) := by
  rw [final_hidden]
  funext y
  obtain ⟨s, r, h, rfl⟩ : ∃ (s : Fin 2) (r : Fin 8192) (h : Fin 2816), y = ix3 s r h := ⟨y 0, y 1, y 2, funext fun a => by fin_cases a <;> rfl⟩
  obtain rfl | rfl : s = 0 ∨ s = 1 := by omega
  · exact (wholeHidden_gate m c r h).trans (Reference.hidden_gate (dxs m c) (xs m c) (gs m c) (wis m c) (wos m c) h0 h2 h3 h4 r h).symm
  · exact (wholeHidden_up m c r h).trans (Reference.hidden_up (dxs m c) (xs m c) (gs m c) (wis m c) (wos m c) r h).symm

theorem row_eq : (dats m 0 c).arrAt 7 cfg0.N = val_main_v56 (F := Ideal) (dxs m c) (xs m c) (gs m c) (wis m c) (wos m c) := by
  rw [final_row]
  funext y
  obtain ⟨r, d, rfl⟩ : ∃ (r : Fin 8192) (d : Fin 1024), y = ix2 r d := ⟨y 0, y 1, funext fun a => by fin_cases a <;> rfl⟩
  exact (wholeRow_apply m c r d).trans (Reference.row_want (dxs m c) (xs m c) (gs m c) (wis m c) (wos m c) h0 h2 h3 h4 r d).symm

theorem weight_eq : (dats m 0 c).arrAt 8 cfg0.N = val_main_v33 (F := Ideal) (dxs m c) (xs m c) (gs m c) (wis m c) (wos m c) := by
  rw [final_weight]
  funext y
  obtain ⟨k, d, rfl⟩ : ∃ (k : Fin 1) (d : Fin 1024), y = ix2 k d := ⟨y 0, y 1, funext fun a => by fin_cases a <;> rfl⟩
  obtain rfl : k = 0 := Subsingleton.elim _ _
  exact (wholeWeight_apply m c d).trans (Reference.weight_want (dxs m c) (xs m c) (gs m c) (wis m c) (wos m c) h0 h2 h3 h4 d).symm

end

end Cert.FfnGrad
end
-- ==== Proof.MixNormTile.lean ====
/- What a grid point of the `mix_norm_bwd` kernel computes from the blocks it holds, over the extended reals: the gradient
   of the layer's normed rows, gathered from the gates and the input projection, taken through the norm. -/
module

public import proofs.«01_k».proof.Proof.Gen.Kernel7Ideal.Value
public import proofs.«01_k».proof.Proof.TokenSum
public import proofs.«01_k».proof.Proof.FfnGradRow
public import Idealize.ShloMosaic.Lib.Pipeline.ReadBack
public import Idealize.ShloMosaic.Lib.Pointwise

@[expose] public section

set_option maxRecDepth 16384

noncomputable section

namespace Cert.MixNorm

open Cert.Kernel7Ideal Cert.Kernel7Ideal.Gen
open Cert.TokenSum (load_apply emb_eq_idx)
open Cert.FfnGrad (unit scale mean rowGrad weightGrad)
open Idealize.ShloMosaic Idealize.ShloMosaic.TcCoe Idealize.ShloMosaic.Tactic Idealize.SL.Sem
open scoped BigOperators

/-- Column `j` of shard `s` of the input projection. -/
def colAt (s : Fin 4) (j : Fin 640) : Fin 2560 := ⟨s.val * 640 + j.val, by omega⟩

/-- The gradient of a token's normed row: from the four gates' pre-activations and from the projection's four shards. -/
def gathered (a : Fin 4 → Fin 1024 → EReal) (p : Fin 2560 → EReal) (wg : Fin 4 → Fin 1024 → Fin 1024 → EReal)
    (wi : Fin 4 → Fin 1024 → Fin 640 → EReal) (d : Fin 1024) : EReal :=
  ∑ k : Fin 4, ∑ j : Fin 1024, a k j * wg k d j + ∑ s : Fin 4, ∑ j : Fin 640, p (colAt s j) * wi s d j

theorem pay5_apply (a0 : Vec Ideal S1x512x1024 .bf16) (w0 : Vec Ideal S1x1024x1024 .bf16) (a1 : Vec Ideal S1x512x1024 .bf16) (w1 : Vec Ideal S1x1024x1024 .bf16)
    (a2 : Vec Ideal S1x512x1024 .bf16) (w2 : Vec Ideal S1x1024x1024 .bf16) (a3 : Vec Ideal S1x512x1024 .bf16) (w3 : Vec Ideal S1x1024x1024 .bf16) (r : Fin 512) (d : Fin 1024) :
    k0_pay5 a0 w0 a1 w1 a2 w2 a3 w3 (ix2 r d) = ∑ j : Fin 1024, a0 (ix3 (0 : Fin 1) r j) * w0 (ix3 (0 : Fin 1) d j) + ∑ j : Fin 1024, a1 (ix3 (0 : Fin 1) r j) * w1 (ix3 (0 : Fin 1) d j)
      + ∑ j : Fin 1024, a2 (ix3 (0 : Fin 1) r j) * w2 (ix3 (0 : Fin 1) d j) + ∑ j : Fin 1024, a3 (ix3 (0 : Fin 1) r j) * w3 (ix3 (0 : Fin 1) d j) := by
  pointwise [k0_pay5]

theorem pay6_apply (v : Vec Ideal S512x1024 .f32) (a0 : Vec Ideal S512x640 .bf16) (w0 : Vec Ideal S1x1024x640 .bf16) (a1 : Vec Ideal S512x640 .bf16) (w1 : Vec Ideal S1x1024x640 .bf16)
    (a2 : Vec Ideal S512x640 .bf16) (w2 : Vec Ideal S1x1024x640 .bf16) (a3 : Vec Ideal S512x640 .bf16) (w3 : Vec Ideal S1x1024x640 .bf16) (r : Fin 512) (d : Fin 1024) :
    k0_pay6 (F := Ideal) v a0 w0 a1 w1 a2 w2 a3 w3 (ix2 r d) = v (ix2 r d) + ∑ j : Fin 640, a0 (ix2 r j) * w0 (ix3 (0 : Fin 1) d j) + ∑ j : Fin 640, a1 (ix2 r j) * w1 (ix3 (0 : Fin 1) d j)
      + ∑ j : Fin 640, a2 (ix2 r j) * w2 (ix3 (0 : Fin 1) d j) + ∑ j : Fin 640, a3 (ix2 r j) * w3 (ix3 (0 : Fin 1) d j) := by
  pointwise [k0_pay6]

theorem pay7_apply (v46 : Vec Ideal S512x1024 .f32) (r : Fin 512) (k : Fin 1) :
    k0_pay7 v46 (ix2 r k) = scale (fun k => v46 (ix2 r k)) := by
  pointwise [k0_pay7, scale, mean]

theorem pay8_apply (v46 : Vec Ideal S512x1024 .f32) (r : Fin 512) (d : Fin 1024) :
    k0_pay8 v46 (ix2 r d) = scale (fun k => v46 (ix2 r k)) := by
  pointwise [k0_pay8, pay7_apply]

theorem pay2_apply (n x : Vec Ideal S512x1024 .f32) (g : Vec Ideal S1x1024 .f32) (s : Vec Ideal S512x1 .f32) (s' dx : Vec Ideal S512x1024 .f32) (r : Fin 512) (d : Fin 1024) :
    k0_pay2 (F := Ideal) n x g s s' dx (ix2 r d) = dx (ix2 r d) + s (ix2 r (0 : Fin 1)) * (n (ix2 r d) * g (ix2 (0 : Fin 1) d) -
      x (ix2 r d) * s' (ix2 r d) * mean (∑ k : Fin 1024, n (ix2 r k) * g (ix2 (0 : Fin 1) k) * (x (ix2 r k) * s' (ix2 r k)))) := by
  pointwise [k0_pay2, k0_pay1, mean]

theorem pay3_apply (n x s' : Vec Ideal S512x1024 .f32) (z : Vec Ideal S1x1024 .f32) (d : Fin 1024) :
    k0_pay3 (F := Ideal) n x s' z (ix2 (0 : Fin 1) d) = z (ix2 (0 : Fin 1) d) + ∑ r : Fin 512, n (ix2 r d) * (x (ix2 r d) * s' (ix2 r d)) := by
  pointwise [k0_pay3, k0_pay1]

section
variable (x0 : Vec Ideal S4x512x1024 .bf16) (x1 : Vec Ideal S4x1024x1024 .bf16) (x2 : Vec Ideal S512x2560 .bf16) (x3 : Vec Ideal S4x1024x640 .bf16)
  (x4 x5 : Vec Ideal S512x1024 .f32) (x6 z : Vec Ideal S1x1024 .f32)

/-- The gradient of a row of the block after the norm. -/
def tileNormed (r : Fin 512) : Fin 1024 → EReal :=
  gathered (fun k j => x0 (ix3 k r j)) (fun j => x2 (ix2 r j)) (fun k d j => x1 (ix3 k d j)) (fun s d j => x3 (ix3 s d j))

/-- What a point leaves in its two blocks; the second over what the block held. -/
def tileRow : Vec Ideal S512x1024 .f32 := fun y =>
  rowGrad (fun k => x4 (ix2 (y 0) k)) (tileNormed x0 x1 x2 x3 (y 0)) (fun k => x5 (ix2 (y 0) k)) (fun k => x6 (ix2 (0 : Fin 1) k)) (y 1)
def tileWeight : Vec Ideal S1x1024 .f32 := fun y =>
  z (ix2 (0 : Fin 1) (y 1)) + ∑ r : Fin 512, weightGrad (tileNormed x0 x1 x2 x3 r) (fun k => x5 (ix2 r k)) (y 1)

theorem tileRow_apply (r : Fin 512) (d : Fin 1024) : tileRow x0 x1 x2 x3 x4 x5 x6 (ix2 r d) =
    rowGrad (fun k => x4 (ix2 r k)) (tileNormed x0 x1 x2 x3 r) (fun k => x5 (ix2 r k)) (fun k => x6 (ix2 (0 : Fin 1) k)) d := rfl
theorem tileWeight_apply (d : Fin 1024) : tileWeight x0 x1 x2 x3 x5 z (ix2 (0 : Fin 1) d) =
    z (ix2 (0 : Fin 1) d) + ∑ r : Fin 512, weightGrad (tileNormed x0 x1 x2 x3 r) (fun k => x5 (ix2 r k)) d := rfl

variable (c : Dev nD) (i : grid0.Coords) (a0 : Memref sig .tc .vmem S4x512x1024 .bf16) (h0 : a0.IsWhole)
  (a1 : Memref sig .tc .vmem S4x1024x1024 .bf16) (h1 : a1.IsWhole) (a2 : Memref sig .tc .vmem S512x2560 .bf16) (h2 : a2.IsWhole)
  (a3 : Memref sig .tc .vmem S4x1024x640 .bf16) (h3 : a3.IsWhole) (a4 : Memref sig .tc .vmem S512x1024 .f32) (h4 : a4.IsWhole)
  (a5 : Memref sig .tc .vmem S512x1024 .f32) (h5 : a5.IsWhole) (a6 : Memref sig .tc .vmem S1x1024 .f32) (h6 : a6.IsWhole)
  (a7 : Memref sig .tc .vmem S512x1024 .f32) (h7 : a7.IsWhole) (a8 : Memref sig .tc .vmem S1x1024 .f32) (h8 : a8.IsWhole)

theorem normed_apply (r : Fin 512) (d : Fin 1024) :
    kernelRun0_A.sl.r_1 (F := Ideal) c a0 h0 a1 h1 a2 h2 a3 h3 x0 x1 x2 x3 (ix2 r d) = tileNormed x0 x1 x2 x3 r d := by
  pointwise [kernelRun0_A.sl.r_1, kernelRun0_A.sl.r, pay6_apply, pay5_apply, load_apply, emb_eq_idx, tileNormed, gathered, colAt, Fin.sum_univ_four]
  simp only [add_assoc]

theorem x_apply (r : Fin 512) (d : Fin 1024) : kernelRun0_A.sl.r_2 (F := Ideal) c a5 h5 x5 (ix2 r d) = x5 (ix2 r d) := by
  pointwise [kernelRun0_A.sl.r_2, load_apply, emb_eq_idx]
theorem g_apply (d : Fin 1024) : kernelRun0_A.sl.r_3 (F := Ideal) c a6 h6 x6 (ix2 (0 : Fin 1) d) = x6 (ix2 (0 : Fin 1) d) := by
  pointwise [kernelRun0_A.sl.r_3, load_apply, emb_eq_idx]
theorem scale_apply (r : Fin 512) (k : Fin 1) : kernelRun0_A.sl.r_4 (F := Ideal) c a5 h5 x5 (ix2 r k) = scale (fun k => x5 (ix2 r k)) := by
  pointwise [kernelRun0_A.sl.r_4, pay7_apply, load_apply, emb_eq_idx]
theorem scales_apply (r : Fin 512) (d : Fin 1024) : kernelRun0_A.sl.r_5 (F := Ideal) c a5 h5 x5 (ix2 r d) = scale (fun k => x5 (ix2 r k)) := by
  pointwise [kernelRun0_A.sl.r_5, pay8_apply, load_apply, emb_eq_idx]

/-- The one store of a point in its first block, and the last in its second, whichever of its run the point is. -/
theorem row_store (n x : Vec Ideal S512x1024 .f32) (g : Vec Ideal S1x1024 .f32) (s : Vec Ideal S512x1 .f32) (s' dx : Vec Ideal S512x1024 .f32)
    (e0 : ∀ r d, n (ix2 r d) = tileNormed x0 x1 x2 x3 r d) (e1 : ∀ r d, x (ix2 r d) = x5 (ix2 r d)) (e2 : ∀ d, g (ix2 (0 : Fin 1) d) = x6 (ix2 (0 : Fin 1) d))
    (e3 : ∀ r k, s (ix2 r k) = scale (fun k => x5 (ix2 r k))) (e4 : ∀ r d, s' (ix2 r d) = scale (fun k => x5 (ix2 r k))) (e5 : ∀ r d, dx (ix2 r d) = x4 (ix2 r d)) :
    View.PiecesOf (tileRow x0 x1 x2 x3 x4 x5 x6) [⟨Rect.unit ![0, 0] ![512, 1024] inb_S512x1024_S512x1024_0_0, k0_pay2 (F := Ideal) n x g s s' dx⟩] := by
  refine ⟨fun x => ?_, trivial⟩
  dsimp only
  obtain ⟨r, d, rfl⟩ : ∃ (r : Fin 512) (d : Fin 1024), x = ix2 r d := ⟨x 0, x 1, funext fun a => by fin_cases a <;> rfl⟩
  pointwise [pay2_apply, e0, e1, e2, e3, e4, e5, emb_eq_idx, tileRow, rowGrad, unit]

theorem weight_store (n x s' : Vec Ideal S512x1024 .f32) (y : Vec Ideal S1x1024 .f32)
    (e0 : ∀ r d, n (ix2 r d) = tileNormed x0 x1 x2 x3 r d) (e1 : ∀ r d, x (ix2 r d) = x5 (ix2 r d))
    (e4 : ∀ r d, s' (ix2 r d) = scale (fun k => x5 (ix2 r k))) (e5 : ∀ d, y (ix2 (0 : Fin 1) d) = z (ix2 (0 : Fin 1) d)) :
    View.PiecesOf (tileWeight x0 x1 x2 x3 x5 z) [⟨Rect.unit ![0, 0] ![1, 1024] inb_S1x1024_S1x1024_0_0, k0_pay3 (F := Ideal) n x s' y⟩] := by
  refine ⟨fun x => ?_, trivial⟩
  dsimp only
  obtain ⟨k, d, rfl⟩ : ∃ (k : Fin 1) (d : Fin 1024), x = ix2 k d := ⟨x 0, x 1, funext fun a => by fin_cases a <;> rfl⟩
  obtain rfl : k = 0 := Subsingleton.elim _ _
  pointwise [pay3_apply, e0, e1, e4, e5, emb_eq_idx, tileWeight, weightGrad, unit]

/-- A loaded row block and a loaded weight block are what the buffers hold. -/
theorem row_load (a : Memref sig .tc .vmem S512x1024 .f32) (h : a.IsWhole) (x : Vec Ideal S512x1024 .f32) (r : Fin 512) (d : Fin 1024) :
    a.view.readAt (Elt Ideal) (Rect.unit ![0, 0] S512x1024.size inb_S512x1024_S512x1024_0_0).toLoadRect (h.unread x) (ix2 r d) = x (ix2 r d) := by
  pointwise [load_apply, emb_eq_idx]
theorem vec_load (a : Memref sig .tc .vmem S1x1024 .f32) (h : a.IsWhole) (x : Vec Ideal S1x1024 .f32) (d : Fin 1024) :
    a.view.readAt (Elt Ideal) (Rect.unit ![0, 0] S1x1024.size inb_S1x1024_S1x1024_0_0).toLoadRect (h.unread x) (ix2 (0 : Fin 1) d) = x (ix2 (0 : Fin 1) d) := by
  pointwise [load_apply, emb_eq_idx]

/-- A run's first point finds the zeros it has put down. -/
theorem first_fill : kernelRun0_A.sl.v74 (F := Ideal) c a8 = fun _ => 0 := by
  unfold kernelRun0_A.sl.v74 kernelRun0_A.sl.H8_1
  refine (View.readCov_fill _ _ _ _ _ (by decide)).trans ?_
  funext x
  pointwise [k0_pay4]

theorem first_take (hc : cond0_0 i) (y : S1x1024.Idx) : ∃ p ∈ (kernelRun0_A (F := Ideal) c i a0 h0 a1 h1 a2 h2 a3 h3 a4 h4 a5 h5 a6 h6 a7 h7 a8 h8 hc x0 x1 x2 x3 x4 x5 x6).2.1.take 1, y ∈ p.1.set :=
  View.cover_of_tiledL ((kernelRun0_A (F := Ideal) c i a0 h0 a1 h1 a2 h2 a3 h3 a4 h4 a5 h5 a6 h6 a7 h7 a8 h8 hc x0 x1 x2 x3 x4 x5 x6).2.1.take 1) S1x1024.size (by sl_kernel_rfl) y

theorem first_row (hc : cond0_0 i) : out0_A_7 c i a0 h0 a1 h1 a2 h2 a3 h3 a4 h4 a5 h5 a6 h6 a7 h7 a8 h8 hc x0 x1 x2 x3 x4 x5 x6 = tileRow x0 x1 x2 x3 x4 x5 x6 := by
  unfold out0_A_7
  rw [View.read_writes_eq_canon _ _ _ (cover0_A_7 c i a0 h0 a1 h1 a2 h2 a3 h3 a4 h4 a5 h5 a6 h6 a7 h7 a8 h8 hc x0 x1 x2 x3 x4 x5 x6)]
  funext y
  exact View.canon_apply_of_pieces _ _ (View.PiecesOf.mem (row_store x0 x1 x2 x3 x4 x5 x6 _ _ _ _ _ _ (normed_apply x0 x1 x2 x3 c a0 h0 a1 h1 a2 h2 a3 h3)
      (x_apply x5 c a5 h5) (g_apply x6 c a6 h6) (scale_apply x5 c a5 h5) (scales_apply x5 c a5 h5) (row_load a4 h4 x4))) y
    (cover0_A_7 c i a0 h0 a1 h1 a2 h2 a3 h3 a4 h4 a5 h5 a6 h6 a7 h7 a8 h8 hc x0 x1 x2 x3 x4 x5 x6 y)

theorem first_weight (hc : cond0_0 i) : out0_A_8 c i a0 h0 a1 h1 a2 h2 a3 h3 a4 h4 a5 h5 a6 h6 a7 h7 a8 h8 hc x0 x1 x2 x3 x4 x5 x6 = tileWeight x0 x1 x2 x3 x5 (fun _ => 0) := by
  unfold out0_A_8
  rw [View.read_writes_eq_canon _ _ _ (cover0_A_8 c i a0 h0 a1 h1 a2 h2 a3 h3 a4 h4 a5 h5 a6 h6 a7 h7 a8 h8 hc x0 x1 x2 x3 x4 x5 x6)]
  funext y
  rw [← List.take_append_drop 1 (kernelRun0_A (F := Ideal) c i a0 h0 a1 h1 a2 h2 a3 h3 a4 h4 a5 h5 a6 h6 a7 h7 a8 h8 hc x0 x1 x2 x3 x4 x5 x6).2.1]
  exact View.canon_append_of_piecesOf _ _ _ (weight_store x0 x1 x2 x3 x5 (fun _ => 0) _ _ _ _ (normed_apply x0 x1 x2 x3 c a0 h0 a1 h1 a2 h2 a3 h3)
      (x_apply x5 c a5 h5) (scales_apply x5 c a5 h5) (fun d => congrFun (first_fill c a8) _)) y
    (first_take x0 x1 x2 x3 x4 x5 x6 c i a0 h0 a1 h1 a2 h2 a3 h3 a4 h4 a5 h5 a6 h6 a7 h7 a8 h8 hc y)

theorem later_row (hc : ¬cond0_0 i) : out0_B_7 c i a0 h0 a1 h1 a2 h2 a3 h3 a4 h4 a5 h5 a6 h6 a7 h7 a8 h8 hc x0 x1 x2 x3 x4 x5 x6 z = tileRow x0 x1 x2 x3 x4 x5 x6 := by
  unfold out0_B_7
  rw [View.read_writes_eq_canon _ _ _ (cover0_B_7 c i a0 h0 a1 h1 a2 h2 a3 h3 a4 h4 a5 h5 a6 h6 a7 h7 a8 h8 hc x0 x1 x2 x3 x4 x5 x6 z)]
  funext y
  exact View.canon_apply_of_pieces _ _ (View.PiecesOf.mem (row_store x0 x1 x2 x3 x4 x5 x6 _ _ _ _ _ _ (normed_apply x0 x1 x2 x3 c a0 h0 a1 h1 a2 h2 a3 h3)
      (x_apply x5 c a5 h5) (g_apply x6 c a6 h6) (scale_apply x5 c a5 h5) (scales_apply x5 c a5 h5) (row_load a4 h4 x4))) y
    (cover0_B_7 c i a0 h0 a1 h1 a2 h2 a3 h3 a4 h4 a5 h5 a6 h6 a7 h7 a8 h8 hc x0 x1 x2 x3 x4 x5 x6 z y)

theorem later_weight (hc : ¬cond0_0 i) : out0_B_8 c i a0 h0 a1 h1 a2 h2 a3 h3 a4 h4 a5 h5 a6 h6 a7 h7 a8 h8 hc x0 x1 x2 x3 x4 x5 x6 z = tileWeight x0 x1 x2 x3 x5 z := by
  unfold out0_B_8
  rw [View.read_writes_eq_canon _ _ _ (cover0_B_8 c i a0 h0 a1 h1 a2 h2 a3 h3 a4 h4 a5 h5 a6 h6 a7 h7 a8 h8 hc x0 x1 x2 x3 x4 x5 x6 z)]
  funext y
  exact View.canon_apply_of_pieces _ _ (View.PiecesOf.mem (weight_store x0 x1 x2 x3 x5 z _ _ _ _ (normed_apply x0 x1 x2 x3 c a0 h0 a1 h1 a2 h2 a3 h3)
      (x_apply x5 c a5 h5) (scales_apply x5 c a5 h5) (vec_load a8 h8 z))) y
    (cover0_B_8 c i a0 h0 a1 h1 a2 h2 a3 h3 a4 h4 a5 h5 a6 h6 a7 h7 a8 h8 hc x0 x1 x2 x3 x4 x5 x6 z y)

end

end Cert.MixNorm
end
-- ==== Proof.MixNormReference.lean ====
/- The reference's gradients through the layer's first norm, row by row, over the extended reals. -/
module

public import proofs.«01_k».proof.Proof.Gen.Reference7Ideal.Read
public import proofs.«01_k».proof.Proof.FfnGradReal
public import proofs.«01_k».proof.Proof.MixNormTile
public import Idealize.ShloMosaic.Lib.Pointwise

@[expose] public section

set_option maxRecDepth 16384

noncomputable section

namespace Cert.MixNorm.Reference

open Cert.Reference7Ideal Cert.Reference7Ideal.Read
open Cert.FfnGrad (unit scale mean meanSquare squareGrad rowGrad rowGrad' weightGrad rowGrad_eq)
open Cert.MixNorm (gathered colAt)
open Idealize.ShloMosaic Idealize.ShloMosaic.TcCoe Idealize.ShloMosaic.Tactic
open scoped BigOperators

variable (x0 : Vec Ideal S4x8192x1024 .bf16) (x1 : Vec Ideal S8192x2560 .bf16) (x2 : Vec Ideal S4x1024x1024 .bf16) (x3 : Vec Ideal S4x1024x640 .bf16)
  (x4 x5 : Vec Ideal S8192x1024 .f32) (x6 : Vec Ideal S1x1024 .f32)

/-- The gradient of token `t`'s normed row. -/
def wantNormed (t : Fin 8192) : Fin 1024 → EReal :=
  gathered (fun k j => x0 (ix3 k t j)) (fun j => x1 (ix2 t j)) (fun k d j => x2 (ix3 k d j)) (fun s d j => x3 (ix3 s d j))

theorem weight_apply (s : Fin 4) (d : Fin 1024) (j : Fin 640) : val_main_v2 (F := Ideal) x3 (ix2 d (colAt s j)) = x3 (ix3 s d j) := by
  have e0 : (s.val * 640 + j.val) / 640 = s.val := by omega
  have e1 : (s.val * 640 + j.val) % 640 = j.val := by omega
  pointwise [val_main_v0, val_main_v1, val_main_v2, colAt, e0, e1]

theorem proj_apply (t : Fin 8192) (d : Fin 1024) : val_main_v42 (F := Ideal) x1 x3 (ix2 t d) = ∑ s : Fin 4, ∑ j : Fin 640, x1 (ix2 t (colAt s j)) * x3 (ix3 s d j) := by
  have e : val_main_v42 (F := Ideal) x1 x3 (ix2 t d) = ∑ j : Fin 2560, x1 (ix2 t j) * val_main_v2 (F := Ideal) x3 (ix2 d j) := by
    pointwise [val_main_v41, val_main_v42]
  rw [e, Fin.sum_univ_tiles 4 640 rfl]
  exact Finset.sum_congr rfl fun s _ => Finset.sum_congr rfl fun j _ => congrArg (x1 (ix2 t (colAt s j)) * ·) (weight_apply x3 s d j)

theorem gate0_apply (t : Fin 8192) (d : Fin 1024) : val_main_v57 (F := Ideal) x0 x2 (ix2 t d) = ∑ j : Fin 1024, x0 (ix3 (0 : Fin 4) t j) * x2 (ix3 (0 : Fin 4) d j) := by
  pointwise [val_main_v18, val_main_v19, val_main_v20, val_main_v40, val_main_v43, val_main_v44, val_main_v57]
theorem gate1_apply (t : Fin 8192) (d : Fin 1024) : val_main_v55 (F := Ideal) x0 x2 (ix2 t d) = ∑ j : Fin 1024, x0 (ix3 (1 : Fin 4) t j) * x2 (ix3 (1 : Fin 4) d j) := by
  pointwise [val_main_v22, val_main_v23, val_main_v24, val_main_v40, val_main_v45, val_main_v46, val_main_v55]
theorem gate2_apply (t : Fin 8192) (d : Fin 1024) : val_main_v53 (F := Ideal) x0 x2 (ix2 t d) = ∑ j : Fin 1024, x0 (ix3 (2 : Fin 4) t j) * x2 (ix3 (2 : Fin 4) d j) := by
  pointwise [val_main_v26, val_main_v27, val_main_v28, val_main_v40, val_main_v47, val_main_v48, val_main_v53]
theorem gate3_apply (t : Fin 8192) (d : Fin 1024) : val_main_v51 (F := Ideal) x0 x2 (ix2 t d) = ∑ j : Fin 1024, x0 (ix3 (3 : Fin 4) t j) * x2 (ix3 (3 : Fin 4) d j) := by
  pointwise [val_main_v30, val_main_v31, val_main_v32, val_main_v40, val_main_v49, val_main_v50, val_main_v51]

theorem normed_want (t : Fin 8192) (d : Fin 1024) : val_main_v58 (F := Ideal) x0 x1 x2 x3 (ix2 t d) = wantNormed x0 x1 x2 x3 t d := by
  pointwise [val_main_v52, val_main_v54, val_main_v56, val_main_v58, gate0_apply, gate1_apply, gate2_apply, gate3_apply, proj_apply]
  rw [wantNormed, gathered, Fin.sum_univ_four, Fin.sum_univ_four]
  ac_rfl

theorem scale_apply (t : Fin 8192) (k : Fin 1) : val_main_v10 (F := Ideal) x5 (ix2 t k) = scale (fun k => x5 (ix2 t k)) := by
  pointwise [val_main_v3, val_main_v4, val_main_v5, val_main_v6, val_main_v7, val_main_v8, val_main_v9, val_main_v10, val_main_cst, val_main_cst_0, val_main_cst_1, scale, mean]

theorem square_apply (t : Fin 8192) (k : Fin 1) : val_main_v9 (F := Ideal) x5 (ix2 t k) = meanSquare (fun k => x5 (ix2 t k)) := by
  pointwise [val_main_v3, val_main_v4, val_main_v5, val_main_v6, val_main_v7, val_main_v8, val_main_v9, val_main_cst, val_main_cst_0, val_main_cst_1, meanSquare, mean]

theorem row_apply (t : Fin 8192) (d : Fin 1024) : val_main_v78 (F := Ideal) x0 x1 x2 x3 x4 x5 x6 (ix2 t d) =
    rowGrad' (fun k => x4 (ix2 t k)) (fun k => val_main_v58 (F := Ideal) x0 x1 x2 x3 (ix2 t k)) (fun k => x5 (ix2 t k)) (fun k => x6 (ix2 (0 : Fin 1) k)) d := by
  pointwise [val_main_v78, val_main_v77, val_main_v76, val_main_v75, val_main_v74, val_main_v73, val_main_v72, val_main_v71, val_main_v70, val_main_v69, val_main_v68,
    val_main_v67, val_main_v66, val_main_v65, val_main_v64, val_main_v63, val_main_v62, val_main_v13, val_main_v12, val_main_v11, val_main_cst_2, val_main_cst_4,
    val_main_cst_5, val_main_cst_6, scale_apply, square_apply, rowGrad', squareGrad, mean, Fin.sum_univ_one]

theorem weightGrad_apply (d : Fin 1024) : val_main_v61 (F := Ideal) x0 x1 x2 x3 x5 (ix2 (0 : Fin 1) d) =
    ∑ t : Fin 8192, weightGrad (fun k => val_main_v58 (F := Ideal) x0 x1 x2 x3 (ix2 t k)) (fun k => x5 (ix2 t k)) d := by
  pointwise [val_main_v14, val_main_v15, val_main_v59, val_main_v60, val_main_v61, val_main_cst_3, scale_apply, weightGrad, unit]
  exact Finset.sum_congr rfl fun t _ => mul_comm _ _

theorem weight_want (d : Fin 1024) : val_main_v61 (F := Ideal) x0 x1 x2 x3 x5 (ix2 (0 : Fin 1) d) =
    ∑ t : Fin 8192, weightGrad (wantNormed x0 x1 x2 x3 t) (fun k => x5 (ix2 t k)) d := by
  refine (weightGrad_apply x0 x1 x2 x3 x5 d).trans (Finset.sum_congr rfl fun t _ => ?_)
  rw [funext (normed_want x0 x1 x2 x3 t)]

theorem row_want (t : Fin 8192) (d : Fin 1024) : val_main_v78 (F := Ideal) x0 x1 x2 x3 x4 x5 x6 (ix2 t d) =
    rowGrad (fun k => x4 (ix2 t k)) (wantNormed x0 x1 x2 x3 t) (fun k => x5 (ix2 t k)) (fun k => x6 (ix2 (0 : Fin 1) k)) d := by
  refine (row_apply x0 x1 x2 x3 x4 x5 x6 t d).trans ?_
  rw [funext (normed_want x0 x1 x2 x3 t)]
  exact (rowGrad_eq _ _ _ _ d).symm

end Cert.MixNorm.Reference
end
-- ==== Proof.MixNorm.lean ====
/- The gradients through the layer's first norm: what the `mix_norm_bwd` kernel leaves in its two output arrays, over the
   extended reals, and that it is the reference's. -/
module

public import proofs.«01_k».proof.Proof.MixNormTile
public import proofs.«01_k».proof.Proof.MixNormReference
public import Idealize.ShloMosaic.Lib.Pipeline.ValueKit.Partial
public import Idealize.ShloMosaic.Lib.VecWindow

@[expose] public section

set_option maxRecDepth 16384

noncomputable section

namespace Cert.MixNorm

open Cert.Kernel7Ideal Cert.Kernel7Ideal.Gen Cert.Kernel7Ideal.Value
open Cert.Reference7Ideal.Read
open Cert.FfnGrad (rowGrad weightGrad)
open Idealize.ShloMosaic Idealize.ShloMosaic.TcCoe Idealize.ShloMosaic.Tactic Idealize.SL.Sem
open scoped BigOperators

theorem index0 : ∀ t : Fin cfg0.N, win0_0.index t = ![0, t.val % 16, 0] := (by decide +kernel : ∀ t : Fin grid0.N, win0_0.index t = ![0, t.val % 16, 0])
theorem index1 : ∀ t : Fin cfg0.N, win0_1.index t = ![0, 0, 0] := (by decide +kernel : ∀ t : Fin grid0.N, win0_1.index t = ![0, 0, 0])
theorem index2 : ∀ t : Fin cfg0.N, win0_2.index t = ![t.val % 16, 0] := (by decide +kernel : ∀ t : Fin grid0.N, win0_2.index t = ![t.val % 16, 0])
theorem index3 : ∀ t : Fin cfg0.N, win0_3.index t = ![0, 0, 0] := (by decide +kernel : ∀ t : Fin grid0.N, win0_3.index t = ![0, 0, 0])
theorem index4 : ∀ t : Fin cfg0.N, win0_4.index t = ![t.val % 16, 0] := (by decide +kernel : ∀ t : Fin grid0.N, win0_4.index t = ![t.val % 16, 0])
theorem index5 : ∀ t : Fin cfg0.N, win0_5.index t = ![t.val % 16, 0] := (by decide +kernel : ∀ t : Fin grid0.N, win0_5.index t = ![t.val % 16, 0])
theorem index6 : ∀ t : Fin cfg0.N, win0_6.index t = ![0, 0] := (by decide +kernel : ∀ t : Fin grid0.N, win0_6.index t = ![0, 0])
theorem index7 : ∀ t : Fin cfg0.N, win0_7.index t = ![t.val % 16, 0] := (by decide +kernel : ∀ t : Fin grid0.N, win0_7.index t = ![t.val % 16, 0])
theorem index8 : ∀ t : Fin cfg0.N, win0_8.index t = ![0, 0] := (by decide +kernel : ∀ t : Fin grid0.N, win0_8.index t = ![0, 0])

/-- Token `r` of the tile that point `u` takes. -/
def tokenAt (u : ℕ) (r : Fin 512) : Fin 8192 := ⟨u % 16 * 512 + r.val, by omega⟩

variable (m : (ℓ : Loc nD τ sig) → Buf (Elt Ideal) ℓ)

/-- The arguments: the gradients of the gates' pre-activations and of the projection, their weights, the residual's
    gradient, the rows and the norm's gain. -/
def pres (c : Dev nD) : Vec Ideal S4x8192x1024 .bf16 := m ((c.tc : Thread nD τ).loc main_arg0)
def projs (c : Dev nD) : Vec Ideal S8192x2560 .bf16 := m ((c.tc : Thread nD τ).loc main_arg1)
def wgs (c : Dev nD) : Vec Ideal S4x1024x1024 .bf16 := m ((c.tc : Thread nD τ).loc main_arg2)
def wis (c : Dev nD) : Vec Ideal S4x1024x640 .bf16 := m ((c.tc : Thread nD τ).loc main_arg3)
def dxs (c : Dev nD) : Vec Ideal S8192x1024 .f32 := m ((c.tc : Thread nD τ).loc main_arg4)
def xs (c : Dev nD) : Vec Ideal S8192x1024 .f32 := m ((c.tc : Thread nD τ).loc main_arg5)
def gs (c : Dev nD) : Vec Ideal S1x1024 .f32 := m ((c.tc : Thread nD τ).loc main_arg6)

def preTile (c : Dev nD) (t : Fin cfg0.N) : Vec Ideal S4x512x1024 .bf16 := iblk m c 0 t
def wgTile (c : Dev nD) (t : Fin cfg0.N) : Vec Ideal S4x1024x1024 .bf16 := iblk m c 1 t
def projTile (c : Dev nD) (t : Fin cfg0.N) : Vec Ideal S512x2560 .bf16 := iblk m c 2 t
def wiTile (c : Dev nD) (t : Fin cfg0.N) : Vec Ideal S4x1024x640 .bf16 := iblk m c 3 t
def dxTile (c : Dev nD) (t : Fin cfg0.N) : Vec Ideal S512x1024 .f32 := iblk m c 4 t
def xTile (c : Dev nD) (t : Fin cfg0.N) : Vec Ideal S512x1024 .f32 := iblk m c 5 t
def gTile (c : Dev nD) (t : Fin cfg0.N) : Vec Ideal S1x1024 .f32 := iblk m c 6 t

/-! ## The rows a tile's token sees are the token's -/

theorem pre_row (c : Dev nD) (t : Fin cfg0.N) (r : Fin 512) : (fun k j => preTile m c t (ix3 k r j)) = fun k j => pres m c (ix3 k (tokenAt t.val r) j) := by
  funext k j
  refine Eq.trans ?_ (congrFun (V_main_arg0 m c) _)
  show iblk m c 0 t (ix3 k r j) = V m c main_arg0 (ix3 k (tokenAt t.val r) j)
  blk_ext [iblk, index0, tokenAt]

theorem wg_eq (c : Dev nD) (t : Fin cfg0.N) : (fun k d j => wgTile m c t (ix3 k d j)) = fun k d j => wgs m c (ix3 k d j) := by
  funext k d j
  refine Eq.trans ?_ (congrFun (V_main_arg2 m c) _)
  show iblk m c 1 t (ix3 k d j) = V m c main_arg2 (ix3 k d j)
  blk_ext [iblk, index1]

theorem proj_row (c : Dev nD) (t : Fin cfg0.N) (r : Fin 512) : (fun j => projTile m c t (ix2 r j)) = fun j => projs m c (ix2 (tokenAt t.val r) j) := by
  funext j
  refine Eq.trans ?_ (congrFun (V_main_arg1 m c) _)
  show iblk m c 2 t (ix2 r j) = V m c main_arg1 (ix2 (tokenAt t.val r) j)
  blk_ext [iblk, index2, tokenAt]

theorem wi_eq (c : Dev nD) (t : Fin cfg0.N) : (fun s d j => wiTile m c t (ix3 s d j)) = fun s d j => wis m c (ix3 s d j) := by
  funext s d j
  refine Eq.trans ?_ (congrFun (V_main_arg3 m c) _)
  show iblk m c 3 t (ix3 s d j) = V m c main_arg3 (ix3 s d j)
  blk_ext [iblk, index3]

theorem dx_row (c : Dev nD) (t : Fin cfg0.N) (r : Fin 512) : (fun k => dxTile m c t (ix2 r k)) = fun k => dxs m c (ix2 (tokenAt t.val r) k) := by
  funext k
  refine Eq.trans ?_ (congrFun (V_main_arg4 m c) _)
  show iblk m c 4 t (ix2 r k) = V m c main_arg4 (ix2 (tokenAt t.val r) k)
  blk_ext [iblk, index4, tokenAt]

theorem x_row (c : Dev nD) (t : Fin cfg0.N) (r : Fin 512) : (fun k => xTile m c t (ix2 r k)) = fun k => xs m c (ix2 (tokenAt t.val r) k) := by
  funext k
  refine Eq.trans ?_ (congrFun (V_main_arg5 m c) _)
  show iblk m c 5 t (ix2 r k) = V m c main_arg5 (ix2 (tokenAt t.val r) k)
  blk_ext [iblk, index5, tokenAt]

theorem g_row (c : Dev nD) (t : Fin cfg0.N) : (fun k => gTile m c t (ix2 (0 : Fin 1) k)) = fun k => gs m c (ix2 (0 : Fin 1) k) := by
  funext k
  refine Eq.trans ?_ (congrFun (V_main_arg6 m c) _)
  show iblk m c 6 t (ix2 (0 : Fin 1) k) = V m c main_arg6 (ix2 (0 : Fin 1) k)
  blk_ext [iblk, index6]

/-! ## The blocks after each point -/

attribute [local irreducible] out0_A_7 out0_A_8 out0_B_7 out0_B_8 tileRow tileWeight iblk

theorem outs_row (c : Dev nD) (t : Fin cfg0.N) : (outsAt0 m c t.val t.isLt).1 = tileRow (preTile m c t) (wgTile m c t) (projTile m c t) (wiTile m c t) (dxTile m c t) (xTile m c t) (gTile m c t) := by
  by_cases h : t.val % 16 = 0
  · exact (congrArg (fun o => o.1) (outsAt0_A m c t h)).trans (first_row _ _ _ _ _ _ _ _ _ _ _ _ _ _ _ _ _ _ _ _ _ _ _ _ _ _ _ _)
  · exact (congrArg (fun o => o.1) (outsAt0_B m c t h)).trans (later_row _ _ _ _ _ _ _ _ _ _ _ _ _ _ _ _ _ _ _ _ _ _ _ _ _ _ _ _ _)

/-- The first point puts its tile's part in the second block, and every later one adds its own. -/
def step (c : Dev nD) (n : ℕ) (h : n < cfg0.N) (z : Vec Ideal S1x1024 .f32) : Vec Ideal S1x1024 .f32 :=
  tileWeight (preTile m c ⟨n, h⟩) (wgTile m c ⟨n, h⟩) (projTile m c ⟨n, h⟩) (wiTile m c ⟨n, h⟩) (xTile m c ⟨n, h⟩) z
def start (c : Dev nD) (n : ℕ) (h : n < cfg0.N) : Vec Ideal S1x1024 .f32 := step m c n h (fun _ => 0)

theorem outs_weight (c : Dev nD) (t : Fin cfg0.N) :
    (outsAt0 m c t.val t.isLt).2 = Pipeline.accAt (start m c) (step m c) (16 * (t.val / 16)) (t.val % 16)
      (by have h1 := t.isLt; have h2 := Nat.div_add_mod t.val 16; omega) :=
  Pipeline.eq_accAt_of_mod (fun n h => (outsAt0 m c n h).2) 16 (start m c) (step m c)
    (fun n h hn => (congrArg (fun o => o.2) (outsAt0_A m c ⟨n, h⟩ hn)).trans (first_weight _ _ _ _ _ _ _ _ _ _ _ _ _ _ _ _ _ _ _ _ _ _ _ _ _ _ _ _))
    (fun n h hn => (congrArg (fun o => o.2) (outsAt0_B m c ⟨n + 1, h⟩ hn)).trans (later_weight _ _ _ _ _ _ _ _ _ _ _ _ _ _ _ _ _ _ _ _ _ _ _ _ _ _ _ _ _))
    (by decide) t.val t.isLt _

attribute [local irreducible] pres projs wgs wis dxs xs gs preTile wgTile projTile wiTile dxTile xTile gTile

theorem tileNormed_eq (c : Dev nD) (t : Fin cfg0.N) (r : Fin 512) :
    tileNormed (preTile m c t) (wgTile m c t) (projTile m c t) (wiTile m c t) r = Reference.wantNormed (pres m c) (projs m c) (wgs m c) (wis m c) (tokenAt t.val r) := by
  rw [tileNormed, Reference.wantNormed, pre_row, proj_row, wg_eq, wi_eq]

/-- What token `t` adds to the gradient of the norm's gain. -/
def addend (c : Dev nD) (y : S1x1024.Idx) (t : Fin 8192) : EReal :=
  weightGrad (Reference.wantNormed (pres m c) (projs m c) (wgs m c) (wis m c) t) (fun k => xs m c (ix2 t k)) (y 1)

theorem step_eq (c : Dev nD) (n : ℕ) (h : n < cfg0.N) (z : Vec Ideal S1x1024 .f32) (y : S1x1024.Idx) :
    step m c n h z y = z y + ∑ r : Fin 512, addend m c y (tokenAt n r) := by
  obtain ⟨k, d, rfl⟩ : ∃ (k : Fin 1) (d : Fin 1024), y = ix2 k d := ⟨y 0, y 1, funext fun a => by fin_cases a <;> rfl⟩
  obtain rfl : k = 0 := Subsingleton.elim _ _
  refine (tileWeight_apply _ _ _ _ _ _ d).trans (congrArg (z (ix2 (0 : Fin 1) d) + ·) (Finset.sum_congr rfl fun r _ => ?_))
  rw [tileNormed_eq, x_row]
  rfl

theorem sum_tiles (f : Fin 8192 → EReal) : ∑ s ∈ Finset.range 16, ∑ r : Fin 512, f (tokenAt s r) = ∑ t : Fin 8192, f t := by
  rw [Finset.sum_range, Fin.sum_univ_tiles 16 512 rfl]
  refine Finset.sum_congr rfl fun u _ => Finset.sum_congr rfl fun r _ => congrArg f (Fin.ext ?_)
  show u.val % 16 * 512 + r.val = u.val * 512 + r.val
  omega

theorem last_eq (c : Dev nD) (t : Fin cfg0.N) (hm : t.val % 16 = 15) (y : S1x1024.Idx) :
    (outsAt0 m c t.val t.isLt).2 y = ∑ t : Fin 8192, addend m c y t := by
  have ht : t.val < 16 := t.isLt
  have hlt : 0 + 15 < cfg0.N := by decide
  have e : ∀ (a j : ℕ) (h : a + j < cfg0.N), a = 0 → j = 15 → Pipeline.accAt (start m c) (step m c) a j h = Pipeline.accAt (start m c) (step m c) 0 15 hlt := by
    intro a j h ha hj; subst ha; subst hj; rfl
  rw [outs_weight, e _ _ _ (by omega) hm]
  refine (Pipeline.accAt_add_apply (start m c) (step m c) (fun _ => 0) (fun n y => ∑ r : Fin 512, addend m c y (tokenAt n r)) 0 15
    (fun h y => step_eq m c _ h _ y) (fun n h acc y _ _ => step_eq m c n h acc y) 15 le_rfl hlt y).trans ?_
  rw [zero_add]
  simp only [Nat.zero_add]
  exact sum_tiles (addend m c y)

/-! ## The arrays after the run -/

def wholeRow (c : Dev nD) : Vec Ideal S8192x1024 .f32 := fun y =>
  rowGrad (fun k => dxs m c (ix2 (y 0) k)) (Reference.wantNormed (pres m c) (projs m c) (wgs m c) (wis m c) (y 0)) (fun k => xs m c (ix2 (y 0) k)) (fun k => gs m c (ix2 (0 : Fin 1) k)) (y 1)
def wholeWeight (c : Dev nD) : Vec Ideal S1x1024 .f32 := fun y => ∑ t : Fin 8192, addend m c y t

theorem wholeRow_apply (c : Dev nD) (t : Fin 8192) (d : Fin 1024) : wholeRow m c (ix2 t d) =
    rowGrad (fun k => dxs m c (ix2 t k)) (Reference.wantNormed (pres m c) (projs m c) (wgs m c) (wis m c) t) (fun k => xs m c (ix2 t k)) (fun k => gs m c (ix2 (0 : Fin 1) k)) d := rfl
theorem wholeWeight_apply (c : Dev nD) (d : Fin 1024) : wholeWeight m c (ix2 (0 : Fin 1) d) =
    ∑ t : Fin 8192, weightGrad (Reference.wantNormed (pres m c) (projs m c) (wgs m c) (wis m c) t) (fun k => xs m c (ix2 t k)) d := rfl

attribute [local irreducible] wholeRow wholeWeight

/-- Where the outputs' blocks lie. -/
theorem emb7 (t : Fin cfg0.N) (r : Fin 512) (d : Fin 1024) : (win0_7.blk t).view.emb (ix2 r d) = ix2 (tokenAt t.val r) d := by
  blk_ext [index7, tokenAt]
theorem emb8 (t : Fin cfg0.N) (k : Fin 1) (d : Fin 1024) : (win0_8.blk t).view.emb (ix2 k d) = ix2 k d := by
  blk_ext [index8]

theorem final_row (c : Dev nD) : (dats m 0 c).arrAt 7 cfg0.N = wholeRow m c := by
  refine (dats m 0 c).arrAt_eq_of_covers 7 _ (by decide +kernel) fun t hf y => ?_
  blk_simp
  rw [after0_7, outs_row]
  obtain ⟨r, d, rfl⟩ : ∃ (r : Fin 512) (d : Fin 1024), y = ix2 r d := ⟨y 0, y 1, funext fun a => by fin_cases a <;> rfl⟩
  refine Eq.trans ?_ (congrArg (wholeRow m c) (emb7 t r d).symm)
  refine (tileRow_apply _ _ _ _ _ _ _ r d).trans (Eq.trans ?_ (wholeRow_apply m c _ d).symm)
  rw [dx_row, x_row, g_row, tileNormed_eq]

theorem final_weight (c : Dev nD) : (dats m 0 c).arrAt 8 cfg0.N = wholeWeight m c := by
  refine (dats m 0 c).arrAt_eq_of_covers 8 _ (by decide +kernel) fun t hf y => ?_
  have hm : t.val % 16 = 15 := (flush0_8 t).mp hf
  blk_simp
  rw [after0_8]
  obtain ⟨k, d, rfl⟩ : ∃ (k : Fin 1) (d : Fin 1024), y = ix2 k d := ⟨y 0, y 1, funext fun a => by fin_cases a <;> rfl⟩
  obtain rfl : k = 0 := Subsingleton.elim _ _
  refine Eq.trans ?_ (congrArg (wholeWeight m c) (emb8 t 0 d).symm)
  exact (last_eq m c t hm _).trans (wholeWeight_apply m c d).symm

/-! ## The reference's results -/

theorem row_eq (c : Dev nD) :
    (dats m 0 c).arrAt 7 cfg0.N = val_main_v78 (F := Ideal) (pres m c) (projs m c) (wgs m c) (wis m c) (dxs m c) (xs m c) (gs m c) := by
  rw [final_row]
  funext y
  obtain ⟨r, d, rfl⟩ : ∃ (r : Fin 8192) (d : Fin 1024), y = ix2 r d := ⟨y 0, y 1, funext fun a => by fin_cases a <;> rfl⟩
  exact (wholeRow_apply m c r d).trans (Reference.row_want (pres m c) (projs m c) (wgs m c) (wis m c) (dxs m c) (xs m c) (gs m c) r d).symm

theorem weight_eq (c : Dev nD) : (dats m 0 c).arrAt 8 cfg0.N = val_main_v61 (F := Ideal) (pres m c) (projs m c) (wgs m c) (wis m c) (xs m c) := by
  rw [final_weight]
  funext y
  obtain ⟨k, d, rfl⟩ : ∃ (k : Fin 1) (d : Fin 1024), y = ix2 k d := ⟨y 0, y 1, funext fun a => by fin_cases a <;> rfl⟩
  obtain rfl : k = 0 := Subsingleton.elim _ _
  exact (wholeWeight_apply m c d).trans (Reference.weight_want (pres m c) (projs m c) (wgs m c) (wis m c) (xs m c) d).symm

end Cert.MixNorm
end
-- ==== Proof.ForwardRow.lean ====
/- One token's row through a projection added to the residual, through the norm, and through the feed-forward gate, as the
   forward kernels compute it over the extended reals. -/
module

public import proofs.«01_k».proof.Proof.FfnGradRow

@[expose] public section

noncomputable section

namespace Cert.Forward

open Idealize.ShloMosaic
open Cert.FfnGrad (sigm unit)
open scoped BigOperators

/-- The row `x` with the projection of `a` through `w` added to it. -/
def added {n : ℕ} (a : Fin n → EReal) (w : Fin n → Fin 1024 → EReal) (x : Fin 1024 → EReal) (d : Fin 1024) : EReal :=
  x d + ∑ k : Fin n, a k * w k d

/-- The row over its root mean square, times the gain. -/
def normed (x g : Fin 1024 → EReal) (d : Fin 1024) : EReal := unit x d * g d

/-- The row `n` against one column of a weight. -/
def proj {m : ℕ} (n w : Fin m → EReal) : EReal := ∑ k : Fin m, n k * w k

/-- Row `k` of a weight whose columns lie in four shards of 256, at column `d`. -/
def shard {m : ℕ} (w : Fin 4 → Fin m → Fin 256 → EReal) (k : Fin m) (d : Fin 1024) : EReal :=
  w ⟨d.val / 256, by omega⟩ k ⟨d.val % 256, by omega⟩

/-- Column `j` of shard `s`. -/
def colAt (s : Fin 4) (j : Fin 256) : Fin 1024 := ⟨s.val * 256 + j.val, by omega⟩

theorem shard_colAt {m : ℕ} (w : Fin 4 → Fin m → Fin 256 → EReal) (k : Fin m) (s : Fin 4) (j : Fin 256) : shard w k (colAt s j) = w s k j := by
  have e0 : (⟨(colAt s j).val / 256, by omega⟩ : Fin 4) = s := Fin.ext (by show (s.val * 256 + j.val) / 256 = s.val; omega)
  have e1 : (⟨(colAt s j).val % 256, by omega⟩ : Fin 256) = j := Fin.ext (by show (s.val * 256 + j.val) % 256 = j.val; omega)
  rw [shard, e0, e1]

theorem exists_colAt (d : Fin 1024) : ∃ s j, d = colAt s j :=
  ⟨⟨d.val / 256, by omega⟩, ⟨d.val % 256, by omega⟩, Fin.ext (by show d.val = d.val / 256 * 256 + d.val % 256; omega)⟩

/-- The factor `b` through the gate `a`. -/
def gated (a b : EReal) : EReal := a * sigm a * b

end Cert.Forward
end
-- ==== Proof.FfnInTile.lean ====
/- What a grid point of the `ffn_in` kernel computes from the blocks it holds, over the extended reals: the rows after the
   merge, their norm, the feed-forward block's pre-activations and its gated activation. -/
module

public import proofs.«01_k».proof.Proof.Gen.Kernel8Ideal.Value
public import proofs.«01_k».proof.Proof.TokenSum
public import proofs.«01_k».proof.Proof.ForwardRow
public import Idealize.ShloMosaic.Lib.Pipeline.ValueKit.Tiles
public import Idealize.ShloMosaic.Lib.Pipeline.ReadBack
public import Idealize.ShloMosaic.Lib.Pointwise

@[expose] public section

set_option maxRecDepth 16384

noncomputable section

namespace Cert.FfnIn

open Cert.Kernel8Ideal Cert.Kernel8Ideal.Gen
open Cert.TokenSum (emb_eq_idx)
open Cert.FfnGrad (unit scale mean sigm unitAt unitAt_zero unitAt_one)
open Cert.Forward
open Idealize.ShloMosaic Idealize.ShloMosaic.TcCoe Idealize.ShloMosaic.Tactic Idealize.SL.Sem
open scoped BigOperators

/-- The row's pre-activation at hidden unit `h`, from the two shards that hold its half. -/
def pre (n : Fin 1024 → EReal) (w : Fin 2 → Fin 1024 → Fin 1408 → EReal) (h : Fin 2816) : EReal :=
  proj n fun k => w (⟨h.val / 1408, by omega⟩ : Fin 2) k (⟨h.val % 1408, by omega⟩ : Fin 1408)

theorem pre_unitAt (n : Fin 1024 → EReal) (w : Fin 2 → Fin 1024 → Fin 1408 → EReal) (j : Fin 2) (h : Fin 1408) :
    pre n w (unitAt j h) = proj n fun k => w j k h := by
  have e0 : (⟨(unitAt j h).val / 1408, by omega⟩ : Fin 2) = j := Fin.ext (by show (j.val * 1408 + h.val) / 1408 = j.val; omega)
  have e1 : (⟨(unitAt j h).val % 1408, by omega⟩ : Fin 1408) = h := Fin.ext (by show (j.val * 1408 + h.val) % 1408 = h.val; omega)
  rw [pre, e0, e1]

/-- The gate's shards and the factor's. -/
def gateShards (w : Fin 4 → Fin 1024 → Fin 1408 → EReal) (j : Fin 2) : Fin 1024 → Fin 1408 → EReal := w ⟨j.val, by omega⟩
def upShards (w : Fin 4 → Fin 1024 → Fin 1408 → EReal) (j : Fin 2) : Fin 1024 → Fin 1408 → EReal := w ⟨2 + j.val, by omega⟩

theorem pay2_apply (x : Vec Ideal S256x1024 .f32) (a : Vec Ideal S256x1024 .bf16) (w : Vec Ideal S1024x1024 .bf16) (r : Fin 256) (d : Fin 1024) :
    k0_pay2 x a w (ix2 r d) = added (fun k => a (ix2 r k)) (fun k d => w (ix2 k d)) (fun k => x (ix2 r k)) d := by
  pointwise [k0_pay2, added]

theorem pay3_apply (x : Vec Ideal S256x1024 .f32) (a : Vec Ideal S256x1024 .bf16) (w : Vec Ideal S1024x1024 .bf16) (g : Vec Ideal S1x1024 .f32) (r : Fin 256) (d : Fin 1024) :
    k0_pay3 x a w g (ix2 r d) = normed (added (fun k => a (ix2 r k)) (fun k d => w (ix2 k d)) (fun k => x (ix2 r k))) (fun k => g (ix2 (0 : Fin 1) k)) d := by
  pointwise [k0_pay3, pay2_apply, normed, unit, scale, mean]

theorem pay4_apply (x : Vec Ideal S256x1024 .f32) (a : Vec Ideal S256x1024 .bf16) (w : Vec Ideal S1024x1024 .bf16) (g : Vec Ideal S1x1024 .f32) (s : Vec Ideal S1x1024x1408 .bf16) (r : Fin 256) (h : Fin 1408) :
    k0_pay4 x a w g s (ix2 r h) = proj (fun k => k0_pay3 x a w g (ix2 r k)) (fun k => s (ix3 (0 : Fin 1) k h)) := by
  pointwise [k0_pay4, proj]

theorem pay5_apply (x : Vec Ideal S256x1024 .f32) (a : Vec Ideal S256x1024 .bf16) (w : Vec Ideal S1024x1024 .bf16) (g : Vec Ideal S1x1024 .f32) (s : Vec Ideal S1x1024x1408 .bf16) (r : Fin 256) (h : Fin 1408) :
    k0_pay5 x a w g s (ix2 r h) = proj (fun k => k0_pay3 x a w g (ix2 r k)) (fun k => s (ix3 (0 : Fin 1) k h)) := by
  pointwise [k0_pay5, proj]

theorem pay10_apply (n : Vec Ideal S256x1024 .bf16) (s : Vec Ideal S1x1024x1408 .bf16) (r : Fin 256) (h : Fin 1408) :
    k0_pay10 n s (ix2 r h) = proj (fun k => n (ix2 r k)) (fun k => s (ix3 (0 : Fin 1) k h)) := by
  pointwise [k0_pay10, proj]

theorem pay11_apply (n : Vec Ideal S256x1024 .bf16) (s : Vec Ideal S1x1024x1408 .bf16) (r : Fin 256) (h : Fin 1408) :
    k0_pay11 n s (ix2 r h) = proj (fun k => n (ix2 r k)) (fun k => s (ix3 (0 : Fin 1) k h)) := by
  pointwise [k0_pay11, proj]

theorem pay9_apply (a b : Vec Ideal S256x1408 .f32) (r : Fin 256) (h : Fin 1408) :
    k0_pay9 (F := Ideal) a b (ix2 r h) = gated (a (ix2 r h)) (b (ix2 r h)) := by
  pointwise [k0_pay9, gated, sigm]

theorem pay1_apply (a b e : Vec Ideal S256x1408 .f32) (z : EReal) (r : Fin 256) (h : Fin 1408) :
    k0_pay1 (F := Ideal) a b e z (ix2 r h) = a (ix2 r h) * Ideal.div 1 (z + e (ix2 r h)) * b (ix2 r h) := by
  pointwise [k0_pay1]

theorem pay14_apply (n : Vec Ideal S256x1024 .bf16) (s : Vec Ideal S1x1024x1408 .bf16) (r : Fin 256) (h : Fin 1408) :
    k0_pay14 n s (ix2 r h) = Ideal.exp (0 - k0_pay10 n s (ix2 r h)) := by
  pointwise [k0_pay14]

section
variable (x0 : Vec Ideal S256x1024 .bf16) (x1 : Vec Ideal S1024x1024 .bf16) (x2 : Vec Ideal S256x1024 .f32) (x3 : Vec Ideal S1x1024 .f32)
  (x4 : Vec Ideal S4x1024x1408 .bf16)

/-- A row of the block after the merge, its norm, and its pre-activations. -/
def rowOf (r : Fin 256) : Fin 1024 → EReal := added (fun k => x0 (ix2 r k)) (fun k d => x1 (ix2 k d)) (fun k => x2 (ix2 r k))
def normOf (r : Fin 256) : Fin 1024 → EReal := normed (rowOf x0 x1 x2 r) (fun k => x3 (ix2 (0 : Fin 1) k))
def gateOf (r : Fin 256) : Fin 2816 → EReal := pre (normOf x0 x1 x2 x3 r) (gateShards fun s k h => x4 (ix3 s k h))
def upOf (r : Fin 256) : Fin 2816 → EReal := pre (normOf x0 x1 x2 x3 r) (upShards fun s k h => x4 (ix3 s k h))

/-- What a point leaves in its four blocks. -/
def tileRow : Vec Ideal S256x1024 .f32 := fun y => rowOf x0 x1 x2 (y 0) (y 1)
def tileNorm : Vec Ideal S256x1024 .bf16 := fun y => normOf x0 x1 x2 x3 (y 0) (y 1)
def tilePre : Vec Ideal S2x256x2816 .bf16 := fun y => if (y 0).val = 0 then gateOf x0 x1 x2 x3 x4 (y 1) (y 2) else upOf x0 x1 x2 x3 x4 (y 1) (y 2)
def tileAct : Vec Ideal S256x2816 .bf16 := fun y => gated (gateOf x0 x1 x2 x3 x4 (y 0) (y 1)) (upOf x0 x1 x2 x3 x4 (y 0) (y 1))

theorem gate_zero (r : Fin 256) (h : Fin 1408) : gateOf x0 x1 x2 x3 x4 r ⟨h.val, by omega⟩ = proj (normOf x0 x1 x2 x3 r) fun k => x4 (ix3 (0 : Fin 4) k h) := by
  rw [← unitAt_zero, gateOf, pre_unitAt]; rfl
theorem gate_one (r : Fin 256) (h : Fin 1408) : gateOf x0 x1 x2 x3 x4 r ⟨1408 + h.val, by omega⟩ = proj (normOf x0 x1 x2 x3 r) fun k => x4 (ix3 (1 : Fin 4) k h) := by
  rw [← unitAt_one, gateOf, pre_unitAt]; rfl
theorem up_zero (r : Fin 256) (h : Fin 1408) : upOf x0 x1 x2 x3 x4 r ⟨h.val, by omega⟩ = proj (normOf x0 x1 x2 x3 r) fun k => x4 (ix3 (2 : Fin 4) k h) := by
  rw [← unitAt_zero, upOf, pre_unitAt]; rfl
theorem up_one (r : Fin 256) (h : Fin 1408) : upOf x0 x1 x2 x3 x4 r ⟨1408 + h.val, by omega⟩ = proj (normOf x0 x1 x2 x3 r) fun k => x4 (ix3 (3 : Fin 4) k h) := by
  rw [← unitAt_one, upOf, pre_unitAt]; rfl

theorem load_row (r : Fin 256) (d : Fin 1024) : k0_pay2 (View.ld x2 r0_0) (View.ld x0 r0_0) (View.ld x1 r0_1) (ix2 r d) = rowOf x0 x1 x2 r d := by
  pointwise [pay2_apply, View.ld_apply, rowOf]
theorem load_norm (r : Fin 256) (d : Fin 1024) : k0_pay3 (View.ld x2 r0_0) (View.ld x0 r0_0) (View.ld x1 r0_1) (View.ld x3 r0_2) (ix2 r d) = normOf x0 x1 x2 x3 r d := by
  pointwise [pay3_apply, View.ld_apply, normOf, rowOf]

theorem out_row : out0_5 x0 x1 x2 x3 x4 = tileRow x0 x1 x2 := by
  funext y
  unfold out0_5
  refine View.canon_apply_of_pieces (tileRow x0 x1 x2) _ (View.PiecesOf.mem ?_) y (cover0_5 _ y)
  refine ⟨fun x => ?_, trivial⟩
  dsimp only
  obtain ⟨r, d, rfl⟩ : ∃ (r : Fin 256) (d : Fin 1024), x = ix2 r d := ⟨x 0, x 1, funext fun a => by fin_cases a <;> rfl⟩
  pointwise [load_row, emb_eq_idx, tileRow]

theorem out_norm : out0_6 x0 x1 x2 x3 x4 = tileNorm x0 x1 x2 x3 := by
  funext y
  unfold out0_6
  refine View.canon_apply_of_pieces (tileNorm x0 x1 x2 x3) _ (View.PiecesOf.mem ?_) y (cover0_6 _ y)
  refine ⟨fun x => ?_, trivial⟩
  dsimp only
  obtain ⟨r, d, rfl⟩ : ∃ (r : Fin 256) (d : Fin 1024), x = ix2 r d := ⟨x 0, x 1, funext fun a => by fin_cases a <;> rfl⟩
  pointwise [load_norm, emb_eq_idx, tileNorm]

theorem out_pre : out0_7 x0 x1 x2 x3 x4 = tilePre x0 x1 x2 x3 x4 := by
  funext y
  unfold out0_7
  refine View.canon_apply_of_pieces (tilePre x0 x1 x2 x3 x4) _ (View.PiecesOf.mem ?_) y (cover0_7 _ _ _ _ y)
  refine ⟨fun x => ?_, fun x => ?_, fun x => ?_, fun x => ?_, trivial⟩ <;> dsimp only <;>
    obtain ⟨k, r, h, rfl⟩ : ∃ (k : Fin 1) (r : Fin 256) (h : Fin 1408), x = ix3 k r h := ⟨x 0, x 1, x 2, funext fun a => by fin_cases a <;> rfl⟩ <;>
    obtain rfl : k = 0 := Subsingleton.elim _ _ <;>
    pointwise [k0_pay6, k0_pay7, k0_pay8, k0_pay12, k0_pay13, k0_pay15, k0_pay16, pay4_apply, pay5_apply, pay10_apply, pay11_apply, load_norm, View.ld_apply, emb_eq_idx,
      tilePre, gate_zero, gate_one, up_zero, up_one]

theorem out_act : out0_8 x0 x1 x2 x3 x4 = tileAct x0 x1 x2 x3 x4 := by
  funext y
  unfold out0_8
  refine View.canon_apply_of_pieces (tileAct x0 x1 x2 x3 x4) _ (View.PiecesOf.mem ?_) y (cover0_8 _ _ y)
  refine ⟨fun x => ?_, fun x => ?_, trivial⟩ <;> dsimp only <;>
    obtain ⟨r, h, rfl⟩ : ∃ (r : Fin 256) (h : Fin 1408), x = ix2 r h := ⟨x 0, x 1, funext fun a => by fin_cases a <;> rfl⟩ <;>
    pointwise [pay1_apply, pay9_apply, k0_pay15, k0_pay16, pay4_apply, pay5_apply, pay10_apply, pay11_apply, pay14_apply, load_norm, View.ld_apply, emb_eq_idx,
      tileAct, gated, sigm, gate_zero, gate_one, up_zero, up_one]

end

end Cert.FfnIn
end
-- ==== Proof.FfnInReference.lean ====
/- The reference's rows after the merge, their norm, and the feed-forward block's pre-activations and gated activation, over
   the extended reals. -/
module

public import proofs.«01_k».proof.Proof.Gen.Reference8Ideal.Read
public import proofs.«01_k».proof.Proof.ForwardRow
public import Idealize.ShloMosaic.Lib.Pointwise

@[expose] public section

set_option maxRecDepth 16384

noncomputable section

namespace Cert.FfnIn.Reference

open Cert.Reference8Ideal Cert.Reference8Ideal.Read
open Cert.FfnGrad (unit scale mean sigm)
open Cert.Forward
open Idealize.ShloMosaic Idealize.ShloMosaic.TcCoe Idealize.ShloMosaic.Tactic
open scoped BigOperators

variable (x0 : Vec Ideal S8192x1024 .bf16) (x1 : Vec Ideal S1024x1024 .bf16) (x2 : Vec Ideal S8192x1024 .f32) (x3 : Vec Ideal S1x1024 .f32)
  (x4 : Vec Ideal S4x1024x1408 .bf16)

/-- Token `t`'s row after the merge, and its norm. -/
def row (t : Fin 8192) : Fin 1024 → EReal := added (fun k => x0 (ix2 t k)) (fun k d => x1 (ix2 k d)) (fun k => x2 (ix2 t k))
def norm (t : Fin 8192) : Fin 1024 → EReal := normed (row x0 x1 x2 t) (fun k => x3 (ix2 (0 : Fin 1) k))

theorem row_apply (t : Fin 8192) (d : Fin 1024) : val_main_v3 (F := Ideal) x0 x1 x2 (ix2 t d) = row x0 x1 x2 t d := by
  pointwise [val_main_v0, val_main_v1, val_main_v2, val_main_v3, row, added]

theorem scale_apply (t : Fin 8192) (k : Fin 1) : val_main_v11 (F := Ideal) x0 x1 x2 (ix2 t k) = scale (row x0 x1 x2 t) := by
  pointwise [val_main_v4, val_main_v5, val_main_v6, val_main_v7, val_main_v8, val_main_v9, val_main_v10, val_main_v11, val_main_cst, val_main_cst_0, val_main_cst_1,
    row_apply, scale, mean]

theorem norm_apply (t : Fin 8192) (d : Fin 1024) : val_main_v15 (F := Ideal) x0 x1 x2 x3 (ix2 t d) = norm x0 x1 x2 x3 t d := by
  pointwise [val_main_v12, val_main_v13, val_main_v14, val_main_v15, scale_apply, row_apply, norm, normed, unit]

theorem normed_apply (t : Fin 8192) (d : Fin 1024) : val_main_v24 (F := Ideal) x0 x1 x2 x3 (ix2 t d) = norm x0 x1 x2 x3 t d := by
  pointwise [val_main_v24, norm_apply]

theorem weight_apply (k : Fin 1024) (j : Fin 5632) :
    val_main_v18 (F := Ideal) x4 (ix2 k j) = x4 (ix3 (⟨j.val / 1408, by omega⟩ : Fin 4) k (⟨j.val % 1408, by omega⟩ : Fin 1408)) := by
  pointwise [val_main_v16, val_main_v17, val_main_v18]

theorem proj_apply (t : Fin 8192) (j : Fin 5632) : val_main_v19 (F := Ideal) x0 x1 x2 x3 x4 (ix2 t j) =
    proj (norm x0 x1 x2 x3 t) fun k => x4 (ix3 (⟨j.val / 1408, by omega⟩ : Fin 4) k (⟨j.val % 1408, by omega⟩ : Fin 1408)) := by
  pointwise [val_main_v19, norm_apply, weight_apply, proj]

/-- Token `t`'s pre-activations at hidden unit `h`: the gate's and the factor's. -/
def gate (t : Fin 8192) (h : Fin 2816) : EReal := val_main_v19 (F := Ideal) x0 x1 x2 x3 x4 (ix2 t (⟨h.val, by omega⟩ : Fin 5632))
def up (t : Fin 8192) (h : Fin 2816) : EReal := val_main_v19 (F := Ideal) x0 x1 x2 x3 x4 (ix2 t (⟨2816 + h.val, by omega⟩ : Fin 5632))

theorem gate_apply (t : Fin 8192) (h : Fin 2816) : val_main_v20 (F := Ideal) x0 x1 x2 x3 x4 (ix2 t h) = gate x0 x1 x2 x3 x4 t h := by
  pointwise [val_main_v20, gate]
theorem up_apply (t : Fin 8192) (h : Fin 2816) : val_main_v21 (F := Ideal) x0 x1 x2 x3 x4 (ix2 t h) = up x0 x1 x2 x3 x4 t h := by
  pointwise [val_main_v21, up]

theorem stack_gate (t : Fin 8192) (h : Fin 2816) : val_main_v28 (F := Ideal) x0 x1 x2 x3 x4 (ix3 (0 : Fin 2) t h) = gate x0 x1 x2 x3 x4 t h := by
  pointwise [val_main_v25, val_main_v26, val_main_v27, val_main_v28, gate_apply]
theorem stack_up (t : Fin 8192) (h : Fin 2816) : val_main_v28 (F := Ideal) x0 x1 x2 x3 x4 (ix3 (1 : Fin 2) t h) = up x0 x1 x2 x3 x4 t h := by
  pointwise [val_main_v25, val_main_v26, val_main_v27, val_main_v28, up_apply]

theorem act_apply (t : Fin 8192) (h : Fin 2816) : val_main_v29 (F := Ideal) x0 x1 x2 x3 x4 (ix2 t h) = gated (gate x0 x1 x2 x3 x4 t h) (up x0 x1 x2 x3 x4 t h) := by
  pointwise [val_main_call0_v0, val_main_call0_v1, val_main_call0_v2, val_main_call0_v3, val_main_call0_v4, val_main_call0_v5, val_main_call0_cst, val_main_call0_cst_0,
    val_main_v22, val_main_v23, val_main_v29, gate_apply, up_apply, gated, sigm, zero_sub]

end Cert.FfnIn.Reference
end
-- ==== Proof.FfnIn.lean ====
/- The feed-forward block's input: what the `ffn_in` kernel leaves in its four output arrays, over the extended reals, and
   that it is the reference's. -/
module

public import proofs.«01_k».proof.Proof.FfnInTile
public import proofs.«01_k».proof.Proof.FfnInReference
public import Idealize.ShloMosaic.Lib.Pipeline.ValueKit.Partial
public import Idealize.ShloMosaic.Lib.VecWindow

@[expose] public section

set_option maxRecDepth 16384

noncomputable section

namespace Cert.FfnIn

open Cert.Kernel8Ideal Cert.Kernel8Ideal.Gen Cert.Kernel8Ideal.Value
open Cert.Reference8Ideal.Read
open Cert.Forward
open Idealize.ShloMosaic Idealize.ShloMosaic.TcCoe Idealize.ShloMosaic.Tactic Idealize.SL.Sem
open scoped BigOperators

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])
theorem index4 : ∀ t : Fin cfg0.N, win0_4.index t = ![0, 0, 0] := (by decide +kernel : ∀ t : Fin grid0.N, win0_4.index t = ![0, 0, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])
theorem index7 : ∀ t : Fin cfg0.N, win0_7.index t = ![0, t.val, 0] := (by decide +kernel : ∀ t : Fin grid0.N, win0_7.index t = ![0, t.val, 0])
theorem index8 : ∀ t : Fin cfg0.N, win0_8.index t = ![t.val, 0] := (by decide +kernel : ∀ t : Fin grid0.N, win0_8.index t = ![t.val, 0])

/-- Token `r` of the tile that point `t` takes. -/
def tokenAt (t : Fin cfg0.N) (r : Fin 256) : Fin 8192 := ⟨t.val * 256 + r.val, by have h : t.val < 32 := t.isLt; omega⟩

variable (m : (ℓ : Loc nD τ sig) → Buf (Elt Ideal) ℓ)

/-- The arguments: the merged rows, the output weight, the residual, the norm's gain and the input weight's shards. -/
def merged (c : Dev nD) : Vec Ideal S8192x1024 .bf16 := m ((c.tc : Thread nD τ).loc main_arg0)
def wouts (c : Dev nD) : Vec Ideal S1024x1024 .bf16 := m ((c.tc : Thread nD τ).loc main_arg1)
def xs (c : Dev nD) : Vec Ideal S8192x1024 .f32 := m ((c.tc : Thread nD τ).loc main_arg2)
def gs (c : Dev nD) : Vec Ideal S1x1024 .f32 := m ((c.tc : Thread nD τ).loc main_arg3)
def wins (c : Dev nD) : Vec Ideal S4x1024x1408 .bf16 := m ((c.tc : Thread nD τ).loc main_arg4)

def mergedTile (c : Dev nD) (t : Fin cfg0.N) : Vec Ideal S256x1024 .bf16 := iblk m c 0 t
def woutTile (c : Dev nD) (t : Fin cfg0.N) : Vec Ideal S1024x1024 .bf16 := iblk m c 1 t
def xTile (c : Dev nD) (t : Fin cfg0.N) : Vec Ideal S256x1024 .f32 := iblk m c 2 t
def gTile (c : Dev nD) (t : Fin cfg0.N) : Vec Ideal S1x1024 .f32 := iblk m c 3 t
def winTile (c : Dev nD) (t : Fin cfg0.N) : Vec Ideal S4x1024x1408 .bf16 := iblk m c 4 t

/-! ## The rows a tile's token sees are the token's -/

theorem merged_row (c : Dev nD) (t : Fin cfg0.N) (r : Fin 256) : (fun k => mergedTile m c t (ix2 r k)) = fun k => merged m c (ix2 (tokenAt t r) k) := by
  funext k
  refine Eq.trans ?_ (congrFun (V_main_arg0 m c) _)
  show iblk m c 0 t (ix2 r k) = V m c main_arg0 (ix2 (tokenAt t r) k)
  blk_ext [iblk, index0, tokenAt]

theorem wout_eq (c : Dev nD) (t : Fin cfg0.N) : (fun k d => woutTile m c t (ix2 k d)) = fun k d => wouts m c (ix2 k d) := by
  funext k d
  refine Eq.trans ?_ (congrFun (V_main_arg1 m c) _)
  show iblk m c 1 t (ix2 k d) = V m c main_arg1 (ix2 k d)
  blk_ext [iblk, index1]

theorem x_row (c : Dev nD) (t : Fin cfg0.N) (r : Fin 256) : (fun k => xTile m c t (ix2 r k)) = fun k => xs m c (ix2 (tokenAt t r) k) := by
  funext k
  refine Eq.trans ?_ (congrFun (V_main_arg2 m c) _)
  show iblk m c 2 t (ix2 r k) = V m c main_arg2 (ix2 (tokenAt t r) k)
  blk_ext [iblk, index2, tokenAt]

theorem g_row (c : Dev nD) (t : Fin cfg0.N) : (fun k => gTile m c t (ix2 (0 : Fin 1) k)) = fun k => gs m c (ix2 (0 : Fin 1) k) := by
  funext k
  refine Eq.trans ?_ (congrFun (V_main_arg3 m c) _)
  show iblk m c 3 t (ix2 (0 : Fin 1) k) = V m c main_arg3 (ix2 (0 : Fin 1) k)
  blk_ext [iblk, index3]

theorem win_eq (c : Dev nD) (t : Fin cfg0.N) : (fun s k h => winTile m c t (ix3 s k h)) = fun s k h => wins m c (ix3 s k h) := by
  funext s k h
  refine Eq.trans ?_ (congrFun (V_main_arg4 m c) _)
  show iblk m c 4 t (ix3 s k h) = V m c main_arg4 (ix3 s k h)
  blk_ext [iblk, index4]

theorem tileRow_apply (x0 : Vec Ideal S256x1024 .bf16) (x1 : Vec Ideal S1024x1024 .bf16) (x2 : Vec Ideal S256x1024 .f32) (r : Fin 256) (d : Fin 1024) :
    tileRow x0 x1 x2 (ix2 r d) = rowOf x0 x1 x2 r d := rfl
theorem tileNorm_apply (x0 : Vec Ideal S256x1024 .bf16) (x1 : Vec Ideal S1024x1024 .bf16) (x2 : Vec Ideal S256x1024 .f32) (x3 : Vec Ideal S1x1024 .f32) (r : Fin 256) (d : Fin 1024) :
    tileNorm x0 x1 x2 x3 (ix2 r d) = normOf x0 x1 x2 x3 r d := rfl
theorem tilePre_gate (x0 : Vec Ideal S256x1024 .bf16) (x1 : Vec Ideal S1024x1024 .bf16) (x2 : Vec Ideal S256x1024 .f32) (x3 : Vec Ideal S1x1024 .f32) (x4 : Vec Ideal S4x1024x1408 .bf16)
    (r : Fin 256) (h : Fin 2816) : tilePre x0 x1 x2 x3 x4 (ix3 (0 : Fin 2) r h) = gateOf x0 x1 x2 x3 x4 r h := rfl
theorem tilePre_up (x0 : Vec Ideal S256x1024 .bf16) (x1 : Vec Ideal S1024x1024 .bf16) (x2 : Vec Ideal S256x1024 .f32) (x3 : Vec Ideal S1x1024 .f32) (x4 : Vec Ideal S4x1024x1408 .bf16)
    (r : Fin 256) (h : Fin 2816) : tilePre x0 x1 x2 x3 x4 (ix3 (1 : Fin 2) r h) = upOf x0 x1 x2 x3 x4 r h := rfl
theorem tileAct_apply (x0 : Vec Ideal S256x1024 .bf16) (x1 : Vec Ideal S1024x1024 .bf16) (x2 : Vec Ideal S256x1024 .f32) (x3 : Vec Ideal S1x1024 .f32) (x4 : Vec Ideal S4x1024x1408 .bf16)
    (r : Fin 256) (h : Fin 2816) : tileAct x0 x1 x2 x3 x4 (ix2 r h) = gated (gateOf x0 x1 x2 x3 x4 r h) (upOf x0 x1 x2 x3 x4 r h) := rfl

attribute [local irreducible] out0_5 out0_6 out0_7 out0_8 tileRow tileNorm tilePre tileAct iblk merged wouts xs gs wins mergedTile woutTile xTile gTile winTile

theorem rowOf_eq (c : Dev nD) (t : Fin cfg0.N) (r : Fin 256) : rowOf (mergedTile m c t) (woutTile m c t) (xTile m c t) r =
    Reference.row (merged m c) (wouts m c) (xs m c) (tokenAt t r) := by
  rw [rowOf, Reference.row, merged_row, wout_eq, x_row]

theorem normOf_eq (c : Dev nD) (t : Fin cfg0.N) (r : Fin 256) : normOf (mergedTile m c t) (woutTile m c t) (xTile m c t) (gTile m c t) r =
    Reference.norm (merged m c) (wouts m c) (xs m c) (gs m c) (tokenAt t r) := by
  rw [normOf, Reference.norm, rowOf_eq, g_row]

theorem gateOf_eq (c : Dev nD) (t : Fin cfg0.N) (r : Fin 256) (h : Fin 2816) :
    gateOf (mergedTile m c t) (woutTile m c t) (xTile m c t) (gTile m c t) (winTile m c t) r h =
      Reference.gate (merged m c) (wouts m c) (xs m c) (gs m c) (wins m c) (tokenAt t r) h := by
  rw [gateOf, Reference.gate, Reference.proj_apply, normOf_eq, win_eq]
  rfl

theorem upOf_eq (c : Dev nD) (t : Fin cfg0.N) (r : Fin 256) (h : Fin 2816) :
    upOf (mergedTile m c t) (woutTile m c t) (xTile m c t) (gTile m c t) (winTile m c t) r h =
      Reference.up (merged m c) (wouts m c) (xs m c) (gs m c) (wins m c) (tokenAt t r) h := by
  have e0 : (⟨(2816 + h.val) / 1408, by omega⟩ : Fin 4) = ⟨2 + h.val / 1408, by omega⟩ := Fin.ext (by show (2816 + h.val) / 1408 = 2 + h.val / 1408; omega)
  have e1 : (⟨(2816 + h.val) % 1408, by omega⟩ : Fin 1408) = ⟨h.val % 1408, by omega⟩ := Fin.ext (by show (2816 + h.val) % 1408 = h.val % 1408; omega)
  rw [upOf, Reference.up, Reference.proj_apply, normOf_eq, win_eq, pre]
  refine congrArg (proj _) (funext fun k => ?_)
  show wins m c (ix3 _ k _) = wins m c (ix3 _ k _)
  rw [e0, e1]

/-! ## The arrays after the run -/

/-- Where the outputs' blocks lie. -/
theorem emb5 (t : Fin cfg0.N) (r : Fin 256) (d : Fin 1024) : (win0_5.blk t).view.emb (ix2 r d) = ix2 (tokenAt t r) d := by
  blk_ext [index5, tokenAt]
theorem emb6 (t : Fin cfg0.N) (r : Fin 256) (d : Fin 1024) : (win0_6.blk t).view.emb (ix2 r d) = ix2 (tokenAt t r) d := by
  blk_ext [index6, tokenAt]
theorem emb7 (t : Fin cfg0.N) (k : Fin 2) (r : Fin 256) (h : Fin 2816) : (win0_7.blk t).view.emb (ix3 k r h) = ix3 k (tokenAt t r) h := by
  blk_ext [index7, tokenAt]
theorem emb8 (t : Fin cfg0.N) (r : Fin 256) (h : Fin 2816) : (win0_8.blk t).view.emb (ix2 r h) = ix2 (tokenAt t r) h := by
  blk_ext [index8, tokenAt]

/-- The reference's four arrays, at the arguments. -/
def wholeRow (c : Dev nD) : Vec Ideal S8192x1024 .f32 := val_main_v3 (F := Ideal) (merged m c) (wouts m c) (xs m c)
def wholeNorm (c : Dev nD) : Vec Ideal S8192x1024 .bf16 := val_main_v24 (F := Ideal) (merged m c) (wouts m c) (xs m c) (gs m c)
def wholePre (c : Dev nD) : Vec Ideal S2x8192x2816 .bf16 := val_main_v28 (F := Ideal) (merged m c) (wouts m c) (xs m c) (gs m c) (wins m c)
def wholeAct (c : Dev nD) : Vec Ideal S8192x2816 .bf16 := val_main_v29 (F := Ideal) (merged m c) (wouts m c) (xs m c) (gs m c) (wins m c)

theorem wholeRow_apply (c : Dev nD) (t : Fin 8192) (d : Fin 1024) : wholeRow m c (ix2 t d) = Reference.row (merged m c) (wouts m c) (xs m c) t d :=
  Reference.row_apply _ _ _ t d
theorem wholeNorm_apply (c : Dev nD) (t : Fin 8192) (d : Fin 1024) : wholeNorm m c (ix2 t d) = Reference.norm (merged m c) (wouts m c) (xs m c) (gs m c) t d :=
  Reference.normed_apply _ _ _ _ t d
theorem wholePre_gate (c : Dev nD) (t : Fin 8192) (h : Fin 2816) : wholePre m c (ix3 (0 : Fin 2) t h) =
    Reference.gate (merged m c) (wouts m c) (xs m c) (gs m c) (wins m c) t h := Reference.stack_gate _ _ _ _ _ t h
theorem wholePre_up (c : Dev nD) (t : Fin 8192) (h : Fin 2816) : wholePre m c (ix3 (1 : Fin 2) t h) =
    Reference.up (merged m c) (wouts m c) (xs m c) (gs m c) (wins m c) t h := Reference.stack_up _ _ _ _ _ t h
theorem wholeAct_apply (c : Dev nD) (t : Fin 8192) (h : Fin 2816) : wholeAct m c (ix2 t h) =
    gated (Reference.gate (merged m c) (wouts m c) (xs m c) (gs m c) (wins m c) t h) (Reference.up (merged m c) (wouts m c) (xs m c) (gs m c) (wins m c) t h) :=
  Reference.act_apply _ _ _ _ _ t h

theorem after_row (c : Dev nD) (t : Fin cfg0.N) : out0_5 (iblk m c 0 t) (iblk m c 1 t) (iblk m c 2 t) (iblk m c 3 t) (iblk m c 4 t) =
    tileRow (mergedTile m c t) (woutTile m c t) (xTile m c t) := by
  unfold mergedTile woutTile xTile
  exact out_row _ _ _ _ _
theorem after_norm (c : Dev nD) (t : Fin cfg0.N) : out0_6 (iblk m c 0 t) (iblk m c 1 t) (iblk m c 2 t) (iblk m c 3 t) (iblk m c 4 t) =
    tileNorm (mergedTile m c t) (woutTile m c t) (xTile m c t) (gTile m c t) := by
  unfold mergedTile woutTile xTile gTile
  exact out_norm _ _ _ _ _
theorem after_pre (c : Dev nD) (t : Fin cfg0.N) : out0_7 (iblk m c 0 t) (iblk m c 1 t) (iblk m c 2 t) (iblk m c 3 t) (iblk m c 4 t) =
    tilePre (mergedTile m c t) (woutTile m c t) (xTile m c t) (gTile m c t) (winTile m c t) := by
  unfold mergedTile woutTile xTile gTile winTile
  exact out_pre _ _ _ _ _
theorem after_act (c : Dev nD) (t : Fin cfg0.N) : out0_8 (iblk m c 0 t) (iblk m c 1 t) (iblk m c 2 t) (iblk m c 3 t) (iblk m c 4 t) =
    tileAct (mergedTile m c t) (woutTile m c t) (xTile m c t) (gTile m c t) (winTile m c t) := by
  unfold mergedTile woutTile xTile gTile winTile
  exact out_act _ _ _ _ _

attribute [local irreducible] wholeRow wholeNorm wholePre wholeAct

theorem final_row (c : Dev nD) : (dats m 0 c).arrAt 5 cfg0.N = wholeRow m c := by
  refine (dats m 0 c).arrAt_eq_of_covers 5 _ (by decide +kernel) fun t hf y => ?_
  blk_simp
  rw [after0_5, after_row]
  obtain ⟨r, d, rfl⟩ : ∃ (r : Fin 256) (d : Fin 1024), y = ix2 r d := ⟨y 0, y 1, funext fun a => by fin_cases a <;> rfl⟩
  refine Eq.trans ?_ (congrArg (wholeRow m c) (emb5 t r d).symm)
  exact (tileRow_apply _ _ _ r d).trans ((congrFun (rowOf_eq m c t r) d).trans (wholeRow_apply m c _ d).symm)

theorem final_norm (c : Dev nD) : (dats m 0 c).arrAt 6 cfg0.N = wholeNorm m c := by
  refine (dats m 0 c).arrAt_eq_of_covers 6 _ (by decide +kernel) fun t hf y => ?_
  blk_simp
  rw [after0_6, after_norm]
  obtain ⟨r, d, rfl⟩ : ∃ (r : Fin 256) (d : Fin 1024), y = ix2 r d := ⟨y 0, y 1, funext fun a => by fin_cases a <;> rfl⟩
  refine Eq.trans ?_ (congrArg (wholeNorm m c) (emb6 t r d).symm)
  exact (tileNorm_apply _ _ _ _ r d).trans ((congrFun (normOf_eq m c t r) d).trans (wholeNorm_apply m c _ d).symm)

theorem final_pre (c : Dev nD) : (dats m 0 c).arrAt 7 cfg0.N = wholePre m c := by
  refine (dats m 0 c).arrAt_eq_of_covers 7 _ (by decide +kernel) fun t hf y => ?_
  blk_simp
  rw [after0_7, after_pre]
  obtain ⟨k, r, h, rfl⟩ : ∃ (k : Fin 2) (r : Fin 256) (h : Fin 2816), y = ix3 k r h := ⟨y 0, y 1, y 2, funext fun a => by fin_cases a <;> rfl⟩
  refine Eq.trans ?_ (congrArg (wholePre m c) (emb7 t k r h).symm)
  obtain rfl | rfl : k = 0 ∨ k = 1 := by omega
  · exact (tilePre_gate _ _ _ _ _ r h).trans ((gateOf_eq m c t r h).trans (wholePre_gate m c _ h).symm)
  · exact (tilePre_up _ _ _ _ _ r h).trans ((upOf_eq m c t r h).trans (wholePre_up m c _ h).symm)

theorem final_act (c : Dev nD) : (dats m 0 c).arrAt 8 cfg0.N = wholeAct m c := by
  refine (dats m 0 c).arrAt_eq_of_covers 8 _ (by decide +kernel) fun t hf y => ?_
  blk_simp
  rw [after0_8, after_act]
  obtain ⟨r, h, rfl⟩ : ∃ (r : Fin 256) (h : Fin 2816), y = ix2 r h := ⟨y 0, y 1, funext fun a => by fin_cases a <;> rfl⟩
  refine Eq.trans ?_ (congrArg (wholeAct m c) (emb8 t r h).symm)
  exact (tileAct_apply _ _ _ _ _ r h).trans ((congrArg₂ gated (gateOf_eq m c t r h) (upOf_eq m c t r h)).trans (wholeAct_apply m c _ h).symm)

end Cert.FfnIn
end
-- ==== Proof.PleTile.lean ====
/- What a grid point of the `ple_fwd` kernel computes from the blocks it holds, over the extended reals: the rows after the
   feed-forward block, their norm, the embedding's gate and projection, and the layer's output. -/
module

public import proofs.«01_k».proof.Proof.Gen.Kernel9Ideal.Value
public import proofs.«01_k».proof.Proof.TokenSum
public import proofs.«01_k».proof.Proof.ForwardRow
public import Idealize.ShloMosaic.Lib.Pipeline.ValueKit.Tiles
public import Idealize.ShloMosaic.Lib.Pipeline.ReadBack
public import Idealize.ShloMosaic.Lib.Pointwise

@[expose] public section

set_option maxRecDepth 16384

noncomputable section

namespace Cert.Ple

open Cert.Kernel9Ideal Cert.Kernel9Ideal.Gen
open Cert.TokenSum (emb_eq_idx)
open Cert.FfnGrad (unit scale mean sigm)
open Cert.Forward
open Idealize.ShloMosaic Idealize.ShloMosaic.TcCoe Idealize.ShloMosaic.Tactic Idealize.SL.Sem
open scoped BigOperators

theorem pay5_apply (x : Vec Ideal S512x1024 .f32) (a : Vec Ideal S512x2816 .bf16) (w : Vec Ideal S2816x1024 .bf16) (r : Fin 512) (d : Fin 1024) :
    k0_pay5 x a w (ix2 r d) = added (fun k => a (ix2 r k)) (fun k d => w (ix2 k d)) (fun k => x (ix2 r k)) d := by
  pointwise [k0_pay5, added]

theorem pay6_apply (x : Vec Ideal S512x1024 .f32) (a : Vec Ideal S512x2816 .bf16) (w : Vec Ideal S2816x1024 .bf16) (g : Vec Ideal S1x1024 .f32) (r : Fin 512) (d : Fin 1024) :
    k0_pay6 x a w g (ix2 r d) = normed (added (fun k => a (ix2 r k)) (fun k d => w (ix2 k d)) (fun k => x (ix2 r k))) (fun k => g (ix2 (0 : Fin 1) k)) d := by
  pointwise [k0_pay6, pay5_apply, normed, unit, scale, mean]

theorem pay7_apply (x : Vec Ideal S512x1024 .f32) (a : Vec Ideal S512x2816 .bf16) (w : Vec Ideal S2816x1024 .bf16) (g : Vec Ideal S1x1024 .f32) (v : Vec Ideal S1024x1024 .bf16)
    (r : Fin 512) (d : Fin 1024) : k0_pay7 x a w g v (ix2 r d) = sigm (proj (fun k => k0_pay6 x a w g (ix2 r k)) fun k => v (ix2 k d)) := by
  pointwise [k0_pay7, sigm, proj]

theorem pay1_apply (p : Vec Ideal S512x256 .bf16) (w0 w1 w2 w3 : Vec Ideal S1x256x256 .bf16) (r : Fin 512) (d : Fin 1024) :
    k0_pay1 p w0 w1 w2 w3 (ix2 r d) = proj (fun k => p (ix2 r k)) fun k => shard (fun s k j => (![w0, w1, w2, w3] s) (ix3 (0 : Fin 1) k j)) k d := by
  obtain ⟨s, j, rfl⟩ := exists_colAt d
  simp only [shard_colAt]
  have e : j.val < 256 := j.isLt
  have n2 : ¬512 + j.val < 256 := by omega
  have n2' : ¬512 + j.val - 256 < 256 := by omega
  have c2 : 512 + j.val - 256 - 256 = j.val := by omega
  have n3 : ¬768 + j.val < 256 := by omega
  have n3' : ¬768 + j.val - 256 < 256 := by omega
  have n3'' : ¬768 + j.val - 256 - 256 < 256 := by omega
  have c3 : 768 + j.val - 256 - 256 - 256 = j.val := by omega
  fin_cases s <;> pointwise [k0_pay1, colAt, proj, e, n2, n2', c2, n3, n3', n3'', c3]

section
variable (x0 : Vec Ideal S512x2816 .bf16) (x1 : Vec Ideal S2816x1024 .bf16) (x2 : Vec Ideal S512x1024 .f32) (x3 : Vec Ideal S1x1024 .f32)
  (x4 : Vec Ideal S1024x1024 .bf16) (x5 : Vec Ideal S512x256 .f32) (x6 : Vec Ideal S4x256x256 .bf16)

/-- A row of the block after the feed-forward block, its norm, the embedding's gate and projection, and the output. -/
def rowOf (r : Fin 512) : Fin 1024 → EReal := added (fun k => x0 (ix2 r k)) (fun k d => x1 (ix2 k d)) (fun k => x2 (ix2 r k))
def normOf (r : Fin 512) : Fin 1024 → EReal := normed (rowOf x0 x1 x2 r) (fun k => x3 (ix2 (0 : Fin 1) k))
def gateOf (r : Fin 512) (d : Fin 1024) : EReal := sigm (proj (normOf x0 x1 x2 x3 r) fun k => x4 (ix2 k d))
def embOf (r : Fin 512) (d : Fin 1024) : EReal := proj (fun k => x5 (ix2 r k)) fun k => shard (fun s k j => x6 (ix3 s k j)) k d

/-- What a point leaves in its five blocks. -/
def tileRow : Vec Ideal S512x1024 .f32 := fun y => rowOf x0 x1 x2 (y 0) (y 1)
def tileNorm : Vec Ideal S512x1024 .bf16 := fun y => normOf x0 x1 x2 x3 (y 0) (y 1)
def tileGate : Vec Ideal S512x1024 .bf16 := fun y => gateOf x0 x1 x2 x3 x4 (y 0) (y 1)
def tileEmb : Vec Ideal S512x1024 .bf16 := fun y => embOf x5 x6 (y 0) (y 1)
def tileOut : Vec Ideal S512x1024 .f32 := fun y =>
  rowOf x0 x1 x2 (y 0) (y 1) + gateOf x0 x1 x2 x3 x4 (y 0) (y 1) * embOf x5 x6 (y 0) (y 1)

theorem load_row (r : Fin 512) (d : Fin 1024) : k0_pay5 (View.ld x2 r0_0) (View.ld x0 r0_1) (View.ld x1 r0_2) (ix2 r d) = rowOf x0 x1 x2 r d := by
  pointwise [pay5_apply, View.ld_apply, rowOf]
theorem load_norm (r : Fin 512) (d : Fin 1024) : k0_pay6 (View.ld x2 r0_0) (View.ld x0 r0_1) (View.ld x1 r0_2) (View.ld x3 r0_3) (ix2 r d) = normOf x0 x1 x2 x3 r d := by
  pointwise [pay6_apply, View.ld_apply, normOf, rowOf]
theorem load_gate (r : Fin 512) (d : Fin 1024) : k0_pay9 x0 x1 x2 x3 x4 x5 x6 (ix2 r d) = gateOf x0 x1 x2 x3 x4 r d := by
  pointwise [k0_pay9, pay7_apply, load_norm, View.ld_apply, gateOf]
theorem load_emb (r : Fin 512) (d : Fin 1024) :
    k0_pay1 (k0_pay10 x0 x1 x2 x3 x4 x5 x6) (View.ld x6 r0_6) (View.ld x6 r0_7) (View.ld x6 r0_8) (View.ld x6 r0_9) (ix2 r d) = embOf x5 x6 r d := by
  obtain ⟨s, j, rfl⟩ := exists_colAt d
  rw [pay1_apply, embOf]
  simp only [shard_colAt]
  fin_cases s <;> pointwise [k0_pay10, k0_pay8, View.ld_apply, proj]

theorem out_row : out0_7 x0 x1 x2 x3 x4 x5 x6 = tileRow x0 x1 x2 := by
  funext y
  unfold out0_7
  refine View.canon_apply_of_pieces (tileRow x0 x1 x2) _ (View.PiecesOf.mem ?_) y (cover0_7 _ y)
  refine ⟨fun x => ?_, trivial⟩
  dsimp only
  obtain ⟨r, d, rfl⟩ : ∃ (r : Fin 512) (d : Fin 1024), x = ix2 r d := ⟨x 0, x 1, funext fun a => by fin_cases a <;> rfl⟩
  pointwise [load_row, emb_eq_idx, tileRow]

theorem out_norm : out0_8 x0 x1 x2 x3 x4 x5 x6 = tileNorm x0 x1 x2 x3 := by
  funext y
  unfold out0_8
  refine View.canon_apply_of_pieces (tileNorm x0 x1 x2 x3) _ (View.PiecesOf.mem ?_) y (cover0_8 _ y)
  refine ⟨fun x => ?_, trivial⟩
  dsimp only
  obtain ⟨r, d, rfl⟩ : ∃ (r : Fin 512) (d : Fin 1024), x = ix2 r d := ⟨x 0, x 1, funext fun a => by fin_cases a <;> rfl⟩
  pointwise [load_norm, emb_eq_idx, tileNorm]

theorem out_gate : out0_9 x0 x1 x2 x3 x4 x5 x6 = tileGate x0 x1 x2 x3 x4 := by
  funext y
  unfold out0_9
  refine View.canon_apply_of_pieces (tileGate x0 x1 x2 x3 x4) _ (View.PiecesOf.mem ?_) y (cover0_9 _ y)
  refine ⟨fun x => ?_, trivial⟩
  dsimp only
  obtain ⟨r, d, rfl⟩ : ∃ (r : Fin 512) (d : Fin 1024), x = ix2 r d := ⟨x 0, x 1, funext fun a => by fin_cases a <;> rfl⟩
  pointwise [k0_pay2, load_gate, emb_eq_idx, tileGate]

theorem out_emb : out0_10 x0 x1 x2 x3 x4 x5 x6 = tileEmb x5 x6 := by
  funext y
  unfold out0_10
  refine View.canon_apply_of_pieces (tileEmb x5 x6) _ (View.PiecesOf.mem ?_) y (cover0_10 _ y)
  refine ⟨fun x => ?_, trivial⟩
  dsimp only
  obtain ⟨r, d, rfl⟩ : ∃ (r : Fin 512) (d : Fin 1024), x = ix2 r d := ⟨x 0, x 1, funext fun a => by fin_cases a <;> rfl⟩
  pointwise [k0_pay3, load_emb, emb_eq_idx, tileEmb]

theorem out_out : out0_11 x0 x1 x2 x3 x4 x5 x6 = tileOut x0 x1 x2 x3 x4 x5 x6 := by
  funext y
  unfold out0_11
  refine View.canon_apply_of_pieces (tileOut x0 x1 x2 x3 x4 x5 x6) _ (View.PiecesOf.mem ?_) y (cover0_11 _ y)
  refine ⟨fun x => ?_, trivial⟩
  dsimp only
  obtain ⟨r, d, rfl⟩ : ∃ (r : Fin 512) (d : Fin 1024), x = ix2 r d := ⟨x 0, x 1, funext fun a => by fin_cases a <;> rfl⟩
  pointwise [k0_pay4, load_row, load_gate, load_emb, emb_eq_idx, tileOut]

end

end Cert.Ple
end
-- ==== Proof.PleReference.lean ====
/- The reference's rows after the feed-forward block, their norm, the embedding's gate and projection, and the layer's
   output, over the extended reals. -/
module

public import proofs.«01_k».proof.Proof.Gen.Reference9Ideal.Read
public import proofs.«01_k».proof.Proof.ForwardRow
public import Idealize.ShloMosaic.Lib.Pointwise

@[expose] public section

set_option maxRecDepth 16384

noncomputable section

namespace Cert.Ple.Reference

open Cert.Reference9Ideal Cert.Reference9Ideal.Read
open Cert.FfnGrad (unit scale mean sigm)
open Cert.Forward
open Idealize.ShloMosaic Idealize.ShloMosaic.TcCoe Idealize.ShloMosaic.Tactic
open scoped BigOperators

variable (x0 : Vec Ideal S8192x2816 .bf16) (x1 : Vec Ideal S2816x1024 .bf16) (x2 : Vec Ideal S8192x1024 .f32) (x3 : Vec Ideal S1x1024 .f32)
  (x4 : Vec Ideal S1024x1024 .bf16) (x5 : Vec Ideal S8192x256 .f32) (x6 : Vec Ideal S4x256x256 .bf16)

/-- Token `t`'s row after the feed-forward block, its norm, and the embedding's gate and projection. -/
def row (t : Fin 8192) : Fin 1024 → EReal := added (fun k => x0 (ix2 t k)) (fun k d => x1 (ix2 k d)) (fun k => x2 (ix2 t k))
def norm (t : Fin 8192) : Fin 1024 → EReal := normed (row x0 x1 x2 t) (fun k => x3 (ix2 (0 : Fin 1) k))
def gate (t : Fin 8192) (d : Fin 1024) : EReal := sigm (proj (norm x0 x1 x2 x3 t) fun k => x4 (ix2 k d))
def emb (t : Fin 8192) (d : Fin 1024) : EReal := proj (fun k => x5 (ix2 t k)) fun k => shard (fun s k j => x6 (ix3 s k j)) k d

theorem row_apply (t : Fin 8192) (d : Fin 1024) : val_main_v3 (F := Ideal) x0 x1 x2 (ix2 t d) = row x0 x1 x2 t d := by
  pointwise [val_main_v0, val_main_v1, val_main_v2, val_main_v3, row, added]

theorem scale_apply (t : Fin 8192) (k : Fin 1) : val_main_v11 (F := Ideal) x0 x1 x2 (ix2 t k) = scale (row x0 x1 x2 t) := by
  pointwise [val_main_v4, val_main_v5, val_main_v6, val_main_v7, val_main_v8, val_main_v9, val_main_v10, val_main_v11, val_main_cst, val_main_cst_0, val_main_cst_1,
    row_apply, scale, mean]

theorem norm_apply (t : Fin 8192) (d : Fin 1024) : val_main_v15 (F := Ideal) x0 x1 x2 x3 (ix2 t d) = norm x0 x1 x2 x3 t d := by
  pointwise [val_main_v12, val_main_v13, val_main_v14, val_main_v15, scale_apply, row_apply, norm, normed, unit]

theorem normed_apply (t : Fin 8192) (d : Fin 1024) : val_main_v28 (F := Ideal) x0 x1 x2 x3 (ix2 t d) = norm x0 x1 x2 x3 t d := by
  pointwise [val_main_v28, norm_apply]

theorem sigm_apply (t : Fin 8192) (d : Fin 1024) : val_main_v23 (F := Ideal) x0 x1 x2 x3 x4 (ix2 t d) = gate x0 x1 x2 x3 x4 t d := by
  pointwise [val_main_v16, val_main_v17, val_main_v18, val_main_v19, val_main_v20, val_main_v21, val_main_v22, val_main_v23, val_main_cst_2, val_main_cst_3,
    norm_apply, gate, sigm, proj, zero_sub]

theorem gate_apply (t : Fin 8192) (d : Fin 1024) : val_main_v29 (F := Ideal) x0 x1 x2 x3 x4 (ix2 t d) = gate x0 x1 x2 x3 x4 t d := by
  pointwise [val_main_v29, sigm_apply]

theorem dot_apply (t : Fin 8192) (d : Fin 1024) : val_main_v27 (F := Ideal) x5 x6 (ix2 t d) = emb x5 x6 t d := by
  pointwise [val_main_v24, val_main_v25, val_main_v26, val_main_v27, emb, proj, shard]

theorem emb_apply (t : Fin 8192) (d : Fin 1024) : val_main_v30 (F := Ideal) x5 x6 (ix2 t d) = emb x5 x6 t d := by
  pointwise [val_main_v30, dot_apply]

theorem out_apply (t : Fin 8192) (d : Fin 1024) : val_main_v32 (F := Ideal) x0 x1 x2 x3 x4 x5 x6 (ix2 t d) =
    row x0 x1 x2 t d + gate x0 x1 x2 x3 x4 t d * emb x5 x6 t d := by
  pointwise [val_main_v31, val_main_v32, row_apply, sigm_apply, dot_apply]

end Cert.Ple.Reference
end
-- ==== Proof.Ple.lean ====
/- The layer's output: what the `ple_fwd` kernel leaves in its five output arrays, over the extended reals, and that it is
   the reference's. -/
module

public import proofs.«01_k».proof.Proof.PleTile
public import proofs.«01_k».proof.Proof.PleReference
public import Idealize.ShloMosaic.Lib.Pipeline.ValueKit.Partial
public import Idealize.ShloMosaic.Lib.VecWindow

@[expose] public section

set_option maxRecDepth 16384

noncomputable section

namespace Cert.Ple

open Cert.Kernel9Ideal Cert.Kernel9Ideal.Gen Cert.Kernel9Ideal.Value
open Cert.Reference9Ideal.Read
open Cert.Forward
open Idealize.ShloMosaic Idealize.ShloMosaic.TcCoe Idealize.ShloMosaic.Tactic Idealize.SL.Sem
open scoped BigOperators

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![t.val, 0] := (by decide +kernel : ∀ t : Fin grid0.N, win0_5.index t = ![t.val, 0])
theorem index6 : ∀ t : Fin cfg0.N, win0_6.index t = ![0, 0, 0] := (by decide +kernel : ∀ t : Fin grid0.N, win0_6.index t = ![0, 0, 0])
theorem index7 : ∀ t : Fin cfg0.N, win0_7.index t = ![t.val, 0] := (by decide +kernel : ∀ t : Fin grid0.N, win0_7.index t = ![t.val, 0])
theorem index8 : ∀ t : Fin cfg0.N, win0_8.index t = ![t.val, 0] := (by decide +kernel : ∀ t : Fin grid0.N, win0_8.index t = ![t.val, 0])
theorem index9 : ∀ t : Fin cfg0.N, win0_9.index t = ![t.val, 0] := (by decide +kernel : ∀ t : Fin grid0.N, win0_9.index t = ![t.val, 0])
theorem index10 : ∀ t : Fin cfg0.N, win0_10.index t = ![t.val, 0] := (by decide +kernel : ∀ t : Fin grid0.N, win0_10.index t = ![t.val, 0])
theorem index11 : ∀ t : Fin cfg0.N, win0_11.index t = ![t.val, 0] := (by decide +kernel : ∀ t : Fin grid0.N, win0_11.index t = ![t.val, 0])

/-- Token `r` of the tile that point `t` takes. -/
def tokenAt (t : Fin cfg0.N) (r : Fin 512) : Fin 8192 := ⟨t.val * 512 + r.val, by have h : t.val < 16 := t.isLt; omega⟩

variable (m : (ℓ : Loc nD τ sig) → Buf (Elt Ideal) ℓ)

/-- The arguments: the gated activations, the feed-forward output weight, the residual, the norm's gain, the gate's weight,
    the embeddings and their weight's shards. -/
def acts (c : Dev nD) : Vec Ideal S8192x2816 .bf16 := m ((c.tc : Thread nD τ).loc main_arg0)
def wfos (c : Dev nD) : Vec Ideal S2816x1024 .bf16 := m ((c.tc : Thread nD τ).loc main_arg1)
def xs (c : Dev nD) : Vec Ideal S8192x1024 .f32 := m ((c.tc : Thread nD τ).loc main_arg2)
def gs (c : Dev nD) : Vec Ideal S1x1024 .f32 := m ((c.tc : Thread nD τ).loc main_arg3)
def wpgs (c : Dev nD) : Vec Ideal S1024x1024 .bf16 := m ((c.tc : Thread nD τ).loc main_arg4)
def ps (c : Dev nD) : Vec Ideal S8192x256 .f32 := m ((c.tc : Thread nD τ).loc main_arg5)
def wpps (c : Dev nD) : Vec Ideal S4x256x256 .bf16 := m ((c.tc : Thread nD τ).loc main_arg6)

def actTile (c : Dev nD) (t : Fin cfg0.N) : Vec Ideal S512x2816 .bf16 := iblk m c 0 t
def wfoTile (c : Dev nD) (t : Fin cfg0.N) : Vec Ideal S2816x1024 .bf16 := iblk m c 1 t
def xTile (c : Dev nD) (t : Fin cfg0.N) : Vec Ideal S512x1024 .f32 := iblk m c 2 t
def gTile (c : Dev nD) (t : Fin cfg0.N) : Vec Ideal S1x1024 .f32 := iblk m c 3 t
def wpgTile (c : Dev nD) (t : Fin cfg0.N) : Vec Ideal S1024x1024 .bf16 := iblk m c 4 t
def pTile (c : Dev nD) (t : Fin cfg0.N) : Vec Ideal S512x256 .f32 := iblk m c 5 t
def wppTile (c : Dev nD) (t : Fin cfg0.N) : Vec Ideal S4x256x256 .bf16 := iblk m c 6 t

/-! ## The rows a tile's token sees are the token's -/

theorem act_row (c : Dev nD) (t : Fin cfg0.N) (r : Fin 512) : (fun k => actTile m c t (ix2 r k)) = fun k => acts m c (ix2 (tokenAt t r) k) := by
  funext k
  refine Eq.trans ?_ (congrFun (V_main_arg0 m c) _)
  show iblk m c 0 t (ix2 r k) = V m c main_arg0 (ix2 (tokenAt t r) k)
  blk_ext [iblk, index0, tokenAt]

theorem wfo_eq (c : Dev nD) (t : Fin cfg0.N) : (fun k d => wfoTile m c t (ix2 k d)) = fun k d => wfos m c (ix2 k d) := by
  funext k d
  refine Eq.trans ?_ (congrFun (V_main_arg1 m c) _)
  show iblk m c 1 t (ix2 k d) = V m c main_arg1 (ix2 k d)
  blk_ext [iblk, index1]

theorem x_row (c : Dev nD) (t : Fin cfg0.N) (r : Fin 512) : (fun k => xTile m c t (ix2 r k)) = fun k => xs m c (ix2 (tokenAt t r) k) := by
  funext k
  refine Eq.trans ?_ (congrFun (V_main_arg2 m c) _)
  show iblk m c 2 t (ix2 r k) = V m c main_arg2 (ix2 (tokenAt t r) k)
  blk_ext [iblk, index2, tokenAt]

theorem g_eq (c : Dev nD) (t : Fin cfg0.N) : (fun k => gTile m c t (ix2 (0 : Fin 1) k)) = fun k => gs m c (ix2 (0 : Fin 1) k) := by
  funext k
  refine Eq.trans ?_ (congrFun (V_main_arg3 m c) _)
  show iblk m c 3 t (ix2 (0 : Fin 1) k) = V m c main_arg3 (ix2 (0 : Fin 1) k)
  blk_ext [iblk, index3]

theorem wpg_eq (c : Dev nD) (t : Fin cfg0.N) : (fun k d => wpgTile m c t (ix2 k d)) = fun k d => wpgs m c (ix2 k d) := by
  funext k d
  refine Eq.trans ?_ (congrFun (V_main_arg4 m c) _)
  show iblk m c 4 t (ix2 k d) = V m c main_arg4 (ix2 k d)
  blk_ext [iblk, index4]

theorem p_row (c : Dev nD) (t : Fin cfg0.N) (r : Fin 512) : (fun k => pTile m c t (ix2 r k)) = fun k => ps m c (ix2 (tokenAt t r) k) := by
  funext k
  refine Eq.trans ?_ (congrFun (V_main_arg5 m c) _)
  show iblk m c 5 t (ix2 r k) = V m c main_arg5 (ix2 (tokenAt t r) k)
  blk_ext [iblk, index5, tokenAt]

theorem wpp_eq (c : Dev nD) (t : Fin cfg0.N) : (fun s k j => wppTile m c t (ix3 s k j)) = fun s k j => wpps m c (ix3 s k j) := by
  funext s k j
  refine Eq.trans ?_ (congrFun (V_main_arg6 m c) _)
  show iblk m c 6 t (ix3 s k j) = V m c main_arg6 (ix3 s k j)
  blk_ext [iblk, index6]

section
variable (x0 : Vec Ideal S512x2816 .bf16) (x1 : Vec Ideal S2816x1024 .bf16) (x2 : Vec Ideal S512x1024 .f32) (x3 : Vec Ideal S1x1024 .f32)
  (x4 : Vec Ideal S1024x1024 .bf16) (x5 : Vec Ideal S512x256 .f32) (x6 : Vec Ideal S4x256x256 .bf16)
theorem tileRow_apply (r : Fin 512) (d : Fin 1024) : tileRow x0 x1 x2 (ix2 r d) = rowOf x0 x1 x2 r d := rfl
theorem tileNorm_apply (r : Fin 512) (d : Fin 1024) : tileNorm x0 x1 x2 x3 (ix2 r d) = normOf x0 x1 x2 x3 r d := rfl
theorem tileGate_apply (r : Fin 512) (d : Fin 1024) : tileGate x0 x1 x2 x3 x4 (ix2 r d) = gateOf x0 x1 x2 x3 x4 r d := rfl
theorem tileEmb_apply (r : Fin 512) (d : Fin 1024) : tileEmb x5 x6 (ix2 r d) = embOf x5 x6 r d := rfl
theorem tileOut_apply (r : Fin 512) (d : Fin 1024) : tileOut x0 x1 x2 x3 x4 x5 x6 (ix2 r d) =
    rowOf x0 x1 x2 r d + gateOf x0 x1 x2 x3 x4 r d * embOf x5 x6 r d := rfl
end

attribute [local irreducible] out0_7 out0_8 out0_9 out0_10 out0_11 tileRow tileNorm tileGate tileEmb tileOut iblk acts wfos xs gs wpgs ps wpps
  actTile wfoTile xTile gTile wpgTile pTile wppTile

theorem rowOf_eq (c : Dev nD) (t : Fin cfg0.N) (r : Fin 512) : rowOf (actTile m c t) (wfoTile m c t) (xTile m c t) r =
    Reference.row (acts m c) (wfos m c) (xs m c) (tokenAt t r) := by
  rw [rowOf, Reference.row, act_row, wfo_eq, x_row]

theorem normOf_eq (c : Dev nD) (t : Fin cfg0.N) (r : Fin 512) : normOf (actTile m c t) (wfoTile m c t) (xTile m c t) (gTile m c t) r =
    Reference.norm (acts m c) (wfos m c) (xs m c) (gs m c) (tokenAt t r) := by
  rw [normOf, Reference.norm, rowOf_eq, g_eq]

theorem gateOf_eq (c : Dev nD) (t : Fin cfg0.N) (r : Fin 512) (d : Fin 1024) : gateOf (actTile m c t) (wfoTile m c t) (xTile m c t) (gTile m c t) (wpgTile m c t) r d =
    Reference.gate (acts m c) (wfos m c) (xs m c) (gs m c) (wpgs m c) (tokenAt t r) d := by
  have e : (fun k => wpgTile m c t (ix2 k d)) = fun k => wpgs m c (ix2 k d) := funext fun k => congrFun (congrFun (wpg_eq m c t) k) d
  rw [gateOf, Reference.gate, normOf_eq, e]

theorem embOf_eq (c : Dev nD) (t : Fin cfg0.N) (r : Fin 512) (d : Fin 1024) : embOf (pTile m c t) (wppTile m c t) r d = Reference.emb (ps m c) (wpps m c) (tokenAt t r) d := by
  rw [embOf, Reference.emb, p_row, wpp_eq]

/-! ## The arrays after the run -/

/-- Where the outputs' blocks lie. -/
theorem emb7 (t : Fin cfg0.N) (r : Fin 512) (d : Fin 1024) : (win0_7.blk t).view.emb (ix2 r d) = ix2 (tokenAt t r) d := by
  blk_ext [index7, tokenAt]
theorem emb8 (t : Fin cfg0.N) (r : Fin 512) (d : Fin 1024) : (win0_8.blk t).view.emb (ix2 r d) = ix2 (tokenAt t r) d := by
  blk_ext [index8, tokenAt]
theorem emb9 (t : Fin cfg0.N) (r : Fin 512) (d : Fin 1024) : (win0_9.blk t).view.emb (ix2 r d) = ix2 (tokenAt t r) d := by
  blk_ext [index9, tokenAt]
theorem emb10 (t : Fin cfg0.N) (r : Fin 512) (d : Fin 1024) : (win0_10.blk t).view.emb (ix2 r d) = ix2 (tokenAt t r) d := by
  blk_ext [index10, tokenAt]
theorem emb11 (t : Fin cfg0.N) (r : Fin 512) (d : Fin 1024) : (win0_11.blk t).view.emb (ix2 r d) = ix2 (tokenAt t r) d := by
  blk_ext [index11, tokenAt]

/-- The reference's five arrays, at the arguments. -/
def wholeRow (c : Dev nD) : Vec Ideal S8192x1024 .f32 := val_main_v3 (F := Ideal) (acts m c) (wfos m c) (xs m c)
def wholeNorm (c : Dev nD) : Vec Ideal S8192x1024 .bf16 := val_main_v28 (F := Ideal) (acts m c) (wfos m c) (xs m c) (gs m c)
def wholeGate (c : Dev nD) : Vec Ideal S8192x1024 .bf16 := val_main_v29 (F := Ideal) (acts m c) (wfos m c) (xs m c) (gs m c) (wpgs m c)
def wholeEmb (c : Dev nD) : Vec Ideal S8192x1024 .bf16 := val_main_v30 (F := Ideal) (ps m c) (wpps m c)
def wholeOut (c : Dev nD) : Vec Ideal S8192x1024 .f32 := val_main_v32 (F := Ideal) (acts m c) (wfos m c) (xs m c) (gs m c) (wpgs m c) (ps m c) (wpps m c)

theorem wholeRow_apply (c : Dev nD) (t : Fin 8192) (d : Fin 1024) : wholeRow m c (ix2 t d) = Reference.row (acts m c) (wfos m c) (xs m c) t d :=
  Reference.row_apply _ _ _ t d
theorem wholeNorm_apply (c : Dev nD) (t : Fin 8192) (d : Fin 1024) : wholeNorm m c (ix2 t d) = Reference.norm (acts m c) (wfos m c) (xs m c) (gs m c) t d :=
  Reference.normed_apply _ _ _ _ t d
theorem wholeGate_apply (c : Dev nD) (t : Fin 8192) (d : Fin 1024) : wholeGate m c (ix2 t d) = Reference.gate (acts m c) (wfos m c) (xs m c) (gs m c) (wpgs m c) t d :=
  Reference.gate_apply _ _ _ _ _ t d
theorem wholeEmb_apply (c : Dev nD) (t : Fin 8192) (d : Fin 1024) : wholeEmb m c (ix2 t d) = Reference.emb (ps m c) (wpps m c) t d :=
  Reference.emb_apply _ _ t d
theorem wholeOut_apply (c : Dev nD) (t : Fin 8192) (d : Fin 1024) : wholeOut m c (ix2 t d) = Reference.row (acts m c) (wfos m c) (xs m c) t d +
    Reference.gate (acts m c) (wfos m c) (xs m c) (gs m c) (wpgs m c) t d * Reference.emb (ps m c) (wpps m c) t d :=
  Reference.out_apply _ _ _ _ _ _ _ t d

theorem after_row (c : Dev nD) (t : Fin cfg0.N) : out0_7 (iblk m c 0 t) (iblk m c 1 t) (iblk m c 2 t) (iblk m c 3 t) (iblk m c 4 t) (iblk m c 5 t) (iblk m c 6 t) =
    tileRow (actTile m c t) (wfoTile m c t) (xTile m c t) := by
  unfold actTile wfoTile xTile
  exact out_row _ _ _ _ _ _ _
theorem after_norm (c : Dev nD) (t : Fin cfg0.N) : out0_8 (iblk m c 0 t) (iblk m c 1 t) (iblk m c 2 t) (iblk m c 3 t) (iblk m c 4 t) (iblk m c 5 t) (iblk m c 6 t) =
    tileNorm (actTile m c t) (wfoTile m c t) (xTile m c t) (gTile m c t) := by
  unfold actTile wfoTile xTile gTile
  exact out_norm _ _ _ _ _ _ _
theorem after_gate (c : Dev nD) (t : Fin cfg0.N) : out0_9 (iblk m c 0 t) (iblk m c 1 t) (iblk m c 2 t) (iblk m c 3 t) (iblk m c 4 t) (iblk m c 5 t) (iblk m c 6 t) =
    tileGate (actTile m c t) (wfoTile m c t) (xTile m c t) (gTile m c t) (wpgTile m c t) := by
  unfold actTile wfoTile xTile gTile wpgTile
  exact out_gate _ _ _ _ _ _ _
theorem after_emb (c : Dev nD) (t : Fin cfg0.N) : out0_10 (iblk m c 0 t) (iblk m c 1 t) (iblk m c 2 t) (iblk m c 3 t) (iblk m c 4 t) (iblk m c 5 t) (iblk m c 6 t) =
    tileEmb (pTile m c t) (wppTile m c t) := by
  unfold pTile wppTile
  exact out_emb _ _ _ _ _ _ _
theorem after_out (c : Dev nD) (t : Fin cfg0.N) : out0_11 (iblk m c 0 t) (iblk m c 1 t) (iblk m c 2 t) (iblk m c 3 t) (iblk m c 4 t) (iblk m c 5 t) (iblk m c 6 t) =
    tileOut (actTile m c t) (wfoTile m c t) (xTile m c t) (gTile m c t) (wpgTile m c t) (pTile m c t) (wppTile m c t) := by
  unfold actTile wfoTile xTile gTile wpgTile pTile wppTile
  exact out_out _ _ _ _ _ _ _

attribute [local irreducible] wholeRow wholeNorm wholeGate wholeEmb wholeOut

theorem final_row (c : Dev nD) : (dats m 0 c).arrAt 7 cfg0.N = wholeRow m c := by
  refine (dats m 0 c).arrAt_eq_of_covers 7 _ (by decide +kernel) fun t hf y => ?_
  blk_simp
  rw [after0_7, after_row]
  obtain ⟨r, d, rfl⟩ : ∃ (r : Fin 512) (d : Fin 1024), y = ix2 r d := ⟨y 0, y 1, funext fun a => by fin_cases a <;> rfl⟩
  refine Eq.trans ?_ (congrArg (wholeRow m c) (emb7 t r d).symm)
  exact (tileRow_apply _ _ _ r d).trans ((congrFun (rowOf_eq m c t r) d).trans (wholeRow_apply m c _ d).symm)

theorem final_norm (c : Dev nD) : (dats m 0 c).arrAt 8 cfg0.N = wholeNorm m c := by
  refine (dats m 0 c).arrAt_eq_of_covers 8 _ (by decide +kernel) fun t hf y => ?_
  blk_simp
  rw [after0_8, after_norm]
  obtain ⟨r, d, rfl⟩ : ∃ (r : Fin 512) (d : Fin 1024), y = ix2 r d := ⟨y 0, y 1, funext fun a => by fin_cases a <;> rfl⟩
  refine Eq.trans ?_ (congrArg (wholeNorm m c) (emb8 t r d).symm)
  exact (tileNorm_apply _ _ _ _ r d).trans ((congrFun (normOf_eq m c t r) d).trans (wholeNorm_apply m c _ d).symm)

theorem final_gate (c : Dev nD) : (dats m 0 c).arrAt 9 cfg0.N = wholeGate m c := by
  refine (dats m 0 c).arrAt_eq_of_covers 9 _ (by decide +kernel) fun t hf y => ?_
  blk_simp
  rw [after0_9, after_gate]
  obtain ⟨r, d, rfl⟩ : ∃ (r : Fin 512) (d : Fin 1024), y = ix2 r d := ⟨y 0, y 1, funext fun a => by fin_cases a <;> rfl⟩
  refine Eq.trans ?_ (congrArg (wholeGate m c) (emb9 t r d).symm)
  exact (tileGate_apply _ _ _ _ _ r d).trans ((gateOf_eq m c t r d).trans (wholeGate_apply m c _ d).symm)

theorem final_emb (c : Dev nD) : (dats m 0 c).arrAt 10 cfg0.N = wholeEmb m c := by
  refine (dats m 0 c).arrAt_eq_of_covers 10 _ (by decide +kernel) fun t hf y => ?_
  blk_simp
  rw [after0_10, after_emb]
  obtain ⟨r, d, rfl⟩ : ∃ (r : Fin 512) (d : Fin 1024), y = ix2 r d := ⟨y 0, y 1, funext fun a => by fin_cases a <;> rfl⟩
  refine Eq.trans ?_ (congrArg (wholeEmb m c) (emb10 t r d).symm)
  exact (tileEmb_apply _ _ r d).trans ((embOf_eq m c t r d).trans (wholeEmb_apply m c _ d).symm)

theorem final_out (c : Dev nD) : (dats m 0 c).arrAt 11 cfg0.N = wholeOut m c := by
  refine (dats m 0 c).arrAt_eq_of_covers 11 _ (by decide +kernel) fun t hf y => ?_
  blk_simp
  rw [after0_11, after_out]
  obtain ⟨r, d, rfl⟩ : ∃ (r : Fin 512) (d : Fin 1024), y = ix2 r d := ⟨y 0, y 1, funext fun a => by fin_cases a <;> rfl⟩
  refine Eq.trans ?_ (congrArg (wholeOut m c) (emb11 t r d).symm)
  exact (tileOut_apply _ _ _ _ _ _ _ r d).trans ((congrArg₂ (· + ·) (congrFun (rowOf_eq m c t r) d) (congrArg₂ (· * ·) (gateOf_eq m c t r d) (embOf_eq m c t r d))).trans (wholeOut_apply m c _ d).symm)

end Cert.Ple
end
-- ==== Proof.MergeFwdTile.lean ====
/- What a grid point of the `merge_fwd` kernel computes from the blocks it holds, over the extended reals: the gates of the
   four branches, the branches' projections, and the merged branches. -/
module

public import proofs.«01_k».proof.Proof.Gen.Kernel10Ideal.Value
public import proofs.«01_k».proof.Proof.TokenSum
public import proofs.«01_k».proof.Proof.ForwardRow
public import Idealize.ShloMosaic.Lib.Pipeline.ValueKit.Tiles
public import Idealize.ShloMosaic.Lib.Pipeline.ReadBack
public import Idealize.ShloMosaic.Lib.Pointwise

@[expose] public section

set_option maxRecDepth 16384

noncomputable section

namespace Cert.MergeFwd

open Cert.Kernel10Ideal Cert.Kernel10Ideal.Gen
open Cert.TokenSum (emb_eq_idx)
open Cert.FfnGrad (sigm)
open Cert.Forward
open Idealize.ShloMosaic Idealize.ShloMosaic.TcCoe Idealize.ShloMosaic.Tactic Idealize.SL.Sem
open scoped BigOperators

/-- A column's shard and its place in it, by the shard's first column. -/
theorem shard_zero {m : ℕ} (w : Fin 4 → Fin m → Fin 256 → EReal) (k : Fin m) (j : Fin 256) : shard w k ⟨j.val, by omega⟩ = w 0 k j := by
  refine Eq.trans (congrArg (shard w k) (Fin.ext ?_)) (shard_colAt w k 0 j); show j.val = 0 * 256 + j.val; omega
theorem shard_one {m : ℕ} (w : Fin 4 → Fin m → Fin 256 → EReal) (k : Fin m) (j : Fin 256) : shard w k ⟨256 + j.val, by omega⟩ = w 1 k j :=
  shard_colAt w k 1 j
theorem shard_two {m : ℕ} (w : Fin 4 → Fin m → Fin 256 → EReal) (k : Fin m) (j : Fin 256) : shard w k ⟨512 + j.val, by omega⟩ = w 2 k j :=
  shard_colAt w k 2 j
theorem shard_three {m : ℕ} (w : Fin 4 → Fin m → Fin 256 → EReal) (k : Fin m) (j : Fin 256) : shard w k ⟨768 + j.val, by omega⟩ = w 3 k j :=
  shard_colAt w k 3 j

/-! ## One branch's gate and projection at one column shard -/

theorem pay1_apply (h : Vec Ideal S512x1024 .bf16) (w : Vec Ideal S1x1024x256 .bf16) (r : Fin 512) (j : Fin 256) :
    k0_pay1 h w (ix2 r j) = sigm (proj (fun k => h (ix2 r k)) fun k => w (ix3 (0 : Fin 1) k j)) := by
  pointwise [k0_pay1, sigm, proj]

theorem pay2_apply (b : Vec Ideal S512x256 .bf16) (w : Vec Ideal S1x1x256x256 .bf16) (r : Fin 512) (j : Fin 256) :
    k0_pay2 b w (ix2 r j) = proj (fun k => b (ix2 r k)) fun k => w (ix4 (0 : Fin 1) (0 : Fin 1) k j) := by
  pointwise [k0_pay2, proj]

/-- The merged branches at one column shard: the sum of the gated projections. -/
def mergedPay (h : Vec Ideal S512x1024 .bf16) (w0 w1 w2 w3 : Vec Ideal S1x1024x256 .bf16) (b0 b1 b2 b3 : Vec Ideal S512x256 .bf16)
    (v0 v1 v2 v3 : Vec Ideal S1x1x256x256 .bf16) : Vec Ideal S512x256 .bf16 := fun y =>
  k0_pay1 h w0 y * k0_pay2 b0 v0 y + k0_pay1 h w1 y * k0_pay2 b1 v1 y + k0_pay1 h w2 y * k0_pay2 b2 v2 y + k0_pay1 h w3 y * k0_pay2 b3 v3 y

section
variable (x0 : Vec Ideal S512x1024 .bf16) (x1 x2 x3 x4 : Vec Ideal S512x256 .bf16) (x5 : Vec Ideal S4x1024x1024 .bf16) (x6 : Vec Ideal S4x4x256x256 .bf16)

/-- A row of the block: its gate and its projection, of branch `b`. -/
def gateOf (b : Fin 4) (r : Fin 512) (d : Fin 1024) : EReal := sigm (proj (fun k => x0 (ix2 r k)) fun k => x5 (ix3 b k d))
def branchOf (b : Fin 4) (r : Fin 512) (d : Fin 1024) : EReal :=
  proj (fun k => (![x1, x2, x3, x4] b) (ix2 r k)) fun k => shard (fun s k j => x6 (ix4 s b k j)) k d
def termOf (b : Fin 4) (r : Fin 512) (d : Fin 1024) : EReal := gateOf x0 x5 b r d * branchOf x1 x2 x3 x4 x6 b r d

/-- What a point leaves in its three blocks. -/
def tileMerged : Vec Ideal S512x1024 .bf16 := fun y =>
  termOf x0 x1 x2 x3 x4 x5 x6 0 (y 0) (y 1) + termOf x0 x1 x2 x3 x4 x5 x6 1 (y 0) (y 1) + termOf x0 x1 x2 x3 x4 x5 x6 2 (y 0) (y 1) +
    termOf x0 x1 x2 x3 x4 x5 x6 3 (y 0) (y 1)
def tileGates : Vec Ideal S4x512x1024 .bf16 := fun y => gateOf x0 x5 (y 0) (y 1) (y 2)
def tileBranches : Vec Ideal S4x512x1024 .bf16 := fun y => branchOf x1 x2 x3 x4 x6 (y 0) (y 1) (y 2)

/-! ## The stores, column shard by column shard, all written with the first shard's steps -/

theorem gates_stores : out0_8 x0 x1 x2 x3 x4 x5 x6 = View.canon [⟨r0_52, k0_pay3 (View.ld x0 r0_0) (View.ld x5 r0_50)⟩,
    ⟨r0_49, k0_pay3 (View.ld x0 r0_0) (View.ld x5 r0_47)⟩,
    ⟨r0_46, k0_pay3 (View.ld x0 r0_0) (View.ld x5 r0_44)⟩,
    ⟨r0_43, k0_pay3 (View.ld x0 r0_0) (View.ld x5 r0_41)⟩,
    ⟨r0_39, k0_pay3 (View.ld x0 r0_0) (View.ld x5 r0_37)⟩,
    ⟨r0_36, k0_pay3 (View.ld x0 r0_0) (View.ld x5 r0_34)⟩,
    ⟨r0_33, k0_pay3 (View.ld x0 r0_0) (View.ld x5 r0_31)⟩,
    ⟨r0_30, k0_pay3 (View.ld x0 r0_0) (View.ld x5 r0_28)⟩,
    ⟨r0_26, k0_pay3 (View.ld x0 r0_0) (View.ld x5 r0_24)⟩,
    ⟨r0_23, k0_pay3 (View.ld x0 r0_0) (View.ld x5 r0_21)⟩,
    ⟨r0_20, k0_pay3 (View.ld x0 r0_0) (View.ld x5 r0_18)⟩,
    ⟨r0_17, k0_pay3 (View.ld x0 r0_0) (View.ld x5 r0_15)⟩,
    ⟨r0_13, k0_pay3 (View.ld x0 r0_0) (View.ld x5 r0_11)⟩,
    ⟨r0_10, k0_pay3 (View.ld x0 r0_0) (View.ld x5 r0_8)⟩,
    ⟨r0_7, k0_pay3 (View.ld x0 r0_0) (View.ld x5 r0_5)⟩,
    ⟨r0_4, k0_pay3 (View.ld x0 r0_0) (View.ld x5 r0_1)⟩] := rfl

theorem branches_stores : out0_9 x0 x1 x2 x3 x4 x5 x6 = View.canon [⟨r0_52, k0_pay4 (View.ld x4 r0_2) (View.ld x6 r0_51)⟩,
    ⟨r0_49, k0_pay4 (View.ld x3 r0_2) (View.ld x6 r0_48)⟩,
    ⟨r0_46, k0_pay4 (View.ld x2 r0_2) (View.ld x6 r0_45)⟩,
    ⟨r0_43, k0_pay4 (View.ld x1 r0_2) (View.ld x6 r0_42)⟩,
    ⟨r0_39, k0_pay4 (View.ld x4 r0_2) (View.ld x6 r0_38)⟩,
    ⟨r0_36, k0_pay4 (View.ld x3 r0_2) (View.ld x6 r0_35)⟩,
    ⟨r0_33, k0_pay4 (View.ld x2 r0_2) (View.ld x6 r0_32)⟩,
    ⟨r0_30, k0_pay4 (View.ld x1 r0_2) (View.ld x6 r0_29)⟩,
    ⟨r0_26, k0_pay4 (View.ld x4 r0_2) (View.ld x6 r0_25)⟩,
    ⟨r0_23, k0_pay4 (View.ld x3 r0_2) (View.ld x6 r0_22)⟩,
    ⟨r0_20, k0_pay4 (View.ld x2 r0_2) (View.ld x6 r0_19)⟩,
    ⟨r0_17, k0_pay4 (View.ld x1 r0_2) (View.ld x6 r0_16)⟩,
    ⟨r0_13, k0_pay4 (View.ld x4 r0_2) (View.ld x6 r0_12)⟩,
    ⟨r0_10, k0_pay4 (View.ld x3 r0_2) (View.ld x6 r0_9)⟩,
    ⟨r0_7, k0_pay4 (View.ld x2 r0_2) (View.ld x6 r0_6)⟩,
    ⟨r0_4, k0_pay4 (View.ld x1 r0_2) (View.ld x6 r0_3)⟩] := rfl

theorem merged_stores : out0_7 x0 x1 x2 x3 x4 x5 x6 = View.canon [⟨r0_53, mergedPay (View.ld x0 r0_0) (View.ld x5 r0_41) (View.ld x5 r0_44) (View.ld x5 r0_47) (View.ld x5 r0_50)
      (View.ld x1 r0_2) (View.ld x2 r0_2) (View.ld x3 r0_2) (View.ld x4 r0_2) (View.ld x6 r0_42) (View.ld x6 r0_45) (View.ld x6 r0_48) (View.ld x6 r0_51)⟩,
    ⟨r0_40, mergedPay (View.ld x0 r0_0) (View.ld x5 r0_28) (View.ld x5 r0_31) (View.ld x5 r0_34) (View.ld x5 r0_37)
      (View.ld x1 r0_2) (View.ld x2 r0_2) (View.ld x3 r0_2) (View.ld x4 r0_2) (View.ld x6 r0_29) (View.ld x6 r0_32) (View.ld x6 r0_35) (View.ld x6 r0_38)⟩,
    ⟨r0_27, mergedPay (View.ld x0 r0_0) (View.ld x5 r0_15) (View.ld x5 r0_18) (View.ld x5 r0_21) (View.ld x5 r0_24)
      (View.ld x1 r0_2) (View.ld x2 r0_2) (View.ld x3 r0_2) (View.ld x4 r0_2) (View.ld x6 r0_16) (View.ld x6 r0_19) (View.ld x6 r0_22) (View.ld x6 r0_25)⟩,
    ⟨r0_14, mergedPay (View.ld x0 r0_0) (View.ld x5 r0_1) (View.ld x5 r0_5) (View.ld x5 r0_8) (View.ld x5 r0_11)
      (View.ld x1 r0_2) (View.ld x2 r0_2) (View.ld x3 r0_2) (View.ld x4 r0_2) (View.ld x6 r0_3) (View.ld x6 r0_6) (View.ld x6 r0_9) (View.ld x6 r0_12)⟩] := rfl

theorem out_gates : out0_8 x0 x1 x2 x3 x4 x5 x6 = tileGates x0 x5 := by
  funext y
  rw [gates_stores]
  refine View.canon_apply_of_pieces (tileGates x0 x5) _ (View.PiecesOf.mem ?_) y (cover0_8 _ _ _ _ _ _ _ _ _ _ _ _ _ _ _ _ y)
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩ <;> dsimp only <;>
    obtain ⟨k, r, j, rfl⟩ : ∃ (k : Fin 1) (r : Fin 512) (j : Fin 256), x = ix3 k r j := ⟨x 0, x 1, x 2, funext fun a => by fin_cases a <;> rfl⟩ <;>
    obtain rfl : k = 0 := Subsingleton.elim _ _ <;>
    pointwise [k0_pay3, pay1_apply, View.ld_apply, emb_eq_idx, tileGates, gateOf]

theorem out_branches : out0_9 x0 x1 x2 x3 x4 x5 x6 = tileBranches x1 x2 x3 x4 x6 := by
  funext y
  rw [branches_stores]
  refine View.canon_apply_of_pieces (tileBranches x1 x2 x3 x4 x6) _ (View.PiecesOf.mem ?_) y (cover0_9 _ _ _ _ _ _ _ _ _ _ _ _ _ _ _ _ y)
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩ <;> dsimp only <;>
    obtain ⟨k, r, j, rfl⟩ : ∃ (k : Fin 1) (r : Fin 512) (j : Fin 256), x = ix3 k r j := ⟨x 0, x 1, x 2, funext fun a => by fin_cases a <;> rfl⟩ <;>
    obtain rfl : k = 0 := Subsingleton.elim _ _ <;>
    pointwise [k0_pay4, pay2_apply, View.ld_apply, emb_eq_idx, tileBranches, branchOf, shard_zero, shard_one, shard_two, shard_three]

theorem out_merged : out0_7 x0 x1 x2 x3 x4 x5 x6 = tileMerged x0 x1 x2 x3 x4 x5 x6 := by
  funext y
  rw [merged_stores]
  refine View.canon_apply_of_pieces (tileMerged x0 x1 x2 x3 x4 x5 x6) _ (View.PiecesOf.mem ?_) y (cover0_7 _ _ _ _ y)
  refine ⟨fun x => ?_, fun x => ?_, fun x => ?_, fun x => ?_, trivial⟩ <;> dsimp only <;>
    obtain ⟨r, j, rfl⟩ : ∃ (r : Fin 512) (j : Fin 256), x = ix2 r j := ⟨x 0, x 1, funext fun a => by fin_cases a <;> rfl⟩ <;>
    pointwise [mergedPay, pay1_apply, pay2_apply, View.ld_apply, emb_eq_idx, tileMerged, termOf, gateOf, branchOf, shard_zero, shard_one, shard_two, shard_three]

end

end Cert.MergeFwd
end
-- ==== Proof.MergeFwdReference.lean ====
/- The reference's gates of the four branches, their projections, and the merged branches, over the extended reals. -/
module

public import proofs.«01_k».proof.Proof.Gen.Reference10Ideal.Read
public import proofs.«01_k».proof.Proof.ForwardRow
public import Idealize.ShloMosaic.Lib.Pointwise

@[expose] public section

set_option maxRecDepth 16384

noncomputable section

namespace Cert.MergeFwd.Reference

open Cert.Reference10Ideal Cert.Reference10Ideal.Read
open Cert.FfnGrad (sigm)
open Cert.Forward
open Idealize.ShloMosaic Idealize.ShloMosaic.TcCoe Idealize.ShloMosaic.Tactic
open scoped BigOperators

variable (x0 : Vec Ideal S8192x1024 .bf16) (x1 x2 x3 x4 : Vec Ideal S8192x256 .bf16) (x5 : Vec Ideal S4x1024x1024 .bf16) (x6 : Vec Ideal S4x4x256x256 .bf16)

/-- Token `t`'s gate and projection, of branch `b`. -/
def gate (b : Fin 4) (t : Fin 8192) (d : Fin 1024) : EReal := sigm (proj (fun k => x0 (ix2 t k)) fun k => x5 (ix3 b k d))
def branch (b : Fin 4) (t : Fin 8192) (d : Fin 1024) : EReal :=
  proj (fun k => (![x1, x2, x3, x4] b) (ix2 t k)) fun k => shard (fun s k j => x6 (ix4 s b k j)) k d
def term (b : Fin 4) (t : Fin 8192) (d : Fin 1024) : EReal := gate x0 x5 b t d * branch x1 x2 x3 x4 x6 b t d

theorem gate0 (t : Fin 8192) (d : Fin 1024) : val_main_v13 (F := Ideal) x0 x5 (ix2 t d) = gate x0 x5 0 t d := by
  pointwise [val_main_v0, val_main_v4, val_main_v5, val_main_v6, val_main_v7, val_main_v8, val_main_v9, val_main_v10, val_main_v11, val_main_v12, val_main_v13,
    val_main_cst, val_main_cst_0, gate, sigm, proj, zero_sub]
theorem gate1 (t : Fin 8192) (d : Fin 1024) : val_main_v23 (F := Ideal) x0 x5 (ix2 t d) = gate x0 x5 1 t d := by
  pointwise [val_main_v0, val_main_v14, val_main_v15, val_main_v16, val_main_v17, val_main_v18, val_main_v19, val_main_v20, val_main_v21, val_main_v22, val_main_v23,
    val_main_cst_1, val_main_cst_2, gate, sigm, proj, zero_sub]
theorem gate2 (t : Fin 8192) (d : Fin 1024) : val_main_v33 (F := Ideal) x0 x5 (ix2 t d) = gate x0 x5 2 t d := by
  pointwise [val_main_v0, val_main_v24, val_main_v25, val_main_v26, val_main_v27, val_main_v28, val_main_v29, val_main_v30, val_main_v31, val_main_v32, val_main_v33,
    val_main_cst_3, val_main_cst_4, gate, sigm, proj, zero_sub]
theorem gate3 (t : Fin 8192) (d : Fin 1024) : val_main_v43 (F := Ideal) x0 x5 (ix2 t d) = gate x0 x5 3 t d := by
  pointwise [val_main_v0, val_main_v34, val_main_v35, val_main_v36, val_main_v37, val_main_v38, val_main_v39, val_main_v40, val_main_v41, val_main_v42, val_main_v43,
    val_main_cst_5, val_main_cst_6, gate, sigm, proj, zero_sub]

theorem weight_apply (b : Fin 4) (k : Fin 256) (d : Fin 1024) : val_main_v3 (F := Ideal) x6 (ix3 b k d) = shard (fun s k j => x6 (ix4 s b k j)) k d := by
  obtain ⟨s, j, rfl⟩ := exists_colAt d
  rw [shard_colAt]
  pointwise [val_main_v1, val_main_v2, val_main_v3, colAt]

theorem branch0 (t : Fin 8192) (d : Fin 1024) : val_main_v47 (F := Ideal) x1 x6 (ix2 t d) = branch x1 x2 x3 x4 x6 0 t d := by
  pointwise [val_main_v44, val_main_v45, val_main_v46, val_main_v47, weight_apply, branch, proj]
theorem branch1 (t : Fin 8192) (d : Fin 1024) : val_main_v51 (F := Ideal) x2 x6 (ix2 t d) = branch x1 x2 x3 x4 x6 1 t d := by
  pointwise [val_main_v48, val_main_v49, val_main_v50, val_main_v51, weight_apply, branch, proj]
theorem branch2 (t : Fin 8192) (d : Fin 1024) : val_main_v55 (F := Ideal) x3 x6 (ix2 t d) = branch x1 x2 x3 x4 x6 2 t d := by
  pointwise [val_main_v52, val_main_v53, val_main_v54, val_main_v55, weight_apply, branch, proj]
theorem branch3 (t : Fin 8192) (d : Fin 1024) : val_main_v59 (F := Ideal) x4 x6 (ix2 t d) = branch x1 x2 x3 x4 x6 3 t d := by
  pointwise [val_main_v56, val_main_v57, val_main_v58, val_main_v59, weight_apply, branch, proj]

theorem gates_apply (b : Fin 4) (t : Fin 8192) (d : Fin 1024) : val_main_v75 (F := Ideal) x0 x5 (ix3 b t d) = gate x0 x5 b t d := by
  fin_cases b <;> pointwise [val_main_v70, val_main_v71, val_main_v72, val_main_v73, val_main_v74, val_main_v75, gate0, gate1, gate2, gate3]

theorem branches_apply (b : Fin 4) (t : Fin 8192) (d : Fin 1024) : val_main_v81 (F := Ideal) x1 x2 x3 x4 x6 (ix3 b t d) = branch x1 x2 x3 x4 x6 b t d := by
  fin_cases b <;> pointwise [val_main_v76, val_main_v77, val_main_v78, val_main_v79, val_main_v80, val_main_v81, branch0 x1 x2 x3 x4 x6, branch1 x1 x2 x3 x4 x6,
    branch2 x1 x2 x3 x4 x6, branch3 x1 x2 x3 x4 x6]

theorem merged_apply (t : Fin 8192) (d : Fin 1024) : val_main_v69 (F := Ideal) x0 x1 x2 x3 x4 x5 x6 (ix2 t d) =
    term x0 x1 x2 x3 x4 x5 x6 0 t d + term x0 x1 x2 x3 x4 x5 x6 1 t d + term x0 x1 x2 x3 x4 x5 x6 2 t d + term x0 x1 x2 x3 x4 x5 x6 3 t d := by
  pointwise [val_main_v60, val_main_v61, val_main_v62, val_main_v63, val_main_v64, val_main_v65, val_main_v66, val_main_v67, val_main_v68, val_main_v69, val_main_cst_7,
    gate0, gate1, gate2, gate3, branch0 x1 x2 x3 x4 x6, branch1 x1 x2 x3 x4 x6, branch2 x1 x2 x3 x4 x6, branch3 x1 x2 x3 x4 x6, term, zero_add]

end Cert.MergeFwd.Reference
end
-- ==== Proof.MergeFwd.lean ====
/- The merged branches: what the `merge_fwd` kernel leaves in its three output arrays, over the extended reals, and that it
   is the reference's. -/
module

public import proofs.«01_k».proof.Proof.MergeFwdTile
public import proofs.«01_k».proof.Proof.MergeFwdReference
public import Idealize.ShloMosaic.Lib.Pipeline.ValueKit.Partial
public import Idealize.ShloMosaic.Lib.VecWindow

@[expose] public section

set_option maxRecDepth 16384

noncomputable section

namespace Cert.MergeFwd

open Cert.Kernel10Ideal Cert.Kernel10Ideal.Gen Cert.Kernel10Ideal.Value
open Cert.Reference10Ideal.Read
open Cert.FfnGrad (sigm)
open Cert.Forward
open Idealize.ShloMosaic Idealize.ShloMosaic.TcCoe Idealize.ShloMosaic.Tactic Idealize.SL.Sem
open scoped BigOperators

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![0, 0, 0] := (by decide +kernel : ∀ t : Fin grid0.N, win0_5.index t = ![0, 0, 0])
theorem index6 : ∀ t : Fin cfg0.N, win0_6.index t = ![0, 0, 0, 0] := (by decide +kernel : ∀ t : Fin grid0.N, win0_6.index t = ![0, 0, 0, 0])
theorem index7 : ∀ t : Fin cfg0.N, win0_7.index t = ![t.val, 0] := (by decide +kernel : ∀ t : Fin grid0.N, win0_7.index t = ![t.val, 0])
theorem index8 : ∀ t : Fin cfg0.N, win0_8.index t = ![0, t.val, 0] := (by decide +kernel : ∀ t : Fin grid0.N, win0_8.index t = ![0, t.val, 0])
theorem index9 : ∀ t : Fin cfg0.N, win0_9.index t = ![0, t.val, 0] := (by decide +kernel : ∀ t : Fin grid0.N, win0_9.index t = ![0, t.val, 0])

/-- Token `r` of the tile that point `t` takes. -/
def tokenAt (t : Fin cfg0.N) (r : Fin 512) : Fin 8192 := ⟨t.val * 512 + r.val, by have h : t.val < 16 := t.isLt; omega⟩

variable (m : (ℓ : Loc nD τ sig) → Buf (Elt Ideal) ℓ)

/-- The arguments: the normed rows, the four branches, the gates' weights, and the branches' weights by column shard. -/
def hs (c : Dev nD) : Vec Ideal S8192x1024 .bf16 := m ((c.tc : Thread nD τ).loc main_arg0)
def yas (c : Dev nD) : Vec Ideal S8192x256 .bf16 := m ((c.tc : Thread nD τ).loc main_arg1)
def ybs (c : Dev nD) : Vec Ideal S8192x256 .bf16 := m ((c.tc : Thread nD τ).loc main_arg2)
def ycs (c : Dev nD) : Vec Ideal S8192x256 .bf16 := m ((c.tc : Thread nD τ).loc main_arg3)
def yds (c : Dev nD) : Vec Ideal S8192x256 .bf16 := m ((c.tc : Thread nD τ).loc main_arg4)
def wgs (c : Dev nD) : Vec Ideal S4x1024x1024 .bf16 := m ((c.tc : Thread nD τ).loc main_arg5)
def wbs (c : Dev nD) : Vec Ideal S4x4x256x256 .bf16 := m ((c.tc : Thread nD τ).loc main_arg6)

def hTile (c : Dev nD) (t : Fin cfg0.N) : Vec Ideal S512x1024 .bf16 := iblk m c 0 t
def yaTile (c : Dev nD) (t : Fin cfg0.N) : Vec Ideal S512x256 .bf16 := iblk m c 1 t
def ybTile (c : Dev nD) (t : Fin cfg0.N) : Vec Ideal S512x256 .bf16 := iblk m c 2 t
def ycTile (c : Dev nD) (t : Fin cfg0.N) : Vec Ideal S512x256 .bf16 := iblk m c 3 t
def ydTile (c : Dev nD) (t : Fin cfg0.N) : Vec Ideal S512x256 .bf16 := iblk m c 4 t
def wgTile (c : Dev nD) (t : Fin cfg0.N) : Vec Ideal S4x1024x1024 .bf16 := iblk m c 5 t
def wbTile (c : Dev nD) (t : Fin cfg0.N) : Vec Ideal S4x4x256x256 .bf16 := iblk m c 6 t

/-! ## The rows a tile's token sees are the token's -/

theorem h_row (c : Dev nD) (t : Fin cfg0.N) (r : Fin 512) : (fun k => hTile m c t (ix2 r k)) = fun k => hs m c (ix2 (tokenAt t r) k) := by
  funext k
  refine Eq.trans ?_ (congrFun (V_main_arg0 m c) _)
  show iblk m c 0 t (ix2 r k) = V m c main_arg0 (ix2 (tokenAt t r) k)
  blk_ext [iblk, index0, tokenAt]

theorem ya_row (c : Dev nD) (t : Fin cfg0.N) (r : Fin 512) : (fun k => yaTile m c t (ix2 r k)) = fun k => yas m c (ix2 (tokenAt t r) k) := by
  funext k
  refine Eq.trans ?_ (congrFun (V_main_arg1 m c) _)
  show iblk m c 1 t (ix2 r k) = V m c main_arg1 (ix2 (tokenAt t r) k)
  blk_ext [iblk, index1, tokenAt]

theorem yb_row (c : Dev nD) (t : Fin cfg0.N) (r : Fin 512) : (fun k => ybTile m c t (ix2 r k)) = fun k => ybs m c (ix2 (tokenAt t r) k) := by
  funext k
  refine Eq.trans ?_ (congrFun (V_main_arg2 m c) _)
  show iblk m c 2 t (ix2 r k) = V m c main_arg2 (ix2 (tokenAt t r) k)
  blk_ext [iblk, index2, tokenAt]

theorem yc_row (c : Dev nD) (t : Fin cfg0.N) (r : Fin 512) : (fun k => ycTile m c t (ix2 r k)) = fun k => ycs m c (ix2 (tokenAt t r) k) := by
  funext k
  refine Eq.trans ?_ (congrFun (V_main_arg3 m c) _)
  show iblk m c 3 t (ix2 r k) = V m c main_arg3 (ix2 (tokenAt t r) k)
  blk_ext [iblk, index3, tokenAt]

theorem yd_row (c : Dev nD) (t : Fin cfg0.N) (r : Fin 512) : (fun k => ydTile m c t (ix2 r k)) = fun k => yds m c (ix2 (tokenAt t r) k) := by
  funext k
  refine Eq.trans ?_ (congrFun (V_main_arg4 m c) _)
  show iblk m c 4 t (ix2 r k) = V m c main_arg4 (ix2 (tokenAt t r) k)
  blk_ext [iblk, index4, tokenAt]

theorem wg_eq (c : Dev nD) (t : Fin cfg0.N) : (fun b k d => wgTile m c t (ix3 b k d)) = fun b k d => wgs m c (ix3 b k d) := by
  funext b k d
  refine Eq.trans ?_ (congrFun (V_main_arg5 m c) _)
  show iblk m c 5 t (ix3 b k d) = V m c main_arg5 (ix3 b k d)
  blk_ext [iblk, index5]

theorem wb_eq (c : Dev nD) (t : Fin cfg0.N) : (fun s b k j => wbTile m c t (ix4 s b k j)) = fun s b k j => wbs m c (ix4 s b k j) := by
  funext s b k j
  refine Eq.trans ?_ (congrFun (V_main_arg6 m c) _)
  show iblk m c 6 t (ix4 s b k j) = V m c main_arg6 (ix4 s b k j)
  blk_ext [iblk, index6]

section
variable (x0 : Vec Ideal S512x1024 .bf16) (x1 x2 x3 x4 : Vec Ideal S512x256 .bf16) (x5 : Vec Ideal S4x1024x1024 .bf16) (x6 : Vec Ideal S4x4x256x256 .bf16)
theorem tileGates_apply (b : Fin 4) (r : Fin 512) (d : Fin 1024) : tileGates x0 x5 (ix3 b r d) = gateOf x0 x5 b r d := rfl
theorem tileBranches_apply (b : Fin 4) (r : Fin 512) (d : Fin 1024) : tileBranches x1 x2 x3 x4 x6 (ix3 b r d) = branchOf x1 x2 x3 x4 x6 b r d := rfl
theorem tileMerged_apply (r : Fin 512) (d : Fin 1024) : tileMerged x0 x1 x2 x3 x4 x5 x6 (ix2 r d) =
    termOf x0 x1 x2 x3 x4 x5 x6 0 r d + termOf x0 x1 x2 x3 x4 x5 x6 1 r d + termOf x0 x1 x2 x3 x4 x5 x6 2 r d +
      termOf x0 x1 x2 x3 x4 x5 x6 3 r d := rfl
end

attribute [local irreducible] out0_7 out0_8 out0_9 tileMerged tileGates tileBranches iblk hs yas ybs ycs yds wgs wbs
  hTile yaTile ybTile ycTile ydTile wgTile wbTile

theorem gateOf_eq (c : Dev nD) (t : Fin cfg0.N) (b : Fin 4) (r : Fin 512) (d : Fin 1024) : gateOf (hTile m c t) (wgTile m c t) b r d =
    Reference.gate (hs m c) (wgs m c) b (tokenAt t r) d := by
  have e : (fun k => wgTile m c t (ix3 b k d)) = fun k => wgs m c (ix3 b k d) :=
    funext fun k => congrFun (congrFun (congrFun (wg_eq m c t) b) k) d
  rw [gateOf, Reference.gate, h_row, e]

theorem branchOf_eq (c : Dev nD) (t : Fin cfg0.N) (b : Fin 4) (r : Fin 512) (d : Fin 1024) :
    branchOf (yaTile m c t) (ybTile m c t) (ycTile m c t) (ydTile m c t) (wbTile m c t) b r d =
      Reference.branch (yas m c) (ybs m c) (ycs m c) (yds m c) (wbs m c) b (tokenAt t r) d := by
  have e : (fun s k j => wbTile m c t (ix4 s b k j)) = fun s k j => wbs m c (ix4 s b k j) :=
    funext fun s => congrFun (congrFun (wb_eq m c t) s) b
  have n : (fun k => (![yaTile m c t, ybTile m c t, ycTile m c t, ydTile m c t] b) (ix2 r k)) =
      fun k => (![yas m c, ybs m c, ycs m c, yds m c] b) (ix2 (tokenAt t r) k) := by
    fin_cases b
    · exact ya_row m c t r
    · exact yb_row m c t r
    · exact yc_row m c t r
    · exact yd_row m c t r
  rw [branchOf, Reference.branch, e, n]

theorem termOf_eq (c : Dev nD) (t : Fin cfg0.N) (b : Fin 4) (r : Fin 512) (d : Fin 1024) :
    termOf (hTile m c t) (yaTile m c t) (ybTile m c t) (ycTile m c t) (ydTile m c t) (wgTile m c t) (wbTile m c t) b r d =
      Reference.term (hs m c) (yas m c) (ybs m c) (ycs m c) (yds m c) (wgs m c) (wbs m c) b (tokenAt t r) d := by
  rw [termOf, Reference.term, gateOf_eq, branchOf_eq]

/-! ## The arrays after the run -/

/-- Where the outputs' blocks lie. -/
theorem emb7 (t : Fin cfg0.N) (r : Fin 512) (d : Fin 1024) : (win0_7.blk t).view.emb (ix2 r d) = ix2 (tokenAt t r) d := by
  blk_ext [index7, tokenAt]
theorem emb8 (t : Fin cfg0.N) (b : Fin 4) (r : Fin 512) (d : Fin 1024) : (win0_8.blk t).view.emb (ix3 b r d) = ix3 b (tokenAt t r) d := by
  blk_ext [index8, tokenAt]
theorem emb9 (t : Fin cfg0.N) (b : Fin 4) (r : Fin 512) (d : Fin 1024) : (win0_9.blk t).view.emb (ix3 b r d) = ix3 b (tokenAt t r) d := by
  blk_ext [index9, tokenAt]

/-- The reference's three arrays, at the arguments. -/
def wholeMerged (c : Dev nD) : Vec Ideal S8192x1024 .bf16 := val_main_v69 (F := Ideal) (hs m c) (yas m c) (ybs m c) (ycs m c) (yds m c) (wgs m c) (wbs m c)
def wholeGates (c : Dev nD) : Vec Ideal S4x8192x1024 .bf16 := val_main_v75 (F := Ideal) (hs m c) (wgs m c)
def wholeBranches (c : Dev nD) : Vec Ideal S4x8192x1024 .bf16 := val_main_v81 (F := Ideal) (yas m c) (ybs m c) (ycs m c) (yds m c) (wbs m c)

theorem wholeMerged_apply (c : Dev nD) (t : Fin 8192) (d : Fin 1024) : wholeMerged m c (ix2 t d) =
    Reference.term (hs m c) (yas m c) (ybs m c) (ycs m c) (yds m c) (wgs m c) (wbs m c) 0 t d +
      Reference.term (hs m c) (yas m c) (ybs m c) (ycs m c) (yds m c) (wgs m c) (wbs m c) 1 t d +
      Reference.term (hs m c) (yas m c) (ybs m c) (ycs m c) (yds m c) (wgs m c) (wbs m c) 2 t d +
      Reference.term (hs m c) (yas m c) (ybs m c) (ycs m c) (yds m c) (wgs m c) (wbs m c) 3 t d :=
  Reference.merged_apply _ _ _ _ _ _ _ t d
theorem wholeGates_apply (c : Dev nD) (b : Fin 4) (t : Fin 8192) (d : Fin 1024) : wholeGates m c (ix3 b t d) = Reference.gate (hs m c) (wgs m c) b t d :=
  Reference.gates_apply _ _ b t d
theorem wholeBranches_apply (c : Dev nD) (b : Fin 4) (t : Fin 8192) (d : Fin 1024) : wholeBranches m c (ix3 b t d) =
    Reference.branch (yas m c) (ybs m c) (ycs m c) (yds m c) (wbs m c) b t d :=
  Reference.branches_apply _ _ _ _ _ b t d

theorem after_merged (c : Dev nD) (t : Fin cfg0.N) : out0_7 (iblk m c 0 t) (iblk m c 1 t) (iblk m c 2 t) (iblk m c 3 t) (iblk m c 4 t) (iblk m c 5 t) (iblk m c 6 t) =
    tileMerged (hTile m c t) (yaTile m c t) (ybTile m c t) (ycTile m c t) (ydTile m c t) (wgTile m c t) (wbTile m c t) := by
  unfold hTile yaTile ybTile ycTile ydTile wgTile wbTile
  exact out_merged _ _ _ _ _ _ _
theorem after_gates (c : Dev nD) (t : Fin cfg0.N) : out0_8 (iblk m c 0 t) (iblk m c 1 t) (iblk m c 2 t) (iblk m c 3 t) (iblk m c 4 t) (iblk m c 5 t) (iblk m c 6 t) =
    tileGates (hTile m c t) (wgTile m c t) := by
  unfold hTile wgTile
  exact out_gates _ _ _ _ _ _ _
theorem after_branches (c : Dev nD) (t : Fin cfg0.N) : out0_9 (iblk m c 0 t) (iblk m c 1 t) (iblk m c 2 t) (iblk m c 3 t) (iblk m c 4 t) (iblk m c 5 t) (iblk m c 6 t) =
    tileBranches (yaTile m c t) (ybTile m c t) (ycTile m c t) (ydTile m c t) (wbTile m c t) := by
  unfold yaTile ybTile ycTile ydTile wbTile
  exact out_branches _ _ _ _ _ _ _

attribute [local irreducible] wholeMerged wholeGates wholeBranches

theorem final_merged (c : Dev nD) : (dats m 0 c).arrAt 7 cfg0.N = wholeMerged m c := by
  refine (dats m 0 c).arrAt_eq_of_covers 7 _ (by decide +kernel) fun t hf y => ?_
  blk_simp
  rw [after0_7, after_merged]
  obtain ⟨r, d, rfl⟩ : ∃ (r : Fin 512) (d : Fin 1024), y = ix2 r d := ⟨y 0, y 1, funext fun a => by fin_cases a <;> rfl⟩
  refine Eq.trans ?_ (congrArg (wholeMerged m c) (emb7 t r d).symm)
  exact (tileMerged_apply _ _ _ _ _ _ _ r d).trans
    ((congrArg₂ (· + ·) (congrArg₂ (· + ·) (congrArg₂ (· + ·) (termOf_eq m c t 0 r d) (termOf_eq m c t 1 r d)) (termOf_eq m c t 2 r d)) (termOf_eq m c t 3 r d)).trans (wholeMerged_apply m c _ d).symm)

theorem final_gates (c : Dev nD) : (dats m 0 c).arrAt 8 cfg0.N = wholeGates m c := by
  refine (dats m 0 c).arrAt_eq_of_covers 8 _ (by decide +kernel) fun t hf y => ?_
  blk_simp
  rw [after0_8, after_gates]
  obtain ⟨b, r, d, rfl⟩ : ∃ (b : Fin 4) (r : Fin 512) (d : Fin 1024), y = ix3 b r d := ⟨y 0, y 1, y 2, funext fun a => by fin_cases a <;> rfl⟩
  refine Eq.trans ?_ (congrArg (wholeGates m c) (emb8 t b r d).symm)
  exact (tileGates_apply _ _ b r d).trans
    ((gateOf_eq m c t b r d).trans (wholeGates_apply m c b _ d).symm)

theorem final_branches (c : Dev nD) : (dats m 0 c).arrAt 9 cfg0.N = wholeBranches m c := by
  refine (dats m 0 c).arrAt_eq_of_covers 9 _ (by decide +kernel) fun t hf y => ?_
  blk_simp
  rw [after0_9, after_branches]
  obtain ⟨b, r, d, rfl⟩ : ∃ (b : Fin 4) (r : Fin 512) (d : Fin 1024), y = ix3 b r d := ⟨y 0, y 1, y 2, funext fun a => by fin_cases a <;> rfl⟩
  refine Eq.trans ?_ (congrArg (wholeBranches m c) (emb9 t b r d).symm)
  exact (tileBranches_apply _ _ _ _ _ b r d).trans
    ((branchOf_eq m c t b r d).trans (wholeBranches_apply m c b _ d).symm)

end Cert.MergeFwd
end
-- ==== Proof.NormInFold.lean ====
/- Foldings of a block of rows: a group of 128 columns is put down in a buffer of its own and every fourth (or sixteenth)
   row of it read back, so that consecutive rows come to lie side by side. -/
module

public import proofs.«01_k».proof.Proof.Gen.Kernel11Ideal.Value
public import Idealize.ShloMosaic.Lib.Pipeline.ValueKit.Tiles
public import Idealize.ShloMosaic.Lib.Pipeline.ReadBack
public import Idealize.ShloMosaic.Lib.Pointwise

@[expose] public section

set_option maxRecDepth 16384

noncomputable section

namespace Cert.NormIn

open Cert.Kernel11Ideal Cert.Kernel11Ideal.Gen
open Idealize.ShloMosaic Idealize.ShloMosaic.TcCoe Idealize.ShloMosaic.Tactic Idealize.SL.Sem

/-- Four rows of `q` side by side, and sixteen. -/
def fold4 (q : Vec Ideal S512x768 .f32) : Vec Ideal S128x3072 .bf16 := fun y =>
  q (ix2 (⟨4 * (y 0).val + (y 1).val / 768, by have h0 : (y 0).val < 128 := (y 0).isLt; have h1 : (y 1).val < 3072 := (y 1).isLt; omega⟩ : Fin 512)
    (⟨(y 1).val % 768, by omega⟩ : Fin 768))
def fold16 (q : Vec Ideal S512x768 .f32) : Vec Ideal S32x12288 .bf16 := fun y =>
  q (ix2 (⟨16 * (y 0).val + (y 1).val / 768, by have h0 : (y 0).val < 32 := (y 0).isLt; have h1 : (y 1).val < 12288 := (y 1).isLt; omega⟩ : Fin 512)
    (⟨(y 1).val % 768, by omega⟩ : Fin 768))

/-- A buffer that holds 128 columns of `q` reads as `q` does there. -/
theorem read_columns (v : View sig .tc .vmem S512x128 .f32) (q : Vec Ideal S512x768 .f32) (k : ℕ) (hs : S512x768.Slices ![0, k] S512x128)
    (hc : S512x128.ShapeCasts S512x128) (L : List (View.Piece (Elt Ideal) S512x128 .f32)) (B : LoadRect S512x128) (x : B.shape.Idx) (y : S512x768.Idx)
    (h0 : (y 0).val = (B.idx x 0).val) (h1 : (y 1).val = k + (B.idx x 1).val) :
    v.readCov (⟨Rect.unit ![0, 0] S512x128.size inb_S512x128_S512x128_0_0, shapeCast S512x128 (extractStridedSlice S512x128 ![0, k] q hs) hc⟩ :: L) B x = q y := by
  rw [View.readCov_eq_canon', View.canon_cons_unit_lit _ _ L (by decide), shapeCast_self]
  refine extractStridedSlice_apply _ _ _ _ _ fun a => ?_
  match a with
  | ⟨0, _⟩ => exact h0.trans (Nat.zero_add _).symm
  | ⟨1, _⟩ => exact h1

theorem fold4_eq (q : Vec Ideal S512x768 .f32) (y : S128x3072.Idx) (z : S512x768.Idx) (h0 : (z 0).val = 4 * (y 0).val + (y 1).val / 768)
    (h1 : (z 1).val = (y 1).val % 768) : fold4 q y = q z :=
  congrArg q (funext fun a => Fin.ext (match a with
    | ⟨0, _⟩ => h0.symm
    | ⟨1, _⟩ => h1.symm))

/-- Every fourth row from the `r`-th on, of the columns from the `k`-th on, lies in the folding's columns from `r * 768 + k` on. -/
theorem piece4 (v : View sig .tc .vmem S512x128 .f32) (q : Vec Ideal S512x768 .f32) (r k o : ℕ) (hs : S512x768.Slices ![0, k] S512x128)
    (hc : S512x128.ShapeCasts S512x128) (L : List (View.Piece (Elt Ideal) S512x128 .f32)) (hB : ∀ a, S128x128.size a = 0 ∨ ![r, 0] a + ![4, 1] a * (S128x128.size a - 1) < S512x128.size a)
    (hR : ∀ a, ![0, o] a + S128x128.size a ≤ S128x3072.size a) (x : S128x128.Idx) (h : o = r * 768 + k ∧ k + 128 ≤ 768 ∧ r < 4) :
    v.readCov (⟨Rect.unit ![0, 0] S512x128.size inb_S512x128_S512x128_0_0, shapeCast S512x128 (extractStridedSlice S512x128 ![0, k] q hs) hc⟩ :: L)
      ⟨![r, 0], S128x128.size, ![4, 1], hB⟩ x = fold4 q ((Rect.unit (s := S128x3072) ![0, o] S128x128.size hR).emb x) := by
  obtain ⟨u, j, rfl⟩ : ∃ (u : Fin 128) (j : Fin 128), x = ix2 u j := ⟨x 0, x 1, funext fun a => by fin_cases a <;> rfl⟩
  have e0 : ((Rect.unit (s := S128x3072) ![0, o] S128x128.size hR).emb (ix2 u j) 0).val = 0 + 1 * u.val := rfl
  have e1 : ((Rect.unit (s := S128x3072) ![0, o] S128x128.size hR).emb (ix2 u j) 1).val = o + 1 * j.val := rfl
  have f0 : ((⟨![r, 0], S128x128.size, ![4, 1], hB⟩ : LoadRect S512x128).idx (ix2 u j) 0).val = r + 4 * u.val := rfl
  have f1 : ((⟨![r, 0], S128x128.size, ![4, 1], hB⟩ : LoadRect S512x128).idx (ix2 u j) 1).val = 0 + 1 * j.val := rfl
  refine (read_columns v q k hs hc L ⟨![r, 0], S128x128.size, ![4, 1], hB⟩ (ix2 u j) (ix2 (⟨r + 4 * u.val, by omega⟩ : Fin 512) (⟨k + j.val, by omega⟩ : Fin 768)) f0.symm ?_).trans ?_
  · rw [f1]
    show k + j.val = k + (0 + 1 * j.val)
    omega
  refine (fold4_eq q _ _ ?_ ?_).symm
  · rw [e0, e1]
    show r + 4 * u.val = 4 * (0 + 1 * u.val) + (o + 1 * j.val) / 768
    omega
  · rw [e1]
    show k + j.val = (o + 1 * j.val) % 768
    omega

theorem fold16_eq (q : Vec Ideal S512x768 .f32) (y : S32x12288.Idx) (z : S512x768.Idx) (h0 : (z 0).val = 16 * (y 0).val + (y 1).val / 768)
    (h1 : (z 1).val = (y 1).val % 768) : fold16 q y = q z :=
  congrArg q (funext fun a => Fin.ext (match a with
    | ⟨0, _⟩ => h0.symm
    | ⟨1, _⟩ => h1.symm))

/-- Every sixteenth row likewise. -/
theorem piece16 (v : View sig .tc .vmem S512x128 .f32) (q : Vec Ideal S512x768 .f32) (r k o : ℕ) (hs : S512x768.Slices ![0, k] S512x128)
    (hc : S512x128.ShapeCasts S512x128) (L : List (View.Piece (Elt Ideal) S512x128 .f32)) (hB : ∀ a, S32x128.size a = 0 ∨ ![r, 0] a + ![16, 1] a * (S32x128.size a - 1) < S512x128.size a)
    (hR : ∀ a, ![0, o] a + S32x128.size a ≤ S32x12288.size a) (x : S32x128.Idx) (h : o = r * 768 + k ∧ k + 128 ≤ 768 ∧ r < 16) :
    v.readCov (⟨Rect.unit ![0, 0] S512x128.size inb_S512x128_S512x128_0_0, shapeCast S512x128 (extractStridedSlice S512x128 ![0, k] q hs) hc⟩ :: L)
      ⟨![r, 0], S32x128.size, ![16, 1], hB⟩ x = fold16 q ((Rect.unit (s := S32x12288) ![0, o] S32x128.size hR).emb x) := by
  obtain ⟨u, j, rfl⟩ : ∃ (u : Fin 32) (j : Fin 128), x = ix2 u j := ⟨x 0, x 1, funext fun a => by fin_cases a <;> rfl⟩
  have e0 : ((Rect.unit (s := S32x12288) ![0, o] S32x128.size hR).emb (ix2 u j) 0).val = 0 + 1 * u.val := rfl
  have e1 : ((Rect.unit (s := S32x12288) ![0, o] S32x128.size hR).emb (ix2 u j) 1).val = o + 1 * j.val := rfl
  have f0 : ((⟨![r, 0], S32x128.size, ![16, 1], hB⟩ : LoadRect S512x128).idx (ix2 u j) 0).val = r + 16 * u.val := rfl
  have f1 : ((⟨![r, 0], S32x128.size, ![16, 1], hB⟩ : LoadRect S512x128).idx (ix2 u j) 1).val = 0 + 1 * j.val := rfl
  refine (read_columns v q k hs hc L ⟨![r, 0], S32x128.size, ![16, 1], hB⟩ (ix2 u j) (ix2 (⟨r + 16 * u.val, by omega⟩ : Fin 512) (⟨k + j.val, by omega⟩ : Fin 768)) f0.symm ?_).trans ?_
  · rw [f1]
    show k + j.val = k + (0 + 1 * j.val)
    omega
  refine (fold16_eq q _ _ ?_ ?_).symm
  · rw [e0, e1]
    show r + 16 * u.val = 16 * (0 + 1 * u.val) + (o + 1 * j.val) / 768
    omega
  · rw [e1]
    show k + j.val = (o + 1 * j.val) % 768
    omega

section
variable (c : Dev nD) (i : grid0.Coords) (a1 : Memref sig .tc .vmem S512x1024 .f32) (h1 : a1.IsWhole) (a2 : Memref sig .tc .vmem S1x1024 .f32) (h2 : a2.IsWhole)
  (a3 : Memref sig .tc .vmem S4x1024x640 .bf16) (h3 : a3.IsWhole) (a4 : Memref sig .tc .vmem S512x1024 .bf16) (h4 : a4.IsWhole)
  (a5 : Memref sig .tc .vmem S512x2560 .f32) (h5 : a5.IsWhole) (a6 : Memref sig .tc .vmem S512x768 .bf16) (h6 : a6.IsWhole)
  (a7 : Memref sig .tc .vmem S128x3072 .bf16) (h7 : a7.IsWhole) (a8 : Memref sig .tc .vmem S32x12288 .bf16) (h8 : a8.IsWhole)
  (a9 : Memref sig .tc .vmem S512x128 .f32) (h9 : a9.IsWhole)
  (x0 : Vec Ideal S512x1024 .f32) (x1 : Vec Ideal S1x1024 .f32) (x2 : Vec Ideal S4x1024x640 .bf16)

set_option maxHeartbeats 2000000 in
/-- The 24 stores of a point in its block folded by four, and the 96 in the one folded by sixteen. -/
theorem fold4_pieces : View.PiecesOf (fold4 (kernelRun0_A.sl.r_3 (F := Ideal) c a1 h1 a2 h2 a3 h3 x0 x1 x2))
    (kernelRun0_A (F := Ideal) c i a1 h1 a2 h2 a3 h3 a4 h4 a5 h5 a6 h6 a7 h7 a8 h8 a9 h9 x0 x1 x2).2.2.2.1 := by
  iterate 24
    refine ⟨fun x => ?_, ?_⟩
    · exact piece4 a9.view (kernelRun0_A.sl.r_3 (F := Ideal) c a1 h1 a2 h2 a3 h3 x0 x1 x2) _ _ _ (by decide) shapeCasts_S512x128_S512x128 _ _ (by decide) x (by decide)
  trivial

set_option maxHeartbeats 8000000 in
theorem fold16_pieces : View.PiecesOf (fold16 (kernelRun0_A.sl.r_3 (F := Ideal) c a1 h1 a2 h2 a3 h3 x0 x1 x2))
    (kernelRun0_A (F := Ideal) c i a1 h1 a2 h2 a3 h3 a4 h4 a5 h5 a6 h6 a7 h7 a8 h8 a9 h9 x0 x1 x2).2.2.2.2.1 := by
  iterate 96
    refine ⟨fun x => ?_, ?_⟩
    · exact piece16 a9.view (kernelRun0_A.sl.r_3 (F := Ideal) c a1 h1 a2 h2 a3 h3 x0 x1 x2) _ _ _ (by decide) shapeCasts_S512x128_S512x128 _ _ (by decide) x (by decide)
  trivial

end

end Cert.NormIn
end
-- ==== Proof.NormInTile.lean ====
/- What a grid point of the `norm_in_proj` kernel computes from the blocks it holds, over the extended reals: the rows' norm,
   its projection, the projection's columns for attention and their two foldings. -/
module

public import proofs.«01_k».proof.Proof.NormInFold
public import proofs.«01_k».proof.Proof.TokenSum
public import proofs.«01_k».proof.Proof.ForwardRow

@[expose] public section

set_option maxRecDepth 16384

noncomputable section

namespace Cert.NormIn

open Cert.Kernel11Ideal Cert.Kernel11Ideal.Gen
open Cert.TokenSum (load_apply emb_eq_idx)
open Cert.FfnGrad (unit scale mean)
open Cert.Forward
open Idealize.ShloMosaic Idealize.ShloMosaic.TcCoe Idealize.ShloMosaic.Tactic Idealize.SL.Sem
open scoped BigOperators

theorem pay1_apply (x : Vec Ideal S512x1024 .f32) (g : Vec Ideal S1x1024 .f32) (r : Fin 512) (d : Fin 1024) :
    k0_pay1 x g (ix2 r d) = normed (fun k => x (ix2 r k)) (fun k => g (ix2 (0 : Fin 1) k)) d := by
  pointwise [k0_pay1, normed, unit, scale, mean]

theorem pay2_apply (x : Vec Ideal S512x1024 .f32) (g : Vec Ideal S1x1024 .f32) (w : Vec Ideal S1x1024x640 .bf16) (r : Fin 512) (j : Fin 640) :
    k0_pay2 x g w (ix2 r j) = proj (fun k => k0_pay1 x g (ix2 r k)) (fun k => w (ix3 (0 : Fin 1) k j)) := by
  pointwise [k0_pay2, proj]
theorem pay3_apply (x : Vec Ideal S512x1024 .f32) (g : Vec Ideal S1x1024 .f32) (w : Vec Ideal S1x1024x640 .bf16) (r : Fin 512) (j : Fin 640) :
    k0_pay3 x g w (ix2 r j) = proj (fun k => k0_pay1 x g (ix2 r k)) (fun k => w (ix3 (0 : Fin 1) k j)) := by
  pointwise [k0_pay3, proj]
theorem pay5_apply (x : Vec Ideal S512x1024 .f32) (g : Vec Ideal S1x1024 .f32) (w : Vec Ideal S1x1024x640 .bf16) (r : Fin 512) (j : Fin 640) :
    k0_pay5 x g w (ix2 r j) = proj (fun k => k0_pay1 x g (ix2 r k)) (fun k => w (ix3 (0 : Fin 1) k j)) := by
  pointwise [k0_pay5, proj]
theorem pay6_apply (n : Vec Ideal S512x1024 .bf16) (w : Vec Ideal S1x1024x640 .bf16) (r : Fin 512) (j : Fin 640) :
    k0_pay6 n w (ix2 r j) = proj (fun k => n (ix2 r k)) (fun k => w (ix3 (0 : Fin 1) k j)) := by
  pointwise [k0_pay6, proj]

/-- The columns for attention: the last 512 of the second shard and the first 256 of the third. -/
theorem pay7_left (p : Vec Ideal S512x512 .f32) (q : Vec Ideal S512x640 .f32) (r : Fin 512) (j : Fin 512) :
    k0_pay7 (F := Ideal) p q (ix2 r (⟨j.val, by omega⟩ : Fin 768)) = p (ix2 r j) := by
  have e : j.val < 512 := j.isLt
  pointwise [k0_pay7, e]
theorem pay7_right (p : Vec Ideal S512x512 .f32) (q : Vec Ideal S512x640 .f32) (r : Fin 512) (j : Fin 256) :
    k0_pay7 (F := Ideal) p q (ix2 r (⟨512 + j.val, by omega⟩ : Fin 768)) = q (ix2 r (⟨j.val, by omega⟩ : Fin 640)) := by
  have e : ¬512 + j.val < 512 := by omega
  have e' : 512 + j.val - 512 = j.val := by omega
  pointwise [k0_pay7, e, e']

section
variable (x0 : Vec Ideal S512x1024 .f32) (x1 : Vec Ideal S1x1024 .f32) (x2 : Vec Ideal S4x1024x640 .bf16)

/-- A row's norm and its projection, the latter at column `j` of shard `s` and at any column. -/
def normOf (r : Fin 512) : Fin 1024 → EReal := normed (fun k => x0 (ix2 r k)) (fun k => x1 (ix2 (0 : Fin 1) k))
def shardOf (r : Fin 512) (s : Fin 4) (j : Fin 640) : EReal := proj (normOf x0 x1 r) fun k => x2 (ix3 s k j)
def inputOf (r : Fin 512) (j : Fin 2560) : EReal := shardOf x0 x1 x2 r ⟨j.val / 640, by omega⟩ ⟨j.val % 640, by omega⟩

theorem inputOf_eq (r : Fin 512) (s : Fin 4) (j : Fin 640) (k : Fin 2560) (h : k.val = s.val * 640 + j.val) :
    inputOf x0 x1 x2 r k = shardOf x0 x1 x2 r s j := by
  have e0 : (⟨k.val / 640, by omega⟩ : Fin 4) = s := Fin.ext (by show k.val / 640 = s.val; omega)
  have e1 : (⟨k.val % 640, by omega⟩ : Fin 640) = j := Fin.ext (by show k.val % 640 = j.val; omega)
  rw [inputOf, e0, e1]

/-- What a point leaves in its five blocks; the last two are foldings of the third. -/
def tileNorm : Vec Ideal S512x1024 .bf16 := fun y => normOf x0 x1 (y 0) (y 1)
def tileInput : Vec Ideal S512x2560 .f32 := fun y => inputOf x0 x1 x2 (y 0) (y 1)
def tileAttn : Vec Ideal S512x768 .f32 := fun y =>
  inputOf x0 x1 x2 (y 0) ⟨768 + (y 1).val, by have h : (y 1).val < 768 := (y 1).isLt; omega⟩

variable (c : Dev nD) (i : grid0.Coords) (a1 : Memref sig .tc .vmem S512x1024 .f32) (h1 : a1.IsWhole) (a2 : Memref sig .tc .vmem S1x1024 .f32) (h2 : a2.IsWhole)
  (a3 : Memref sig .tc .vmem S4x1024x640 .bf16) (h3 : a3.IsWhole) (a4 : Memref sig .tc .vmem S512x1024 .bf16) (h4 : a4.IsWhole)
  (a5 : Memref sig .tc .vmem S512x2560 .f32) (h5 : a5.IsWhole) (a6 : Memref sig .tc .vmem S512x768 .bf16) (h6 : a6.IsWhole)
  (a7 : Memref sig .tc .vmem S128x3072 .bf16) (h7 : a7.IsWhole) (a8 : Memref sig .tc .vmem S32x12288 .bf16) (h8 : a8.IsWhole)
  (a9 : Memref sig .tc .vmem S512x128 .f32) (h9 : a9.IsWhole)

theorem norm_apply (r : Fin 512) (d : Fin 1024) : kernelRun0_A.sl.r (F := Ideal) c a1 h1 a2 h2 x0 x1 (ix2 r d) = normOf x0 x1 r d := by
  pointwise [kernelRun0_A.sl.r, pay1_apply, load_apply, emb_eq_idx, normOf]

theorem second_apply (r : Fin 512) (j : Fin 512) :
    kernelRun0_A.sl.r_1 (F := Ideal) c a1 h1 a2 h2 a3 h3 x0 x1 x2 (ix2 r j) = shardOf x0 x1 x2 r 1 ⟨128 + j.val, by omega⟩ := by
  pointwise [kernelRun0_A.sl.r_1, k0_pay4, pay3_apply, pay1_apply, load_apply, emb_eq_idx, shardOf, normOf]

theorem third_apply (r : Fin 512) (j : Fin 640) :
    kernelRun0_A.sl.r_2 (F := Ideal) c a1 h1 a2 h2 a3 h3 x0 x1 x2 (ix2 r j) = shardOf x0 x1 x2 r 2 j := by
  pointwise [kernelRun0_A.sl.r_2, pay5_apply, pay1_apply, load_apply, emb_eq_idx, shardOf, normOf]

theorem attn_eq : kernelRun0_A.sl.r_3 (F := Ideal) c a1 h1 a2 h2 a3 h3 x0 x1 x2 = tileAttn x0 x1 x2 := by
  funext y
  obtain ⟨r, j, rfl⟩ : ∃ (r : Fin 512) (j : Fin 768), y = ix2 r j := ⟨y 0, y 1, funext fun a => by fin_cases a <;> rfl⟩
  show k0_pay7 (F := Ideal) _ _ (ix2 r j) = inputOf x0 x1 x2 r ⟨768 + j.val, by omega⟩
  by_cases h : j.val < 512
  · refine (pay7_left _ _ r ⟨j.val, h⟩).trans ((second_apply x0 x1 x2 c a1 h1 a2 h2 a3 h3 r ⟨j.val, h⟩).trans (inputOf_eq x0 x1 x2 r 1 _ _ ?_).symm)
    show 768 + j.val = 1 * 640 + (128 + j.val)
    omega
  · obtain ⟨k, e⟩ : ∃ k : Fin 256, j = ⟨512 + k.val, by omega⟩ := ⟨⟨j.val - 512, by omega⟩, Fin.ext (by show j.val = 512 + (j.val - 512); omega)⟩
    rw [e]
    refine (pay7_right _ _ r k).trans ((third_apply x0 x1 x2 c a1 h1 a2 h2 a3 h3 r ⟨k.val, by omega⟩).trans (inputOf_eq x0 x1 x2 r 2 _ _ ?_).symm)
    show 768 + (512 + k.val) = 2 * 640 + k.val
    omega

theorem out_norm : out0_A_3 c i a1 h1 a2 h2 a3 h3 a4 h4 a5 h5 a6 h6 a7 h7 a8 h8 a9 h9 x0 x1 x2 = tileNorm x0 x1 := by
  unfold out0_A_3
  rw [View.read_writes_eq_canon _ _ _ (cover0_A_3 c i a1 h1 a2 h2 a3 h3 a4 h4 a5 h5 a6 h6 a7 h7 a8 h8 a9 h9 x0 x1 x2)]
  funext y
  refine View.canon_apply_of_pieces _ _ (View.PiecesOf.mem ?_) y (cover0_A_3 c i a1 h1 a2 h2 a3 h3 a4 h4 a5 h5 a6 h6 a7 h7 a8 h8 a9 h9 x0 x1 x2 y)
  refine ⟨fun x => ?_, trivial⟩
  dsimp only
  obtain ⟨r, d, rfl⟩ : ∃ (r : Fin 512) (d : Fin 1024), x = ix2 r d := ⟨x 0, x 1, funext fun a => by fin_cases a <;> rfl⟩
  pointwise [pay1_apply, load_apply, emb_eq_idx, tileNorm, normOf]

theorem store_shard (r : Fin 512) (s : Fin 4) (j : Fin 640) (k : Fin 2560) (h : k.val = s.val * 640 + j.val) :
    tileInput x0 x1 x2 (ix2 r k) = proj (normOf x0 x1 r) fun k => x2 (ix3 s k j) := inputOf_eq x0 x1 x2 r s j k h

theorem out_input : out0_A_4 c i a1 h1 a2 h2 a3 h3 a4 h4 a5 h5 a6 h6 a7 h7 a8 h8 a9 h9 x0 x1 x2 = tileInput x0 x1 x2 := by
  unfold out0_A_4
  rw [View.read_writes_eq_canon _ _ _ (cover0_A_4 c i a1 h1 a2 h2 a3 h3 a4 h4 a5 h5 a6 h6 a7 h7 a8 h8 a9 h9 x0 x1 x2)]
  funext y
  refine View.canon_apply_of_pieces _ _ (View.PiecesOf.mem ?_) y (cover0_A_4 c i a1 h1 a2 h2 a3 h3 a4 h4 a5 h5 a6 h6 a7 h7 a8 h8 a9 h9 x0 x1 x2 y)
  have s0 : ∀ (r : Fin 512) (j : Fin 640), tileInput x0 x1 x2 (ix2 r (⟨j.val, by omega⟩ : Fin 2560)) = _ := fun r j => store_shard x0 x1 x2 r 0 j _ (by show j.val = 0 * 640 + j.val; omega)
  have s1 : ∀ (r : Fin 512) (j : Fin 640), tileInput x0 x1 x2 (ix2 r (⟨640 + j.val, by omega⟩ : Fin 2560)) = _ := fun r j => store_shard x0 x1 x2 r 1 j _ (by show 640 + j.val = 1 * 640 + j.val; omega)
  have s2 : ∀ (r : Fin 512) (j : Fin 640), tileInput x0 x1 x2 (ix2 r (⟨1280 + j.val, by omega⟩ : Fin 2560)) = _ := fun r j => store_shard x0 x1 x2 r 2 j _ (by show 1280 + j.val = 2 * 640 + j.val; omega)
  have s3 : ∀ (r : Fin 512) (j : Fin 640), tileInput x0 x1 x2 (ix2 r (⟨1920 + j.val, by omega⟩ : Fin 2560)) = _ := fun r j => store_shard x0 x1 x2 r 3 j _ (by show 1920 + j.val = 3 * 640 + j.val; omega)
  refine ⟨fun x => ?_, fun x => ?_, fun x => ?_, fun x => ?_, trivial⟩ <;> dsimp only <;>
    obtain ⟨r, j, rfl⟩ : ∃ (r : Fin 512) (j : Fin 640), x = ix2 r j := ⟨x 0, x 1, funext fun a => by fin_cases a <;> rfl⟩ <;>
    pointwise [pay2_apply, pay3_apply, pay6_apply, pay1_apply, norm_apply, third_apply, shardOf, load_apply, emb_eq_idx, s0, s1, s2, s3, normOf]

theorem out_attn : out0_A_5 c i a1 h1 a2 h2 a3 h3 a4 h4 a5 h5 a6 h6 a7 h7 a8 h8 a9 h9 x0 x1 x2 = tileAttn x0 x1 x2 := by
  unfold out0_A_5
  rw [View.read_writes_eq_canon _ _ _ (cover0_A_5 c i a1 h1 a2 h2 a3 h3 a4 h4 a5 h5 a6 h6 a7 h7 a8 h8 a9 h9 x0 x1 x2)]
  funext y
  refine View.canon_apply_of_pieces (tileAttn x0 x1 x2) _ (View.PiecesOf.mem ?_) y (cover0_A_5 c i a1 h1 a2 h2 a3 h3 a4 h4 a5 h5 a6 h6 a7 h7 a8 h8 a9 h9 x0 x1 x2 y)
  refine ⟨fun x => ?_, trivial⟩
  dsimp only
  obtain ⟨r, j, rfl⟩ : ∃ (r : Fin 512) (j : Fin 768), x = ix2 r j := ⟨x 0, x 1, funext fun a => by fin_cases a <;> rfl⟩
  refine (congrFun (attn_eq x0 x1 x2 c a1 h1 a2 h2 a3 h3) (ix2 r j)).trans (congrArg (tileAttn x0 x1 x2) (funext fun a => Fin.ext ?_))
  match a with
  | ⟨0, _⟩ => show r.val = 0 + 1 * r.val; omega
  | ⟨1, _⟩ => show j.val = 0 + 1 * j.val; omega

theorem out_fold4 : out0_A_6 c i a1 h1 a2 h2 a3 h3 a4 h4 a5 h5 a6 h6 a7 h7 a8 h8 a9 h9 x0 x1 x2 = fold4 (tileAttn x0 x1 x2) := by
  unfold out0_A_6
  rw [View.read_writes_eq_canon _ _ _ (cover0_A_6 c i a1 h1 a2 h2 a3 h3 a4 h4 a5 h5 a6 h6 a7 h7 a8 h8 a9 h9 x0 x1 x2), ← attn_eq x0 x1 x2 c a1 h1 a2 h2 a3 h3]
  funext y
  exact View.canon_apply_of_pieces _ _ (View.PiecesOf.mem (fold4_pieces c i a1 h1 a2 h2 a3 h3 a4 h4 a5 h5 a6 h6 a7 h7 a8 h8 a9 h9 x0 x1 x2)) y
    (cover0_A_6 c i a1 h1 a2 h2 a3 h3 a4 h4 a5 h5 a6 h6 a7 h7 a8 h8 a9 h9 x0 x1 x2 y)

theorem out_fold16 : out0_A_7 c i a1 h1 a2 h2 a3 h3 a4 h4 a5 h5 a6 h6 a7 h7 a8 h8 a9 h9 x0 x1 x2 = fold16 (tileAttn x0 x1 x2) := by
  unfold out0_A_7
  rw [View.read_writes_eq_canon _ _ _ (cover0_A_7 c i a1 h1 a2 h2 a3 h3 a4 h4 a5 h5 a6 h6 a7 h7 a8 h8 a9 h9 x0 x1 x2), ← attn_eq x0 x1 x2 c a1 h1 a2 h2 a3 h3]
  funext y
  exact View.canon_apply_of_pieces _ _ (View.PiecesOf.mem (fold16_pieces c i a1 h1 a2 h2 a3 h3 a4 h4 a5 h5 a6 h6 a7 h7 a8 h8 a9 h9 x0 x1 x2)) y
    (cover0_A_7 c i a1 h1 a2 h2 a3 h3 a4 h4 a5 h5 a6 h6 a7 h7 a8 h8 a9 h9 x0 x1 x2 y)

end

end Cert.NormIn
end
-- ==== Proof.NormInReference.lean ====
/- The reference's norm and input projection, and the projection's columns taken for attention, with their two foldings,
   over the extended reals. -/
module

public import proofs.«01_k».proof.Proof.Gen.Reference11Ideal.Read
public import proofs.«01_k».proof.Proof.ForwardRow
public import Idealize.ShloMosaic.Lib.Pointwise

@[expose] public section

set_option maxRecDepth 16384

noncomputable section

namespace Cert.NormIn.Reference

open Cert.Reference11Ideal Cert.Reference11Ideal.Read
open Cert.FfnGrad (unit scale mean)
open Cert.Forward
open Idealize.ShloMosaic Idealize.ShloMosaic.TcCoe Idealize.ShloMosaic.Tactic
open scoped BigOperators

variable (x0 : Vec Ideal S8192x1024 .f32) (x1 : Vec Ideal S1x1024 .f32) (x2 : Vec Ideal S4x1024x640 .bf16)

/-- Token `t`'s row after the norm, and its projection. -/
def norm (t : Fin 8192) : Fin 1024 → EReal := normed (fun k => x0 (ix2 t k)) (fun k => x1 (ix2 (0 : Fin 1) k))
def input (t : Fin 8192) (j : Fin 2560) : EReal :=
  proj (norm x0 x1 t) fun k => x2 (ix3 (⟨j.val / 640, by omega⟩ : Fin 4) k (⟨j.val % 640, by omega⟩ : Fin 640))

theorem scale_apply (t : Fin 8192) (k : Fin 1) : val_main_v7 (F := Ideal) x0 (ix2 t k) = scale (fun k => x0 (ix2 t k)) := by
  pointwise [val_main_v0, val_main_v1, val_main_v2, val_main_v3, val_main_v4, val_main_v5, val_main_v6, val_main_v7, val_main_cst, val_main_cst_0, val_main_cst_1,
    scale, mean]

theorem norm_apply (t : Fin 8192) (d : Fin 1024) : val_main_v11 (F := Ideal) x0 x1 (ix2 t d) = norm x0 x1 t d := by
  pointwise [val_main_v8, val_main_v9, val_main_v10, val_main_v11, scale_apply, norm, normed, unit]

theorem normed_apply (t : Fin 8192) (d : Fin 1024) : val_main_v18 (F := Ideal) x0 x1 (ix2 t d) = norm x0 x1 t d := by
  pointwise [val_main_v18, norm_apply]

theorem weight_apply (k : Fin 1024) (j : Fin 2560) :
    val_main_v14 (F := Ideal) x2 (ix2 k j) = x2 (ix3 (⟨j.val / 640, by omega⟩ : Fin 4) k (⟨j.val % 640, by omega⟩ : Fin 640)) := by
  pointwise [val_main_v12, val_main_v13, val_main_v14]

theorem input_apply (t : Fin 8192) (j : Fin 2560) : val_main_v15 (F := Ideal) x0 x1 x2 (ix2 t j) = input x0 x1 x2 t j := by
  pointwise [val_main_v15, norm_apply, weight_apply, input, proj]

/-- Token `t`'s columns for attention: its projection's columns 768 to 1536. -/
theorem attn_apply (t : Fin 8192) (j : Fin 768) : val_main_v17 (F := Ideal) x0 x1 x2 (ix2 t j) = input x0 x1 x2 t ⟨768 + j.val, by omega⟩ := by
  pointwise [val_main_v16, val_main_v17, input_apply]

/-- The folding by four: row `u` holds the columns of tokens `4u` to `4u + 3` side by side. -/
theorem fold4_apply (u : Fin 2048) (r : Fin 4) (j : Fin 768) : val_main_v19 (F := Ideal) x0 x1 x2 (ix2 u (⟨r.val * 768 + j.val, by omega⟩ : Fin 3072)) =
    input x0 x1 x2 ⟨4 * u.val + r.val, by omega⟩ ⟨768 + j.val, by omega⟩ := by
  rw [val_main_v19_apply, ← attn_apply x0 x1 x2 ⟨4 * u.val + r.val, by omega⟩ j]
  refine congrArg (val_main_v17 (F := Ideal) x0 x1 x2) (funext fun a => Fin.ext ?_)
  match a with
  | ⟨0, _⟩ => show (u.val * 3072 + (r.val * 768 + j.val)) / 768 = 4 * u.val + r.val; omega
  | ⟨1, _⟩ => show (u.val * 3072 + (r.val * 768 + j.val)) % 768 = j.val; omega

/-- The folding by sixteen: row `u` holds the columns of tokens `16u` to `16u + 15` side by side. -/
theorem fold16_apply (u : Fin 512) (r : Fin 16) (j : Fin 768) : val_main_v20 (F := Ideal) x0 x1 x2 (ix2 u (⟨r.val * 768 + j.val, by omega⟩ : Fin 12288)) =
    input x0 x1 x2 ⟨16 * u.val + r.val, by omega⟩ ⟨768 + j.val, by omega⟩ := by
  rw [val_main_v20_apply, ← attn_apply x0 x1 x2 ⟨16 * u.val + r.val, by omega⟩ j]
  refine congrArg (val_main_v17 (F := Ideal) x0 x1 x2) (funext fun a => Fin.ext ?_)
  match a with
  | ⟨0, _⟩ => show (u.val * 12288 + (r.val * 768 + j.val)) / 768 = 16 * u.val + r.val; omega
  | ⟨1, _⟩ => show (u.val * 12288 + (r.val * 768 + j.val)) % 768 = j.val; omega

end Cert.NormIn.Reference
end
-- ==== Proof.NormIn.lean ====
/- The first norm and the input projection: what the `norm_in_proj` kernel leaves in its five output arrays, over the extended
   reals, and that it is the reference's. -/
module

public import proofs.«01_k».proof.Proof.NormInTile
public import proofs.«01_k».proof.Proof.NormInReference
public import Idealize.ShloMosaic.Lib.Pipeline.ValueKit.Partial
public import Idealize.ShloMosaic.Lib.VecWindow

@[expose] public section

set_option maxRecDepth 16384

noncomputable section

namespace Cert.NormIn

open Cert.Kernel11Ideal Cert.Kernel11Ideal.Gen Cert.Kernel11Ideal.Value
open Cert.Reference11Ideal.Read
open Cert.Forward
open Idealize.ShloMosaic Idealize.ShloMosaic.TcCoe Idealize.ShloMosaic.Tactic Idealize.SL.Sem
open scoped BigOperators

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0, 0] := (by decide +kernel : ∀ t : Fin grid0.N, win0_2.index t = ![0, 0, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])
theorem index7 : ∀ t : Fin cfg0.N, win0_7.index t = ![t.val, 0] := (by decide +kernel : ∀ t : Fin grid0.N, win0_7.index t = ![t.val, 0])

/-- Token `r` of the tile that point `t` takes, and the rows of the two foldings that the tile fills. -/
def tokenAt (t : Fin cfg0.N) (r : Fin 512) : Fin 8192 := ⟨t.val * 512 + r.val, by have h : t.val < 16 := t.isLt; omega⟩
def foldAt4 (t : Fin cfg0.N) (u : Fin 128) : Fin 2048 := ⟨t.val * 128 + u.val, by have h : t.val < 16 := t.isLt; omega⟩
def foldAt16 (t : Fin cfg0.N) (u : Fin 32) : Fin 512 := ⟨t.val * 32 + u.val, by have h : t.val < 16 := t.isLt; omega⟩

variable (m : (ℓ : Loc nD τ sig) → Buf (Elt Ideal) ℓ)

/-- The arguments: the layer's input rows, the norm's gain and the input weight's shards. -/
def xs (c : Dev nD) : Vec Ideal S8192x1024 .f32 := m ((c.tc : Thread nD τ).loc main_arg0)
def gs (c : Dev nD) : Vec Ideal S1x1024 .f32 := m ((c.tc : Thread nD τ).loc main_arg1)
def wins (c : Dev nD) : Vec Ideal S4x1024x640 .bf16 := m ((c.tc : Thread nD τ).loc main_arg2)

def xTile (c : Dev nD) (t : Fin cfg0.N) : Vec Ideal S512x1024 .f32 := iblk m c 0 t
def gTile (c : Dev nD) (t : Fin cfg0.N) : Vec Ideal S1x1024 .f32 := iblk m c 1 t
def winTile (c : Dev nD) (t : Fin cfg0.N) : Vec Ideal S4x1024x640 .bf16 := iblk m c 2 t

/-! ## The rows a tile's token sees are the token's -/

theorem x_row (c : Dev nD) (t : Fin cfg0.N) (r : Fin 512) : (fun k => xTile m c t (ix2 r k)) = fun k => xs m c (ix2 (tokenAt t r) k) := by
  funext k
  refine Eq.trans ?_ (congrFun (V_main_arg0 m c) _)
  show iblk m c 0 t (ix2 r k) = V m c main_arg0 (ix2 (tokenAt t r) k)
  blk_ext [iblk, index0, tokenAt]

theorem g_row (c : Dev nD) (t : Fin cfg0.N) : (fun k => gTile m c t (ix2 (0 : Fin 1) k)) = fun k => gs m c (ix2 (0 : Fin 1) k) := by
  funext k
  refine Eq.trans ?_ (congrFun (V_main_arg1 m c) _)
  show iblk m c 1 t (ix2 (0 : Fin 1) k) = V m c main_arg1 (ix2 (0 : Fin 1) k)
  blk_ext [iblk, index1]

theorem win_col (c : Dev nD) (t : Fin cfg0.N) (s : Fin 4) (j : Fin 640) : (fun k => winTile m c t (ix3 s k j)) = fun k => wins m c (ix3 s k j) := by
  funext k
  refine Eq.trans ?_ (congrFun (V_main_arg2 m c) _)
  show iblk m c 2 t (ix3 s k j) = V m c main_arg2 (ix3 s k j)
  blk_ext [iblk, index2]

theorem tileNorm_apply (x0 : Vec Ideal S512x1024 .f32) (x1 : Vec Ideal S1x1024 .f32) (r : Fin 512) (d : Fin 1024) :
    tileNorm x0 x1 (ix2 r d) = normOf x0 x1 r d := rfl
theorem tileInput_apply (x0 : Vec Ideal S512x1024 .f32) (x1 : Vec Ideal S1x1024 .f32) (x2 : Vec Ideal S4x1024x640 .bf16) (r : Fin 512) (j : Fin 2560) :
    tileInput x0 x1 x2 (ix2 r j) = inputOf x0 x1 x2 r j := rfl
theorem tileAttn_apply (x0 : Vec Ideal S512x1024 .f32) (x1 : Vec Ideal S1x1024 .f32) (x2 : Vec Ideal S4x1024x640 .bf16) (r : Fin 512) (j : Fin 768) :
    tileAttn x0 x1 x2 (ix2 r j) = inputOf x0 x1 x2 r ⟨768 + j.val, by omega⟩ := rfl

theorem fold4_at (q : Vec Ideal S512x768 .f32) (u : Fin 128) (r : Fin 4) (j : Fin 768) :
    fold4 q (ix2 u (⟨r.val * 768 + j.val, by omega⟩ : Fin 3072)) = q (ix2 (⟨4 * u.val + r.val, by omega⟩ : Fin 512) j) :=
  fold4_eq q _ _ (by show 4 * u.val + r.val = 4 * u.val + (r.val * 768 + j.val) / 768; omega) (by show j.val = (r.val * 768 + j.val) % 768; omega)
theorem fold16_at (q : Vec Ideal S512x768 .f32) (u : Fin 32) (r : Fin 16) (j : Fin 768) :
    fold16 q (ix2 u (⟨r.val * 768 + j.val, by omega⟩ : Fin 12288)) = q (ix2 (⟨16 * u.val + r.val, by omega⟩ : Fin 512) j) :=
  fold16_eq q _ _ (by show 16 * u.val + r.val = 16 * u.val + (r.val * 768 + j.val) / 768; omega) (by show j.val = (r.val * 768 + j.val) % 768; omega)

attribute [local irreducible] out0_A_3 out0_A_4 out0_A_5 out0_A_6 out0_A_7 tileNorm tileInput tileAttn fold4 fold16 iblk xs gs wins xTile gTile winTile

theorem normOf_eq (c : Dev nD) (t : Fin cfg0.N) (r : Fin 512) : normOf (xTile m c t) (gTile m c t) r = Reference.norm (xs m c) (gs m c) (tokenAt t r) := by
  rw [normOf, Reference.norm, x_row, g_row]

theorem inputOf_ref (c : Dev nD) (t : Fin cfg0.N) (r : Fin 512) (j : Fin 2560) :
    inputOf (xTile m c t) (gTile m c t) (winTile m c t) r j = Reference.input (xs m c) (gs m c) (wins m c) (tokenAt t r) j := by
  rw [inputOf, shardOf, Reference.input, normOf_eq, win_col]

/-! ## The arrays after the run -/

/-- Where the outputs' blocks lie. -/
theorem emb3 (t : Fin cfg0.N) (r : Fin 512) (d : Fin 1024) : (win0_3.blk t).view.emb (ix2 r d) = ix2 (tokenAt t r) d := by
  blk_ext [index3, tokenAt]
theorem emb4 (t : Fin cfg0.N) (r : Fin 512) (j : Fin 2560) : (win0_4.blk t).view.emb (ix2 r j) = ix2 (tokenAt t r) j := by
  blk_ext [index4, tokenAt]
theorem emb5 (t : Fin cfg0.N) (r : Fin 512) (j : Fin 768) : (win0_5.blk t).view.emb (ix2 r j) = ix2 (tokenAt t r) j := by
  blk_ext [index5, tokenAt]
theorem emb6 (t : Fin cfg0.N) (u : Fin 128) (j : Fin 3072) : (win0_6.blk t).view.emb (ix2 u j) = ix2 (foldAt4 t u) j := by
  blk_ext [index6, foldAt4]
theorem emb7 (t : Fin cfg0.N) (u : Fin 32) (j : Fin 12288) : (win0_7.blk t).view.emb (ix2 u j) = ix2 (foldAt16 t u) j := by
  blk_ext [index7, foldAt16]

/-- The reference's five arrays, at the arguments. -/
def wholeNorm (c : Dev nD) : Vec Ideal S8192x1024 .bf16 := val_main_v18 (F := Ideal) (xs m c) (gs m c)
def wholeInput (c : Dev nD) : Vec Ideal S8192x2560 .f32 := val_main_v15 (F := Ideal) (xs m c) (gs m c) (wins m c)
def wholeAttn (c : Dev nD) : Vec Ideal S8192x768 .bf16 := val_main_v17 (F := Ideal) (xs m c) (gs m c) (wins m c)
def wholeFold4 (c : Dev nD) : Vec Ideal S2048x3072 .bf16 := val_main_v19 (F := Ideal) (xs m c) (gs m c) (wins m c)
def wholeFold16 (c : Dev nD) : Vec Ideal S512x12288 .bf16 := val_main_v20 (F := Ideal) (xs m c) (gs m c) (wins m c)

theorem wholeNorm_apply (c : Dev nD) (t : Fin 8192) (d : Fin 1024) : wholeNorm m c (ix2 t d) = Reference.norm (xs m c) (gs m c) t d :=
  Reference.normed_apply _ _ t d
theorem wholeInput_apply (c : Dev nD) (t : Fin 8192) (j : Fin 2560) : wholeInput m c (ix2 t j) = Reference.input (xs m c) (gs m c) (wins m c) t j :=
  Reference.input_apply _ _ _ t j
theorem wholeAttn_apply (c : Dev nD) (t : Fin 8192) (j : Fin 768) :
    wholeAttn m c (ix2 t j) = Reference.input (xs m c) (gs m c) (wins m c) t ⟨768 + j.val, by omega⟩ := Reference.attn_apply _ _ _ t j
theorem wholeFold4_apply (c : Dev nD) (u : Fin 2048) (r : Fin 4) (j : Fin 768) : wholeFold4 m c (ix2 u (⟨r.val * 768 + j.val, by omega⟩ : Fin 3072)) =
    Reference.input (xs m c) (gs m c) (wins m c) ⟨4 * u.val + r.val, by omega⟩ ⟨768 + j.val, by omega⟩ := Reference.fold4_apply _ _ _ u r j
theorem wholeFold16_apply (c : Dev nD) (u : Fin 512) (r : Fin 16) (j : Fin 768) : wholeFold16 m c (ix2 u (⟨r.val * 768 + j.val, by omega⟩ : Fin 12288)) =
    Reference.input (xs m c) (gs m c) (wins m c) ⟨16 * u.val + r.val, by omega⟩ ⟨768 + j.val, by omega⟩ := Reference.fold16_apply _ _ _ u r j

theorem after_norm (c : Dev nD) (t : Fin cfg0.N) : (outsAt0 m c t).1 = tileNorm (xTile m c t) (gTile m c t) := by
  unfold xTile gTile
  exact out_norm _ _ _ _ _ _ _ _ _ _ _ _ _ _ _ _ _ _ _ _ _ _ _
theorem after_input (c : Dev nD) (t : Fin cfg0.N) : (outsAt0 m c t).2.1 = tileInput (xTile m c t) (gTile m c t) (winTile m c t) := by
  unfold xTile gTile winTile
  exact out_input _ _ _ _ _ _ _ _ _ _ _ _ _ _ _ _ _ _ _ _ _ _ _
theorem after_attn (c : Dev nD) (t : Fin cfg0.N) : (outsAt0 m c t).2.2.1 = tileAttn (xTile m c t) (gTile m c t) (winTile m c t) := by
  unfold xTile gTile winTile
  exact out_attn _ _ _ _ _ _ _ _ _ _ _ _ _ _ _ _ _ _ _ _ _ _ _
theorem after_fold4 (c : Dev nD) (t : Fin cfg0.N) : (outsAt0 m c t).2.2.2.1 = fold4 (tileAttn (xTile m c t) (gTile m c t) (winTile m c t)) := by
  unfold xTile gTile winTile
  exact out_fold4 _ _ _ _ _ _ _ _ _ _ _ _ _ _ _ _ _ _ _ _ _ _ _
theorem after_fold16 (c : Dev nD) (t : Fin cfg0.N) : (outsAt0 m c t).2.2.2.2 = fold16 (tileAttn (xTile m c t) (gTile m c t) (winTile m c t)) := by
  unfold xTile gTile winTile
  exact out_fold16 _ _ _ _ _ _ _ _ _ _ _ _ _ _ _ _ _ _ _ _ _ _ _

attribute [local irreducible] wholeNorm wholeInput wholeAttn wholeFold4 wholeFold16 outsAt0

theorem final_norm (c : Dev nD) : (dats m 0 c).arrAt 3 cfg0.N = wholeNorm m c := by
  refine (dats m 0 c).arrAt_eq_of_covers 3 _ (by decide +kernel) fun t hf y => ?_
  blk_simp
  rw [after0_3, after_norm]
  obtain ⟨r, d, rfl⟩ : ∃ (r : Fin 512) (d : Fin 1024), y = ix2 r d := ⟨y 0, y 1, funext fun a => by fin_cases a <;> rfl⟩
  refine Eq.trans ?_ (congrArg (wholeNorm m c) (emb3 t r d).symm)
  exact (tileNorm_apply _ _ r d).trans ((congrFun (normOf_eq m c t r) d).trans (wholeNorm_apply m c _ d).symm)

theorem final_input (c : Dev nD) : (dats m 0 c).arrAt 4 cfg0.N = wholeInput m c := by
  refine (dats m 0 c).arrAt_eq_of_covers 4 _ (by decide +kernel) fun t hf y => ?_
  blk_simp
  rw [after0_4, after_input]
  obtain ⟨r, j, rfl⟩ : ∃ (r : Fin 512) (j : Fin 2560), y = ix2 r j := ⟨y 0, y 1, funext fun a => by fin_cases a <;> rfl⟩
  refine Eq.trans ?_ (congrArg (wholeInput m c) (emb4 t r j).symm)
  exact (tileInput_apply _ _ _ r j).trans ((inputOf_ref m c t r j).trans (wholeInput_apply m c _ j).symm)

theorem final_attn (c : Dev nD) : (dats m 0 c).arrAt 5 cfg0.N = wholeAttn m c := by
  refine (dats m 0 c).arrAt_eq_of_covers 5 _ (by decide +kernel) fun t hf y => ?_
  blk_simp
  rw [after0_5, after_attn]
  obtain ⟨r, j, rfl⟩ : ∃ (r : Fin 512) (j : Fin 768), y = ix2 r j := ⟨y 0, y 1, funext fun a => by fin_cases a <;> rfl⟩
  refine Eq.trans ?_ (congrArg (wholeAttn m c) (emb5 t r j).symm)
  exact (tileAttn_apply _ _ _ r j).trans ((inputOf_ref m c t r _).trans (wholeAttn_apply m c _ j).symm)

theorem final_fold4 (c : Dev nD) : (dats m 0 c).arrAt 6 cfg0.N = wholeFold4 m c := by
  refine (dats m 0 c).arrAt_eq_of_covers 6 _ (by decide +kernel) fun t hf y => ?_
  blk_simp
  rw [after0_6, after_fold4]
  obtain ⟨u, k, rfl⟩ : ∃ (u : Fin 128) (k : Fin 3072), y = ix2 u k := ⟨y 0, y 1, funext fun a => by fin_cases a <;> rfl⟩
  refine Eq.trans ?_ (congrArg (wholeFold4 m c) (emb6 t u k).symm)
  obtain ⟨r, j, e⟩ : ∃ (r : Fin 4) (j : Fin 768), k = ⟨r.val * 768 + j.val, by omega⟩ :=
    ⟨⟨k.val / 768, by omega⟩, ⟨k.val % 768, by omega⟩, Fin.ext (by show k.val = k.val / 768 * 768 + k.val % 768; omega)⟩
  rw [e]
  refine (fold4_at _ u r j).trans ((tileAttn_apply _ _ _ _ j).trans ((inputOf_ref m c t _ _).trans (Eq.trans ?_ (wholeFold4_apply m c _ r j).symm)))
  refine congrArg (fun s => Reference.input (xs m c) (gs m c) (wins m c) s ⟨768 + j.val, by omega⟩) (Fin.ext ?_)
  show t.val * 512 + (4 * u.val + r.val) = 4 * (t.val * 128 + u.val) + r.val
  omega

theorem final_fold16 (c : Dev nD) : (dats m 0 c).arrAt 7 cfg0.N = wholeFold16 m c := by
  refine (dats m 0 c).arrAt_eq_of_covers 7 _ (by decide +kernel) fun t hf y => ?_
  blk_simp
  rw [after0_7, after_fold16]
  obtain ⟨u, k, rfl⟩ : ∃ (u : Fin 32) (k : Fin 12288), y = ix2 u k := ⟨y 0, y 1, funext fun a => by fin_cases a <;> rfl⟩
  refine Eq.trans ?_ (congrArg (wholeFold16 m c) (emb7 t u k).symm)
  obtain ⟨r, j, e⟩ : ∃ (r : Fin 16) (j : Fin 768), k = ⟨r.val * 768 + j.val, by omega⟩ :=
    ⟨⟨k.val / 768, by omega⟩, ⟨k.val % 768, by omega⟩, Fin.ext (by show k.val = k.val / 768 * 768 + k.val % 768; omega)⟩
  rw [e]
  refine (fold16_at _ u r j).trans ((tileAttn_apply _ _ _ _ j).trans ((inputOf_ref m c t _ _).trans (Eq.trans ?_ (wholeFold16_apply m c _ r j).symm)))
  refine congrArg (fun s => Reference.input (xs m c) (gs m c) (wins m c) s ⟨768 + j.val, by omega⟩) (Fin.ext ?_)
  show t.val * 512 + (16 * u.val + r.val) = 16 * (t.val * 32 + u.val) + r.val
  omega

end Cert.NormIn
end
-- ==== Proof.lean ====
module

public import proofs.«01_k».proof.Defs
public import proofs.«01_k».proof.Proof.Gen.Kernel
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel3
public import proofs.«01_k».proof.Proof.Gen.Kernel4
public import proofs.«01_k».proof.Proof.Gen.Kernel5
public import proofs.«01_k».proof.Proof.MergeValue
public import proofs.«01_k».proof.Proof.FfnInWeight
public import proofs.«01_k».proof.Proof.InWeight
public import proofs.«01_k».proof.Proof.MergeGateWeight
public import proofs.«01_k».proof.Proof.FfnOutWeight
public import proofs.«01_k».proof.Proof.Gen.Kernel6
public import proofs.«01_k».proof.Proof.FfnGrad
public import proofs.«01_k».proof.Proof.Gen.Kernel7
public import proofs.«01_k».proof.Proof.MixNorm
public import proofs.«01_k».proof.Proof.Gen.Pre_ffn_bwd_finite
public import proofs.«01_k».proof.Proof.Gen.Kernel8
public import proofs.«01_k».proof.Proof.FfnIn
public import proofs.«01_k».proof.Proof.Gen.Kernel9
public import proofs.«01_k».proof.Proof.Ple
public import proofs.«01_k».proof.Proof.Gen.Kernel10
public import proofs.«01_k».proof.Proof.MergeFwd
public import proofs.«01_k».proof.Proof.Gen.Kernel11
public import proofs.«01_k».proof.Proof.NormIn
public import Idealize.ShloMosaic.Lib.Quiescent

@[expose] public section

noncomputable section

namespace Cert.Proof

open Idealize.ShloMosaic Idealize.SL.Sem

/-- The frame over words, in the idealised program's names. -/
def framesOverWords : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

/-- The two programs have one text, so it is the printed program's frame. -/
theorem one_text : Cert.quiescent_Kernel (hKernel := Cert.Kernel.Gen.facts) = framesOverWords := by sl_kernel_rfl

/-- The frame of the kernel as printed: the run is proved over any float values. -/
theorem kernel_frame : Cert.quiescent_Kernel (hKernel := Cert.Kernel.Gen.facts) :=
  one_text ▸ fun m ρ _ => Cert.Merge.frame (F := Bits) m ρ

/-- The reference's frame: its run leaves the arguments, and it declares no semaphore. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2.2.2, sem_eq_zero_of_no_sems (by decide) r.2⟩)
    (Cert.ReferenceIdeal.Value.run m ρ)

/-- The kernel's results are the reference's. -/
theorem merge_equal : Cert.algebraic_KernelIdeal_ReferenceIdeal (hKernelIdeal := Cert.KernelIdeal.Gen.facts)
    (hReferenceIdeal := Cert.ReferenceIdeal.Gen.facts) := fun m ρ m' ρ' _ hargs =>
  ⟨Merge.wantGate m, Merge.wantBranch m, Merge.wantWeight m, Merge.wantOut m, Merge.run_value m ρ,
    (θ_run Cert.ReferenceIdeal.defs _ _).mono (fun r h c => by
      obtain ⟨a0, a1, a2, a3, a4, a5, a6, a7, a8, a9, a10⟩ := hargs c
      obtain ⟨h0, h1, h2, h3, hrest⟩ := h c
      refine ⟨h0.trans ?_, h1.trans ?_, h2.trans ?_, h3.trans ?_, hrest⟩
      · rw [ReferenceIdeal.Read.val_main_v122_eq, a0, a1, a2, a3, a4, a5, a6, a7, a8]
        rfl
      · rw [ReferenceIdeal.Read.val_main_v127_eq, a0, a1, a6, a7, a8]
        rfl
      · rw [ReferenceIdeal.Read.val_main_v129_eq, a0, a1, a2, a3, a4, a5, a6, a8, a9]
        rfl
      · rw [ReferenceIdeal.Read.val_main_v132_eq, a0, a1, a2, a3, a4, a5, a6, a7, a10]
        rfl)
      (Cert.ReferenceIdeal.Value.run m' ρ')⟩

/-! ## The gradient of the feed-forward input weight -/

/-- The frame over words, in the idealised program's names. -/
def framesOverWords2 : Prop :=
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

/-- The two programs have one text, so it is the printed program's frame. -/
theorem one_text2 : Cert.quiescent_Kernel2 (hKernel2 := Cert.Kernel2.Gen.facts) = framesOverWords2 := by sl_kernel_rfl

/-- The frame of the kernel as printed: the run is proved over any float values. -/
theorem kernel2_frame : Cert.quiescent_Kernel2 (hKernel2 := Cert.Kernel2.Gen.facts) :=
  one_text2 ▸ fun m ρ _ => Cert.Kernel2Ideal.Gen.frame (F := Bits) m ρ

/-- The reference's frame: its run leaves the arguments, and it declares no semaphore. -/
theorem reference2_frame : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩)
    (Cert.Reference2Ideal.Value.run m ρ)

/-- The kernel's result is the reference's. -/
theorem ffnInWeight_equal : Cert.algebraic_Kernel2Ideal_Reference2Ideal (hKernel2Ideal := Cert.Kernel2Ideal.Gen.facts)
    (hReference2Ideal := Cert.Reference2Ideal.Gen.facts) := fun m ρ m' ρ' _ hargs =>
  ⟨FfnInWeight.want m, FfnInWeight.run_value m ρ,
    (θ_run Cert.Reference2Ideal.defs _ _).mono (fun r h c => by
      obtain ⟨a0, a1⟩ := hargs c
      obtain ⟨h0, hrest⟩ := h c
      refine ⟨h0.trans ?_, hrest⟩
      rw [Reference2Ideal.Read.val_main_v12_eq, a0, a1]
      rfl)
      (Cert.Reference2Ideal.Value.run m' ρ')⟩

/-! ## The gradient of the input projection -/

/-- The frame over words, in the idealised program's names. -/
def framesOverWords3 : Prop :=
  ∀ (m : (ℓ : Loc Cert.Kernel3Ideal.nD Cert.Kernel3Ideal.τ Cert.Kernel3Ideal.sig) → Buf (Elt Bits) ℓ) (g : Dev Cert.Kernel3Ideal.nD → PrngReg), True →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

/-- The two programs have one text, so it is the printed program's frame. -/
theorem one_text3 : Cert.quiescent_Kernel3 (hKernel3 := Cert.Kernel3.Gen.facts) = framesOverWords3 := by sl_kernel_rfl

/-- The frame of the kernel as printed: the run is proved over any float values. -/
theorem kernel3_frame : Cert.quiescent_Kernel3 (hKernel3 := Cert.Kernel3.Gen.facts) :=
  one_text3 ▸ fun m ρ _ => Cert.Kernel3Ideal.Gen.frame (F := Bits) m ρ

/-- The reference's frame: its run leaves the arguments, and it declares no semaphore. -/
theorem reference3_frame : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩)
    (Cert.Reference3Ideal.Value.run m ρ)

/-- The kernel's result is the reference's. -/
theorem inWeight_equal : Cert.algebraic_Kernel3Ideal_Reference3Ideal (hKernel3Ideal := Cert.Kernel3Ideal.Gen.facts)
    (hReference3Ideal := Cert.Reference3Ideal.Gen.facts) := fun m ρ m' ρ' _ hargs =>
  ⟨InWeight.want m, InWeight.run_value m ρ,
    (θ_run Cert.Reference3Ideal.defs _ _).mono (fun r h c => by
      obtain ⟨a0, a1⟩ := hargs c
      obtain ⟨h0, hrest⟩ := h c
      refine ⟨h0.trans ?_, hrest⟩
      rw [Reference3Ideal.Read.val_main_v7_eq, a0, a1]
      rfl)
      (Cert.Reference3Ideal.Value.run m' ρ')⟩

/-! ## The gradient of the merge gates' weights -/

/-- The frame over words, in the idealised program's names. -/
def framesOverWords4 : Prop :=
  ∀ (m : (ℓ : Loc Cert.Kernel4Ideal.nD Cert.Kernel4Ideal.τ Cert.Kernel4Ideal.sig) → Buf (Elt Bits) ℓ) (g : Dev Cert.Kernel4Ideal.nD → PrngReg), True →
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

/-- The two programs have one text, so it is the printed program's frame. -/
theorem one_text4 : Cert.quiescent_Kernel4 (hKernel4 := Cert.Kernel4.Gen.facts) = framesOverWords4 := by sl_kernel_rfl

/-- The frame of the kernel as printed: the run is proved over any float values. -/
theorem kernel4_frame : Cert.quiescent_Kernel4 (hKernel4 := Cert.Kernel4.Gen.facts) :=
  one_text4 ▸ fun m ρ _ => Cert.Kernel4Ideal.Gen.frame (F := Bits) m ρ

/-- The reference's frame: its run leaves the arguments, and it declares no semaphore. -/
theorem reference4_frame : Cert.quiescent_Reference4Ideal (hReference4Ideal := Cert.Reference4Ideal.Gen.facts) := fun m ρ _ =>
  (θ_run Cert.Reference4Ideal.defs _ _).mono
    (fun r h => ⟨fun c => (h c).2, sem_eq_zero_of_no_sems (by decide) r.2⟩)
    (Cert.Reference4Ideal.Value.run m ρ)

/-- The kernel's result is the reference's. -/
theorem mergeGateWeight_equal : Cert.algebraic_Kernel4Ideal_Reference4Ideal (hKernel4Ideal := Cert.Kernel4Ideal.Gen.facts)
    (hReference4Ideal := Cert.Reference4Ideal.Gen.facts) := fun m ρ m' ρ' _ hargs =>
  ⟨MergeGateWeight.want m, MergeGateWeight.run_value m ρ,
    (θ_run Cert.Reference4Ideal.defs _ _).mono (fun r h c => by
      obtain ⟨a0, a1, a2⟩ := hargs c
      obtain ⟨h0, hrest⟩ := h c
      refine ⟨h0.trans ?_, hrest⟩
      rw [Reference4Ideal.Read.val_main_v31_eq, a0, a1, a2]
      rfl)
      (Cert.Reference4Ideal.Value.run m' ρ')⟩

/-! ## The gradient of the feed-forward output weight -/

/-- The frame over words, in the idealised program's names. -/
def framesOverWords5 : Prop :=
  ∀ (m : (ℓ : Loc Cert.Kernel5Ideal.nD Cert.Kernel5Ideal.τ Cert.Kernel5Ideal.sig) → Buf (Elt Bits) ℓ) (g : Dev Cert.Kernel5Ideal.nD → PrngReg), True →
    θ_run (Cert.Kernel5Ideal.defs (F := Bits)) (onTc (τ := Cert.Kernel5Ideal.τ) (Cert.Kernel5Ideal.main (F := Bits))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

/-- The two programs have one text, so it is the printed program's frame. -/
theorem one_text5 : Cert.quiescent_Kernel5 (hKernel5 := Cert.Kernel5.Gen.facts) = framesOverWords5 := by sl_kernel_rfl

/-- The frame of the kernel as printed: the run is proved over any float values. -/
theorem kernel5_frame : Cert.quiescent_Kernel5 (hKernel5 := Cert.Kernel5.Gen.facts) :=
  one_text5 ▸ fun m ρ _ => Cert.Kernel5Ideal.Gen.frame (F := Bits) m ρ

/-- The reference's frame: its run leaves the arguments, and it declares no semaphore. -/
theorem reference5_frame : Cert.quiescent_Reference5Ideal (hReference5Ideal := Cert.Reference5Ideal.Gen.facts) := fun m ρ _ =>
  (θ_run Cert.Reference5Ideal.defs _ _).mono
    (fun r h => ⟨fun c => (h c).2, sem_eq_zero_of_no_sems (by decide) r.2⟩)
    (Cert.Reference5Ideal.Value.run m ρ)

/-- The kernel's result is the reference's. -/
theorem ffnOutWeight_equal : Cert.algebraic_Kernel5Ideal_Reference5Ideal (hKernel5Ideal := Cert.Kernel5Ideal.Gen.facts)
    (hReference5Ideal := Cert.Reference5Ideal.Gen.facts) := fun m ρ m' ρ' _ hargs =>
  ⟨FfnOutWeight.want m, FfnOutWeight.run_value m ρ,
    (θ_run Cert.Reference5Ideal.defs _ _).mono (fun r h c => by
      obtain ⟨a0, a1⟩ := hargs c
      obtain ⟨h0, hrest⟩ := h c
      refine ⟨h0.trans ?_, hrest⟩
      rw [Reference5Ideal.Read.val_main_v5_eq, a0, a1]
      rfl)
      (Cert.Reference5Ideal.Value.run m' ρ')⟩

/-! ## The gradient of the feed-forward block -/

/-- The frame over words, in the idealised program's names. -/
def framesOverWords6 : Prop :=
  ∀ (m : (ℓ : Loc Cert.Kernel6Ideal.nD Cert.Kernel6Ideal.τ Cert.Kernel6Ideal.sig) → Buf (Elt Bits) ℓ) (g : Dev Cert.Kernel6Ideal.nD → PrngReg), True →
    θ_run (Cert.Kernel6Ideal.defs (F := Bits)) (onTc (τ := Cert.Kernel6Ideal.τ) (Cert.Kernel6Ideal.main (F := Bits))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

/-- The two programs have one text, so it is the printed program's frame. -/
theorem one_text6 : Cert.quiescent_Kernel6 (hKernel6 := Cert.Kernel6.Gen.facts) = framesOverWords6 := by sl_kernel_rfl

/-- The frame of the kernel as printed: the run is proved over any float values. -/
theorem kernel6_frame : Cert.quiescent_Kernel6 (hKernel6 := Cert.Kernel6.Gen.facts) :=
  one_text6 ▸ fun m ρ _ => Cert.Kernel6Ideal.Gen.frame (F := Bits) m ρ

/-- The reference's frame: its run leaves the arguments, and it declares no semaphore. -/
theorem reference6_frame : Cert.quiescent_Reference6Ideal (hReference6Ideal := Cert.Reference6Ideal.Gen.facts) := fun m ρ _ =>
  (θ_run Cert.Reference6Ideal.defs _ _).mono
    (fun r h => ⟨fun c => (h c).2.2.2, sem_eq_zero_of_no_sems (by decide) r.2⟩)
    (Cert.Reference6Ideal.Value.run m ρ)

/-- The kernel's three results are the reference's, at arguments that are finite but for the normed rows. -/
theorem ffnGrad_equal : Cert.algebraic_Kernel6Ideal_Reference6Ideal_pre_ffn_bwd_finite (hKernel6Ideal := Cert.Kernel6Ideal.Gen.facts)
    (hReference6Ideal := Cert.Reference6Ideal.Gen.facts) (hPre_ffn_bwd_finite := Cert.Pre_ffn_bwd_finite.Gen.facts) := fun m ρ m' ρ' hpre hargs =>
  ⟨fun c => Reference6Ideal.Read.val_main_v55 (F := Ideal) (FfnGrad.dxs m c) (FfnGrad.xs m c) (FfnGrad.gs m c) (FfnGrad.wis m c) (FfnGrad.wos m c),
    fun c => Reference6Ideal.Read.val_main_v56 (F := Ideal) (FfnGrad.dxs m c) (FfnGrad.xs m c) (FfnGrad.gs m c) (FfnGrad.wis m c) (FfnGrad.wos m c),
    fun c => Reference6Ideal.Read.val_main_v33 (F := Ideal) (FfnGrad.dxs m c) (FfnGrad.xs m c) (FfnGrad.gs m c) (FfnGrad.wis m c) (FfnGrad.wos m c),
    (θ_run Cert.Kernel6Ideal.defs _ _).mono (fun r h c => by
      obtain ⟨p0, p2, p3, p4⟩ := hpre c
      have n0 : ∀ i, FfnGrad.IsNum (FfnGrad.dxs m c i) := fun i => FfnGrad.num_of_finite (congrFun p0 i)
      have n2 : ∀ i, FfnGrad.IsNum (FfnGrad.gs m c i) := fun i => FfnGrad.num_of_finite (congrFun p2 i)
      have n3 : ∀ i, FfnGrad.IsNum (FfnGrad.wis m c i) := fun i => FfnGrad.num_of_finite (congrFun p3 i)
      have n4 : ∀ i, FfnGrad.IsNum (FfnGrad.wos m c i) := fun i => FfnGrad.num_of_finite (congrFun p4 i)
      obtain ⟨h0, h1, h2, hrest⟩ := h c
      exact ⟨h0.trans (FfnGrad.hidden_eq m c n0 n2 n3 n4), h1.trans (FfnGrad.row_eq m c n0 n2 n3 n4),
        h2.trans (FfnGrad.weight_eq m c n0 n2 n3 n4), hrest⟩)
      (Cert.Kernel6Ideal.Value.run_blocks m ρ),
    (θ_run Cert.Reference6Ideal.defs _ _).mono (fun r h c => by
      obtain ⟨a0, a1, a2, a3, a4⟩ := hargs c
      obtain ⟨h0, h1, h2, hrest⟩ := h c
      refine ⟨h0.trans ?_, h1.trans ?_, h2.trans ?_, hrest⟩
      · rw [Reference6Ideal.Read.val_main_v55_eq, a0, a1, a2, a3, a4]
        rfl
      · rw [Reference6Ideal.Read.val_main_v56_eq, a0, a1, a2, a3, a4]
        rfl
      · rw [Reference6Ideal.Read.val_main_v33_eq, a0, a1, a2, a3, a4]
        rfl)
      (Cert.Reference6Ideal.Value.run m' ρ')⟩

/-! ## The gradient through the layer's first norm -/

/-- The frame over words, in the idealised program's names. -/
def framesOverWords7 : Prop :=
  ∀ (m : (ℓ : Loc Cert.Kernel7Ideal.nD Cert.Kernel7Ideal.τ Cert.Kernel7Ideal.sig) → Buf (Elt Bits) ℓ) (g : Dev Cert.Kernel7Ideal.nD → PrngReg), True →
    θ_run (Cert.Kernel7Ideal.defs (F := Bits)) (onTc (τ := Cert.Kernel7Ideal.τ) (Cert.Kernel7Ideal.main (F := Bits))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

/-- The two programs have one text, so it is the printed program's frame. -/
theorem one_text7 : Cert.quiescent_Kernel7 (hKernel7 := Cert.Kernel7.Gen.facts) = framesOverWords7 := by sl_kernel_rfl

/-- The frame of the kernel as printed: the run is proved over any float values. -/
theorem kernel7_frame : Cert.quiescent_Kernel7 (hKernel7 := Cert.Kernel7.Gen.facts) :=
  one_text7 ▸ fun m ρ _ => Cert.Kernel7Ideal.Gen.frame (F := Bits) m ρ

/-- The reference's frame: its run leaves the arguments, and it declares no semaphore. -/
theorem reference7_frame : Cert.quiescent_Reference7Ideal (hReference7Ideal := Cert.Reference7Ideal.Gen.facts) := fun m ρ _ =>
  (θ_run Cert.Reference7Ideal.defs _ _).mono
    (fun r h => ⟨fun c => (h c).2.2, sem_eq_zero_of_no_sems (by decide) r.2⟩)
    (Cert.Reference7Ideal.Value.run m ρ)

/-- The kernel's two results are the reference's. -/
theorem mixNorm_equal : Cert.algebraic_Kernel7Ideal_Reference7Ideal (hKernel7Ideal := Cert.Kernel7Ideal.Gen.facts)
    (hReference7Ideal := Cert.Reference7Ideal.Gen.facts) := fun m ρ m' ρ' _ hargs =>
  ⟨fun c => Reference7Ideal.Read.val_main_v78 (F := Ideal) (MixNorm.pres m c) (MixNorm.projs m c) (MixNorm.wgs m c) (MixNorm.wis m c) (MixNorm.dxs m c) (MixNorm.xs m c) (MixNorm.gs m c),
    fun c => Reference7Ideal.Read.val_main_v61 (F := Ideal) (MixNorm.pres m c) (MixNorm.projs m c) (MixNorm.wgs m c) (MixNorm.wis m c) (MixNorm.xs m c),
    (θ_run Cert.Kernel7Ideal.defs _ _).mono (fun r h c => by
      obtain ⟨h0, h1, hrest⟩ := h c
      exact ⟨h0.trans (MixNorm.row_eq m c), h1.trans (MixNorm.weight_eq m c), hrest⟩)
      (Cert.Kernel7Ideal.Value.run_blocks m ρ),
    (θ_run Cert.Reference7Ideal.defs _ _).mono (fun r h c => by
      obtain ⟨a0, a1, a2, a3, a4, a5, a6⟩ := hargs c
      obtain ⟨h0, h1, hrest⟩ := h c
      refine ⟨h0.trans ?_, h1.trans ?_, hrest⟩
      · rw [Reference7Ideal.Read.val_main_v78_eq, a0, a1, a2, a3, a4, a5, a6]
        rfl
      · rw [Reference7Ideal.Read.val_main_v61_eq, a0, a1, a2, a3, a5]
        rfl)
      (Cert.Reference7Ideal.Value.run m' ρ')⟩

/-! ## The output projection, norm and gated feed-forward input -/

/-- The frame over words, in the idealised program's names. -/
def framesOverWords8 : Prop :=
  ∀ (m : (ℓ : Loc Cert.Kernel8Ideal.nD Cert.Kernel8Ideal.τ Cert.Kernel8Ideal.sig) → Buf (Elt Bits) ℓ) (g : Dev Cert.Kernel8Ideal.nD → PrngReg), True →
    θ_run (Cert.Kernel8Ideal.defs (F := Bits)) (onTc (τ := Cert.Kernel8Ideal.τ) (Cert.Kernel8Ideal.main (F := Bits))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

/-- The two programs have one text, so it is the printed program's frame. -/
theorem one_text8 : Cert.quiescent_Kernel8 (hKernel8 := Cert.Kernel8.Gen.facts) = framesOverWords8 := by sl_kernel_rfl

/-- The frame of the kernel as printed: the run is proved over any float values. -/
theorem kernel8_frame : Cert.quiescent_Kernel8 (hKernel8 := Cert.Kernel8.Gen.facts) :=
  one_text8 ▸ fun m ρ _ => Cert.Kernel8Ideal.Gen.frame (F := Bits) m ρ

/-- The reference's frame: its run leaves the arguments, and it declares no semaphore. -/
theorem reference8_frame : Cert.quiescent_Reference8Ideal (hReference8Ideal := Cert.Reference8Ideal.Gen.facts) := fun m ρ _ =>
  (θ_run Cert.Reference8Ideal.defs _ _).mono
    (fun r h => ⟨fun c => (h c).2.2.2.2, sem_eq_zero_of_no_sems (by decide) r.2⟩)
    (Cert.Reference8Ideal.Value.run m ρ)

/-- The kernel's four results are the reference's. -/
theorem ffnIn_equal : Cert.algebraic_Kernel8Ideal_Reference8Ideal (hKernel8Ideal := Cert.Kernel8Ideal.Gen.facts)
    (hReference8Ideal := Cert.Reference8Ideal.Gen.facts) := fun m ρ m' ρ' _ hargs =>
  ⟨fun c => FfnIn.wholeRow m c,
    fun c => FfnIn.wholeNorm m c,
    fun c => FfnIn.wholePre m c,
    fun c => FfnIn.wholeAct m c,
    (θ_run Cert.Kernel8Ideal.defs _ _).mono (fun r h c => by
      obtain ⟨h0, h1, h2, h3, hrest⟩ := h c
      exact ⟨h0.trans (FfnIn.final_row m c), h1.trans (FfnIn.final_norm m c), h2.trans (FfnIn.final_pre m c), h3.trans (FfnIn.final_act m c), hrest⟩)
      (Cert.Kernel8Ideal.Value.run_blocks m ρ),
    (θ_run Cert.Reference8Ideal.defs _ _).mono (fun r h c => by
      obtain ⟨a0, a1, a2, a3, a4⟩ := hargs c
      obtain ⟨h0, h1, h2, h3, hrest⟩ := h c
      refine ⟨h0.trans ?_, h1.trans ?_, h2.trans ?_, h3.trans ?_, hrest⟩
      · rw [Reference8Ideal.Read.val_main_v3_eq, a0, a1, a2]
        rfl
      · rw [Reference8Ideal.Read.val_main_v24_eq, a0, a1, a2, a3]
        rfl
      · rw [Reference8Ideal.Read.val_main_v28_eq, a0, a1, a2, a3, a4]
        rfl
      · rw [Reference8Ideal.Read.val_main_v29_eq, a0, a1, a2, a3, a4]
        rfl)
      (Cert.Reference8Ideal.Value.run m' ρ')⟩

/-! ## The layer's output -/

/-- The frame over words, in the idealised program's names. -/
def framesOverWords9 : Prop :=
  ∀ (m : (ℓ : Loc Cert.Kernel9Ideal.nD Cert.Kernel9Ideal.τ Cert.Kernel9Ideal.sig) → Buf (Elt Bits) ℓ) (g : Dev Cert.Kernel9Ideal.nD → PrngReg), True →
    θ_run (Cert.Kernel9Ideal.defs (F := Bits)) (onTc (τ := Cert.Kernel9Ideal.τ) (Cert.Kernel9Ideal.main (F := Bits))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

/-- The two programs have one text, so it is the printed program's frame. -/
theorem one_text9 : Cert.quiescent_Kernel9 (hKernel9 := Cert.Kernel9.Gen.facts) = framesOverWords9 := by sl_kernel_rfl

/-- The frame of the kernel as printed: the run is proved over any float values. -/
theorem kernel9_frame : Cert.quiescent_Kernel9 (hKernel9 := Cert.Kernel9.Gen.facts) :=
  one_text9 ▸ fun m ρ _ => Cert.Kernel9Ideal.Gen.frame (F := Bits) m ρ

/-- The reference's frame: its run leaves the arguments, and it declares no semaphore. -/
theorem reference9_frame : Cert.quiescent_Reference9Ideal (hReference9Ideal := Cert.Reference9Ideal.Gen.facts) := fun m ρ _ =>
  (θ_run Cert.Reference9Ideal.defs _ _).mono
    (fun r h => ⟨fun c => (h c).2.2.2.2.2, sem_eq_zero_of_no_sems (by decide) r.2⟩)
    (Cert.Reference9Ideal.Value.run m ρ)

/-- The kernel's five results are the reference's. -/
theorem ple_equal : Cert.algebraic_Kernel9Ideal_Reference9Ideal (hKernel9Ideal := Cert.Kernel9Ideal.Gen.facts)
    (hReference9Ideal := Cert.Reference9Ideal.Gen.facts) := fun m ρ m' ρ' _ hargs =>
  ⟨fun c => Ple.wholeRow m c,
    fun c => Ple.wholeNorm m c,
    fun c => Ple.wholeGate m c,
    fun c => Ple.wholeEmb m c,
    fun c => Ple.wholeOut m c,
    (θ_run Cert.Kernel9Ideal.defs _ _).mono (fun r h c => by
      obtain ⟨h0, h1, h2, h3, h4, hrest⟩ := h c
      exact ⟨h0.trans (Ple.final_row m c), h1.trans (Ple.final_norm m c), h2.trans (Ple.final_gate m c), h3.trans (Ple.final_emb m c), h4.trans (Ple.final_out m c), hrest⟩)
      (Cert.Kernel9Ideal.Value.run_blocks m ρ),
    (θ_run Cert.Reference9Ideal.defs _ _).mono (fun r h c => by
      obtain ⟨a0, a1, a2, a3, a4, a5, a6⟩ := hargs c
      obtain ⟨h0, h1, h2, h3, h4, hrest⟩ := h c
      refine ⟨h0.trans ?_, h1.trans ?_, h2.trans ?_, h3.trans ?_, h4.trans ?_, hrest⟩
      · rw [Reference9Ideal.Read.val_main_v3_eq, a0, a1, a2]
        rfl
      · rw [Reference9Ideal.Read.val_main_v28_eq, a0, a1, a2, a3]
        rfl
      · rw [Reference9Ideal.Read.val_main_v29_eq, a0, a1, a2, a3, a4]
        rfl
      · rw [Reference9Ideal.Read.val_main_v30_eq, a5, a6]
        rfl
      · rw [Reference9Ideal.Read.val_main_v32_eq, a0, a1, a2, a3, a4, a5, a6]
        rfl)
      (Cert.Reference9Ideal.Value.run m' ρ')⟩

/-! ## The merged branches -/

/-- The frame over words, in the idealised program's names. -/
def framesOverWords10 : Prop :=
  ∀ (m : (ℓ : Loc Cert.Kernel10Ideal.nD Cert.Kernel10Ideal.τ Cert.Kernel10Ideal.sig) → Buf (Elt Bits) ℓ) (g : Dev Cert.Kernel10Ideal.nD → PrngReg), True →
    θ_run (Cert.Kernel10Ideal.defs (F := Bits)) (onTc (τ := Cert.Kernel10Ideal.τ) (Cert.Kernel10Ideal.main (F := Bits))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

/-- The two programs have one text, so it is the printed program's frame. -/
theorem one_text10 : Cert.quiescent_Kernel10 (hKernel10 := Cert.Kernel10.Gen.facts) = framesOverWords10 := by sl_kernel_rfl

/-- The frame of the kernel as printed: the run is proved over any float values. -/
theorem kernel10_frame : Cert.quiescent_Kernel10 (hKernel10 := Cert.Kernel10.Gen.facts) :=
  one_text10 ▸ fun m ρ _ => Cert.Kernel10Ideal.Gen.frame (F := Bits) m ρ

/-- The reference's frame: its run leaves the arguments, and it declares no semaphore. -/
theorem reference10_frame : Cert.quiescent_Reference10Ideal (hReference10Ideal := Cert.Reference10Ideal.Gen.facts) := fun m ρ _ =>
  (θ_run Cert.Reference10Ideal.defs _ _).mono
    (fun r h => ⟨fun c => (h c).2.2.2, sem_eq_zero_of_no_sems (by decide) r.2⟩)
    (Cert.Reference10Ideal.Value.run m ρ)

/-- The kernel's three results are the reference's. -/
theorem mergeFwd_equal : Cert.algebraic_Kernel10Ideal_Reference10Ideal (hKernel10Ideal := Cert.Kernel10Ideal.Gen.facts)
    (hReference10Ideal := Cert.Reference10Ideal.Gen.facts) := fun m ρ m' ρ' _ hargs =>
  ⟨fun c => MergeFwd.wholeMerged m c,
    fun c => MergeFwd.wholeGates m c,
    fun c => MergeFwd.wholeBranches m c,
    (θ_run Cert.Kernel10Ideal.defs _ _).mono (fun r h c => by
      obtain ⟨h0, h1, h2, hrest⟩ := h c
      exact ⟨h0.trans (MergeFwd.final_merged m c), h1.trans (MergeFwd.final_gates m c), h2.trans (MergeFwd.final_branches m c), hrest⟩)
      (Cert.Kernel10Ideal.Value.run_blocks m ρ),
    (θ_run Cert.Reference10Ideal.defs _ _).mono (fun r h c => by
      obtain ⟨a0, a1, a2, a3, a4, a5, a6⟩ := hargs c
      obtain ⟨h0, h1, h2, hrest⟩ := h c
      refine ⟨h0.trans ?_, h1.trans ?_, h2.trans ?_, hrest⟩
      · rw [Reference10Ideal.Read.val_main_v69_eq, a0, a1, a2, a3, a4, a5, a6]
        rfl
      · rw [Reference10Ideal.Read.val_main_v75_eq, a0, a5]
        rfl
      · rw [Reference10Ideal.Read.val_main_v81_eq, a1, a2, a3, a4, a6]
        rfl)
      (Cert.Reference10Ideal.Value.run m' ρ')⟩

/-! ## The first norm and the input projection -/

/-- The frame over words, in the idealised program's names. -/
def framesOverWords11 : Prop :=
  ∀ (m : (ℓ : Loc Cert.Kernel11Ideal.nD Cert.Kernel11Ideal.τ Cert.Kernel11Ideal.sig) → Buf (Elt Bits) ℓ) (g : Dev Cert.Kernel11Ideal.nD → PrngReg), True →
    θ_run (Cert.Kernel11Ideal.defs (F := Bits)) (onTc (τ := Cert.Kernel11Ideal.τ) (Cert.Kernel11Ideal.main (F := Bits))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

/-- The two programs have one text, so it is the printed program's frame. -/
theorem one_text11 : Cert.quiescent_Kernel11 (hKernel11 := Cert.Kernel11.Gen.facts) = framesOverWords11 := by sl_kernel_rfl

/-- The frame of the kernel as printed: the run is proved over any float values. -/
theorem kernel11_frame : Cert.quiescent_Kernel11 (hKernel11 := Cert.Kernel11.Gen.facts) :=
  one_text11 ▸ fun m ρ _ => Cert.Kernel11Ideal.Gen.frame (F := Bits) m ρ

/-- The reference's frame: its run leaves the arguments, and it declares no semaphore. -/
theorem reference11_frame : Cert.quiescent_Reference11Ideal (hReference11Ideal := Cert.Reference11Ideal.Gen.facts) := fun m ρ _ =>
  (θ_run Cert.Reference11Ideal.defs _ _).mono
    (fun r h => ⟨fun c => (h c).2.2.2.2.2, sem_eq_zero_of_no_sems (by decide) r.2⟩)
    (Cert.Reference11Ideal.Value.run m ρ)

/-- The kernel's five results are the reference's. -/
theorem normIn_equal : Cert.algebraic_Kernel11Ideal_Reference11Ideal (hKernel11Ideal := Cert.Kernel11Ideal.Gen.facts)
    (hReference11Ideal := Cert.Reference11Ideal.Gen.facts) := fun m ρ m' ρ' _ hargs =>
  ⟨fun c => NormIn.wholeNorm m c,
    fun c => NormIn.wholeInput m c,
    fun c => NormIn.wholeAttn m c,
    fun c => NormIn.wholeFold4 m c,
    fun c => NormIn.wholeFold16 m c,
    (θ_run Cert.Kernel11Ideal.defs _ _).mono (fun r h c => by
      obtain ⟨h0, h1, h2, h3, h4, hrest⟩ := h c
      exact ⟨h0.trans (NormIn.final_norm m c), h1.trans (NormIn.final_input m c), h2.trans (NormIn.final_attn m c), h3.trans (NormIn.final_fold4 m c), h4.trans (NormIn.final_fold16 m c), hrest⟩)
      (Cert.Kernel11Ideal.Value.run_blocks m ρ),
    (θ_run Cert.Reference11Ideal.defs _ _).mono (fun r h c => by
      obtain ⟨a0, a1, a2⟩ := hargs c
      obtain ⟨h0, h1, h2, h3, h4, hrest⟩ := h c
      refine ⟨h0.trans ?_, h1.trans ?_, h2.trans ?_, h3.trans ?_, h4.trans ?_, hrest⟩
      · rw [Reference11Ideal.Read.val_main_v18_eq, a0, a1]
        rfl
      · rw [Reference11Ideal.Read.val_main_v15_eq, a0, a1, a2]
        rfl
      · rw [Reference11Ideal.Read.val_main_v17_eq, a0, a1, a2]
        rfl
      · rw [Reference11Ideal.Read.val_main_v19_eq, a0, a1, a2]
        rfl
      · rw [Reference11Ideal.Read.val_main_v20_eq, a0, a1, a2]
        rfl)
      (Cert.Reference11Ideal.Value.run m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts, Cert.Pre_ffn_bwd_finite.Gen.facts,
  kernel_frame, fun m ρ _ => Cert.Merge.frame m ρ, reference_frame,
  kernel2_frame, fun m ρ _ => Cert.Kernel2Ideal.Gen.frame m ρ, reference2_frame,
  kernel3_frame, fun m ρ _ => Cert.Kernel3Ideal.Gen.frame m ρ, reference3_frame,
  kernel4_frame, fun m ρ _ => Cert.Kernel4Ideal.Gen.frame m ρ, reference4_frame,
  kernel5_frame, fun m ρ _ => Cert.Kernel5Ideal.Gen.frame m ρ, reference5_frame,
  kernel6_frame, fun m ρ _ => Cert.Kernel6Ideal.Gen.frame m ρ, fun m ρ _ => Cert.Kernel6Ideal.Gen.frame m ρ, reference6_frame, fun m ρ _ => reference6_frame m ρ trivial,
  kernel7_frame, fun m ρ _ => Cert.Kernel7Ideal.Gen.frame m ρ, reference7_frame,
  kernel8_frame, fun m ρ _ => Cert.Kernel8Ideal.Gen.frame m ρ, reference8_frame,
  kernel9_frame, fun m ρ _ => Cert.Kernel9Ideal.Gen.frame m ρ, reference9_frame,
  kernel10_frame, fun m ρ _ => Cert.Kernel10Ideal.Gen.frame m ρ, reference10_frame,
  kernel11_frame, fun m ρ _ => Cert.Kernel11Ideal.Gen.frame m ρ, reference11_frame,
  trivial, merge_equal, trivial, ffnInWeight_equal, trivial, inWeight_equal, trivial, mergeGateWeight_equal, trivial, ffnOutWeight_equal,
  trivial, ffnGrad_equal, trivial, mixNorm_equal, trivial, ffnIn_equal, trivial, ple_equal, trivial, mergeFwd_equal, trivial, normIn_equal⟩

end Cert.Proof

end
